-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_experts_exist [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v86) = v0 c
          ∧ r.2.mem ((c.tc : Thread Cert.Reference4Ideal.nD Cert.Reference4Ideal.τ).loc Cert.Reference4Ideal.main_v155) = v1 c
          ∧ r.2.mem ((c.tc : Thread Cert.Reference4Ideal.nD Cert.Reference4Ideal.τ).loc Cert.Reference4Ideal.main_v157) = v2 c
          ∧ r.2.mem ((c.tc : Thread Cert.Reference4Ideal.nD Cert.Reference4Ideal.τ).loc Cert.Reference4Ideal.main_v158) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v131) = v1 c
          ∧ r.2.mem ((c.tc : Thread Cert.Reference5Ideal.nD Cert.Reference5Ideal.τ).loc Cert.Reference5Ideal.main_v135) = v2 c
          ∧ r.2.mem ((c.tc : Thread Cert.Reference5Ideal.nD Cert.Reference5Ideal.τ).loc Cert.Reference5Ideal.main_v138) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_experts_exist : Cert.Pre_experts_exist.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal)
    ∧ quiescent_ReferenceIdeal_pre_experts_exist (hReferenceIdeal := hReferenceIdeal) (hPre_experts_exist := hPre_experts_exist)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal) (hPre_experts_exist := hPre_experts_exist)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_experts_exist.lean ====
abbrev S1196032x128 : Shape := ⟨2, ![1196032, 128]⟩
abbrev S292 : Shape := ⟨1, ![292]⟩
abbrev S1 : Shape := ⟨1, ![1]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S292 : S_.BroadcastsInDim S292 (![] : Fin 0 → Fin S292.rank)

variable [Facts]

def fn {F : FTy → Type} [FloatOps F] (main_arg0 : FVec F S1196032x128 .f32) (main_arg1 : IVec S292 32) (main_arg2 : IVec S1 32) (main_arg3 : FVec F S32x1024x1024 .bf16) (main_arg4 : FVec F S32x1024x1024 .bf16) (main_arg5 : FVec F S32x1024x1024 .bf16) (main_arg6 : FVec F S32x1x1024 .f32) (main_arg7 : FVec F S32x1x1024 .f32) (main_arg8 : FVec F S32x1x1024 .f32) : IVec S292 1 :=
  let main_c : IVec S_ 32 := constantI S_ 32 0#32
  let main_v0 : IVec S292 32 := broadcastInDim S292 ![] bcast_S_S292 main_c
  let main_v1 : IVec S292 1 := cmpi .sge main_arg1 main_v0
  let main_c_0 : IVec S_ 32 := constantI S_ 32 32#32
  let main_v2 : IVec S292 32 := broadcastInDim S292 ![] bcast_S_S292 main_c_0
  let main_v3 : IVec S292 1 := cmpi .slt main_arg1 main_v2
  let main_v4 : IVec S292 1 := andi main_v1 main_v3
  main_v4
-- ==== Kernel.lean ====
abbrev S1196032x128 : Shape := ⟨2, ![1196032, 128]⟩
abbrev S292 : Shape := ⟨1, ![292]⟩
abbrev S1 : Shape := ⟨1, ![1]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x1024 : Shape := ⟨3, ![1, 1024, 1024]⟩
abbrev S1x1x1024 : Shape := ⟨3, ![1, 1, 1024]⟩
abbrev S512x128 : Shape := ⟨2, ![512, 128]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 8
  | .vmem => 16
  | .smem => 2
  | _ => 0

abbrev bufTy : (tb : Table) → Fin (tcTables nBuf tb) → BufTy
  | .hbm, ⟨0, _⟩ => ⟨S1196032x128, .f32⟩
  | .hbm, ⟨1, _⟩ => ⟨S32x1024x1024, .bf16⟩
  | .hbm, ⟨2, _⟩ => ⟨S32x1024x1024, .bf16⟩
  | .hbm, ⟨3, _⟩ => ⟨S32x1024x1024, .bf16⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S1196032x128, .f32⟩
  | .local _ .vmem, ⟨0, _⟩ => ⟨S4096x128, .f32⟩
  | .local _ .vmem, ⟨1, _⟩ => ⟨S4096x128, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S4096x128, .f32⟩
  | .local _ .vmem, ⟨15, _⟩ => ⟨S4096x128, .f32⟩
  | .local _ .smem, ⟨0, _⟩ => ⟨S292, .i32⟩
  | .local _ .smem, ⟨1, _⟩ => ⟨S1, .i32⟩
  | _, _ => ⟨S1196032x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1196032x128 : Shape := ⟨2, ![1196032, 128]⟩
abbrev S292 : Shape := ⟨1, ![292]⟩
abbrev S1 : Shape := ⟨1, ![1]⟩
abbrev S32x1024x1024 : Shape := ⟨3, ![32, 1024, 1024]⟩
abbrev S32x1x1024 : Shape := ⟨3, ![32, 1, 1024]⟩
abbrev S292x512x1024 : Shape := ⟨3, ![292, 512, 1024]⟩
abbrev S_ : Shape := ⟨0, ![]⟩
abbrev S292x1 : Shape := ⟨2, ![292, 1]⟩
abbrev S292x1024x1024 : Shape := ⟨3, ![292, 1024, 1024]⟩
abbrev S292x1x1024 : Shape := ⟨3, ![292, 1, 1024]⟩
abbrev S292x1x1 : Shape := ⟨3, ![292, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S1196032x128, .f32⟩
  | .hbm, ⟨1, _⟩ => ⟨S292, .i32⟩
  | .hbm, ⟨2, _⟩ => ⟨S1, .i32⟩
  | .hbm, ⟨3, _⟩ => ⟨S32x1024x1024, .bf16⟩
  | .hbm, ⟨4, _⟩ => ⟨S32x1024x1024, .bf16⟩
  | .hbm, ⟨5, _⟩ => ⟨S32x1024x1024, .bf16⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S292x512x1024, .f32⟩
  | .hbm, ⟨10, _⟩ => ⟨S32x1024x1024, .f32⟩
  | .hbm, ⟨11, _⟩ => ⟨S_, .i32⟩
  | .hbm, ⟨12, _⟩ => ⟨S292, .i32⟩
  | .hbm, ⟨13, _⟩ => ⟨S292, .i1⟩
  | .hbm, ⟨14, _⟩ => ⟨S_, .i32⟩
  | .hbm, ⟨15, _⟩ => ⟨S292, .i32⟩
  | .hbm, ⟨16, _⟩ => ⟨S292, .i32⟩
  | .hbm, ⟨17, _⟩ => ⟨S292, .i32⟩
  | .hbm, ⟨18, _⟩ => ⟨S292x1, .i32⟩
  | .hbm, ⟨19, _⟩ => ⟨S292x1024x1024, .f32⟩
  | .hbm, ⟨20, _⟩ => ⟨S292x512x1024, .f32⟩
  | .hbm, ⟨21, _⟩ => ⟨S_, .i32⟩
  | .hbm, ⟨22, _⟩ => ⟨S292, .i32⟩
  | .hbm, ⟨23, _⟩ => ⟨S292, .i1⟩
  | .hbm, ⟨24, _⟩ => ⟨S_, .i32⟩
  | .hbm, ⟨25, _⟩ => ⟨S292, .i32⟩
  | .hbm, ⟨26, _⟩ => ⟨S292, .i32⟩
  | .hbm, ⟨27, _⟩ => ⟨S292, .i32⟩
  | .hbm, ⟨28, _⟩ => ⟨S292x1, .i32⟩
  | .hbm, ⟨29, _⟩ => ⟨S292x1x1024, .f32⟩
  | .hbm, ⟨30, _⟩ => ⟨S292x512x1024, .f32⟩
  | .hbm, ⟨31, _⟩ => ⟨S292x512x1024, .f32⟩
  | .hbm, ⟨32, _⟩ => ⟨S32x1024x1024, .f32⟩
  | .hbm, ⟨33, _⟩ => ⟨S_, .i32⟩
  | .hbm, ⟨34, _⟩ => ⟨S292, .i32⟩
  | .hbm, ⟨35, _⟩ => ⟨S292, .i1⟩
  | .hbm, ⟨36, _⟩ => ⟨S_, .i32⟩
  | .hbm, ⟨37, _⟩ => ⟨S292, .i32⟩
  | .hbm, ⟨38, _⟩ => ⟨S292, .i32⟩
  | .hbm, ⟨39, _⟩ => ⟨S292, .i32⟩
  | .hbm, ⟨40, _⟩ => ⟨S292x1, .i32⟩
  | .hbm, ⟨41, _⟩ => ⟨S292x1024x1024, .f32⟩
  | .hbm, ⟨42, _⟩ => ⟨S292x512x1024, .f32⟩
  | .hbm, ⟨43, _⟩ => ⟨S_, .i32⟩
  | .hbm, ⟨44, _⟩ => ⟨S292, .i32⟩
  | .hbm, ⟨45, _⟩ => ⟨S292, .i1⟩
  | .hbm, ⟨46, _⟩ => ⟨S_, .i32⟩
  | .hbm, ⟨47, _⟩ => ⟨S292, .i32⟩
  | .hbm, ⟨48, _⟩ => ⟨S292, .i32⟩
  | .hbm, ⟨49, _⟩ => ⟨S292, .i32⟩
  | .hbm, ⟨50, _⟩ => ⟨S292x1, .i32⟩
  | .hbm, ⟨51, _⟩ => ⟨S292x1x1024, .f32⟩
  | .hbm, ⟨52, _⟩ => ⟨S292x512x1024, .f32⟩
  | .hbm, ⟨53, _⟩ => ⟨S292x512x1024, .f32⟩
  | .hbm, ⟨54, _⟩ => ⟨S_, .f32⟩
  | .hbm, ⟨55, _⟩ => ⟨S292x512x1024, .f32⟩
  | .hbm, ⟨56, _⟩ => ⟨S292x512x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S292x512x1024, .f32⟩
  | .hbm, ⟨61, _⟩ => ⟨S292x512x1024, .f32⟩
  | .hbm, ⟨62, _⟩ => ⟨S_, .f32⟩
  | .hbm, ⟨63, _⟩ => ⟨S292x512x1024, .f32⟩
  | .hbm, ⟨64, _⟩ => ⟨S292x512x1024, .f32⟩
  | .hbm, ⟨65, _⟩ => ⟨S_, .f32⟩
  | .hbm, ⟨66, _⟩ => ⟨S292x512x1024, .f32⟩
  | .hbm, ⟨67, _⟩ => ⟨S292x512x1024, .f32⟩
  | .hbm, ⟨68, _⟩ => ⟨S292x512x1024, .f32⟩
  | .hbm, ⟨69, _⟩ => ⟨S292x512x1024, .f32⟩
  | .hbm, ⟨70, _⟩ => ⟨S_, .f32⟩
  | .hbm, ⟨71, _⟩ => ⟨S292x512x1024, .f32⟩
  | .hbm, ⟨72, _⟩ => ⟨S292x512x1024, .f32⟩
  | .hbm, ⟨73, _⟩ => ⟨S_, .f32⟩
  | .hbm, ⟨74, _⟩ => ⟨S292x512x1024, .f32⟩
  | .hbm, ⟨75, _⟩ => ⟨S292x512x1024, .f32⟩
  | .hbm, ⟨76, _⟩ => ⟨S292x512x1024, .f32⟩
  | .hbm, ⟨77, _⟩ => ⟨S_, .f32⟩
  | .hbm, ⟨78, _⟩ => ⟨S292x512x1024, .f32⟩
  | .hbm, ⟨79, _⟩ => ⟨S292x512x1024, .f32⟩
  | .hbm, ⟨80, _⟩ => ⟨S292x512x1024, .f32⟩
  | .hbm, ⟨81, _⟩ => ⟨S32x1024x1024, .f32⟩
  | .hbm, ⟨82, _⟩ => ⟨S_, .i32⟩
  | .hbm, ⟨83, _⟩ => ⟨S292, .i32⟩
  | .hbm, ⟨84, _⟩ => ⟨S292, .i1⟩
  | .hbm, ⟨85, _⟩ => ⟨S_, .i32⟩
  | .hbm, ⟨86, _⟩ => ⟨S292, .i32⟩
  | .hbm, ⟨87, _⟩ => ⟨S292, .i32⟩
  | .hbm, ⟨88, _⟩ => ⟨S292, .i32⟩
  | .hbm, ⟨89, _⟩ => ⟨S292x1, .i32⟩
  | .hbm, ⟨90, _⟩ => ⟨S292x1024x1024, .f32⟩
  | .hbm, ⟨91, _⟩ => ⟨S292x512x1024, .f32⟩
  | .hbm, ⟨92, _⟩ => ⟨S_, .i32⟩
  | .hbm, ⟨93, _⟩ => ⟨S292, .i32⟩
  | .hbm, ⟨94, _⟩ => ⟨S292, .i1⟩
  | .hbm, ⟨95, _⟩ => ⟨S_, .i32⟩
  | .hbm, ⟨96, _⟩ => ⟨S292, .i32⟩
  | .hbm, ⟨97, _⟩ => ⟨S292, .i32⟩
  | .hbm, ⟨98, _⟩ => ⟨S292, .i32⟩
  | .hbm, ⟨99, _⟩ => ⟨S292x1, .i32⟩
  | .hbm, ⟨100, _⟩ => ⟨S292x1x1024, .f32⟩
  | .hbm, ⟨101, _⟩ => ⟨S292x512x1024, .f32⟩
  | .hbm, ⟨102, _⟩ => ⟨S292x512x1024, .f32⟩
  | .hbm, ⟨103, _⟩ => ⟨S292, .i32⟩
  | .hbm, ⟨104, _⟩ => ⟨S292x1x1, .i32⟩
  | .hbm, ⟨105, _⟩ => ⟨S_, .i32⟩
  | .hbm, ⟨106, _⟩ => ⟨S292x1x1, .i32⟩
  | .hbm, ⟨107, _⟩ => ⟨S292x1x1, .i1⟩
  | .hbm, ⟨108, _⟩ => ⟨S_, .f32⟩
  | .hbm, ⟨109, _⟩ => ⟨S_, .f32⟩
  | .hbm, ⟨110, _⟩ => ⟨S292x512x1024, .i1⟩
  | .hbm, ⟨111, _⟩ => ⟨S292x512x1024, .f32⟩
  | .hbm, ⟨112, _⟩ => ⟨S292x512x1024, .f32⟩
  | .hbm, ⟨113, _⟩ => ⟨S1196032x128, .f32⟩
  | _, _ => ⟨S1196032x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Kernel2.lean ====
abbrev S2x16384x1024 : Shape := ⟨3, ![2, 16384, 1024]⟩
abbrev S8x1x1024 : Shape := ⟨3, ![8, 1, 1024]⟩
abbrev S1024x4096 : Shape := ⟨2, ![1024, 4096]⟩
abbrev S2x16384x4096 : Shape := ⟨3, ![2, 16384, 4096]⟩
abbrev S1x512x1024 : Shape := ⟨3, ![1, 512, 1024]⟩
abbrev S1x1x1024 : Shape := ⟨3, ![1, 1, 1024]⟩
abbrev S1x512x4096 : Shape := ⟨3, ![1, 512, 4096]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 5
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S8x1x1024, .f32⟩
  | .hbm, ⟨2, _⟩ => ⟨S8x1x1024, .f32⟩
  | .hbm, ⟨3, _⟩ => ⟨S1024x4096, .bf16⟩
  | .hbm, ⟨4, _⟩ => ⟨S2x16384x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S1x512x4096, .bf16⟩
  | .local _ .vmem, ⟨8, _⟩ => ⟨S1x512x4096, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
abbrev S2x16384x1024 : Shape := ⟨3, ![2, 16384, 1024]⟩
abbrev S8x1x1024 : Shape := ⟨3, ![8, 1, 1024]⟩
abbrev S1024x4096 : Shape := ⟨2, ![1024, 4096]⟩
abbrev S2x16384x4096 : Shape := ⟨3, ![2, 16384, 4096]⟩
abbrev S1x512x1024 : Shape := ⟨3, ![1, 512, 1024]⟩
abbrev S1x1x1024 : Shape := ⟨3, ![1, 1, 1024]⟩
abbrev S1x512x4096 : Shape := ⟨3, ![1, 512, 4096]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 5
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S8x1x1024, .f32⟩
  | .hbm, ⟨2, _⟩ => ⟨S8x1x1024, .f32⟩
  | .hbm, ⟨3, _⟩ => ⟨S1024x4096, .bf16⟩
  | .hbm, ⟨4, _⟩ => ⟨S2x16384x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S1x512x4096, .bf16⟩
  | .local _ .vmem, ⟨8, _⟩ => ⟨S1x512x4096, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x16384x1024 : Shape := ⟨3, ![2, 16384, 1024]⟩
abbrev S8x1x1024 : Shape := ⟨3, ![8, 1, 1024]⟩
abbrev S1024x4096 : Shape := ⟨2, ![1024, 4096]⟩
abbrev S2x1x1024 : Shape := ⟨3, ![2, 1, 1024]⟩
abbrev S_ : Shape := ⟨0, ![]⟩
abbrev S2x16384x4096 : Shape := ⟨3, ![2, 16384, 4096]⟩

abbrev nBuf : Space → Nat
  | .hbm => 16
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S8x1x1024, .f32⟩
  | .hbm, ⟨2, _⟩ => ⟨S8x1x1024, .f32⟩
  | .hbm, ⟨3, _⟩ => ⟨S1024x4096, .bf16⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x16384x1024, .f32⟩
  | .hbm, ⟨9, _⟩ => ⟨S2x16384x1024, .f32⟩
  | .hbm, ⟨10, _⟩ => ⟨S2x1x1024, .f32⟩
  | .hbm, ⟨11, _⟩ => ⟨S2x16384x1024, .f32⟩
  | .hbm, ⟨12, _⟩ => ⟨S2x16384x1024, .f32⟩
  | .hbm, ⟨13, _⟩ => ⟨S1024x4096, .f32⟩
  | .hbm, ⟨14, _⟩ => ⟨S2x16384x4096, .f32⟩
  | .hbm, ⟨15, _⟩ => ⟨S2x16384x4096, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel3.lean ====
abbrev S2x16384x1024 : Shape := ⟨3, ![2, 16384, 1024]⟩
abbrev S8x1x1024 : Shape := ⟨3, ![8, 1, 1024]⟩
abbrev S1024x1536 : Shape := ⟨2, ![1024, 1536]⟩
abbrev S2x16384x1536 : Shape := ⟨3, ![2, 16384, 1536]⟩
abbrev S1x512x1024 : Shape := ⟨3, ![1, 512, 1024]⟩
abbrev S1x1x1024 : Shape := ⟨3, ![1, 1, 1024]⟩
abbrev S1x512x1536 : Shape := ⟨3, ![1, 512, 1536]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 5
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S8x1x1024, .f32⟩
  | .hbm, ⟨2, _⟩ => ⟨S8x1x1024, .f32⟩
  | .hbm, ⟨3, _⟩ => ⟨S1024x1536, .bf16⟩
  | .hbm, ⟨4, _⟩ => ⟨S2x16384x1536, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1x512x1536, .bf16⟩
  | .local _ .vmem, ⟨8, _⟩ => ⟨S1x512x1536, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x16384x1024 : Shape := ⟨3, ![2, 16384, 1024]⟩
abbrev S8x1x1024 : Shape := ⟨3, ![8, 1, 1024]⟩
abbrev S1024x1536 : Shape := ⟨2, ![1024, 1536]⟩
abbrev S2x1x1024 : Shape := ⟨3, ![2, 1, 1024]⟩
abbrev S_ : Shape := ⟨0, ![]⟩
abbrev S2x16384x1536 : Shape := ⟨3, ![2, 16384, 1536]⟩

abbrev nBuf : Space → Nat
  | .hbm => 16
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S8x1x1024, .f32⟩
  | .hbm, ⟨2, _⟩ => ⟨S8x1x1024, .f32⟩
  | .hbm, ⟨3, _⟩ => ⟨S1024x1536, .bf16⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x16384x1024, .f32⟩
  | .hbm, ⟨9, _⟩ => ⟨S2x16384x1024, .f32⟩
  | .hbm, ⟨10, _⟩ => ⟨S2x1x1024, .f32⟩
  | .hbm, ⟨11, _⟩ => ⟨S2x16384x1024, .f32⟩
  | .hbm, ⟨12, _⟩ => ⟨S2x16384x1024, .f32⟩
  | .hbm, ⟨13, _⟩ => ⟨S1024x1536, .f32⟩
  | .hbm, ⟨14, _⟩ => ⟨S2x16384x1536, .f32⟩
  | .hbm, ⟨15, _⟩ => ⟨S2x16384x1536, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S2x16384x512 : Shape := ⟨3, ![2, 16384, 512]⟩
abbrev S2x16384x1536 : Shape := ⟨3, ![2, 16384, 1536]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S2x16384x1024 : Shape := ⟨3, ![2, 16384, 1024]⟩
abbrev S8x1x1024 : Shape := ⟨3, ![8, 1, 1024]⟩
abbrev S1024 : Shape := ⟨1, ![1024]⟩
abbrev S32x1024 : Shape := ⟨2, ![32, 1024]⟩
abbrev S32 : Shape := ⟨1, ![32]⟩
abbrev S1x512 : Shape := ⟨2, ![1, 512]⟩
abbrev S128x4 : Shape := ⟨2, ![128, 4]⟩
abbrev S1x1024 : Shape := ⟨2, ![1, 1024]⟩
abbrev S32x1 : Shape := ⟨2, ![32, 1]⟩
abbrev S32768x1024 : Shape := ⟨2, ![32768, 1024]⟩
abbrev S4x32768 : Shape := ⟨2, ![4, 32768]⟩
abbrev S1x512x512 : Shape := ⟨3, ![1, 512, 512]⟩
abbrev S1x512x1024 : Shape := ⟨3, ![1, 512, 1024]⟩
abbrev S1x1x1024 : Shape := ⟨3, ![1, 1, 1024]⟩
abbrev S512x1024 : Shape := ⟨2, ![512, 1024]⟩
abbrev S4x512 : Shape := ⟨2, ![4, 512]⟩
abbrev S512x512 : Shape := ⟨2, ![512, 512]⟩
abbrev S512x128 : Shape := ⟨2, ![512, 128]⟩
abbrev S512x1 : Shape := ⟨2, ![512, 1]⟩
abbrev S1x128 : Shape := ⟨2, ![1, 128]⟩
abbrev S1x128x128 : Shape := ⟨3, ![1, 128, 128]⟩
abbrev S128x128 : Shape := ⟨2, ![128, 128]⟩
abbrev S128x1 : Shape := ⟨2, ![128, 1]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S32x256 : Shape := ⟨2, ![32, 256]⟩
abbrev S1x256 : Shape := ⟨2, ![1, 256]⟩
abbrev S4x256 : Shape := ⟨2, ![4, 256]⟩

abbrev nBuf : Space → Nat
  | .hbm => 26
  | .vmem => 31
  | .smem => 0
  | _ => 0

abbrev bufTy : (tb : Table) → Fin (tcTables nBuf tb) → BufTy
  | .hbm, ⟨0, _⟩ => ⟨S2x16384x512, .f32⟩
  | .hbm, ⟨1, _⟩ => ⟨S2x16384x1536, .bf16⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S1024x1024, .bf16⟩
  | .hbm, ⟨7, _⟩ => ⟨S2x16384x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024, .f32⟩
  | .hbm, ⟨12, _⟩ => ⟨S1024, .f32⟩
  | .hbm, ⟨13, _⟩ => ⟨S32x1024, .bf16⟩
  | .hbm, ⟨14, _⟩ => ⟨S32, .f32⟩
  | .hbm, ⟨15, _⟩ => ⟨S1x512, .f32⟩
  | .hbm, ⟨16, _⟩ => ⟨S1x512, .f32⟩
  | .hbm, ⟨17, _⟩ => ⟨S4x128x128, .bf16⟩
  | .hbm, ⟨18, _⟩ => ⟨S128x4, .f32⟩
  | .hbm, ⟨19, _⟩ => ⟨S1x1024, .f32⟩
  | .hbm, ⟨20, _⟩ => ⟨S1x1024, .f32⟩
  | .hbm, ⟨21, _⟩ => ⟨S32x1, .f32⟩
  | .hbm, ⟨22, _⟩ => ⟨S2x16384x1024, .f32⟩
  | .hbm, ⟨23, _⟩ => ⟨S32768x1024, .bf16⟩
  | .hbm, ⟨24, _⟩ => ⟨S4x32768, .i32⟩
  | .hbm, ⟨25, _⟩ => ⟨S4x32768, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S4x128x128, .bf16⟩
  | .local _ .vmem, ⟨9, _⟩ => ⟨S128x4, .f32⟩
  | .local _ .vmem, ⟨10, _⟩ => ⟨S1024x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S32x1024, .bf16⟩
  | .local _ .vmem, ⟨22, _⟩ => ⟨S32x1, .f32⟩
  | .local _ .vmem, ⟨23, _⟩ => ⟨S1x512x1024, .f32⟩
  | .local _ .vmem, ⟨24, _⟩ => ⟨S1x512x1024, .f32⟩
  | .local _ .vmem, ⟨25, _⟩ => ⟨S512x1024, .bf16⟩
  | .local _ .vmem, ⟨26, _⟩ => ⟨S512x1024, .bf16⟩
  | .local _ .vmem, ⟨27, _⟩ => ⟨S4x512, .i32⟩
  | .local _ .vmem, ⟨28, _⟩ => ⟨S4x512, .i32⟩
  | .local _ .vmem, ⟨29, _⟩ => ⟨S4x512, .f32⟩
  | .local _ .vmem, ⟨30, _⟩ => ⟨S4x512, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_18 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc0_transform_19 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S32x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S4x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S4x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S2x16384x512 : Shape := ⟨3, ![2, 16384, 512]⟩
abbrev S2x16384x1536 : Shape := ⟨3, ![2, 16384, 1536]⟩
abbrev S512 : Shape := ⟨1, ![512]⟩
abbrev S4x128x128 : Shape := ⟨3, ![4, 128, 128]⟩
abbrev S4x128 : Shape := ⟨2, ![4, 128]⟩
abbrev S1024x1024 : Shape := ⟨2, ![1024, 1024]⟩
abbrev S2x16384x1024 : Shape := ⟨3, ![2, 16384, 1024]⟩
abbrev S8x1x1024 : Shape := ⟨3, ![8, 1, 1024]⟩
abbrev S1024 : Shape := ⟨1, ![1024]⟩
abbrev S32x1024 : Shape := ⟨2, ![32, 1024]⟩
abbrev S32 : Shape := ⟨1, ![32]⟩
abbrev S_ : Shape := ⟨0, ![]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x512 : Shape := ⟨3, ![1, 1, 512]⟩
abbrev S2x128x128x4x128 : Shape := ⟨5, ![2, 128, 128, 4, 128]⟩
abbrev S4x2x128x128x128 : Shape := ⟨5, ![4, 2, 128, 128, 128]⟩
abbrev S128x4 : Shape := ⟨2, ![128, 4]⟩
abbrev S1x1x128x4x1 : Shape := ⟨5, ![1, 1, 128, 4, 1]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩
abbrev S1024x32 : Shape := ⟨2, ![1024, 32]⟩
abbrev S32768x32 : Shape := ⟨2, ![32768, 32]⟩
abbrev S1x32 : Shape := ⟨2, ![1, 32]⟩
abbrev S32768 : Shape := ⟨1, ![32768]⟩
abbrev S32768x1 : Shape := ⟨2, ![32768, 1]⟩
abbrev S32768x4 : Shape := ⟨2, ![32768, 4]⟩
abbrev S4x32768 : Shape := ⟨2, ![4, 32768]⟩

abbrev nBuf : Space → Nat
  | .hbm => 227
  | .vmem => 0
  | .smem => 0
  | _ => 0

abbrev hbmTy0_0 (i : Nat) : BufTy := match i % 128 with
  | 0 => ⟨S2x16384x512, .f32⟩
  | 1 => ⟨S2x16384x1536, .bf16⟩
  | 2 => ⟨S512, .f32⟩
  | 3 => ⟨S512, .f32⟩
  | 4 => ⟨S4x128x128, .f32⟩
  | 5 => ⟨S4x128, .f32⟩
  | 6 => ⟨S1024x1024, .bf16⟩
  | 7 => ⟨S2x16384x1024, .f32⟩
  | 8 => ⟨S8x1x1024, .f32⟩
  | 9 => ⟨S8x1x1024, .f32⟩
  | 10 => ⟨S8x1x1024, .f32⟩
  | 11 => ⟨S1024, .f32⟩
  | 12 => ⟨S1024, .f32⟩
  | 13 => ⟨S32x1024, .bf16⟩
  | 14 => ⟨S32, .f32⟩
  | 15 => ⟨S2x16384x1536, .f32⟩
  | 16 => ⟨S2x16384x512, .f32⟩
  | 17 => ⟨S_, .f32⟩
  | 18 => ⟨S2x16384x512, .f32⟩
  | 19 => ⟨S2x16384x512, .f32⟩
  | 20 => ⟨S_, .f32⟩
  | 21 => ⟨S2x16384x512, .f32⟩
  | 22 => ⟨S2x16384x512, .f32⟩
  | 23 => ⟨S2x16384x512, .f32⟩
  | 24 => ⟨S_, .f32⟩
  | 25 => ⟨S2x16384x512, .f32⟩
  | 26 => ⟨S2x16384x512, .f32⟩
  | 27 => ⟨S2x16384x512, .f32⟩
  | 28 => ⟨S2x16384x512, .f32⟩
  | 29 => ⟨S_, .f32⟩
  | 30 => ⟨S2x16384x512, .f32⟩
  | 31 => ⟨S2x16384x512, .f32⟩
  | 32 => ⟨S_, .f32⟩
  | 33 => ⟨S2x16384x512, .f32⟩
  | 34 => ⟨S2x16384x512, .f32⟩
  | 35 => ⟨S2x16384x512, .f32⟩
  | 36 => ⟨S_, .f32⟩
  | 37 => ⟨S2x16384x512, .f32⟩
  | 38 => ⟨S2x16384x512, .f32⟩
  | 39 => ⟨S2x16384x512, .f32⟩
  | 40 => ⟨S2x16384x4x128, .f32⟩
  | 41 => ⟨S_, .f32⟩
  | 42 => ⟨S2x16384x4, .f32⟩
  | 43 => ⟨S2x16384x4x1, .f32⟩
  | 44 => ⟨S_, .f32⟩
  | 45 => ⟨S2x16384x4x1, .f32⟩
  | 46 => ⟨S2x16384x4x1, .f32⟩
  | 47 => ⟨S2x16384x4x128, .f32⟩
  | 48 => ⟨S2x16384x4x128, .f32⟩
  | 49 => ⟨S2x16384x4x128, .f32⟩
  | 50 => ⟨S_, .f32⟩
  | 51 => ⟨S2x16384x4, .f32⟩
  | 52 => ⟨S2x16384x4x1, .f32⟩
  | 53 => ⟨S_, .f32⟩
  | 54 => ⟨S2x16384x4x1, .f32⟩
  | 55 => ⟨S2x16384x4x1, .f32⟩
  | 56 => ⟨S2x16384x4x128, .f32⟩
  | 57 => ⟨S2x16384x4x128, .f32⟩
  | 58 => ⟨S_, .f32⟩
  | 59 => ⟨S2x16384x4x1, .f32⟩
  | 60 => ⟨S2x16384x4x1, .f32⟩
  | 61 => ⟨S2x16384x4x1, .f32⟩
  | 62 => ⟨S2x16384x4x128, .f32⟩
  | 63 => ⟨S2x16384x4x128, .f32⟩
  | 64 => ⟨S2x16384x512, .f32⟩
  | 65 => ⟨S1x1x512, .f32⟩
  | 66 => ⟨S2x16384x512, .f32⟩
  | 67 => ⟨S2x16384x512, .f32⟩
  | 68 => ⟨S1x1x512, .f32⟩
  | 69 => ⟨S2x16384x512, .f32⟩
  | 70 => ⟨S2x16384x512, .f32⟩
  | 71 => ⟨S2x128x128x4x128, .f32⟩
  | 72 => ⟨S4x2x128x128x128, .f32⟩
  | 73 => ⟨S2x128x128x4x128, .f32⟩
  | 74 => ⟨S128x4, .f32⟩
  | 75 => ⟨S1x1x128x4x1, .f32⟩
  | 76 => ⟨S2x128x128x4x128, .f32⟩
  | 77 => ⟨S2x128x128x4x128, .f32⟩
  | 78 => ⟨S2x16384x512, .f32⟩
  | 79 => ⟨S2x16384x512, .f32⟩
  | 80 => ⟨S2x16384x1024, .f32⟩
  | 81 => ⟨S1024x1024, .f32⟩
  | 82 => ⟨S2x16384x1024, .f32⟩
  | 83 => ⟨S_, .f32⟩
  | 84 => ⟨S2x16384x1024, .f32⟩
  | 85 => ⟨S2x16384x1024, .f32⟩
  | 86 => ⟨S2x1x1024, .f32⟩
  | 87 => ⟨S2x16384x1024, .f32⟩
  | 88 => ⟨S2x16384x1024, .f32⟩
  | 89 => ⟨S2x16384x1024, .f32⟩
  | 90 => ⟨S_, .f32⟩
  | 91 => ⟨S2x16384, .f32⟩
  | 92 => ⟨S2x16384x1, .f32⟩
  | 93 => ⟨S_, .f32⟩
  | 94 => ⟨S2x16384x1, .f32⟩
  | 95 => ⟨S2x16384x1, .f32⟩
  | 96 => ⟨S2x16384x1024, .f32⟩
  | 97 => ⟨S2x16384x1024, .f32⟩
  | 98 => ⟨S2x16384x1024, .f32⟩
  | 99 => ⟨S_, .f32⟩
  | 100 => ⟨S2x16384, .f32⟩
  | 101 => ⟨S2x16384x1, .f32⟩
  | 102 => ⟨S_, .f32⟩
  | 103 => ⟨S2x16384x1, .f32⟩
  | 104 => ⟨S2x16384x1, .f32⟩
  | 105 => ⟨S2x16384x1024, .f32⟩
  | 106 => ⟨S2x16384x1024, .f32⟩
  | 107 => ⟨S_, .f32⟩
  | 108 => ⟨S2x16384x1, .f32⟩
  | 109 => ⟨S2x16384x1, .f32⟩
  | 110 => ⟨S2x16384x1, .f32⟩
  | 111 => ⟨S2x16384x1024, .f32⟩
  | 112 => ⟨S2x16384x1024, .f32⟩
  | 113 => ⟨S1x1x1024, .f32⟩
  | 114 => ⟨S2x16384x1024, .f32⟩
  | 115 => ⟨S2x16384x1024, .f32⟩
  | 116 => ⟨S1x1x1024, .f32⟩
  | 117 => ⟨S2x16384x1024, .f32⟩
  | 118 => ⟨S2x16384x1024, .f32⟩
  | 119 => ⟨S2x1x1024, .f32⟩
  | 120 => ⟨S_, .f32⟩
  | 121 => ⟨S2x1x1024, .f32⟩
  | 122 => ⟨S2x1x1024, .f32⟩
  | 123 => ⟨S2x16384x1024, .f32⟩
  | 124 => ⟨S2x16384x1024, .f32⟩
  | 125 => ⟨S2x1x1024, .f32⟩
  | 126 => ⟨S2x16384x1024, .f32⟩
  | 127 => ⟨S2x16384x1024, .f32⟩
  | _ => ⟨S2x16384x512, .f32⟩

abbrev hbmTy0_1 (i : Nat) : BufTy := match i % 128 with
  | 0 => ⟨S32768x1024, .f32⟩
  | 1 => ⟨S32x1024, .f32⟩
  | 2 => ⟨S1024x32, .f32⟩
  | 3 => ⟨S32768x32, .f32⟩
  | 4 => ⟨S1x32, .f32⟩
  | 5 => ⟨S32768x32, .f32⟩
  | 6 => ⟨S32768x32, .f32⟩
  | 7 => ⟨S32768x32, .i32⟩
  | 8 => ⟨S_, .f32⟩
  | 9 => ⟨S32768, .f32⟩
  | 10 => ⟨S32768x1, .f32⟩
  | 11 => ⟨S32768x32, .f32⟩
  | 12 => ⟨S32768x32, .i1⟩
  | 13 => ⟨S_, .i32⟩
  | 14 => ⟨S_, .i32⟩
  | 15 => ⟨S32768x32, .i32⟩
  | 16 => ⟨S32768x32, .i32⟩
  | 17 => ⟨S_, .i32⟩
  | 18 => ⟨S32768, .i32⟩
  | 19 => ⟨S32768x1, .i32⟩
  | 20 => ⟨S32768x32, .i32⟩
  | 21 => ⟨S32768x32, .i1⟩
  | 22 => ⟨S_, .f32⟩
  | 23 => ⟨S_, .f32⟩
  | 24 => ⟨S32768x32, .f32⟩
  | 25 => ⟨S32768x32, .f32⟩
  | 26 => ⟨S_, .f32⟩
  | 27 => ⟨S32768, .f32⟩
  | 28 => ⟨S32768x1, .f32⟩
  | 29 => ⟨S32768x32, .f32⟩
  | 30 => ⟨S32768x32, .i1⟩
  | 31 => ⟨S_, .i32⟩
  | 32 => ⟨S_, .i32⟩
  | 33 => ⟨S32768x32, .i32⟩
  | 34 => ⟨S32768x32, .i32⟩
  | 35 => ⟨S_, .i32⟩
  | 36 => ⟨S32768, .i32⟩
  | 37 => ⟨S32768x1, .i32⟩
  | 38 => ⟨S32768x32, .i32⟩
  | 39 => ⟨S32768x32, .i1⟩
  | 40 => ⟨S_, .f32⟩
  | 41 => ⟨S_, .f32⟩
  | 42 => ⟨S32768x32, .f32⟩
  | 43 => ⟨S32768x32, .f32⟩
  | 44 => ⟨S_, .f32⟩
  | 45 => ⟨S32768, .f32⟩
  | 46 => ⟨S32768x1, .f32⟩
  | 47 => ⟨S32768x32, .f32⟩
  | 48 => ⟨S32768x32, .i1⟩
  | 49 => ⟨S_, .i32⟩
  | 50 => ⟨S_, .i32⟩
  | 51 => ⟨S32768x32, .i32⟩
  | 52 => ⟨S32768x32, .i32⟩
  | 53 => ⟨S_, .i32⟩
  | 54 => ⟨S32768, .i32⟩
  | 55 => ⟨S32768x1, .i32⟩
  | 56 => ⟨S32768x32, .i32⟩
  | 57 => ⟨S32768x32, .i1⟩
  | 58 => ⟨S_, .f32⟩
  | 59 => ⟨S_, .f32⟩
  | 60 => ⟨S32768x32, .f32⟩
  | 61 => ⟨S32768x32, .f32⟩
  | 62 => ⟨S_, .f32⟩
  | 63 => ⟨S32768, .f32⟩
  | 64 => ⟨S32768x1, .f32⟩
  | 65 => ⟨S32768x32, .f32⟩
  | 66 => ⟨S32768x32, .i1⟩
  | 67 => ⟨S_, .i32⟩
  | 68 => ⟨S_, .i32⟩
  | 69 => ⟨S32768x32, .i32⟩
  | 70 => ⟨S32768x32, .i32⟩
  | 71 => ⟨S_, .i32⟩
  | 72 => ⟨S32768, .i32⟩
  | 73 => ⟨S32768x1, .i32⟩
  | 74 => ⟨S32768x32, .i32⟩
  | 75 => ⟨S32768x32, .i1⟩
  | 76 => ⟨S_, .f32⟩
  | 77 => ⟨S_, .f32⟩
  | 78 => ⟨S32768x32, .f32⟩
  | 79 => ⟨S32768x32, .f32⟩
  | 80 => ⟨S32768x4, .f32⟩
  | 81 => ⟨S_, .f32⟩
  | 82 => ⟨S32768, .f32⟩
  | 83 => ⟨S_, .f32⟩
  | 84 => ⟨S32768, .f32⟩
  | 85 => ⟨S32768, .f32⟩
  | 86 => ⟨S32768x1, .f32⟩
  | 87 => ⟨S32768x4, .f32⟩
  | 88 => ⟨S32768x4, .f32⟩
  | 89 => ⟨S32768x4, .f32⟩
  | 90 => ⟨S_, .f32⟩
  | 91 => ⟨S32768, .f32⟩
  | 92 => ⟨S32768x1, .f32⟩
  | 93 => ⟨S32768x4, .f32⟩
  | 94 => ⟨S32768x4, .f32⟩
  | 95 => ⟨S32768x1024, .bf16⟩
  | 96 => ⟨S32768x4, .i32⟩
  | 97 => ⟨S4x32768, .i32⟩
  | 98 => ⟨S4x32768, .f32⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_7 : Ref sig .tc := ⟨.hbm, 50, rfl⟩
abbrev main_v27 : Ref sig .tc := ⟨.hbm, 51, rfl⟩
abbrev main_v28 : Ref sig .tc := ⟨.hbm, 52, rfl⟩
abbrev main_cst_8 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_16 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_17 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_c : Ref sig .tc := ⟨.hbm, 141, rfl⟩
abbrev main_call0_v0 : Ref sig .tc := ⟨.hbm, 142, rfl⟩
abbrev main_call0_v1 : Ref sig .tc := ⟨.hbm, 143, rfl⟩
abbrev main_v107 : Ref sig .tc := ⟨.hbm, 144, rfl⟩
abbrev main_c_18 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_19 : Ref sig .tc := ⟨.hbm, 150, rfl⟩
abbrev main_call1_v0 : Ref sig .tc := ⟨.hbm, 151, rfl⟩
abbrev main_call1_v1 : Ref sig .tc := ⟨.hbm, 152, rfl⟩
abbrev main_v112 : Ref sig .tc := ⟨.hbm, 153, rfl⟩
abbrev main_cst_20 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_21 : Ref sig .tc := ⟨.hbm, 159, rfl⟩
abbrev main_call2_v0 : Ref sig .tc := ⟨.hbm, 160, rfl⟩
abbrev main_call2_v1 : Ref sig .tc := ⟨.hbm, 161, rfl⟩
abbrev main_v117 : Ref sig .tc := ⟨.hbm, 162, rfl⟩
abbrev main_c_22 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_23 : Ref sig .tc := ⟨.hbm, 168, rfl⟩
abbrev main_call3_v0 : Ref sig .tc := ⟨.hbm, 169, rfl⟩
abbrev main_call3_v1 : Ref sig .tc := ⟨.hbm, 170, rfl⟩
abbrev main_v122 : Ref sig .tc := ⟨.hbm, 171, rfl⟩
abbrev main_cst_24 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_25 : Ref sig .tc := ⟨.hbm, 177, rfl⟩
abbrev main_call4_v0 : Ref sig .tc := ⟨.hbm, 178, rfl⟩
abbrev main_call4_v1 : Ref sig .tc := ⟨.hbm, 179, rfl⟩
abbrev main_v127 : Ref sig .tc := ⟨.hbm, 180, rfl⟩
abbrev main_c_26 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_27 : Ref sig .tc := ⟨.hbm, 186, rfl⟩
abbrev main_call5_v0 : Ref sig .tc := ⟨.hbm, 187, rfl⟩
abbrev main_call5_v1 : Ref sig .tc := ⟨.hbm, 188, rfl⟩
abbrev main_v132 : Ref sig .tc := ⟨.hbm, 189, rfl⟩
abbrev main_cst_28 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_c_29 : Ref sig .tc := ⟨.hbm, 195, rfl⟩
abbrev main_call6_v0 : Ref sig .tc := ⟨.hbm, 196, rfl⟩
abbrev main_call6_v1 : Ref sig .tc := ⟨.hbm, 197, rfl⟩
abbrev main_v137 : Ref sig .tc := ⟨.hbm, 198, rfl⟩
abbrev main_c_30 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_cst_31 : Ref sig .tc := ⟨.hbm, 204, rfl⟩
abbrev main_call7_v0 : Ref sig .tc := ⟨.hbm, 205, rfl⟩
abbrev main_call7_v1 : Ref sig .tc := ⟨.hbm, 206, rfl⟩
abbrev main_v142 : Ref sig .tc := ⟨.hbm, 207, rfl⟩
abbrev main_v143 : Ref sig .tc := ⟨.hbm, 208, rfl⟩
abbrev main_cst_32 : Ref sig .tc := ⟨.hbm, 209, rfl⟩
abbrev main_v144 : Ref sig .tc := ⟨.hbm, 210, rfl⟩
abbrev main_cst_33 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_cst_34 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩

abbrev nD : Nat := 1
abbrev τ : Topo := Topo.v7x

variable {F : FTy → Type} [FloatOps F]
-- ==== Kernel5.lean ====
abbrev S2x16384x512 : Shape := ⟨3, ![2, 16384, 512]⟩
abbrev S2x16384x4096 : Shape := ⟨3, ![2, 16384, 4096]⟩
abbrev S3x512 : Shape := ⟨2, ![3, 512]⟩
abbrev S1024x1024 : Shape := ⟨2, ![1024, 1024]⟩
abbrev S2x16384x1024 : Shape := ⟨3, ![2, 16384, 1024]⟩
abbrev S8x1x1024 : Shape := ⟨3, ![8, 1, 1024]⟩
abbrev S1024 : Shape := ⟨1, ![1024]⟩
abbrev S32x1024 : Shape := ⟨2, ![32, 1024]⟩
abbrev S32 : Shape := ⟨1, ![32]⟩
abbrev S33280x1024 : Shape := ⟨2, ![33280, 1024]⟩
abbrev S4x33280 : Shape := ⟨2, ![4, 33280]⟩
abbrev S1x1024 : Shape := ⟨2, ![1, 1024]⟩
abbrev S32x1 : Shape := ⟨2, ![32, 1]⟩
abbrev S1x512x512 : Shape := ⟨3, ![1, 512, 512]⟩
abbrev S1x16x512 : Shape := ⟨3, ![1, 16, 512]⟩
abbrev S1x512x1024 : Shape := ⟨3, ![1, 512, 1024]⟩
abbrev S1x1x1024 : Shape := ⟨3, ![1, 1, 1024]⟩
abbrev S512x1024 : Shape := ⟨2, ![512, 1024]⟩
abbrev S4x512 : Shape := ⟨2, ![4, 512]⟩
abbrev S512x512 : Shape := ⟨2, ![512, 512]⟩
abbrev S1x1x512 : Shape := ⟨3, ![1, 1, 512]⟩
abbrev S1x512 : Shape := ⟨2, ![1, 512]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S32x256 : Shape := ⟨2, ![32, 256]⟩
abbrev S1x256 : Shape := ⟨2, ![1, 256]⟩
abbrev S4x256 : Shape := ⟨2, ![4, 256]⟩

abbrev nBuf : Space → Nat
  | .hbm => 22
  | .vmem => 38
  | .smem => 0
  | _ => 0

abbrev bufTy : (tb : Table) → Fin (tcTables nBuf tb) → BufTy
  | .hbm, ⟨0, _⟩ => ⟨S2x16384x512, .bf16⟩
  | .hbm, ⟨1, _⟩ => ⟨S2x16384x4096, .bf16⟩
  | .hbm, ⟨2, _⟩ => ⟨S3x512, .f32⟩
  | .hbm, ⟨3, _⟩ => ⟨S1024x1024, .bf16⟩
  | .hbm, ⟨4, _⟩ => ⟨S2x16384x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024, .f32⟩
  | .hbm, ⟨9, _⟩ => ⟨S1024, .f32⟩
  | .hbm, ⟨10, _⟩ => ⟨S32x1024, .bf16⟩
  | .hbm, ⟨11, _⟩ => ⟨S32, .f32⟩
  | .hbm, ⟨12, _⟩ => ⟨S33280x1024, .bf16⟩
  | .hbm, ⟨13, _⟩ => ⟨S4x33280, .i32⟩
  | .hbm, ⟨14, _⟩ => ⟨S4x33280, .f32⟩
  | .hbm, ⟨15, _⟩ => ⟨S1x1024, .f32⟩
  | .hbm, ⟨16, _⟩ => ⟨S1x1024, .f32⟩
  | .hbm, ⟨17, _⟩ => ⟨S32x1, .f32⟩
  | .hbm, ⟨18, _⟩ => ⟨S2x16384x1024, .f32⟩
  | .hbm, ⟨19, _⟩ => ⟨S33280x1024, .bf16⟩
  | .hbm, ⟨20, _⟩ => ⟨S4x33280, .i32⟩
  | .hbm, ⟨21, _⟩ => ⟨S4x33280, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x16x512, .bf16⟩
  | .local _ .vmem, ⟨15, _⟩ => ⟨S1x16x512, .bf16⟩
  | .local _ .vmem, ⟨16, _⟩ => ⟨S3x512, .f32⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S32x1024, .bf16⟩
  | .local _ .vmem, ⟨29, _⟩ => ⟨S32x1, .f32⟩
  | .local _ .vmem, ⟨30, _⟩ => ⟨S1x512x1024, .f32⟩
  | .local _ .vmem, ⟨31, _⟩ => ⟨S1x512x1024, .f32⟩
  | .local _ .vmem, ⟨32, _⟩ => ⟨S512x1024, .bf16⟩
  | .local _ .vmem, ⟨33, _⟩ => ⟨S512x1024, .bf16⟩
  | .local _ .vmem, ⟨34, _⟩ => ⟨S4x512, .i32⟩
  | .local _ .vmem, ⟨35, _⟩ => ⟨S4x512, .i32⟩
  | .local _ .vmem, ⟨36, _⟩ => ⟨S4x512, .f32⟩
  | .local _ .vmem, ⟨37, _⟩ => ⟨S4x512, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v3_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![arg0.toNat, v2.toNat, c7_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c5_i32 : BitVec 32 := 5#32
  let c0_i32 : BitVec 32 := 0#32
  ![arg0.toNat, v2.toNat, c5_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c7_i32 : BitVec 32 := 7#32
  let c0_i32 : BitVec 32 := 0#32
  ![arg0.toNat, v2.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_23 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc0_transform_24 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S32x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S32x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S4x512 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S4x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference5Ideal.lean ====
abbrev S2x16384x512 : Shape := ⟨3, ![2, 16384, 512]⟩
abbrev S2x16384x4096 : Shape := ⟨3, ![2, 16384, 4096]⟩
abbrev S3x512 : Shape := ⟨2, ![3, 512]⟩
abbrev S1024x1024 : Shape := ⟨2, ![1024, 1024]⟩
abbrev S2x16384x1024 : Shape := ⟨3, ![2, 16384, 1024]⟩
abbrev S8x1x1024 : Shape := ⟨3, ![8, 1, 1024]⟩
abbrev S1024 : Shape := ⟨1, ![1024]⟩
abbrev S32x1024 : Shape := ⟨2, ![32, 1024]⟩
abbrev S32 : Shape := ⟨1, ![32]⟩
abbrev S33280x1024 : Shape := ⟨2, ![33280, 1024]⟩
abbrev S4x33280 : Shape := ⟨2, ![4, 33280]⟩
abbrev S_ : Shape := ⟨0, ![]⟩
abbrev S2x16386x512 : Shape := ⟨3, ![2, 16386, 512]⟩
abbrev S1x512 : Shape := ⟨2, ![1, 512]⟩
abbrev S512 : Shape := ⟨1, ![512]⟩
abbrev S1x1x512 : Shape := ⟨3, ![1, 1, 512]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩
abbrev S1024x32 : Shape := ⟨2, ![1024, 32]⟩
abbrev S32768x32 : Shape := ⟨2, ![32768, 32]⟩
abbrev S1x32 : Shape := ⟨2, ![1, 32]⟩
abbrev S32768 : Shape := ⟨1, ![32768]⟩
abbrev S32768x1 : Shape := ⟨2, ![32768, 1]⟩
abbrev S32768x4 : Shape := ⟨2, ![32768, 4]⟩
abbrev S512x1024 : Shape := ⟨2, ![512, 1024]⟩
abbrev S4x32768 : Shape := ⟨2, ![4, 32768]⟩
abbrev S4x512 : Shape := ⟨2, ![4, 512]⟩

abbrev nBuf : Space → Nat
  | .hbm => 198
  | .vmem => 0
  | .smem => 0
  | _ => 0

abbrev hbmTy0_0 (i : Nat) : BufTy := match i % 128 with
  | 0 => ⟨S2x16384x512, .bf16⟩
  | 1 => ⟨S2x16384x4096, .bf16⟩
  | 2 => ⟨S3x512, .f32⟩
  | 3 => ⟨S1024x1024, .bf16⟩
  | 4 => ⟨S2x16384x1024, .f32⟩
  | 5 => ⟨S8x1x1024, .f32⟩
  | 6 => ⟨S8x1x1024, .f32⟩
  | 7 => ⟨S8x1x1024, .f32⟩
  | 8 => ⟨S1024, .f32⟩
  | 9 => ⟨S1024, .f32⟩
  | 10 => ⟨S32x1024, .bf16⟩
  | 11 => ⟨S32, .f32⟩
  | 12 => ⟨S33280x1024, .bf16⟩
  | 13 => ⟨S4x33280, .i32⟩
  | 14 => ⟨S4x33280, .f32⟩
  | 15 => ⟨S2x16384x4096, .f32⟩
  | 16 => ⟨S2x16384x512, .f32⟩
  | 17 => ⟨S2x16384x512, .f32⟩
  | 18 => ⟨S2x16384x512, .f32⟩
  | 19 => ⟨S2x16384x512, .f32⟩
  | 20 => ⟨S_, .i32⟩
  | 21 => ⟨S_, .f32⟩
  | 22 => ⟨S2x16386x512, .f32⟩
  | 23 => ⟨S1x512, .f32⟩
  | 24 => ⟨S512, .f32⟩
  | 25 => ⟨S2x16384x512, .f32⟩
  | 26 => ⟨S1x1x512, .f32⟩
  | 27 => ⟨S2x16384x512, .f32⟩
  | 28 => ⟨S2x16384x512, .f32⟩
  | 29 => ⟨S1x512, .f32⟩
  | 30 => ⟨S512, .f32⟩
  | 31 => ⟨S2x16384x512, .f32⟩
  | 32 => ⟨S1x1x512, .f32⟩
  | 33 => ⟨S2x16384x512, .f32⟩
  | 34 => ⟨S2x16384x512, .f32⟩
  | 35 => ⟨S2x16384x512, .f32⟩
  | 36 => ⟨S1x512, .f32⟩
  | 37 => ⟨S512, .f32⟩
  | 38 => ⟨S2x16384x512, .f32⟩
  | 39 => ⟨S1x1x512, .f32⟩
  | 40 => ⟨S2x16384x512, .f32⟩
  | 41 => ⟨S2x16384x512, .f32⟩
  | 42 => ⟨S2x16384x512, .f32⟩
  | 43 => ⟨S2x16384x512, .f32⟩
  | 44 => ⟨S2x16384x512, .f32⟩
  | 45 => ⟨S2x16384x1024, .f32⟩
  | 46 => ⟨S1024x1024, .f32⟩
  | 47 => ⟨S2x16384x1024, .f32⟩
  | 48 => ⟨S_, .f32⟩
  | 49 => ⟨S2x16384x1024, .f32⟩
  | 50 => ⟨S2x16384x1024, .f32⟩
  | 51 => ⟨S2x1x1024, .f32⟩
  | 52 => ⟨S2x16384x1024, .f32⟩
  | 53 => ⟨S2x16384x1024, .f32⟩
  | 54 => ⟨S2x16384x1024, .f32⟩
  | 55 => ⟨S_, .f32⟩
  | 56 => ⟨S2x16384, .f32⟩
  | 57 => ⟨S2x16384x1, .f32⟩
  | 58 => ⟨S_, .f32⟩
  | 59 => ⟨S2x16384x1, .f32⟩
  | 60 => ⟨S2x16384x1, .f32⟩
  | 61 => ⟨S2x16384x1024, .f32⟩
  | 62 => ⟨S2x16384x1024, .f32⟩
  | 63 => ⟨S2x16384x1024, .f32⟩
  | 64 => ⟨S_, .f32⟩
  | 65 => ⟨S2x16384, .f32⟩
  | 66 => ⟨S2x16384x1, .f32⟩
  | 67 => ⟨S_, .f32⟩
  | 68 => ⟨S2x16384x1, .f32⟩
  | 69 => ⟨S2x16384x1, .f32⟩
  | 70 => ⟨S2x16384x1024, .f32⟩
  | 71 => ⟨S2x16384x1024, .f32⟩
  | 72 => ⟨S_, .f32⟩
  | 73 => ⟨S2x16384x1, .f32⟩
  | 74 => ⟨S2x16384x1, .f32⟩
  | 75 => ⟨S2x16384x1, .f32⟩
  | 76 => ⟨S2x16384x1024, .f32⟩
  | 77 => ⟨S2x16384x1024, .f32⟩
  | 78 => ⟨S1x1x1024, .f32⟩
  | 79 => ⟨S2x16384x1024, .f32⟩
  | 80 => ⟨S2x16384x1024, .f32⟩
  | 81 => ⟨S1x1x1024, .f32⟩
  | 82 => ⟨S2x16384x1024, .f32⟩
  | 83 => ⟨S2x16384x1024, .f32⟩
  | 84 => ⟨S2x1x1024, .f32⟩
  | 85 => ⟨S_, .f32⟩
  | 86 => ⟨S2x1x1024, .f32⟩
  | 87 => ⟨S2x1x1024, .f32⟩
  | 88 => ⟨S2x16384x1024, .f32⟩
  | 89 => ⟨S2x16384x1024, .f32⟩
  | 90 => ⟨S2x1x1024, .f32⟩
  | 91 => ⟨S2x16384x1024, .f32⟩
  | 92 => ⟨S2x16384x1024, .f32⟩
  | 93 => ⟨S32768x1024, .f32⟩
  | 94 => ⟨S32x1024, .f32⟩
  | 95 => ⟨S1024x32, .f32⟩
  | 96 => ⟨S32768x32, .f32⟩
  | 97 => ⟨S1x32, .f32⟩
  | 98 => ⟨S32768x32, .f32⟩
  | 99 => ⟨S32768x32, .f32⟩
  | 100 => ⟨S32768x32, .i32⟩
  | 101 => ⟨S_, .f32⟩
  | 102 => ⟨S32768, .f32⟩
  | 103 => ⟨S32768x1, .f32⟩
  | 104 => ⟨S32768x32, .f32⟩
  | 105 => ⟨S32768x32, .i1⟩
  | 106 => ⟨S_, .i32⟩
  | 107 => ⟨S_, .i32⟩
  | 108 => ⟨S32768x32, .i32⟩
  | 109 => ⟨S32768x32, .i32⟩
  | 110 => ⟨S_, .i32⟩
  | 111 => ⟨S32768, .i32⟩
  | 112 => ⟨S32768x1, .i32⟩
  | 113 => ⟨S32768x32, .i32⟩
  | 114 => ⟨S32768x32, .i1⟩
  | 115 => ⟨S_, .f32⟩
  | 116 => ⟨S_, .f32⟩
  | 117 => ⟨S32768x32, .f32⟩
  | 118 => ⟨S32768x32, .f32⟩
  | 119 => ⟨S_, .f32⟩
  | 120 => ⟨S32768, .f32⟩
  | 121 => ⟨S32768x1, .f32⟩
  | 122 => ⟨S32768x32, .f32⟩
  | 123 => ⟨S32768x32, .i1⟩
  | 124 => ⟨S_, .i32⟩
  | 125 => ⟨S_, .i32⟩
  | 126 => ⟨S32768x32, .i32⟩
  | 127 => ⟨S32768x32, .i32⟩
  | _ => ⟨S2x16384x512, .bf16⟩

abbrev hbmTy0_1 (i : Nat) : BufTy := match i % 128 with
  | 0 => ⟨S_, .i32⟩
  | 1 => ⟨S32768, .i32⟩
  | 2 => ⟨S32768x1, .i32⟩
  | 3 => ⟨S32768x32, .i32⟩
  | 4 => ⟨S32768x32, .i1⟩
  | 5 => ⟨S_, .f32⟩
  | 6 => ⟨S_, .f32⟩
  | 7 => ⟨S32768x32, .f32⟩
  | 8 => ⟨S32768x32, .f32⟩
  | 9 => ⟨S_, .f32⟩
  | 10 => ⟨S32768, .f32⟩
  | 11 => ⟨S32768x1, .f32⟩
  | 12 => ⟨S32768x32, .f32⟩
  | 13 => ⟨S32768x32, .i1⟩
  | 14 => ⟨S_, .i32⟩
  | 15 => ⟨S_, .i32⟩
  | 16 => ⟨S32768x32, .i32⟩
  | 17 => ⟨S32768x32, .i32⟩
  | 18 => ⟨S_, .i32⟩
  | 19 => ⟨S32768, .i32⟩
  | 20 => ⟨S32768x1, .i32⟩
  | 21 => ⟨S32768x32, .i32⟩
  | 22 => ⟨S32768x32, .i1⟩
  | 23 => ⟨S_, .f32⟩
  | 24 => ⟨S_, .f32⟩
  | 25 => ⟨S32768x32, .f32⟩
  | 26 => ⟨S32768x32, .f32⟩
  | 27 => ⟨S_, .f32⟩
  | 28 => ⟨S32768, .f32⟩
  | 29 => ⟨S32768x1, .f32⟩
  | 30 => ⟨S32768x32, .f32⟩
  | 31 => ⟨S32768x32, .i1⟩
  | 32 => ⟨S_, .i32⟩
  | 33 => ⟨S_, .i32⟩
  | 34 => ⟨S32768x32, .i32⟩
  | 35 => ⟨S32768x32, .i32⟩
  | 36 => ⟨S_, .i32⟩
  | 37 => ⟨S32768, .i32⟩
  | 38 => ⟨S32768x1, .i32⟩
  | 39 => ⟨S32768x32, .i32⟩
  | 40 => ⟨S32768x32, .i1⟩
  | 41 => ⟨S_, .f32⟩
  | 42 => ⟨S_, .f32⟩
  | 43 => ⟨S32768x32, .f32⟩
  | 44 => ⟨S32768x32, .f32⟩
  | 45 => ⟨S32768x4, .f32⟩
  | 46 => ⟨S_, .f32⟩
  | 47 => ⟨S32768, .f32⟩
  | 48 => ⟨S_, .f32⟩
  | 49 => ⟨S32768, .f32⟩
  | 50 => ⟨S32768, .f32⟩
  | 51 => ⟨S32768x1, .f32⟩
  | 52 => ⟨S32768x4, .f32⟩
  | 53 => ⟨S32768x4, .f32⟩
  | 54 => ⟨S32768x4, .f32⟩
  | 55 => ⟨S_, .f32⟩
  | 56 => ⟨S32768, .f32⟩
  | 57 => ⟨S32768x1, .f32⟩
  | 58 => ⟨S32768x4, .f32⟩
  | 59 => ⟨S32768x4, .f32⟩
  | 60 => ⟨S32768x1024, .bf16⟩
  | 61 => ⟨S512x1024, .bf16⟩
  | 62 => ⟨S33280x1024, .bf16⟩
  | 63 => ⟨S32768x4, .i32⟩
  | 64 => ⟨S4x32768, .i32⟩
  | 65 => ⟨S4x512, .i32⟩
  | 66 => ⟨S4x33280, .i32⟩
  | 67 => ⟨S4x32768, .f32⟩
  | 68 => ⟨S4x512, .f32⟩
  | 69 => ⟨S4x33280, .f32⟩
  | _ => ⟨S2x16384x512, .bf16⟩

abbrev hbmTy (i : Nat) : BufTy := match i / 128 with
  | 0 => hbmTy0_0 i
  | 1 => hbmTy0_1 i
  | _ => ⟨S2x16384x512, .bf16⟩

abbrev bufTy : (tb : Table) → Fin (tcTables nBuf tb) → BufTy
  | .hbm, ⟨i, _⟩ => hbmTy i
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_0 : Ref sig .tc := ⟨.hbm, 55, rfl⟩
abbrev main_v37 : Ref sig .tc := ⟨.hbm, 56, rfl⟩
abbrev main_v38 : Ref sig .tc := ⟨.hbm, 57, rfl⟩
abbrev main_cst_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_2 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_5 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_6 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_7 : Ref sig .tc := ⟨.hbm, 106, rfl⟩
abbrev main_call1_v0 : Ref sig .tc := ⟨.hbm, 107, rfl⟩
abbrev main_call1_v1 : Ref sig .tc := ⟨.hbm, 108, rfl⟩
abbrev main_v81 : Ref sig .tc := ⟨.hbm, 109, rfl⟩
abbrev main_c_8 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_9 : Ref sig .tc := ⟨.hbm, 115, rfl⟩
abbrev main_call2_v0 : Ref sig .tc := ⟨.hbm, 116, rfl⟩
abbrev main_call2_v1 : Ref sig .tc := ⟨.hbm, 117, rfl⟩
abbrev main_v86 : Ref sig .tc := ⟨.hbm, 118, rfl⟩
abbrev main_cst_10 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_11 : Ref sig .tc := ⟨.hbm, 124, rfl⟩
abbrev main_call3_v0 : Ref sig .tc := ⟨.hbm, 125, rfl⟩
abbrev main_call3_v1 : Ref sig .tc := ⟨.hbm, 126, rfl⟩
abbrev main_v91 : Ref sig .tc := ⟨.hbm, 127, rfl⟩
abbrev main_c_12 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_13 : Ref sig .tc := ⟨.hbm, 133, rfl⟩
abbrev main_call4_v0 : Ref sig .tc := ⟨.hbm, 134, rfl⟩
abbrev main_call4_v1 : Ref sig .tc := ⟨.hbm, 135, rfl⟩
abbrev main_v96 : Ref sig .tc := ⟨.hbm, 136, rfl⟩
abbrev main_cst_14 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_15 : Ref sig .tc := ⟨.hbm, 142, rfl⟩
abbrev main_call5_v0 : Ref sig .tc := ⟨.hbm, 143, rfl⟩
abbrev main_call5_v1 : Ref sig .tc := ⟨.hbm, 144, rfl⟩
abbrev main_v101 : Ref sig .tc := ⟨.hbm, 145, rfl⟩
abbrev main_c_16 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_17 : Ref sig .tc := ⟨.hbm, 151, rfl⟩
abbrev main_call6_v0 : Ref sig .tc := ⟨.hbm, 152, rfl⟩
abbrev main_call6_v1 : Ref sig .tc := ⟨.hbm, 153, rfl⟩
abbrev main_v106 : Ref sig .tc := ⟨.hbm, 154, rfl⟩
abbrev main_cst_18 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_19 : Ref sig .tc := ⟨.hbm, 160, rfl⟩
abbrev main_call7_v0 : Ref sig .tc := ⟨.hbm, 161, rfl⟩
abbrev main_call7_v1 : Ref sig .tc := ⟨.hbm, 162, rfl⟩
abbrev main_v111 : Ref sig .tc := ⟨.hbm, 163, rfl⟩
abbrev main_c_20 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_21 : Ref sig .tc := ⟨.hbm, 169, rfl⟩
abbrev main_call8_v0 : Ref sig .tc := ⟨.hbm, 170, rfl⟩
abbrev main_call8_v1 : Ref sig .tc := ⟨.hbm, 171, rfl⟩
abbrev main_v116 : Ref sig .tc := ⟨.hbm, 172, rfl⟩
abbrev main_v117 : Ref sig .tc := ⟨.hbm, 173, rfl⟩
abbrev main_cst_22 : Ref sig .tc := ⟨.hbm, 174, rfl⟩
abbrev main_v118 : Ref sig .tc := ⟨.hbm, 175, rfl⟩
abbrev main_cst_23 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_24 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩

abbrev nD : Nat := 1
abbrev τ : Topo := Topo.v7x

variable {F : FTy → Type} [FloatOps F]
-- ==== Kernel6.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel7.lean ====
abbrev S2x32x1024x2048 : Shape := ⟨4, ![2, 32, 1024, 2048]⟩
abbrev S32x1024x1024 : Shape := ⟨3, ![32, 1024, 1024]⟩
abbrev S1x1x1024x1024 : Shape := ⟨4, ![1, 1, 1024, 1024]⟩
abbrev S1x1024x512 : Shape := ⟨3, ![1, 1024, 512]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩
abbrev S1x512x128 : Shape := ⟨3, ![1, 512, 128]⟩
abbrev S512x128 : Shape := ⟨2, ![512, 128]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2x32x1024x2048, .f32⟩
  | .hbm, ⟨1, _⟩ => ⟨S32x1024x1024, .bf16⟩
  | .hbm, ⟨2, _⟩ => ⟨S32x1024x1024, .bf16⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S8x1024x128, .f32⟩
  | _, _ => ⟨S2x32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x32x1024x2048 : Shape := ⟨4, ![2, 32, 1024, 2048]⟩
abbrev S1x32x1024x2048 : Shape := ⟨4, ![1, 32, 1024, 2048]⟩
abbrev S32x1024x2048 : Shape := ⟨3, ![32, 1024, 2048]⟩
abbrev S32x1024x1024 : Shape := ⟨3, ![32, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x32x1024x2048, .f32⟩
  | .hbm, ⟨1, _⟩ => ⟨S1x32x1024x2048, .f32⟩
  | .hbm, ⟨2, _⟩ => ⟨S32x1024x2048, .f32⟩
  | .hbm, ⟨3, _⟩ => ⟨S32x1024x2048, .bf16⟩
  | .hbm, ⟨4, _⟩ => ⟨S32x1024x1024, .bf16⟩
  | .hbm, ⟨5, _⟩ => ⟨S32x1024x1024, .bf16⟩
  | _, _ => ⟨S2x32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Kernel8.lean ====
abbrev S2x32x1024x1024 : Shape := ⟨4, ![2, 32, 1024, 1024]⟩
abbrev S32x1024x1024 : Shape := ⟨3, ![32, 1024, 1024]⟩
abbrev S1x1x1024x1024 : Shape := ⟨4, ![1, 1, 1024, 1024]⟩
abbrev S1x1024x1024 : Shape := ⟨3, ![1, 1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x32x1024x1024, .f32⟩
  | .hbm, ⟨1, _⟩ => ⟨S32x1024x1024, .bf16⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1024x1024, .bf16⟩
  | .local _ .vmem, ⟨3, _⟩ => ⟨S1x1024x1024, .bf16⟩
  | _, _ => ⟨S2x32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S2x32x1024x1024 : Shape := ⟨4, ![2, 32, 1024, 1024]⟩
abbrev S1x32x1024x1024 : Shape := ⟨4, ![1, 32, 1024, 1024]⟩
abbrev S32x1024x1024 : Shape := ⟨3, ![32, 1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x32x1024x1024, .f32⟩
  | .hbm, ⟨1, _⟩ => ⟨S1x32x1024x1024, .f32⟩
  | .hbm, ⟨2, _⟩ => ⟨S32x1024x1024, .f32⟩
  | .hbm, ⟨3, _⟩ => ⟨S32x1024x1024, .bf16⟩
  | _, _ => ⟨S2x32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel9.lean ====
abbrev S4x33280 : Shape := ⟨2, ![4, 33280]⟩
abbrev S32x128 : Shape := ⟨2, ![32, 128]⟩
abbrev S130x4x256 : Shape := ⟨3, ![130, 4, 256]⟩
abbrev S4x512 : Shape := ⟨2, ![4, 512]⟩
abbrev S2x4x256 : Shape := ⟨3, ![2, 4, 256]⟩
abbrev S32x512 : Shape := ⟨2, ![32, 512]⟩
abbrev S32x1 : Shape := ⟨2, ![32, 1]⟩
abbrev S1x512 : Shape := ⟨2, ![1, 512]⟩
abbrev S512 : Shape := ⟨1, ![512]⟩
abbrev S4x256 : Shape := ⟨2, ![4, 256]⟩
abbrev S1x4x256 : Shape := ⟨3, ![1, 4, 256]⟩

abbrev nBuf : Space → Nat
  | .hbm => 4
  | .vmem => 7
  | .smem => 0
  | _ => 0

abbrev bufTy : (tb : Table) → Fin (tcTables nBuf tb) → BufTy
  | .hbm, ⟨0, _⟩ => ⟨S4x33280, .i32⟩
  | .hbm, ⟨1, _⟩ => ⟨S4x33280, .i32⟩
  | .hbm, ⟨2, _⟩ => ⟨S32x128, .i32⟩
  | .hbm, ⟨3, _⟩ => ⟨S130x4x256, .i32⟩
  | .local _ .vmem, ⟨0, _⟩ => ⟨S4x512, .i32⟩
  | .local _ .vmem, ⟨1, _⟩ => ⟨S4x512, .i32⟩
  | .local _ .vmem, ⟨2, _⟩ => ⟨S4x512, .i32⟩
  | .local _ .vmem, ⟨3, _⟩ => ⟨S4x512, .i32⟩
  | .local _ .vmem, ⟨4, _⟩ => ⟨S32x128, .i32⟩
  | .local _ .vmem, ⟨5, _⟩ => ⟨S2x4x256, .i32⟩
  | .local _ .vmem, ⟨6, _⟩ => ⟨S2x4x256, .i32⟩
  | _, _ => ⟨S4x33280, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x4x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4x33280 : Shape := ⟨2, ![4, 33280]⟩
abbrev S32x128 : Shape := ⟨2, ![32, 128]⟩
abbrev S1x4x33280 : Shape := ⟨3, ![1, 4, 33280]⟩
abbrev S32 : Shape := ⟨1, ![32]⟩
abbrev S32x1x1 : Shape := ⟨3, ![32, 1, 1]⟩
abbrev S32x4x33280 : Shape := ⟨3, ![32, 4, 33280]⟩
abbrev S32x1 : Shape := ⟨2, ![32, 1]⟩
abbrev S_ : Shape := ⟨0, ![]⟩
abbrev S4x130x256 : Shape := ⟨3, ![4, 130, 256]⟩
abbrev S130x4x256 : Shape := ⟨3, ![130, 4, 256]⟩

abbrev nBuf : Space → Nat
  | .hbm => 22
  | .vmem => 0
  | .smem => 0
  | _ => 0

abbrev bufTy : (tb : Table) → Fin (tcTables nBuf tb) → BufTy
  | .hbm, ⟨0, _⟩ => ⟨S4x33280, .i32⟩
  | .hbm, ⟨1, _⟩ => ⟨S4x33280, .i32⟩
  | .hbm, ⟨2, _⟩ => ⟨S32x128, .i32⟩
  | .hbm, ⟨3, _⟩ => ⟨S1x4x33280, .i32⟩
  | .hbm, ⟨4, _⟩ => ⟨S32, .i32⟩
  | .hbm, ⟨5, _⟩ => ⟨S32x1x1, .i32⟩
  | .hbm, ⟨6, _⟩ => ⟨S32x4x33280, .i32⟩
  | .hbm, ⟨7, _⟩ => ⟨S32x4x33280, .i32⟩
  | .hbm, ⟨8, _⟩ => ⟨S32x4x33280, .i1⟩
  | .hbm, ⟨9, _⟩ => ⟨S32x1, .i32⟩
  | .hbm, ⟨10, _⟩ => ⟨S32, .i32⟩
  | .hbm, ⟨11, _⟩ => ⟨S32x1x1, .i32⟩
  | .hbm, ⟨12, _⟩ => ⟨S_, .i32⟩
  | .hbm, ⟨13, _⟩ => ⟨S_, .i32⟩
  | .hbm, ⟨14, _⟩ => ⟨S32x4x33280, .i32⟩
  | .hbm, ⟨15, _⟩ => ⟨S32x4x33280, .i32⟩
  | .hbm, ⟨16, _⟩ => ⟨S32x4x33280, .i32⟩
  | .hbm, ⟨17, _⟩ => ⟨S_, .i32⟩
  | .hbm, ⟨18, _⟩ => ⟨S4x33280, .i32⟩
  | .hbm, ⟨19, _⟩ => ⟨S4x33280, .i32⟩
  | .hbm, ⟨20, _⟩ => ⟨S4x130x256, .i32⟩
  | .hbm, ⟨21, _⟩ => ⟨S130x4x256, .i32⟩
  | _, _ => ⟨S4x33280, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel10.lean ====
abbrev S4x33280 : Shape := ⟨2, ![4, 33280]⟩
abbrev S32x128 : Shape := ⟨2, ![32, 128]⟩
abbrev S4x512 : Shape := ⟨2, ![4, 512]⟩
abbrev S32x512 : Shape := ⟨2, ![32, 512]⟩
abbrev S1x512 : Shape := ⟨2, ![1, 512]⟩
abbrev S512x512 : Shape := ⟨2, ![512, 512]⟩
abbrev S32x1 : Shape := ⟨2, ![32, 1]⟩
abbrev S512 : Shape := ⟨1, ![512]⟩
abbrev S32 : Shape := ⟨1, ![32]⟩

abbrev nBuf : Space → Nat
  | .hbm => 3
  | .vmem => 6
  | .smem => 0
  | _ => 0

abbrev bufTy : (tb : Table) → Fin (tcTables nBuf tb) → BufTy
  | .hbm, ⟨0, _⟩ => ⟨S4x33280, .i32⟩
  | .hbm, ⟨1, _⟩ => ⟨S4x33280, .i32⟩
  | .hbm, ⟨2, _⟩ => ⟨S32x128, .i32⟩
  | .local _ .vmem, ⟨0, _⟩ => ⟨S4x512, .i32⟩
  | .local _ .vmem, ⟨1, _⟩ => ⟨S4x512, .i32⟩
  | .local _ .vmem, ⟨2, _⟩ => ⟨S4x512, .i32⟩
  | .local _ .vmem, ⟨3, _⟩ => ⟨S4x512, .i32⟩
  | .local _ .vmem, ⟨4, _⟩ => ⟨S32x128, .i32⟩
  | .local _ .vmem, ⟨5, _⟩ => ⟨S32x128, .f32⟩
  | _, _ => ⟨S4x33280, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference10Ideal.lean ====
abbrev S4x33280 : Shape := ⟨2, ![4, 33280]⟩
abbrev S1x4x33280 : Shape := ⟨3, ![1, 4, 33280]⟩
abbrev S32 : Shape := ⟨1, ![32]⟩
abbrev S32x1x1 : Shape := ⟨3, ![32, 1, 1]⟩
abbrev S32x4x33280 : Shape := ⟨3, ![32, 4, 33280]⟩
abbrev S_ : Shape := ⟨0, ![]⟩
abbrev S32x33280 : Shape := ⟨2, ![32, 33280]⟩
abbrev S33280 : Shape := ⟨1, ![33280]⟩
abbrev S1x1x33280 : Shape := ⟨3, ![1, 1, 33280]⟩
abbrev S1x33280x1 : Shape := ⟨3, ![1, 33280, 1]⟩
abbrev S1x33280x33280 : Shape := ⟨3, ![1, 33280, 33280]⟩
abbrev S32x1x33280 : Shape := ⟨3, ![32, 1, 33280]⟩
abbrev S32x33280x33280 : Shape := ⟨3, ![32, 33280, 33280]⟩
abbrev S32x1 : Shape := ⟨2, ![32, 1]⟩
abbrev S32x128 : Shape := ⟨2, ![32, 128]⟩

abbrev nBuf : Space → Nat
  | .hbm => 37
  | .vmem => 0
  | .smem => 0
  | _ => 0

abbrev bufTy : (tb : Table) → Fin (tcTables nBuf tb) → BufTy
  | .hbm, ⟨0, _⟩ => ⟨S4x33280, .i32⟩
  | .hbm, ⟨1, _⟩ => ⟨S1x4x33280, .i32⟩
  | .hbm, ⟨2, _⟩ => ⟨S32, .i32⟩
  | .hbm, ⟨3, _⟩ => ⟨S32x1x1, .i32⟩
  | .hbm, ⟨4, _⟩ => ⟨S32x4x33280, .i32⟩
  | .hbm, ⟨5, _⟩ => ⟨S32x4x33280, .i32⟩
  | .hbm, ⟨6, _⟩ => ⟨S32x4x33280, .i1⟩
  | .hbm, ⟨7, _⟩ => ⟨S32x4x33280, .i32⟩
  | .hbm, ⟨8, _⟩ => ⟨S_, .i32⟩
  | .hbm, ⟨9, _⟩ => ⟨S32x33280, .i32⟩
  | .hbm, ⟨10, _⟩ => ⟨S33280, .i32⟩
  | .hbm, ⟨11, _⟩ => ⟨S1x1x33280, .i32⟩
  | .hbm, ⟨12, _⟩ => ⟨S1x33280x1, .i32⟩
  | .hbm, ⟨13, _⟩ => ⟨S1x33280x33280, .i32⟩
  | .hbm, ⟨14, _⟩ => ⟨S1x33280x33280, .i32⟩
  | .hbm, ⟨15, _⟩ => ⟨S1x33280x33280, .i1⟩
  | .hbm, ⟨16, _⟩ => ⟨S32x1x33280, .i32⟩
  | .hbm, ⟨17, _⟩ => ⟨S_, .i32⟩
  | .hbm, ⟨18, _⟩ => ⟨S_, .i32⟩
  | .hbm, ⟨19, _⟩ => ⟨S32x33280x33280, .i1⟩
  | .hbm, ⟨20, _⟩ => ⟨S32x33280x33280, .i32⟩
  | .hbm, ⟨21, _⟩ => ⟨S32x33280x33280, .i32⟩
  | .hbm, ⟨22, _⟩ => ⟨S32x33280x33280, .i32⟩
  | .hbm, ⟨23, _⟩ => ⟨S_, .i32⟩
  | .hbm, ⟨24, _⟩ => ⟨S32x33280, .i32⟩
  | .hbm, ⟨25, _⟩ => ⟨S32x1x33280, .i32⟩
  | .hbm, ⟨26, _⟩ => ⟨S_, .i32⟩
  | .hbm, ⟨27, _⟩ => ⟨S_, .i32⟩
  | .hbm, ⟨28, _⟩ => ⟨S32x4x33280, .i32⟩
  | .hbm, ⟨29, _⟩ => ⟨S32x4x33280, .i32⟩
  | .hbm, ⟨30, _⟩ => ⟨S32x4x33280, .i32⟩
  | .hbm, ⟨31, _⟩ => ⟨S_, .i32⟩
  | .hbm, ⟨32, _⟩ => ⟨S4x33280, .i32⟩
  | .hbm, ⟨33, _⟩ => ⟨S_, .i32⟩
  | .hbm, ⟨34, _⟩ => ⟨S32, .i32⟩
  | .hbm, ⟨35, _⟩ => ⟨S32x1, .i32⟩
  | .hbm, ⟨36, _⟩ => ⟨S32x128, .i32⟩
  | _, _ => ⟨S4x33280, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel11.lean ====
abbrev S2x256x1024 : Shape := ⟨3, ![2, 256, 1024]⟩
abbrev S8x1x1024 : Shape := ⟨3, ![8, 1, 1024]⟩
abbrev S1024x4096 : Shape := ⟨2, ![1024, 4096]⟩
abbrev S2x256x4096 : Shape := ⟨3, ![2, 256, 4096]⟩
abbrev S1x256x1024 : Shape := ⟨3, ![1, 256, 1024]⟩
abbrev S1x1x1024 : Shape := ⟨3, ![1, 1, 1024]⟩
abbrev S1x256x4096 : Shape := ⟨3, ![1, 256, 4096]⟩
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 5
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S8x1x1024, .f32⟩
  | .hbm, ⟨2, _⟩ => ⟨S8x1x1024, .f32⟩
  | .hbm, ⟨3, _⟩ => ⟨S1024x4096, .bf16⟩
  | .hbm, ⟨4, _⟩ => ⟨S2x256x4096, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x4096, .bf16⟩
  | .local _ .vmem, ⟨5, _⟩ => ⟨S1x256x4096, .bf16⟩
  | .local _ .vmem, ⟨6, _⟩ => ⟨S1x256x4096, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S2x256x1024 : Shape := ⟨3, ![2, 256, 1024]⟩
abbrev S8x1x1024 : Shape := ⟨3, ![8, 1, 1024]⟩
abbrev S1024x4096 : Shape := ⟨2, ![1024, 4096]⟩
abbrev S1x1x1024 : Shape := ⟨3, ![1, 1, 1024]⟩
abbrev S1x1024 : Shape := ⟨2, ![1, 1024]⟩
abbrev S_ : Shape := ⟨0, ![]⟩
abbrev S2x256x4096 : Shape := ⟨3, ![2, 256, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S8x1x1024, .f32⟩
  | .hbm, ⟨2, _⟩ => ⟨S8x1x1024, .f32⟩
  | .hbm, ⟨3, _⟩ => ⟨S1024x4096, .bf16⟩
  | .hbm, ⟨4, _⟩ => ⟨S1x1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S1x1x1024, .f32⟩
  | .hbm, ⟨10, _⟩ => ⟨S2x256x1024, .f32⟩
  | .hbm, ⟨11, _⟩ => ⟨S2x256x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S2x256x1024, .f32⟩
  | .hbm, ⟨16, _⟩ => ⟨S2x256x1024, .f32⟩
  | .hbm, ⟨17, _⟩ => ⟨S1024x4096, .f32⟩
  | .hbm, ⟨18, _⟩ => ⟨S2x256x4096, .f32⟩
  | .hbm, ⟨19, _⟩ => ⟨S2x256x4096, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.KernelIdeal.Setup.lean ====
/- The launch of the experts call: what the region finds in memory when it is entered, the two routing tables read
   off that memory, the block of every window at a grid point, and the form in which the body receives them. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory when the region is entered -/

/-- Core `c`'s buffers when the region is entered: `@main` is the region alone, so they are as launched. -/
abbrev V (c : Dev nD) (b : Ref sig .tc) : Buf (Elt F) ((c : Thread nD τ).loc b) := m ((c : Thread nD τ).loc b)

set_option maxHeartbeats 800000 in
/-- `@main` runs nothing before the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The tables -/

/-- The two tables (the expert of each block, the number of blocks in use) as the region finds them. -/
def tbl : pre0.Contents (Elt F) := fun j => V m (0 : Dev nD) (pre0.ref j)

/-- There is one device, so the tables are the same on every core. -/
theorem V_pre (c : Dev nD) (j : Fin 2) : V m c (pre0.ref j) = tbl m j := by
  obtain rfl : c = 0 := Subsingleton.elim _ _; rfl

/-- Every block that the tables name lies inside its array. -/
abbrev Ok : Prop := ok0 (F := F) (tbl m)
/-- The tables, as contents at which the pipeline may run. -/
abbrev adm (hO : Ok m) : (pcfg0 (F := F)).Adm := ⟨tbl m, hO⟩
/-- The pipeline at those tables. -/
abbrev cfgM (hO : Ok m) : Pipeline.Cfg sig Λ₀ := cfg0 (adm m hO)

/-- The table of experts, as the body is handed it. -/
abbrev tbM0_0 : Memref sig .tc .smem S292 .i32 := Memref.whole main_arg1
abbrev htbM0_0 : tbM0_0.IsWhole := Memref.isWhole_whole _
/-- The word that counts the blocks in use, as the body is handed it. -/
abbrev tbM0_1 : Memref sig .tc .smem S1 .i32 := Memref.whole main_arg2
abbrev htbM0_1 : tbM0_1.IsWhole := Memref.isWhole_whole _

/-- The contents of a table's buffer on core `c`, and half a share of the buffer held at `f`: the body reads it, the
    pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves that the region hands the body, one after the other. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, whether it was fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether it was fetched there or not. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether it was fetched there or not. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether it was fetched there or not. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether it was fetched there or not. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether it was fetched there or not. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether it was fetched there or not. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## From a run of the pipeline to the frame claim -/

/-- A run of the pipeline whose arrays start as the region finds them leaves every argument as it was launched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0))),
      ((h c).2 main_arg1 (by decide : main_arg1 ∈ Pipeline.restRefs sig spec0)),
      ((h c).2 main_arg2 (by decide : main_arg2 ∈ Pipeline.restRefs sig spec0)),
      ((h c).1 1).trans (((dats 0 c).arrAt_in 1 rfl _).trans ((hA c 1))),
      ((h c).1 2).trans (((dats 0 c).arrAt_in 2 rfl _).trans ((hA c 2))),
      ((h c).1 3).trans (((dats 0 c).arrAt_in 3 rfl _).trans ((hA c 3))),
      ((h c).1 4).trans (((dats 0 c).arrAt_in 4 rfl _).trans ((hA c 4))),
      ((h c).1 5).trans (((dats 0 c).arrAt_in 5 rfl _).trans ((hA c 5))),
      ((h c).1 6).trans (((dats 0 c).arrAt_in 6 rfl _).trans ((hA c 6)))⟩) h

/-! ## What the body is called with -/

/-! Each window's current staging buffer at point `t`, and that it is a whole buffer. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S4096x128 .f32 := spec0_7.stage ((cfgM m hO).slots t 7)
abbrev hs0_7 (hO : Ok m) (t : Fin (cfgM m hO).N) : (ms0_7 m hO t).IsWhole := hstage0_7 (((cfgM m hO).slots t 7).cast nbuf0_7)

/-- The result window is written back at every point. -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The body at point `t`, on what the pipeline calls it with. -/
abbrev bodyAt0 (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

end Cert.KernelIdeal.Experts

end
-- ==== Proof.KernelIdeal.Body.lean ====
/- The body of the experts call run once, in each of its two cases: a block in use, and a block past the last one in
   use. -/
module

public import proofs.«01_k».proof.Proof.KernelIdeal.Setup

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of the second table: the number of blocks in use. -/
abbrev word {c : Dev nD} (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

set_option maxHeartbeats 1000000 in
/-- A block in use: the pieces that the body writes to the result block, and the run that writes them. -/
noncomputable def runUsed (c : Dev nD) (i : grid0.Coords) (arg3 : Memref sig .tc .vmem S4096x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S4096x128 .f32) (harg10 : arg10.IsWhole)
    (x0 : Vec F S4096x128 .f32) (x1 : Vec F S1x1024x1024 .bf16) (x2 : Vec F S1x1024x1024 .bf16) (x3 : Vec F S1x1024x1024 .bf16) (x4 : Vec F S1x1x1024 .f32) (x5 : Vec F S1x1x1024 .f32) (x6 : Vec F S1x1x1024 .f32) (xt0 : TbBuf0 (F := F) c tbM0_0) (xt1 : TbBuf0 (F := F) c tbM0_1)
    (h1 : k0_cond1 i (word xt1) = 1#1) (h2 : ¬ k0_cond2 i (word xt1) = 1#1) :
    { L7 : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HT0]; · iexact HT0
    iexact HT1

set_option maxHeartbeats 1000000 in
/-- A block past the last one in use: the pieces that the body writes to the result block, and the run that writes them. -/
noncomputable def runIdle (c : Dev nD) (i : grid0.Coords) (arg3 : Memref sig .tc .vmem S4096x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S4096x128 .f32) (harg10 : arg10.IsWhole)
    (x0 : Vec F S4096x128 .f32) (x1 : Vec F S1x1024x1024 .bf16) (x2 : Vec F S1x1024x1024 .bf16) (x3 : Vec F S1x1024x1024 .bf16) (x4 : Vec F S1x1x1024 .f32) (x5 : Vec F S1x1x1024 .f32) (x6 : Vec F S1x1x1024 .f32) (xt0 : TbBuf0 (F := F) c tbM0_0) (xt1 : TbBuf0 (F := F) c tbM0_1)
    (h1 : ¬ k0_cond1 i (word xt1) = 1#1) (h2 : k0_cond2 i (word xt1) = 1#1) :
    { L7 : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HT0]; · iexact HT0
    iexact HT1

end Cert.KernelIdeal.Experts

end
-- ==== Proof.KernelIdeal.Block.lean ====
/- What the body leaves in the result block: the eight stores of a block in use put row `r`, columns `128 s ..` of the
   experts' outcome at row `8 r + s` of the result block; a block past the last one in use is filled with zeros. -/
module

public import proofs.«01_k».proof.Proof.KernelIdeal.Body
public import Idealize.ShloMosaic.Lib.ValueIdxCore
public import Idealize.ShloMosaic.Lib.WholeRead
public import Idealize.ShloMosaic.Lib.Pipeline.ValueKit.Tiles

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer loaded whole gives its contents. -/
theorem load_whole {sp : Space} {s : Shape} {e : EltTy} {a : Memref sig .tc sp s e} (h : a.IsWhole) (x : s.Idx → Elt F e)
    (off : Fin s.rank → ℕ) (inb : ∀ k, off k + s.size k ≤ s.size k) :
    a.view.readAt (Elt F) (Rect.unit (s := s) off s.size inb).toLoadRect (h.unread x) = x := by
  funext j
  rw [h.readAt_unread]
  congr 1
  funext k
  apply Fin.ext
  show off k + 1 * (j k : ℕ) = j k
  have := inb k
  omega

/-- Rows `r, r + 8, r + 16, …` of the token block: the columns `128 r ..` of the block's 512 tokens. -/
def lanes (x0 : Vec F S4096x128 .f32) (r : Fin 8) : Vec F S512x128 .f32 :=
  fun j => x0 (ix2 ⟨8 * (j 0).val + r.val, by have := (j 0).isLt; have h : (j 0).val < 512 := this; omega⟩ (j 1))

/-- The eight strided loads of the token block. -/
theorem load_lanes {a : Memref sig .tc .vmem S4096x128 .f32} (h : a.IsWhole) (x : Vec F S4096x128 .f32) (r : Fin 8)
    (off : Fin 2 → ℕ) (hoff : off = ![r.val, 0])
    (inb : ∀ k : Fin 2, S512x128.size k = 0 ∨ off k + (![8, 1] : Fin 2 → ℕ) k * (S512x128.size k - 1) < S4096x128.size k) :
    a.view.readAt (Elt F) (⟨off, S512x128.size, ![8, 1], inb⟩ : LoadRect S4096x128) (h.unread x) = lanes x r := by
  subst hoff
  funext j
  rw [h.readAt_unread]
  unfold lanes
  congr 1
  funext k
  apply Fin.ext
  match k with
  | ⟨0, _⟩ => show r.val + 8 * (j 0 : ℕ) = 8 * (j 0 : ℕ) + r.val; omega
  | ⟨1, _⟩ => show 0 + 1 * (j 1 : ℕ) = (j 1 : ℕ); omega

/-- The experts' outcome for the 512 tokens of a block: the second product plus its bias, from the gated first ones. -/
def outcome (x0 : Vec F S4096x128 .f32) (x1 x2 x3 : Vec F S1x1024x1024 .bf16) (x4 x5 x6 : Vec F S1x1x1024 .f32) : FVec F S512x1024 .f32 :=
  k0_pay9
    (k0_pay6 (lanes x0 0) (lanes x0 1) (lanes x0 2) (lanes x0 3) (lanes x0 4) (lanes x0 5) (lanes x0 6) (lanes x0 7) x1 x4)
    (k0_pay7 (lanes x0 0) (lanes x0 1) (lanes x0 2) (lanes x0 3) (lanes x0 4) (lanes x0 5) (lanes x0 6) (lanes x0 7) x2 x5)
    (Scalar.ofBits .f32 0x40E00000#32) (k0_pay8 (F := F)) x3 x6

/-- The outcome laid out as the result block: token `r`'s columns `128 s ..` at row `8 r + s`. -/
def laidOut (Y : FVec F S512x1024 .f32) : Vec F S4096x128 .f32 := fun y =>
  Y (ix2 ⟨(y 0).val / 8, by have h : (y 0).val < 4096 := (y 0).isLt; omega⟩
    ⟨(y 0).val % 8 * 128 + (y 1).val, by have h : (y 1).val < 128 := (y 1).isLt; omega⟩)

/-- A slice of columns `128 s ..` stored at rows `s, s + 8, …` agrees with the layout wherever it is stored. -/
theorem rectAt_laidOut (Y : FVec F S512x1024 .f32) (s : Fin 8) (off : Fin 2 → ℕ) (hoff : off = ![s.val, 0])
    (inb : ∀ k : Fin 2, S512x128.size k = 0 ∨ off k + (![8, 1] : Fin 2 → ℕ) k * (S512x128.size k - 1) < S4096x128.size k)
    (pos : ∀ k : Fin 2, 0 < (![8, 1] : Fin 2 → ℕ) k) (so : Fin 2 → ℕ) (hso : so = ![0, 128 * s.val])
    (hsl : S512x1024.Slices so S512x128) (y : S4096x128.Idx) :
    View.RectAt (Val := Elt F) (e := .f32) y ⟨(⟨off, S512x128.size, ![8, 1], inb⟩ : LoadRect S4096x128), pos⟩
      (extractStridedSlice S512x128 so Y hsl) (laidOut Y y) := by
  subst hoff hso
  intro x hx
  have h0 : (y 0).val = s.val + 8 * (x 0).val := by rw [← hx]; rfl
  have h1 : (y 1).val = 0 + 1 * (x 1).val := by rw [← hx]; rfl
  unfold laidOut extractStridedSlice
  congr 1
  have hs := s.isLt
  funext k
  apply Fin.ext
  match k with
  | ⟨0, _⟩ => show 0 + (x 0).val = (y 0).val / 8; omega
  | ⟨1, _⟩ => show 128 * s.val + (x 1).val = (y 0).val % 8 * 128 + (y 1).val; omega

/-- The loads of a block in use, put together: the first products' values, -/
theorem used_glu  (c : Dev nD) (i : grid0.Coords) (arg3 : Memref sig .tc .vmem S4096x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S4096x128 .f32) (harg10 : arg10.IsWhole)
    (x0 : Vec F S4096x128 .f32) (x1 : Vec F S1x1024x1024 .bf16) (x2 : Vec F S1x1024x1024 .bf16) (x3 : Vec F S1x1024x1024 .bf16) (x4 : Vec F S1x1x1024 .f32) (x5 : Vec F S1x1x1024 .f32) (x6 : Vec F S1x1x1024 .f32) (xt0 : TbBuf0 (F := F) c tbM0_0) (xt1 : TbBuf0 (F := F) c tbM0_1)
    (h1 : k0_cond1 i (word xt1) = 1#1) (h2 : ¬ k0_cond2 i (word xt1) = 1#1) : runUsed.sl.r_1 c arg3 harg3 arg4 harg4 arg7 harg7 x0 x1 x4 =
    k0_pay6 (lanes x0 0) (lanes x0 1) (lanes x0 2) (lanes x0 3) (lanes x0 4) (lanes x0 5) (lanes x0 6) (lanes x0 7) x1 x4 := by
  unfold runUsed.sl.r_1
  rw [load_lanes harg3 x0 0 ![0, 0] rfl, load_lanes harg3 x0 1 ![1, 0] rfl, load_lanes harg3 x0 2 ![2, 0] rfl, load_lanes harg3 x0 3 ![3, 0] rfl,
    load_lanes harg3 x0 4 ![4, 0] rfl, load_lanes harg3 x0 5 ![5, 0] rfl, load_lanes harg3 x0 6 ![6, 0] rfl, load_lanes harg3 x0 7 ![7, 0] rfl,
    load_whole harg4, load_whole harg7]

/-- the linear half's, -/
theorem used_lin  (c : Dev nD) (i : grid0.Coords) (arg3 : Memref sig .tc .vmem S4096x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S4096x128 .f32) (harg10 : arg10.IsWhole)
    (x0 : Vec F S4096x128 .f32) (x1 : Vec F S1x1024x1024 .bf16) (x2 : Vec F S1x1024x1024 .bf16) (x3 : Vec F S1x1024x1024 .bf16) (x4 : Vec F S1x1x1024 .f32) (x5 : Vec F S1x1x1024 .f32) (x6 : Vec F S1x1x1024 .f32) (xt0 : TbBuf0 (F := F) c tbM0_0) (xt1 : TbBuf0 (F := F) c tbM0_1)
    (h1 : k0_cond1 i (word xt1) = 1#1) (h2 : ¬ k0_cond2 i (word xt1) = 1#1) : runUsed.sl.r_2 c arg3 harg3 arg5 harg5 arg8 harg8 x0 x2 x5 =
    k0_pay7 (lanes x0 0) (lanes x0 1) (lanes x0 2) (lanes x0 3) (lanes x0 4) (lanes x0 5) (lanes x0 6) (lanes x0 7) x2 x5 := by
  unfold runUsed.sl.r_2
  rw [load_lanes harg3 x0 0 ![0, 0] rfl, load_lanes harg3 x0 1 ![1, 0] rfl, load_lanes harg3 x0 2 ![2, 0] rfl, load_lanes harg3 x0 3 ![3, 0] rfl,
    load_lanes harg3 x0 4 ![4, 0] rfl, load_lanes harg3 x0 5 ![5, 0] rfl, load_lanes harg3 x0 6 ![6, 0] rfl, load_lanes harg3 x0 7 ![7, 0] rfl,
    load_whole harg5, load_whole harg8]

/-- and the outcome. -/
theorem used_outcome  (c : Dev nD) (i : grid0.Coords) (arg3 : Memref sig .tc .vmem S4096x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S4096x128 .f32) (harg10 : arg10.IsWhole)
    (x0 : Vec F S4096x128 .f32) (x1 : Vec F S1x1024x1024 .bf16) (x2 : Vec F S1x1024x1024 .bf16) (x3 : Vec F S1x1024x1024 .bf16) (x4 : Vec F S1x1x1024 .f32) (x5 : Vec F S1x1x1024 .f32) (x6 : Vec F S1x1x1024 .f32) (xt0 : TbBuf0 (F := F) c tbM0_0) (xt1 : TbBuf0 (F := F) c tbM0_1)
    (h1 : k0_cond1 i (word xt1) = 1#1) (h2 : ¬ k0_cond2 i (word xt1) = 1#1) : runUsed.sl.r_3 c arg3 harg3 arg4 harg4 arg5 harg5 arg6 harg6 arg7 harg7 arg8 harg8 arg9 harg9 x0 x1 x2 x3 x4 x5 x6 = outcome x0 x1 x2 x3 x4 x5 x6 := by
  unfold runUsed.sl.r_3
  rw [used_glu c i arg3 harg3 arg4 harg4 arg5 harg5 arg6 harg6 arg7 harg7 arg8 harg8 arg9 harg9 arg10 harg10 x0 x1 x2 x3 x4 x5 x6 xt0 xt1 h1 h2, used_lin c i arg3 harg3 arg4 harg4 arg5 harg5 arg6 harg6 arg7 harg7 arg8 harg8 arg9 harg9 arg10 harg10 x0 x1 x2 x3 x4 x5 x6 xt0 xt1 h1 h2, load_whole harg6, load_whole harg9]
  rfl

/-- The eight stores of a block in use leave the outcome, laid out. -/
theorem used_read  (c : Dev nD) (i : grid0.Coords) (arg3 : Memref sig .tc .vmem S4096x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S4096x128 .f32) (harg10 : arg10.IsWhole)
    (x0 : Vec F S4096x128 .f32) (x1 : Vec F S1x1024x1024 .bf16) (x2 : Vec F S1x1024x1024 .bf16) (x3 : Vec F S1x1024x1024 .bf16) (x4 : Vec F S1x1x1024 .f32) (x5 : Vec F S1x1x1024 .f32) (x6 : Vec F S1x1x1024 .f32) (xt0 : TbBuf0 (F := F) c tbM0_0) (xt1 : TbBuf0 (F := F) c tbM0_1)
    (h1 : k0_cond1 i (word xt1) = 1#1) (h2 : ¬ k0_cond2 i (word xt1) = 1#1) (f : arg10.view.ty.Contents (Elt F)) :
    arg10.view.read (Elt F) (arg10.view.writes (Elt F) f (runUsed c i arg3 harg3 arg4 harg4 arg5 harg5 arg6 harg6 arg7 harg7 arg8 harg8 arg9 harg9 arg10 harg10 x0 x1 x2 x3 x4 x5 x6 xt0 xt1 h1 h2).1) = laidOut (outcome x0 x1 x2 x3 x4 x5 x6) := by
  have hg := used_glu c i arg3 harg3 arg4 harg4 arg5 harg5 arg6 harg6 arg7 harg7 arg8 harg8 arg9 harg9 arg10 harg10 x0 x1 x2 x3 x4 x5 x6 xt0 xt1 h1 h2
  have hl := used_lin c i arg3 harg3 arg4 harg4 arg5 harg5 arg6 harg6 arg7 harg7 arg8 harg8 arg9 harg9 arg10 harg10 x0 x1 x2 x3 x4 x5 x6 xt0 xt1 h1 h2
  have ho := used_outcome c i arg3 harg3 arg4 harg4 arg5 harg5 arg6 harg6 arg7 harg7 arg8 harg8 arg9 harg9 arg10 harg10 x0 x1 x2 x3 x4 x5 x6 xt0 xt1 h1 h2
  unfold runUsed
  dsimp only
  unfold runUsed.sl.r_4
  rw [hg, hl, ho, load_whole harg6, load_whole harg9]
  funext y
  have hc : ∀ L : List (View.Piece (Elt F) S4096x128 .f32), (∃ p ∈ L, y ∈ p.1.set) →
      View.AllAt L y (laidOut (outcome x0 x1 x2 x3 x4 x5 x6) y) →
      arg10.view.read (Elt F) (arg10.view.writes (Elt F) f L) y = laidOut (outcome x0 x1 x2 x3 x4 x5 x6) y :=
    fun L h1 h2 => (View.read_writes_apply_eq_canon _ f y L h1).trans (View.canon_eq_of_allAt L y _ h1 h2)
  apply hc
  · have h0 : (y 0).val < 4096 := (y 0).isLt
    have h1' : (y 1).val < 128 := (y 1).isLt
    have hm : ∀ s : ℕ, (y 0).val % 8 = s → ∀ (off : Fin 2 → ℕ) (hoff : off = ![s, 0]) (inb) (pos),
        y ∈ (⟨(⟨off, ![512, 128], ![8, 1], inb⟩ : LoadRect S4096x128), pos⟩ : Rect S4096x128).set := by
      intro s hs off hoff inb pos
      subst hoff
      refine LoadRect.mem_set _ |>.mpr fun k => ?_
      match k with
      | ⟨0, _⟩ => exact ⟨(y 0).val / 8, by show (y 0).val / 8 < 512; omega, by show (y 0).val = s + 8 * ((y 0).val / 8); omega⟩
      | ⟨1, _⟩ => exact ⟨(y 1).val, h1', by show (y 1).val = 0 + 1 * (y 1).val; omega⟩
    have hr : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases hr with hr | hr | hr | hr | hr | hr | hr | hr
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hm 0 hr ![0, 0] rfl _ _⟩
    · exact ⟨_, (List.mem_cons_of_mem _ (List.mem_cons_of_mem _ (List.mem_cons_of_mem _ (List.mem_cons_of_mem _ (List.mem_cons_of_mem _ (List.mem_cons_of_mem _ List.mem_cons_self)))))), hm 1 hr ![1, 0] rfl _ _⟩
    · exact ⟨_, (List.mem_cons_of_mem _ (List.mem_cons_of_mem _ (List.mem_cons_of_mem _ (List.mem_cons_of_mem _ (List.mem_cons_of_mem _ List.mem_cons_self))))), hm 2 hr ![2, 0] rfl _ _⟩
    · exact ⟨_, (List.mem_cons_of_mem _ (List.mem_cons_of_mem _ (List.mem_cons_of_mem _ (List.mem_cons_of_mem _ List.mem_cons_self)))), hm 3 hr ![3, 0] rfl _ _⟩
    · exact ⟨_, (List.mem_cons_of_mem _ (List.mem_cons_of_mem _ (List.mem_cons_of_mem _ List.mem_cons_self))), hm 4 hr ![4, 0] rfl _ _⟩
    · exact ⟨_, (List.mem_cons_of_mem _ (List.mem_cons_of_mem _ List.mem_cons_self)), hm 5 hr ![5, 0] rfl _ _⟩
    · exact ⟨_, (List.mem_cons_of_mem _ List.mem_cons_self), hm 6 hr ![6, 0] rfl _ _⟩
    · exact ⟨_, List.mem_cons_self, hm 7 hr ![7, 0] rfl _ _⟩
  · refine View.allAt_cons _ _ _ (rectAt_laidOut (outcome x0 x1 x2 x3 x4 x5 x6) 7 ![7, 0] rfl _ _ ![0, 896] rfl slices_S512x1024_o0_896_S512x128 y) ?_
    refine View.allAt_cons _ _ _ (rectAt_laidOut (outcome x0 x1 x2 x3 x4 x5 x6) 6 ![6, 0] rfl _ _ ![0, 768] rfl slices_S512x1024_o0_768_S512x128 y) ?_
    refine View.allAt_cons _ _ _ (rectAt_laidOut (outcome x0 x1 x2 x3 x4 x5 x6) 5 ![5, 0] rfl _ _ ![0, 640] rfl slices_S512x1024_o0_640_S512x128 y) ?_
    refine View.allAt_cons _ _ _ (rectAt_laidOut (outcome x0 x1 x2 x3 x4 x5 x6) 4 ![4, 0] rfl _ _ ![0, 512] rfl slices_S512x1024_o0_512_S512x128 y) ?_
    refine View.allAt_cons _ _ _ (rectAt_laidOut (outcome x0 x1 x2 x3 x4 x5 x6) 3 ![3, 0] rfl _ _ ![0, 384] rfl slices_S512x1024_o0_384_S512x128 y) ?_
    refine View.allAt_cons _ _ _ (rectAt_laidOut (outcome x0 x1 x2 x3 x4 x5 x6) 2 ![2, 0] rfl _ _ ![0, 256] rfl slices_S512x1024_o0_256_S512x128 y) ?_
    refine View.allAt_cons _ _ _ (rectAt_laidOut (outcome x0 x1 x2 x3 x4 x5 x6) 1 ![1, 0] rfl _ _ ![0, 128] rfl slices_S512x1024_o0_128_S512x128 y) ?_
    refine View.allAt_cons _ _ _ (rectAt_laidOut (outcome x0 x1 x2 x3 x4 x5 x6) 0 ![0, 0] rfl _ _ ![0, 0] rfl slices_S512x1024_o0_0_S512x128 y) ?_
    exact View.allAt_nil _ _

/-- A block past the last one in use is left all zeros. -/
theorem idle_read  (c : Dev nD) (i : grid0.Coords) (arg3 : Memref sig .tc .vmem S4096x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S4096x128 .f32) (harg10 : arg10.IsWhole)
    (x0 : Vec F S4096x128 .f32) (x1 : Vec F S1x1024x1024 .bf16) (x2 : Vec F S1x1024x1024 .bf16) (x3 : Vec F S1x1024x1024 .bf16) (x4 : Vec F S1x1x1024 .f32) (x5 : Vec F S1x1x1024 .f32) (x6 : Vec F S1x1x1024 .f32) (xt0 : TbBuf0 (F := F) c tbM0_0) (xt1 : TbBuf0 (F := F) c tbM0_1)
    (h1 : ¬ k0_cond1 i (word xt1) = 1#1) (h2 : k0_cond2 i (word xt1) = 1#1) (f : arg10.view.ty.Contents (Elt F)) :
    arg10.view.read (Elt F) (arg10.view.writes (Elt F) f (runIdle c i arg3 harg3 arg4 harg4 arg5 harg5 arg6 harg6 arg7 harg7 arg8 harg8 arg9 harg9 arg10 harg10 x0 x1 x2 x3 x4 x5 x6 xt0 xt1 h1 h2).1) = (k0_pay4 (F := F)) := by
  unfold runIdle
  dsimp only
  funext y
  have hy : ∃ x, (Rect.unit (s := S4096x128) ![0, 0] S4096x128.size inb_S4096x128_S4096x128_0_0).emb x = y :=
    ⟨y, by
      funext k
      apply Fin.ext
      match k with
      | ⟨0, _⟩ => show 0 + 1 * (y 0 : ℕ) = (y 0 : ℕ); omega
      | ⟨1, _⟩ => show 0 + 1 * (y 1 : ℕ) = (y 1 : ℕ); omega⟩
  obtain ⟨x, rfl⟩ := hy
  rw [View.read_writes_cons_emb]
  rfl

end Cert.KernelIdeal.Experts

end
-- ==== Proof.KernelIdeal.Frame.lean ====
/- The frame of the experts call: what every window's staging buffer holds after each grid point, the body's triple at
   a point from the two runs of the body, and the launch. -/
module

public import proofs.«01_k».proof.Proof.KernelIdeal.Block
public import Idealize.ShloMosaic.Lib.Claim

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The condition -/

/-- The two conditions of the body exclude each other and one of them holds. -/
theorem cond2_iff (i : grid0.Coords) (v : BitVec 32) : k0_cond2 i v = 1#1 ↔ ¬ k0_cond1 i v = 1#1 := by
  unfold k0_cond1 k0_cond2
  dsimp only
  rcases BitVec.eq_zero_or_eq_one (Scalar.cmpi .slt (BitVec.ofNat 32 (i 0).val) v) with h | h <;> rw [h] <;> decide

/-- The number of blocks in use, off the second table. -/
abbrev inUse : BitVec 32 := word (c := (0 : Dev nD)) (tbl m 1)

/-- What the result block holds after point `t`: the outcome of the block's tokens while the block is in use, else zeros. -/
def outsAt0 (hO : Ok m) (c : Dev nD) (t : Fin (cfgM m hO).N) : Vec F S4096x128 .f32 :=
  if k0_cond1 (grid0.coords t) (inUse m) = 1#1 then
    laidOut (outcome (iblk m hO c 0 t) (iblk m hO c 1 t) (iblk m hO c 2 t) (iblk m hO c 3 t) (iblk m hO c 4 t) (iblk m hO c 5 t) (iblk m hO c 6 t))
  else k0_pay4 (F := F)

/-! ## The proof data -/

/-- The arrays as the region finds them; after the body each input's buffer at its block and the result's at `outsAt0`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t)
  Φ _ := iprop(Pipeline.ΦA spec0 c ∗ Pipeline.ΦT pre0 (tbl m) c)
  q _ := fullShare
  owed _ := 0

/-- The arrays are what the region finds. -/
theorem A_eq (hO : Ok m) (c : Dev nD) (w : Fin (cfgM m hO).W) : (dats m hO 0 c).A w = V m c (Pipeline.arrRef spec0 w) := by
  dsimp only [dats]

/-! What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t) := by dsimp only [dats]; try rfl

/-! Each input's staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 800000 in
/-- The body at any point, by the run of the case that the count of blocks decides. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  have hw : word (c := c) (tbl m 1) = inUse m := by
    obtain rfl : c = 0 := Subsingleton.elim _ _; rfl
  unfold outsAt0
  by_cases h : k0_cond1 (grid0.coords t) (inUse m) = 1#1
  · rw [if_pos h]
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runUsed c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (hw ▸ h) (fun h' => (cond2_iff _ _).mp h' (hw ▸ h))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    iintro ⟨H0, H1, H2, H3, H4, H5, H6, ⟨%e7, H7⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact used_read c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (hw ▸ h) (fun h' => (cond2_iff _ _).mp h' (hw ▸ h)) _
  · rw [if_neg h]
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runIdle c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (fun h' => h (hw ▸ h')) ((cond2_iff _ _).mpr fun h' => h (hw ▸ h'))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    iintro ⟨H0, H1, H2, H3, H4, H5, H6, ⟨%e7, H7⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact idle_read c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (fun h' => h (hw ▸ h')) ((cond2_iff _ _).mpr fun h' => h (hw ▸ h')) _

/-- The program that the pipeline runs at point `t` is the body on the staging buffers of that point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body writes the result block at every point. -/
theorem never_idle (hO : Ok m) (t : Fin (cfgM m hO).N) : (cfgM m hO).idle 7 ((cfgM m hO).grid.coords t) = false := by
  show (!(k0_cond1 (grid0.coords t) ((tbl m).atD 1 ![0]) == 1#1) && !(k0_cond2 (grid0.coords t) ((tbl m).atD 1 ![0]) == 1#1)) = false
  by_cases h : k0_cond1 (grid0.coords t) ((tbl m).atD 1 ![0]) = 1#1
  · rw [h]; rfl
  · rw [(cond2_iff _ _).mpr h, Bool.and_comm]; rfl

/-- The pipeline's obligation on the body, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have h7 : idle0 (F := F) (tbl m) 7 ((pcfg0.gridAt (tbl m)).coords t) = false := never_idle m hO t
  unfold bodyPost
  dsimp only
  rw [h7]

/-! ## The run and the frame -/

set_option backward.isDefEq.respectTransparency.types false in
/-- Every run of `@main` from zero counters ends with the arrays that the proof data computes, and with zero counters. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- The frame: the arguments end unchanged and every counter at zero, for any tables that name blocks inside their
    arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.KernelIdeal.Experts

end
-- ==== Proof.KernelIdeal.Tables.lean ====
/- The table of experts: what the index maps read of it, and that the precondition keeps every block the maps name
   inside its array. -/
module

public import proofs.«01_k».proof.Proof.KernelIdeal.Frame
public import proofs.«01_k».proof.Proof.Gen.Pre_experts_exist
public import proofs.«01_k».proof.Defs

@[expose] public section

set_option maxRecDepth 16384

noncomputable section

namespace Cert.KernelIdeal.Experts

open Cert.KernelIdeal.Gen
open Idealize.ShloMosaic Idealize.ShloMosaic.TcCoe Idealize.ShloMosaic.Tactic
open Idealize.ShloMosaic.Rounds Idealize.ShloMosaic.ValueIdx

variable {F : FTy → Type} [FloatOps F]

variable (m : (ℓ : Loc nD τ sig) → Buf (Elt F) ℓ)

/-- The entry of the table of experts for block `i`. -/
def expertAt (i : grid0.Coords) : BitVec 32 := (tbl m 0 : S292.Idx → BitVec 32) (ix1 (n := 292) ⟨(i 0).val, (i 0).isLt⟩)

/-- What an index map reads of the table at point `i` is that entry. -/
theorem at_expert (i : grid0.Coords) : (tbl m).at 0 (Rect.unit (s := S292) (k0_off1 i) S1.size (k0_off1_inb i)) numel1_S1 = expertAt m i := by
  unfold expertAt
  refine congrArg (tbl m 0 : S292.Idx → BitVec 32) (funext fun (a : Fin 1) => Fin.ext ?_)
  obtain rfl : a = 0 := Subsingleton.elim _ _
  have h0 : (i 0).val < 292 := (i 0).isLt
  have h1 : ((Shape.Idx.first (s := (Rect.unit (s := S292) (k0_off1 i) S1.size (k0_off1_inb i)).shape) (numel1_S1.symm ▸ Nat.one_pos)) 0).val = 0 :=
    Nat.lt_one_iff.mp (Fin.isLt _)
  refine (congrArg (fun z => k0_off1 i 0 + 1 * z) h1).trans ?_
  show (BitVec.ofNat 32 (i 0).val).toNat + 1 * 0 = (i 0).val
  rw [BitVec.toNat_ofNat]; omega

/-- Window 1 (and 2, 3 alike) is at the expert's slice of its weights. -/
theorem transform_1_eq (i : grid0.Coords) : cc0_transform_1 k0_off1_inb numel1_S1 (tbl m) i = ![(expertAt m i).toNat, 0, 0] := by
  rw [← at_expert]; rfl
theorem transform_2_eq (i : grid0.Coords) : cc0_transform_2 k0_off1_inb numel1_S1 (tbl m) i = ![(expertAt m i).toNat, 0, 0] := by
  rw [← at_expert]; rfl
theorem transform_3_eq (i : grid0.Coords) : cc0_transform_3 k0_off1_inb numel1_S1 (tbl m) i = ![(expertAt m i).toNat, 0, 0] := by
  rw [← at_expert]; rfl
/-- Window 4 (and 5, 6 alike) is at the expert's row of its biases. -/
theorem transform_4_eq (i : grid0.Coords) : cc0_transform_4 k0_off1_inb numel1_S1 (tbl m) i = ![(expertAt m i).toNat, 0, 0] := by
  rw [← at_expert]; rfl
theorem transform_5_eq (i : grid0.Coords) : cc0_transform_5 k0_off1_inb numel1_S1 (tbl m) i = ![(expertAt m i).toNat, 0, 0] := by
  rw [← at_expert]; rfl
theorem transform_6_eq (i : grid0.Coords) : cc0_transform_6 k0_off1_inb numel1_S1 (tbl m) i = ![(expertAt m i).toNat, 0, 0] := by
  rw [← at_expert]; rfl

/-- Every block that the tables name lies inside its array, if every entry names one of the 32 experts. -/
theorem ok_of_experts (h : ∀ i, (expertAt m i).toNat < 32) : Ok m := by
  refine ⟨fun i => ⟨?_, .inr (.inr ⟨by decide, rfl, ?_, rfl⟩)⟩, fun i => ⟨?_, .inr (.inr ⟨by decide, rfl, ?_, rfl⟩)⟩,
    fun i => ⟨?_, .inr (.inr ⟨by decide, rfl, ?_, rfl⟩)⟩, fun i => ⟨?_, .inl rfl⟩, fun i => ⟨?_, .inl rfl⟩, fun i => ⟨?_, .inl rfl⟩⟩
  · have := h i; rw [transform_1_eq]; intro a; fin_cases a <;> simp [S1x1024x1024, S32x1024x1024] <;> omega
  · show cc0_transform_1 k0_off1_inb numel1_S1 (tbl m) i 1 * 1024 = 0; rw [transform_1_eq]; rfl
  · have := h i; rw [transform_2_eq]; intro a; fin_cases a <;> simp [S1x1024x1024, S32x1024x1024] <;> omega
  · show cc0_transform_2 k0_off1_inb numel1_S1 (tbl m) i 1 * 1024 = 0; rw [transform_2_eq]; rfl
  · have := h i; rw [transform_3_eq]; intro a; fin_cases a <;> simp [S1x1024x1024, S32x1024x1024] <;> omega
  · show cc0_transform_3 k0_off1_inb numel1_S1 (tbl m) i 1 * 1024 = 0; rw [transform_3_eq]; rfl
  · have := h i; rw [transform_4_eq]; intro a; fin_cases a <;> simp [S1x1x1024, S32x1x1024] <;> omega
  · have := h i; rw [transform_5_eq]; intro a; fin_cases a <;> simp [S1x1x1024, S32x1x1024] <;> omega
  · have := h i; rw [transform_6_eq]; intro a; fin_cases a <;> simp [S1x1x1024, S32x1x1024] <;> omega

/-- A word that is at least 0 and below 32 as a signed number is below 32 as a natural number. -/
theorem toNat_lt_of_signed (v : BitVec 32) (h0 : (0#32).sle v = true) (h1 : v.slt 32#32 = true) : v.toNat < 32 := by
  simp only [BitVec.slt_eq_decide, BitVec.sle_eq_decide, decide_eq_true_eq] at h0 h1
  have e0 : (0#32 : BitVec 32).toInt = 0 := by decide
  have e1 : (32#32 : BitVec 32).toInt = 32 := by decide
  rw [e0] at h0; rw [e1] at h1
  rw [BitVec.toInt_eq_toNat_cond] at h0 h1
  have := v.isLt
  split at h0 <;> omega

end Cert.KernelIdeal.Experts

namespace Cert.KernelIdeal.Experts

open Cert.KernelIdeal.Gen Cert.Pre_experts_exist.Gen
open Idealize.ShloMosaic Idealize.ShloMosaic.TcCoe Idealize.ShloMosaic.ValueIdx

/-- The precondition says that every entry of the table names one of the 32 experts. -/
theorem expert_lt (m : (ℓ : Loc nD τ sig) → Buf (Elt Ideal) ℓ) (h : Cert.Pre_KernelIdeal (hPre_experts_exist := Cert.Pre_experts_exist.Gen.facts) m)
    (i : grid0.Coords) : (expertAt m i).toNat < 32 := by
  have h1 : BitVec.ofBool ((0#32).sle (expertAt m i)) &&& BitVec.ofBool ((expertAt m i).slt 32#32) = 1#1 :=
    congrFun (h 0) (ix1 (n := 292) ⟨(i 0).val, (i 0).isLt⟩)
  rcases hs : (0#32).sle (expertAt m i) with _ | _ <;> rcases ht : (expertAt m i).slt 32#32 with _ | _ <;> rw [hs, ht] at h1 <;>
    first | exact absurd h1 (by decide) | exact toNat_lt_of_signed _ hs ht

/-- Under the precondition every block that the tables name lies inside its array. -/
theorem ok_of_pre (m : (ℓ : Loc nD τ sig) → Buf (Elt Ideal) ℓ) (h : Cert.Pre_KernelIdeal (hPre_experts_exist := Cert.Pre_experts_exist.Gen.facts) m) : Ok m :=
  ok_of_experts m (expert_lt m h)

end Cert.KernelIdeal.Experts

end
-- ==== Proof.Model.lean ====
/- The mathematics of the experts: a token's row goes through the gate and the linear product of its expert, the gated
   unit of the two, and the expert's second product. -/
module

public import Idealize.ShloMosaic.PureOps.Ideal

@[expose] public section

noncomputable section

namespace Cert.Experts

open Idealize.ShloMosaic

/-- A row times a matrix, plus a row. -/
def affine {K N : ℕ} (x : Fin K → EReal) (W : Fin K → Fin N → EReal) (b : Fin N → EReal) (n : Fin N) : EReal :=
  (∑ k, x k * W k n) + b n

/-- The gated unit of a gate value and a linear value: the gate is cut off above at 7 and multiplied by the logistic
    function of 1.702 times itself; the linear value is cut off at -7 and 7 and raised by 1. -/
def gated (g l : EReal) : EReal :=
  min g (Ideal.ofBits .f32 0x40E00000#32)
      * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) l) + 1)

/-- One expert's outcome for a token row. -/
def moe {K M N : ℕ} (x : Fin K → EReal) (Wg : Fin K → Fin M → EReal) (bg : Fin M → EReal) (Wl : Fin K → Fin M → EReal)
    (bl : Fin M → EReal) (W2 : Fin M → Fin N → EReal) (b2 : Fin N → EReal) (n : Fin N) : EReal :=
  affine (fun j => gated (affine x Wg bg j) (affine x Wl bl j)) W2 b2 n

/-- Equal rows, matrices and biases give equal outcomes. -/
theorem moe_congr {K M N : ℕ} {x x' : Fin K → EReal} {Wg Wg' : Fin K → Fin M → EReal} {bg bg' : Fin M → EReal} {Wl Wl' : Fin K → Fin M → EReal}
    {bl bl' : Fin M → EReal} {W2 W2' : Fin M → Fin N → EReal} {b2 b2' : Fin N → EReal} {n n' : Fin N} (hx : ∀ k, x k = x' k)
    (hg : ∀ k j, Wg k j = Wg' k j) (hbg : ∀ j, bg j = bg' j) (hl : ∀ k j, Wl k j = Wl' k j) (hbl : ∀ j, bl j = bl' j)
    (h2 : ∀ j n, W2 j n = W2' j n) (hb2 : ∀ n, b2 n = b2' n) (hn : n = n') : moe x Wg bg Wl bl W2 b2 n = moe x' Wg' bg' Wl' bl' W2' b2' n' := by
  obtain rfl := funext hx
  obtain rfl := funext fun k => funext (hg k)
  obtain rfl := funext hbg
  obtain rfl := funext fun k => funext (hl k)
  obtain rfl := funext hbl
  obtain rfl := funext fun k => funext (h2 k)
  obtain rfl := funext hb2
  rw [hn]

end Cert.Experts

end
-- ==== Proof.KernelIdeal.Outcome.lean ====
/- The outcome of the body for one block, entry by entry: the experts' mathematics on the token rows of the block. -/
module

public import proofs.«01_k».proof.Proof.KernelIdeal.Block
public import proofs.«01_k».proof.Proof.Model
public import Idealize.ShloMosaic.Lib.Pointwise

@[expose] public section

set_option maxRecDepth 16384

noncomputable section

namespace Cert.KernelIdeal.Experts

open Cert.KernelIdeal.Gen Cert.Experts
open Idealize.ShloMosaic Idealize.ShloMosaic.TcCoe

/-- The tokens of the block as one matrix. -/
def tokens (x0 : Vec Ideal S4096x128 .f32) : FVec Ideal S512x1024 .bf16 :=
  k0_pay5 (lanes x0 0) (lanes x0 1) (lanes x0 2) (lanes x0 3) (lanes x0 4) (lanes x0 5) (lanes x0 6) (lanes x0 7)

/-- A token's entry `k` lies in row `k / 128` of the token's eight rows, at lane `k % 128`. -/
theorem tokens_apply (x0 : Vec Ideal S4096x128 .f32) (r : Fin 512) (k : Fin 1024) :
    tokens x0 (ix2 r k) = x0 (ix2 ⟨8 * r.val + k.val / 128, by omega⟩ ⟨k.val % 128, by omega⟩) := by
  have key : ∀ (s : Fin 8) (i : Fin 128), k.val = 128 * s.val + i.val →
      lanes x0 s (ix2 r i) = x0 (ix2 ⟨8 * r.val + k.val / 128, by omega⟩ ⟨k.val % 128, by omega⟩) := by
    intro s i h
    have hi : i.val < 128 := i.isLt
    have e1 : (⟨8 * r.val + s.val, by omega⟩ : Fin 4096) = ⟨8 * r.val + k.val / 128, by omega⟩ := Fin.ext (by show _ = _; dsimp only; omega)
    have e2 : i = (⟨k.val % 128, by omega⟩ : Fin 128) := Fin.ext (by show _ = _; dsimp only; omega)
    have e3 : lanes x0 s (ix2 r i) = x0 (ix2 ⟨8 * r.val + s.val, by omega⟩ i) := congrArg x0 (funext fun a => by
      match a with
      | ⟨0, _⟩ => rfl
      | ⟨1, _⟩ => rfl)
    rw [e3, e1, ← e2]
  unfold tokens
  pointwise [k0_pay5]
  split_ifs
  all_goals try (exfalso; rename_i h; exact h rfl)
  · exact key 0 _ (by simp)
  · exact key 1 _ (by simp; omega)
  · exact key 2 _ (by simp; omega)
  · exact key 3 _ (by simp; omega)
  · exact key 4 _ (by simp; omega)
  · exact key 5 _ (by simp; omega)
  · exact key 6 _ (by simp; omega)
  · exact key 7 _ (by simp; omega)

/-- The cut-off gate value, at an entry. -/
theorem gate_apply (x0 : Vec Ideal S4096x128 .f32) (x1 : Vec Ideal S1x1024x1024 .bf16) (x4 : Vec Ideal S1x1x1024 .f32) (r : Fin 512) (j : Fin 1024) :
    k0_pay6 (lanes x0 0) (lanes x0 1) (lanes x0 2) (lanes x0 3) (lanes x0 4) (lanes x0 5) (lanes x0 6) (lanes x0 7) x1 x4 (ix2 r j)
      = min (affine (fun k => tokens x0 (ix2 r k)) (fun k j => x1 (ix3 0 k j)) (fun j => x4 (ix3 0 0 j)) j) (Ideal.ofBits .f32 0x40E00000#32) := by
  unfold k0_pay6
  rw [show k0_pay5 (lanes x0 0) (lanes x0 1) (lanes x0 2) (lanes x0 3) (lanes x0 4) (lanes x0 5) (lanes x0 6) (lanes x0 7) = tokens x0 from rfl]
  generalize tokens x0 = X
  pointwise []
  rfl

/-- The linear value, at an entry. -/
theorem linear_apply (x0 : Vec Ideal S4096x128 .f32) (x2 : Vec Ideal S1x1024x1024 .bf16) (x5 : Vec Ideal S1x1x1024 .f32) (r : Fin 512) (j : Fin 1024) :
    k0_pay7 (lanes x0 0) (lanes x0 1) (lanes x0 2) (lanes x0 3) (lanes x0 4) (lanes x0 5) (lanes x0 6) (lanes x0 7) x2 x5 (ix2 r j)
      = affine (fun k => tokens x0 (ix2 r k)) (fun k j => x2 (ix3 0 k j)) (fun j => x5 (ix3 0 0 j)) j := by
  unfold k0_pay7
  rw [show k0_pay5 (lanes x0 0) (lanes x0 1) (lanes x0 2) (lanes x0 3) (lanes x0 4) (lanes x0 5) (lanes x0 6) (lanes x0 7) = tokens x0 from rfl]
  generalize tokens x0 = X
  pointwise []
  rfl

/-- The outcome of a block, at an entry. -/
theorem outcome_apply (x0 : Vec Ideal S4096x128 .f32) (x1 x2 x3 : Vec Ideal S1x1024x1024 .bf16) (x4 x5 x6 : Vec Ideal S1x1x1024 .f32)
    (r : Fin 512) (n : Fin 1024) :
    outcome x0 x1 x2 x3 x4 x5 x6 (ix2 r n)
      = moe (fun k : Fin 1024 => x0 (ix2 ⟨8 * r.val + k.val / 128, by omega⟩ ⟨k.val % 128, by omega⟩)) (fun k j => x1 (ix3 0 k j))
          (fun j => x4 (ix3 0 0 j)) (fun k j => x2 (ix3 0 k j)) (fun j => x5 (ix3 0 0 j)) (fun j n => x3 (ix3 0 j n)) (fun n => x6 (ix3 0 0 n)) n := by
  unfold outcome
  have hg := fun j => gate_apply x0 x1 x4 r j
  have hl := fun j => linear_apply x0 x2 x5 r j
  generalize k0_pay6 (lanes x0 0) (lanes x0 1) (lanes x0 2) (lanes x0 3) (lanes x0 4) (lanes x0 5) (lanes x0 6) (lanes x0 7) x1 x4 = A at hg ⊢
  generalize k0_pay7 (lanes x0 0) (lanes x0 1) (lanes x0 2) (lanes x0 3) (lanes x0 4) (lanes x0 5) (lanes x0 6) (lanes x0 7) x2 x5 = B at hl ⊢
  have ht := fun k => tokens_apply x0 r k
  pointwise [k0_pay9, k0_pay8]
  unfold moe
  rw [affine]
  refine congrArg (· + x6 (ix3 0 0 n)) (Finset.sum_congr rfl fun j _ => congrArg (· * x3 (ix3 0 j n)) ?_)
  rw [hg, hl, zero_sub, gated]
  simp only [ht]

end Cert.KernelIdeal.Experts

end
-- ==== Proof.KernelIdeal.Result.lean ====
/- The kernel's result array: every block is written once, by the point of its number, so an entry of the array is an entry
   of the outcome at its block's point, and the outcome is the experts' mathematics on the blocks that the point reads. -/
module

public import proofs.«01_k».proof.Proof.KernelIdeal.Frame
public import proofs.«01_k».proof.Proof.KernelIdeal.Tables
public import proofs.«01_k».proof.Proof.KernelIdeal.Outcome
public import Idealize.ShloMosaic.Lib.Pipeline.ValueKit.Geometry

@[expose] public section

set_option maxRecDepth 16384

noncomputable section

namespace Cert.KernelIdeal.Experts

open Cert.KernelIdeal Cert.KernelIdeal.Gen Cert.Experts
open Idealize.ShloMosaic Idealize.ShloMosaic.TcCoe Idealize.SL.Sem
open Pipeline (Dat)

variable (m : (ℓ : Loc nD τ sig) → Buf (Elt Ideal) ℓ)

/-- The grid has one axis, so a point's coordinate is its number. -/
theorem coord_val (t : Fin grid0.N) : (grid0.coords t 0).val = t.val := by
  rw [Pipeline.Grid.coords_val t 0 (S := 1) (B := 292) (by decide) rfl]
  have : t.val < 292 := lt_of_lt_of_eq t.isLt (by decide)
  omega

/-- The number of a block fits a word. -/
theorem block_word (i : grid0.Coords) : (BitVec.ofNat 32 (i 0).val).toNat = (i 0).val := by
  have : (i 0).val < 292 := (i 0).isLt
  rw [BitVec.toNat_ofNat]; omega

/-- What window 0 holds at a point: the rows of the point's block. -/
theorem iblk0_apply (hO : Ok m) (c : Dev nD) (t : Fin (cfgM m hO).N) (y : S4096x128.Idx) :
    (iblk m hO c 0 t : S4096x128.Idx → EReal) y
      = (m ((c.tc : Thread nD τ).loc main_arg0) : S1196032x128.Idx → EReal)
          (ix2 ⟨(grid0.coords t 0).val * 4096 + (y 0).val, by
            have h1 : (grid0.coords t 0).val < 292 := (grid0.coords t 0).isLt
            have h2 : (y 0).val < 4096 := (y 0).isLt
            omega⟩ (y 1)) := by
  refine congrArg (m ((c.tc : Thread nD τ).loc main_arg0) : S1196032x128.Idx → EReal) (funext fun (a : Fin 2) => Fin.ext ?_)
  match a with
  | ⟨0, _⟩ =>
    show (BitVec.ofNat 32 (grid0.coords t 0).val).toNat * 4096 + 1 * (y 0).val = (grid0.coords t 0).val * 4096 + (y 0).val
    rw [block_word]; omega
  | ⟨1, _⟩ =>
    show 0 * 128 + 1 * (y 1).val = (y 1).val
    omega

/-- What window 1 holds at a point: the gate matrix of the block's expert. -/
theorem iblk1_apply (hO : Ok m) (h : ∀ i, (expertAt m i).toNat < 32) (c : Dev nD) (t : Fin (cfgM m hO).N) (k j : Fin 1024) :
    (iblk m hO c 1 t : S1x1024x1024.Idx → EReal) (ix3 0 k j)
      = (m ((c.tc : Thread nD τ).loc main_arg3) : S32x1024x1024.Idx → EReal) (ix3 ⟨(expertAt m (grid0.coords t)).toNat, h _⟩ k j) := by
  refine congrArg (m ((c.tc : Thread nD τ).loc main_arg3) : S32x1024x1024.Idx → EReal) (funext fun (a : Fin 3) => Fin.ext ?_)
  have e := transform_1_eq m (grid0.coords t)
  match a with
  | ⟨0, _⟩ =>
    show cc0_transform_1 k0_off1_inb numel1_S1 (tbl m) (grid0.coords t) 0 * 1 + 1 * 0 = (expertAt m (grid0.coords t)).toNat
    rw [e]; show (expertAt m (grid0.coords t)).toNat * 1 + 1 * 0 = _; omega
  | ⟨1, _⟩ =>
    show cc0_transform_1 k0_off1_inb numel1_S1 (tbl m) (grid0.coords t) 1 * 1024 + 1 * k.val = k.val
    rw [e]; show 0 * 1024 + 1 * k.val = _; omega
  | ⟨2, _⟩ =>
    show cc0_transform_1 k0_off1_inb numel1_S1 (tbl m) (grid0.coords t) 2 * 1024 + 1 * j.val = j.val
    rw [e]; show 0 * 1024 + 1 * j.val = _; omega

/-- What window 2 holds at a point: the linear matrix of the block's expert. -/
theorem iblk2_apply (hO : Ok m) (h : ∀ i, (expertAt m i).toNat < 32) (c : Dev nD) (t : Fin (cfgM m hO).N) (k j : Fin 1024) :
    (iblk m hO c 2 t : S1x1024x1024.Idx → EReal) (ix3 0 k j)
      = (m ((c.tc : Thread nD τ).loc main_arg4) : S32x1024x1024.Idx → EReal) (ix3 ⟨(expertAt m (grid0.coords t)).toNat, h _⟩ k j) := by
  refine congrArg (m ((c.tc : Thread nD τ).loc main_arg4) : S32x1024x1024.Idx → EReal) (funext fun (a : Fin 3) => Fin.ext ?_)
  have e := transform_2_eq m (grid0.coords t)
  match a with
  | ⟨0, _⟩ =>
    show cc0_transform_2 k0_off1_inb numel1_S1 (tbl m) (grid0.coords t) 0 * 1 + 1 * 0 = (expertAt m (grid0.coords t)).toNat
    rw [e]; show (expertAt m (grid0.coords t)).toNat * 1 + 1 * 0 = _; omega
  | ⟨1, _⟩ =>
    show cc0_transform_2 k0_off1_inb numel1_S1 (tbl m) (grid0.coords t) 1 * 1024 + 1 * k.val = k.val
    rw [e]; show 0 * 1024 + 1 * k.val = _; omega
  | ⟨2, _⟩ =>
    show cc0_transform_2 k0_off1_inb numel1_S1 (tbl m) (grid0.coords t) 2 * 1024 + 1 * j.val = j.val
    rw [e]; show 0 * 1024 + 1 * j.val = _; omega

/-- What window 3 holds at a point: the second matrix of the block's expert. -/
theorem iblk3_apply (hO : Ok m) (h : ∀ i, (expertAt m i).toNat < 32) (c : Dev nD) (t : Fin (cfgM m hO).N) (k j : Fin 1024) :
    (iblk m hO c 3 t : S1x1024x1024.Idx → EReal) (ix3 0 k j)
      = (m ((c.tc : Thread nD τ).loc main_arg5) : S32x1024x1024.Idx → EReal) (ix3 ⟨(expertAt m (grid0.coords t)).toNat, h _⟩ k j) := by
  refine congrArg (m ((c.tc : Thread nD τ).loc main_arg5) : S32x1024x1024.Idx → EReal) (funext fun (a : Fin 3) => Fin.ext ?_)
  have e := transform_3_eq m (grid0.coords t)
  match a with
  | ⟨0, _⟩ =>
    show cc0_transform_3 k0_off1_inb numel1_S1 (tbl m) (grid0.coords t) 0 * 1 + 1 * 0 = (expertAt m (grid0.coords t)).toNat
    rw [e]; show (expertAt m (grid0.coords t)).toNat * 1 + 1 * 0 = _; omega
  | ⟨1, _⟩ =>
    show cc0_transform_3 k0_off1_inb numel1_S1 (tbl m) (grid0.coords t) 1 * 1024 + 1 * k.val = k.val
    rw [e]; show 0 * 1024 + 1 * k.val = _; omega
  | ⟨2, _⟩ =>
    show cc0_transform_3 k0_off1_inb numel1_S1 (tbl m) (grid0.coords t) 2 * 1024 + 1 * j.val = j.val
    rw [e]; show 0 * 1024 + 1 * j.val = _; omega

/-- What window 4 holds at a point: the gate biases of the block's expert. -/
theorem iblk4_apply (hO : Ok m) (h : ∀ i, (expertAt m i).toNat < 32) (c : Dev nD) (t : Fin (cfgM m hO).N) (k : Fin 1) (j : Fin 1024) :
    (iblk m hO c 4 t : S1x1x1024.Idx → EReal) (ix3 0 k j)
      = (m ((c.tc : Thread nD τ).loc main_arg6) : S32x1x1024.Idx → EReal) (ix3 ⟨(expertAt m (grid0.coords t)).toNat, h _⟩ k j) := by
  refine congrArg (m ((c.tc : Thread nD τ).loc main_arg6) : S32x1x1024.Idx → EReal) (funext fun (a : Fin 3) => Fin.ext ?_)
  have e := transform_4_eq m (grid0.coords t)
  match a with
  | ⟨0, _⟩ =>
    show cc0_transform_4 k0_off1_inb numel1_S1 (tbl m) (grid0.coords t) 0 * 1 + 1 * 0 = (expertAt m (grid0.coords t)).toNat
    rw [e]; show (expertAt m (grid0.coords t)).toNat * 1 + 1 * 0 = _; omega
  | ⟨1, _⟩ =>
    show cc0_transform_4 k0_off1_inb numel1_S1 (tbl m) (grid0.coords t) 1 * 1 + 1 * k.val = k.val
    rw [e]; show 0 * 1 + 1 * k.val = _; omega
  | ⟨2, _⟩ =>
    show cc0_transform_4 k0_off1_inb numel1_S1 (tbl m) (grid0.coords t) 2 * 1024 + 1 * j.val = j.val
    rw [e]; show 0 * 1024 + 1 * j.val = _; omega

/-- What window 5 holds at a point: the linear biases of the block's expert. -/
theorem iblk5_apply (hO : Ok m) (h : ∀ i, (expertAt m i).toNat < 32) (c : Dev nD) (t : Fin (cfgM m hO).N) (k : Fin 1) (j : Fin 1024) :
    (iblk m hO c 5 t : S1x1x1024.Idx → EReal) (ix3 0 k j)
      = (m ((c.tc : Thread nD τ).loc main_arg7) : S32x1x1024.Idx → EReal) (ix3 ⟨(expertAt m (grid0.coords t)).toNat, h _⟩ k j) := by
  refine congrArg (m ((c.tc : Thread nD τ).loc main_arg7) : S32x1x1024.Idx → EReal) (funext fun (a : Fin 3) => Fin.ext ?_)
  have e := transform_5_eq m (grid0.coords t)
  match a with
  | ⟨0, _⟩ =>
    show cc0_transform_5 k0_off1_inb numel1_S1 (tbl m) (grid0.coords t) 0 * 1 + 1 * 0 = (expertAt m (grid0.coords t)).toNat
    rw [e]; show (expertAt m (grid0.coords t)).toNat * 1 + 1 * 0 = _; omega
  | ⟨1, _⟩ =>
    show cc0_transform_5 k0_off1_inb numel1_S1 (tbl m) (grid0.coords t) 1 * 1 + 1 * k.val = k.val
    rw [e]; show 0 * 1 + 1 * k.val = _; omega
  | ⟨2, _⟩ =>
    show cc0_transform_5 k0_off1_inb numel1_S1 (tbl m) (grid0.coords t) 2 * 1024 + 1 * j.val = j.val
    rw [e]; show 0 * 1024 + 1 * j.val = _; omega

/-- What window 6 holds at a point: the second biases of the block's expert. -/
theorem iblk6_apply (hO : Ok m) (h : ∀ i, (expertAt m i).toNat < 32) (c : Dev nD) (t : Fin (cfgM m hO).N) (k : Fin 1) (j : Fin 1024) :
    (iblk m hO c 6 t : S1x1x1024.Idx → EReal) (ix3 0 k j)
      = (m ((c.tc : Thread nD τ).loc main_arg8) : S32x1x1024.Idx → EReal) (ix3 ⟨(expertAt m (grid0.coords t)).toNat, h _⟩ k j) := by
  refine congrArg (m ((c.tc : Thread nD τ).loc main_arg8) : S32x1x1024.Idx → EReal) (funext fun (a : Fin 3) => Fin.ext ?_)
  have e := transform_6_eq m (grid0.coords t)
  match a with
  | ⟨0, _⟩ =>
    show cc0_transform_6 k0_off1_inb numel1_S1 (tbl m) (grid0.coords t) 0 * 1 + 1 * 0 = (expertAt m (grid0.coords t)).toNat
    rw [e]; show (expertAt m (grid0.coords t)).toNat * 1 + 1 * 0 = _; omega
  | ⟨1, _⟩ =>
    show cc0_transform_6 k0_off1_inb numel1_S1 (tbl m) (grid0.coords t) 1 * 1 + 1 * k.val = k.val
    rw [e]; show 0 * 1 + 1 * k.val = _; omega
  | ⟨2, _⟩ =>
    show cc0_transform_6 k0_off1_inb numel1_S1 (tbl m) (grid0.coords t) 2 * 1024 + 1 * j.val = j.val
    rw [e]; show 0 * 1024 + 1 * j.val = _; omega

/-- The result array, as a function of the arguments: row `R` holds a piece of token `R / 8`, which is worked on with the
    weights of the expert of block `R / 4096`; the blocks from the number in use on are zero. -/
def resultAt (h : ∀ i, (expertAt m i).toNat < 32) (c : Dev nD) (e : Fin 292 → Fin 32) (R : Fin 1196032) (C : Fin 128) : EReal :=
  if (BitVec.ofNat 32 (R.val / 4096)).slt ((m ((c.tc : Thread nD τ).loc main_arg2) : S1.Idx → BitVec 32) (ix1 (0 : Fin 1))) = true
  then moe (fun k : Fin 1024 => (m ((c.tc : Thread nD τ).loc main_arg0) : S1196032x128.Idx → EReal) (ix2 ⟨R.val / 8 * 8 + k.val / 128, by omega⟩ ⟨k.val % 128, by omega⟩))
    (fun k j : Fin 1024 => (m ((c.tc : Thread nD τ).loc main_arg3) : S32x1024x1024.Idx → EReal) (ix3 (e ⟨R.val / 4096, by omega⟩) k j))
    (fun j : Fin 1024 => (m ((c.tc : Thread nD τ).loc main_arg6) : S32x1x1024.Idx → EReal) (ix3 (e ⟨R.val / 4096, by omega⟩) (0 : Fin 1) j))
    (fun k j : Fin 1024 => (m ((c.tc : Thread nD τ).loc main_arg4) : S32x1024x1024.Idx → EReal) (ix3 (e ⟨R.val / 4096, by omega⟩) k j))
    (fun j : Fin 1024 => (m ((c.tc : Thread nD τ).loc main_arg7) : S32x1x1024.Idx → EReal) (ix3 (e ⟨R.val / 4096, by omega⟩) (0 : Fin 1) j))
    (fun j n : Fin 1024 => (m ((c.tc : Thread nD τ).loc main_arg5) : S32x1024x1024.Idx → EReal) (ix3 (e ⟨R.val / 4096, by omega⟩) j n))
    (fun n : Fin 1024 => (m ((c.tc : Thread nD τ).loc main_arg8) : S32x1x1024.Idx → EReal) (ix3 (e ⟨R.val / 4096, by omega⟩) (0 : Fin 1) n))
    ⟨R.val % 8 * 128 + C.val, by omega⟩
  else 0

/-- The expert of a block, from the table. -/
def expertOf (h : ∀ i, (expertAt m i).toNat < 32) (c : Dev nD) (b : Fin 292) : Fin 32 :=
  ⟨((m ((c.tc : Thread nD τ).loc main_arg1) : S292.Idx → BitVec 32) (ix1 b)).toNat, by
    obtain rfl : c = 0 := Subsingleton.elim _ _
    exact h fun (a : Fin 1) => Fin.cast (show 292 = grid0.bound a by obtain rfl : a = 0 := Subsingleton.elim _ _; rfl) b⟩

/-- The body's condition is that the block's number is below the number of blocks in use. -/
theorem cond1_iff (i : grid0.Coords) (v : BitVec 32) : k0_cond1 i v = 1#1 ↔ (BitVec.ofNat 32 (i 0).val).slt v = true := by
  show IntOp.cmpi CmpIPredicate.ne ((BitVec.ofBool ((BitVec.ofNat 32 (i 0).val).slt v)).setWidth 32) 0#32 = 1#1 ↔ _
  cases (BitVec.ofNat 32 (i 0).val).slt v <;> decide

/-- What a point leaves in the result's buffer, entry by entry. -/
theorem outsAt0_apply (hO : Ok m) (h : ∀ i, (expertAt m i).toNat < 32) (c : Dev nD) (t : Fin (cfgM m hO).N) (y0 : Fin 4096) (y1 : Fin 128) (R : Fin 1196032)
    (hR : R.val = (grid0.coords t 0).val * 4096 + y0.val) :
    (outsAt0 m hO c t : S4096x128.Idx → EReal) (ix2 y0 y1) = resultAt m h c (expertOf m h c) R y1 := by
  have hb : R.val / 4096 = (grid0.coords t 0).val := by omega
  have hu : (m ((c.tc : Thread nD τ).loc main_arg2) : S1.Idx → BitVec 32) (ix1 (0 : Fin 1)) = inUse m := by
    obtain rfl : c = 0 := Subsingleton.elim _ _
    exact congrArg (m (((0 : Dev nD).tc : Thread nD τ).loc main_arg2) : S1.Idx → BitVec 32) (funext fun (a : Fin 1) => by
      obtain rfl : a = 0 := Subsingleton.elim _ _
      rfl)
  have he : (⟨(expertAt m (grid0.coords t)).toNat, h _⟩ : Fin 32) = expertOf m h c ⟨R.val / 4096, by omega⟩ := by
    obtain rfl : c = 0 := Subsingleton.elim _ _
    have e1 : (⟨R.val / 4096, by omega⟩ : Fin 292) = (⟨(grid0.coords t 0).val, (grid0.coords t 0).isLt⟩ : Fin 292) := Fin.ext hb
    rw [e1]; exact Fin.ext rfl
  unfold outsAt0 resultAt
  rw [hu, congrArg (BitVec.ofNat 32) hb]
  by_cases hc : (BitVec.ofNat 32 (grid0.coords t 0).val).slt (inUse m) = true
  · rw [if_pos ((cond1_iff _ _).mpr hc), if_pos hc]
    show outcome (iblk m hO c 0 t) (iblk m hO c 1 t) (iblk m hO c 2 t) (iblk m hO c 3 t) (iblk m hO c 4 t) (iblk m hO c 5 t) (iblk m hO c 6 t)
      (ix2 ⟨y0.val / 8, by omega⟩ ⟨y0.val % 8 * 128 + y1.val, by omega⟩) = _
    refine (outcome_apply (iblk m hO c 0 t) (iblk m hO c 1 t) (iblk m hO c 2 t) (iblk m hO c 3 t) (iblk m hO c 4 t) (iblk m hO c 5 t) (iblk m hO c 6 t) _ _).trans ?_
    refine moe_congr (fun k => ?_) (fun k j => ?_) (fun j => ?_) (fun k j => ?_) (fun j => ?_) (fun k j => ?_) (fun j => ?_) (Fin.ext ?_)
    · refine (iblk0_apply m hO c t _).trans (congrArg (m ((c.tc : Thread nD τ).loc main_arg0) : S1196032x128.Idx → EReal) ?_)
      refine congrArg₂ ix2 (Fin.ext ?_) rfl
      show (grid0.coords t 0).val * 4096 + (8 * (y0.val / 8) + k.val / 128) = R.val / 8 * 8 + k.val / 128
      omega
    · rw [← he]; exact iblk1_apply m hO h c t k j
    · rw [← he]; exact iblk4_apply m hO h c t 0 j
    · rw [← he]; exact iblk2_apply m hO h c t k j
    · rw [← he]; exact iblk5_apply m hO h c t 0 j
    · rw [← he]; exact iblk3_apply m hO h c t k j
    · rw [← he]; exact iblk6_apply m hO h c t 0 j
    · show y0.val % 8 * 128 + y1.val = R.val % 8 * 128 + y1.val
      omega
  · rw [if_neg (fun h' => hc ((cond1_iff _ _).mp h')), if_neg hc]
    show Ideal.ofBits .f32 0x00000000#32 = 0
    pointwise []

/-- The result array after the run. -/
theorem result_array (hO : Ok m) (h : ∀ i, (expertAt m i).toNat < 32) (c : Dev nD) :
    (dats m hO 0 c).arrAt 7 (cfgM m hO).N = (fun i : S1196032x128.Idx => resultAt m h c (expertOf m h c) (i 0) (i 1)) := by
  refine (dats m hO 0 c).arrAt_eq_of_emb 7 _ (fun t _ => ?_) ?_
  · intro (y : S4096x128.Idx)
    rw [after0_7]
    have hy0 : (y 0).val < 4096 := (y 0).isLt
    have hy1 : (y 1).val < 128 := (y 1).isLt
    have ht : (grid0.coords t 0).val < 292 := (grid0.coords t 0).isLt
    have e := outsAt0_apply m hO h c t ⟨(y 0).val, hy0⟩ ⟨(y 1).val, hy1⟩ ⟨(grid0.coords t 0).val * 4096 + (y 0).val, by omega⟩ rfl
    have e0 : y = ix2 (⟨(y 0).val, hy0⟩ : Fin 4096) (⟨(y 1).val, hy1⟩ : Fin 128) := funext fun (a : Fin 2) => by
      match a with
      | ⟨0, _⟩ => rfl
      | ⟨1, _⟩ => rfl
    refine (congrArg (outsAt0 m hO c t : S4096x128.Idx → EReal) e0).trans (e.trans ?_)
    refine congrArg₂ (resultAt m h c (expertOf m h c)) (Fin.ext ?_) (Fin.ext ?_)
    · show (grid0.coords t 0).val * 4096 + (y 0).val = (BitVec.ofNat 32 (grid0.coords t 0).val).toNat * 4096 + 1 * (y 0).val
      rw [block_word]; omega
    · show (y 1).val = 0 * 128 + 1 * (y 1).val
      omega
  · intro (i : S1196032x128.Idx)
    have hi0 : (i 0).val < 1196032 := (i 0).isLt
    have hi1 : (i 1).val < 128 := (i 1).isLt
    have hN : (cfgM m hO).N = 292 := by show grid0.N = 292; decide
    have ht : (i 0).val / 4096 < (cfgM m hO).N := by rw [hN]; omega
    refine ⟨⟨(i 0).val / 4096, ht⟩, flush0_7 _ _, ?_⟩
    have e : i = (((cfgM m hO).win 7).blk ⟨(i 0).val / 4096, ht⟩).view.emb
        (show S4096x128.Idx from ix2 (⟨(i 0).val % 4096, by omega⟩ : Fin 4096) (⟨(i 1).val, hi1⟩ : Fin 128)) := funext fun (a : Fin 2) => Fin.ext (by
      match a with
      | ⟨0, _⟩ =>
        show (i 0).val = (BitVec.ofNat 32 (grid0.coords ⟨(i 0).val / 4096, ht⟩ 0).val).toNat * 4096 + 1 * ((i 0).val % 4096)
        rw [block_word, coord_val]
        show (i 0).val = (i 0).val / 4096 * 4096 + 1 * ((i 0).val % 4096)
        omega
      | ⟨1, _⟩ =>
        show (i 1).val = 0 * 128 + 1 * (i 1).val
        omega)
    exact (congrArg (fun z => z ∈ (((cfgM m hO).win 7).blk ⟨(i 0).val / 4096, ht⟩).view.set) e).mpr (View.emb_mem_set _ _)

end Cert.KernelIdeal.Experts

end
-- ==== Proof.ReferenceIdeal.Entries.lean ====
/- The reference's result, entry by entry: the experts' mathematics on the token row, with the weights of the expert that
   the table names for the row's block, and zero in the blocks that are not in use. -/
module

public import proofs.«01_k».proof.Proof.Gen.ReferenceIdeal.Run
public import proofs.«01_k».proof.Proof.Model
public import Idealize.ShloMosaic.Lib.Pointwise

@[expose] public section

set_option maxRecDepth 16384

noncomputable section

namespace Cert.ReferenceIdeal.Entries

open Cert.ReferenceIdeal Cert.ReferenceIdeal.Gen Cert.ReferenceIdeal.Value Cert.Experts
open Idealize.ShloMosaic Idealize.ShloMosaic.TcCoe

/-- The table as start indices: a negative entry would count from the end. -/
abbrev starts (tab : IVec S292 32) : IVec S292x1 32 :=
  broadcastInDim S292x1 ![0] bcast_S292_S292x1_0 (select (cmpi .slt tab (broadcastInDim S292 ![] bcast_S_S292 (constantI S_ 32 0#32))) (addi tab (broadcastInDim S292 ![] bcast_S_S292 (constantI S_ 32 32#32))) tab)

/-- A small word read as a signed number. -/
theorem small_toInt (v : BitVec 32) (h : v.toNat < 32) : v.toInt = v.toNat := by
  rw [BitVec.toInt_eq_toNat_cond, if_pos (by omega)]

/-- A start index is the table's entry. -/
theorem starts_apply (tab : IVec S292 32) (hb : ∀ b : Fin 292, (tab (ix1 b)).toNat < 32) (b : Fin 292) :
    starts tab (ix2 b 0) = tab (ix1 b) := by
  have hs : (tab (ix1 b)).slt 0#32 = false := by
    rw [BitVec.slt_eq_decide, small_toInt _ (hb b)]; exact decide_eq_false (by rw [show (0#32 : BitVec 32).toInt = 0 from by decide]; omega)
  pointwise []
  have hc : IntOp.cmpi CmpIPredicate.slt (tab (ix1 b)) 0#32 = 0#1 := by
    show BitVec.ofBool ((tab (ix1 b)).slt 0#32) = 0#1
    rw [hs]; rfl
  rw [hc]; rfl

/-- The gathered weights: block `b` gets the matrix of its expert. -/
theorem weights_apply (tab : IVec S292 32) (hb : ∀ b : Fin 292, (tab (ix1 b)).toNat < 32) (x : S32x1024x1024.Idx → EReal) (b : Fin 292) (k j : Fin 1024) :
    Host.gather gather_S32x1024x1024_S292x1_S292x1024x1024_12_0_n_n_0_1_110241024 x (starts tab) (ix3 b k j) = x (ix3 ⟨(tab (ix1 b)).toNat, hb b⟩ k j) := by
  unfold Host.gather
  congr 1
  funext a
  refine Fin.ext ?_
  show (gather_S32x1024x1024_S292x1_S292x1024x1024_12_0_n_n_0_1_110241024).start (ix3 b k j) (starts tab) a
      + (gather_S32x1024x1024_S292x1_S292x1024x1024_12_0_n_n_0_1_110241024).batchCoord (ix3 b k j) a
      + (gather_S32x1024x1024_S292x1_S292x1024x1024_12_0_n_n_0_1_110241024).offCoord (ix3 b k j) a = _
  rw [GatherDims.batchCoord_eq_zero _ _ _ List.not_mem_nil]
  match a with
  | ⟨0, _⟩ =>
    show (gather_S32x1024x1024_S292x1_S292x1024x1024_12_0_n_n_0_1_110241024).start (ix3 b k j) (starts tab) (0 : Fin 3) + 0 + (gather_S32x1024x1024_S292x1_S292x1024x1024_12_0_n_n_0_1_110241024).offCoord (ix3 b k j) (0 : Fin 3) = _
    rw [GatherDims.offCoord_eq_zero _ _ _ (fun h => ((GatherDims.mem_sKept _ _).mp h).1 (List.mem_singleton.mpr rfl))]
    unfold GatherDims.start
    rw [dif_pos (show (0 : Fin 3) ∈ (gather_S32x1024x1024_S292x1_S292x1024x1024_12_0_n_n_0_1_110241024).startIndexMap from List.mem_singleton.mpr rfl)]
    have hsi : (gather_S32x1024x1024_S292x1_S292x1024x1024_12_0_n_n_0_1_110241024).siIdx (ix3 b k j)
        ⟨List.idxOf (0 : Fin 3) (gather_S32x1024x1024_S292x1_S292x1024x1024_12_0_n_n_0_1_110241024).startIndexMap,
          List.idxOf_lt_length_iff.2 (List.mem_singleton.mpr rfl)⟩ = ix2 b 0 := by
      funext d; refine Fin.ext ?_
      match d with
      | ⟨0, _⟩ => rfl
      | ⟨1, _⟩ => rfl
    rw [hsi, starts_apply tab hb b, small_toInt _ (hb b)]
    show min (tab (ix1 b)).toNat 31 + 0 + 0 = (tab (ix1 b)).toNat
    have := hb b
    omega
  | ⟨1, _⟩ =>
    show (gather_S32x1024x1024_S292x1_S292x1024x1024_12_0_n_n_0_1_110241024).start (ix3 b k j) (starts tab) (1 : Fin 3) + 0 + (gather_S32x1024x1024_S292x1_S292x1024x1024_12_0_n_n_0_1_110241024).offCoord (ix3 b k j) (1 : Fin 3) = _
    unfold GatherDims.start
    rw [dif_neg (show (1 : Fin 3) ∉ (gather_S32x1024x1024_S292x1_S292x1024x1024_12_0_n_n_0_1_110241024).startIndexMap from (by decide : (1 : Fin 3) ∉ [(0 : Fin 3)]))]
    show 0 + 0 + k.val = k.val
    omega
  | ⟨2, _⟩ =>
    show (gather_S32x1024x1024_S292x1_S292x1024x1024_12_0_n_n_0_1_110241024).start (ix3 b k j) (starts tab) (2 : Fin 3) + 0 + (gather_S32x1024x1024_S292x1_S292x1024x1024_12_0_n_n_0_1_110241024).offCoord (ix3 b k j) (2 : Fin 3) = _
    unfold GatherDims.start
    rw [dif_neg (show (2 : Fin 3) ∉ (gather_S32x1024x1024_S292x1_S292x1024x1024_12_0_n_n_0_1_110241024).startIndexMap from (by decide : (2 : Fin 3) ∉ [(0 : Fin 3)]))]
    show 0 + 0 + j.val = j.val
    omega

/-- The gathered biases: block `b` gets the row of its expert. -/
theorem biases_apply (tab : IVec S292 32) (hb : ∀ b : Fin 292, (tab (ix1 b)).toNat < 32) (x : S32x1x1024.Idx → EReal) (b : Fin 292) (k : Fin 1) (j : Fin 1024) :
    Host.gather gather_S32x1x1024_S292x1_S292x1x1024_12_0_n_n_0_1_111024 x (starts tab) (ix3 b k j) = x (ix3 ⟨(tab (ix1 b)).toNat, hb b⟩ k j) := by
  unfold Host.gather
  congr 1
  funext a
  refine Fin.ext ?_
  show (gather_S32x1x1024_S292x1_S292x1x1024_12_0_n_n_0_1_111024).start (ix3 b k j) (starts tab) a
      + (gather_S32x1x1024_S292x1_S292x1x1024_12_0_n_n_0_1_111024).batchCoord (ix3 b k j) a
      + (gather_S32x1x1024_S292x1_S292x1x1024_12_0_n_n_0_1_111024).offCoord (ix3 b k j) a = _
  rw [GatherDims.batchCoord_eq_zero _ _ _ List.not_mem_nil]
  match a with
  | ⟨0, _⟩ =>
    show (gather_S32x1x1024_S292x1_S292x1x1024_12_0_n_n_0_1_111024).start (ix3 b k j) (starts tab) (0 : Fin 3) + 0 + (gather_S32x1x1024_S292x1_S292x1x1024_12_0_n_n_0_1_111024).offCoord (ix3 b k j) (0 : Fin 3) = _
    rw [GatherDims.offCoord_eq_zero _ _ _ (fun h => ((GatherDims.mem_sKept _ _).mp h).1 (List.mem_singleton.mpr rfl))]
    unfold GatherDims.start
    rw [dif_pos (show (0 : Fin 3) ∈ (gather_S32x1x1024_S292x1_S292x1x1024_12_0_n_n_0_1_111024).startIndexMap from List.mem_singleton.mpr rfl)]
    have hsi : (gather_S32x1x1024_S292x1_S292x1x1024_12_0_n_n_0_1_111024).siIdx (ix3 b k j)
        ⟨List.idxOf (0 : Fin 3) (gather_S32x1x1024_S292x1_S292x1x1024_12_0_n_n_0_1_111024).startIndexMap,
          List.idxOf_lt_length_iff.2 (List.mem_singleton.mpr rfl)⟩ = ix2 b 0 := by
      funext d; refine Fin.ext ?_
      match d with
      | ⟨0, _⟩ => rfl
      | ⟨1, _⟩ => rfl
    rw [hsi, starts_apply tab hb b, small_toInt _ (hb b)]
    show min (tab (ix1 b)).toNat 31 + 0 + 0 = (tab (ix1 b)).toNat
    have := hb b
    omega
  | ⟨1, _⟩ =>
    show (gather_S32x1x1024_S292x1_S292x1x1024_12_0_n_n_0_1_111024).start (ix3 b k j) (starts tab) (1 : Fin 3) + 0 + (gather_S32x1x1024_S292x1_S292x1x1024_12_0_n_n_0_1_111024).offCoord (ix3 b k j) (1 : Fin 3) = _
    unfold GatherDims.start
    rw [dif_neg (show (1 : Fin 3) ∉ (gather_S32x1x1024_S292x1_S292x1x1024_12_0_n_n_0_1_111024).startIndexMap from (by decide : (1 : Fin 3) ∉ [(0 : Fin 3)]))]
    show 0 + 0 + k.val = k.val
    omega
  | ⟨2, _⟩ =>
    show (gather_S32x1x1024_S292x1_S292x1x1024_12_0_n_n_0_1_111024).start (ix3 b k j) (starts tab) (2 : Fin 3) + 0 + (gather_S32x1x1024_S292x1_S292x1x1024_12_0_n_n_0_1_111024).offCoord (ix3 b k j) (2 : Fin 3) = _
    unfold GatherDims.start
    rw [dif_neg (show (2 : Fin 3) ∉ (gather_S32x1x1024_S292x1_S292x1x1024_12_0_n_n_0_1_111024).startIndexMap from (by decide : (2 : Fin 3) ∉ [(0 : Fin 3)]))]
    show 0 + 0 + j.val = j.val
    omega

/-- A product with the gathered weights plus the gathered biases, for all blocks. -/
def product (tab : IVec S292 32) (X : FVec Ideal S292x512x1024 .f32) (w : FVec Ideal S32x1024x1024 .bf16) (v : FVec Ideal S32x1x1024 .f32) : FVec Ideal S292x512x1024 .f32 :=
  addf (Host.dotGeneral dot_S292x512x1024_S292x1024x1024_S292x512x1024_2_1_1_2_0_0 none X
      (Host.gather gather_S32x1024x1024_S292x1_S292x1024x1024_12_0_n_n_0_1_110241024 (extf .f32 w bitsLt_bf16_f32) (starts tab)))
    (broadcastInDim S292x512x1024 ![0, 1, 2] bcast_S292x1x1024_S292x512x1024_0_1_2
      (Host.gather gather_S32x1x1024_S292x1_S292x1x1024_12_0_n_n_0_1_111024 v (starts tab)))

/-- An entry of such a product. -/
theorem product_apply (tab : IVec S292 32) (hb : ∀ b : Fin 292, (tab (ix1 b)).toNat < 32) (X : FVec Ideal S292x512x1024 .f32) (w : FVec Ideal S32x1024x1024 .bf16)
    (v : FVec Ideal S32x1x1024 .f32) (b : Fin 292) (r : Fin 512) (n : Fin 1024) :
    product tab X w v (ix3 b r n)
      = affine (fun k : Fin 1024 => X (ix3 b r k)) (fun k n => w (ix3 ⟨(tab (ix1 b)).toNat, hb b⟩ k n)) (fun n => v (ix3 ⟨(tab (ix1 b)).toNat, hb b⟩ 0 n)) n := by
  unfold product
  have hw := fun k n => weights_apply tab hb w b k n
  have hv := fun k n => biases_apply tab hb v b k n
  rw [show (extf .f32 w bitsLt_bf16_f32 : S32x1024x1024.Idx → EReal) = w from rfl]
  generalize (Host.gather gather_S32x1024x1024_S292x1_S292x1024x1024_12_0_n_n_0_1_110241024 w (starts tab)) = W at hw ⊢
  generalize (Host.gather gather_S32x1x1024_S292x1_S292x1x1024_12_0_n_n_0_1_111024 v (starts tab)) = B at hv ⊢
  pointwise []
  simp only [hw, hv]
  rfl

/-- The gated unit of the gate values and the linear values, for all blocks. -/
def unit (G L : FVec Ideal S292x512x1024 .f32) : FVec Ideal S292x512x1024 .f32 :=
  mulf (mulf (minimumf G (broadcastInDim S292x512x1024 ![] bcast_S_S292x512x1024 (constant S_ .f32 0x40E00000#32)))
      (Host.divf (broadcastInDim S292x512x1024 ![] bcast_S_S292x512x1024 (constant S_ .f32 0x3F800000#32))
        (addf (broadcastInDim S292x512x1024 ![] bcast_S_S292x512x1024 (constant S_ .f32 0x3F800000#32))
          (Host.exp (Host.negf (mulf (broadcastInDim S292x512x1024 ![] bcast_S_S292x512x1024 (constant S_ .f32 0x3FD9DB23#32))
            (minimumf G (broadcastInDim S292x512x1024 ![] bcast_S_S292x512x1024 (constant S_ .f32 0x40E00000#32)))))))))
    (addf (minimumf (broadcastInDim S292x512x1024 ![] bcast_S_S292x512x1024 (id (constant S_ .f32 0x40E00000#32)))
        (maximumf (broadcastInDim S292x512x1024 ![] bcast_S_S292x512x1024 (id (constant S_ .f32 0xC0E00000#32))) L))
      (broadcastInDim S292x512x1024 ![] bcast_S_S292x512x1024 (constant S_ .f32 0x3F800000#32)))

/-- An entry of the gated unit. -/
theorem unit_apply (G L : FVec Ideal S292x512x1024 .f32) (b : Fin 292) (r : Fin 512) (j : Fin 1024) :
    unit G L (ix3 b r j) = gated (G (ix3 b r j)) (L (ix3 b r j)) := by
  unfold unit gated
  pointwise [id]

/-- The result from what the last product gives and the number of blocks in use. -/
def cut (used : IVec S1 32) (Y : FVec Ideal S292x512x1024 .f32) : FVec Ideal S1196032x128 .f32 :=
  shapeCast _ (select (broadcastInDim S292x512x1024 ![0, 1, 2] bcast_S292x1x1_S292x512x1024_0_1_2 (cmpi .slt (broadcastInDim S292x1x1 ![0] bcast_S292_S292x1x1_0 (iotaInDim S292 32 0)) (broadcastInDim S292x1x1 ![] bcast_S_S292x1x1 (shapeCast _ used shapeCasts_S1_S_)))) Y
    (broadcastInDim S292x512x1024 ![] bcast_S_S292x512x1024 (id (constant S_ .f32 0x00000000#32)))) shapeCasts_S292x512x1024_S1196032x128

/-- An entry of the result: row `R` holds a piece of token `R % 4096 / 8` of block `R / 4096`. -/
theorem cut_apply (used : IVec S1 32) (Y : FVec Ideal S292x512x1024 .f32) (R : Fin 1196032) (C : Fin 128) :
    cut used Y (ix2 R C) = if (BitVec.ofNat 32 (R.val / 4096)).slt (used (ix1 0)) = true
      then Y (ix3 ⟨R.val / 4096, by omega⟩ ⟨R.val % 4096 / 8, by omega⟩ ⟨R.val % 8 * 128 + C.val, by omega⟩) else 0 := by
  unfold cut
  pointwise [id]
  have hr : (⟨R.val / 8 % 512, by omega⟩ : Fin 512) = ⟨R.val % 4096 / 8, by omega⟩ := Fin.ext (by show R.val / 8 % 512 = R.val % 4096 / 8; omega)
  rw [hr]
  show Scalar.select (BitVec.ofBool ((BitVec.ofNat 32 (R.val / 4096)).slt (used (ix1 0)))) _ _ = _
  cases (BitVec.ofNat 32 (R.val / 4096)).slt (used (ix1 0)) <;> rfl

/-- The tokens as one matrix for each block. -/
theorem rows_apply (X : FVec Ideal S1196032x128 .f32) (b : Fin 292) (r : Fin 512) (k : Fin 1024) :
    (shapeCast _ X shapeCasts_S1196032x128_S292x512x1024 : FVec Ideal S292x512x1024 .f32) (ix3 b r k)
      = X (ix2 ⟨4096 * b.val + 8 * r.val + k.val / 128, by omega⟩ ⟨k.val % 128, by omega⟩) := by
  pointwise []
  refine congrArg (fun z => X (ix2 z _)) (Fin.ext ?_)
  show b.val * 4096 + r.val * 8 + k.val / 128 = 4096 * b.val + 8 * r.val + k.val / 128
  omega

/-- The reference's result as the composition of its parts. -/
theorem result_eq (m : (ℓ : Loc nD τ sig) → Buf (Elt Ideal) ℓ) (c : Dev nD)
    (X : FVec Ideal S1196032x128 .f32) (tab : IVec S292 32) (used : IVec S1 32) (w1g w1l w2 : FVec Ideal S32x1024x1024 .bf16) (b1g b1l b2 : FVec Ideal S32x1x1024 .f32)
    (h0 : m ((c.tc : Thread nD τ).loc main_arg0) = X) (h1 : m ((c.tc : Thread nD τ).loc main_arg1) = tab) (h2 : m ((c.tc : Thread nD τ).loc main_arg2) = used)
    (h3 : m ((c.tc : Thread nD τ).loc main_arg3) = w1g) (h4 : m ((c.tc : Thread nD τ).loc main_arg4) = w1l) (h5 : m ((c.tc : Thread nD τ).loc main_arg5) = w2)
    (h6 : m ((c.tc : Thread nD τ).loc main_arg6) = b1g) (h7 : m ((c.tc : Thread nD τ).loc main_arg7) = b1l) (h8 : m ((c.tc : Thread nD τ).loc main_arg8) = b2) :
    (res_main_v76 m c : S1196032x128.Idx → EReal)
      = cut used (product tab (unit (product tab (shapeCast _ X shapeCasts_S1196032x128_S292x512x1024) w1g b1g) (product tab (shapeCast _ X shapeCasts_S1196032x128_S292x512x1024) w1l b1l)) w2 b2) := by
  unfold res_main_v76
  rw [h0, h1, h2, h3, h4, h5, h6, h7, h8]
  rfl

/-- The reference's result at an entry. -/
theorem result_apply (X : FVec Ideal S1196032x128 .f32) (tab : IVec S292 32) (used : IVec S1 32) (w1g w1l w2 : FVec Ideal S32x1024x1024 .bf16) (b1g b1l b2 : FVec Ideal S32x1x1024 .f32)
    (hb : ∀ b : Fin 292, (tab (ix1 b)).toNat < 32) (R : Fin 1196032) (C : Fin 128) :
    cut used (product tab (unit (product tab (shapeCast _ X shapeCasts_S1196032x128_S292x512x1024) w1g b1g) (product tab (shapeCast _ X shapeCasts_S1196032x128_S292x512x1024) w1l b1l)) w2 b2) (ix2 R C)
      = if (BitVec.ofNat 32 (R.val / 4096)).slt (used (ix1 0)) = true
        then moe (fun k : Fin 1024 => X (ix2 ⟨R.val / 8 * 8 + k.val / 128, by omega⟩ ⟨k.val % 128, by omega⟩))
          (fun k j => w1g (ix3 ⟨(tab (ix1 ⟨R.val / 4096, by omega⟩)).toNat, hb _⟩ k j)) (fun j : Fin 1024 => b1g (ix3 ⟨(tab (ix1 ⟨R.val / 4096, by omega⟩)).toNat, hb _⟩ 0 j))
          (fun k j => w1l (ix3 ⟨(tab (ix1 ⟨R.val / 4096, by omega⟩)).toNat, hb _⟩ k j)) (fun j : Fin 1024 => b1l (ix3 ⟨(tab (ix1 ⟨R.val / 4096, by omega⟩)).toNat, hb _⟩ 0 j))
          (fun j n => w2 (ix3 ⟨(tab (ix1 ⟨R.val / 4096, by omega⟩)).toNat, hb _⟩ j n)) (fun n : Fin 1024 => b2 (ix3 ⟨(tab (ix1 ⟨R.val / 4096, by omega⟩)).toNat, hb _⟩ 0 n))
          ⟨R.val % 8 * 128 + C.val, by omega⟩
        else 0 := by
  rw [cut_apply]
  refine if_congr Iff.rfl ?_ rfl
  rw [product_apply tab hb]
  unfold moe
  have hx : ∀ k : Fin 1024, (shapeCast _ X shapeCasts_S1196032x128_S292x512x1024 : FVec Ideal S292x512x1024 .f32) (ix3 ⟨R.val / 4096, by omega⟩ ⟨R.val % 4096 / 8, by omega⟩ k)
      = X (ix2 ⟨R.val / 8 * 8 + k.val / 128, by omega⟩ ⟨k.val % 128, by omega⟩) := fun k => by
    rw [rows_apply]
    refine congrArg (fun z => X (ix2 z _)) (Fin.ext ?_)
    show 4096 * (R.val / 4096) + 8 * (R.val % 4096 / 8) + k.val / 128 = R.val / 8 * 8 + k.val / 128
    omega
  simp only [unit_apply, product_apply tab hb, hx]

end Cert.ReferenceIdeal.Entries

end
-- ==== Proof.Claims.lean ====
/- The claims about the experts' call: the two frames of the kernel, the frame of the reference, and the equality of the
   kernel's result with the reference's on every input whose table names one of the 32 experts for each block. -/
module

public import proofs.«01_k».proof.Defs
public import proofs.«01_k».proof.Proof.Kernel.Frame
public import proofs.«01_k».proof.Proof.Kernel.Tables
public import proofs.«01_k».proof.Proof.KernelIdeal.Result
public import proofs.«01_k».proof.Proof.ReferenceIdeal.Entries
public import Idealize.ShloMosaic.Lib.Quiescent

@[expose] public section

set_option maxRecDepth 16384

noncomputable section

namespace Cert.Experts

open Idealize.ShloMosaic Idealize.ShloMosaic.TcCoe Idealize.SL.Sem

/-- The frame of the kernel as it is. -/
theorem frame_kernel : Cert.quiescent_Kernel (hKernel := Cert.Kernel.Gen.facts) (hPre_experts_exist := Cert.Pre_experts_exist.Gen.facts) :=
  fun m g hpre => Cert.Kernel.Experts.frame m g (Cert.Kernel.Experts.ok_of_pre m hpre)

/-- The frame of the kernel over the extended reals. -/
theorem frame_ideal : Cert.quiescent_KernelIdeal (hKernelIdeal := Cert.KernelIdeal.Gen.facts) (hPre_experts_exist := Cert.Pre_experts_exist.Gen.facts) :=
  fun m g hpre => Cert.KernelIdeal.Experts.frame m g (Cert.KernelIdeal.Experts.ok_of_pre m hpre)

/-- The frame of the reference, on every input: it is host code only and declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The same on the inputs of the value claim. -/
theorem frame_reference_pre : Cert.quiescent_ReferenceIdeal_pre_experts_exist (hReferenceIdeal := Cert.ReferenceIdeal.Gen.facts)
    (hPre_experts_exist := Cert.Pre_experts_exist.Gen.facts) := fun m g _ =>
  (θ_run _ _ _).mono (fun r h => ⟨fun c => (h c).2, sem_eq_zero_of_no_sems (by decide) r.2⟩) (Cert.ReferenceIdeal.Value.run (F := Ideal) m g)

/-- The kernel's run with its result: the array that `resultAt` says. -/
theorem run_kernel (m : (ℓ : Loc Cert.KernelIdeal.nD Cert.KernelIdeal.τ Cert.KernelIdeal.sig) → Buf (Elt Ideal) ℓ) (g : Dev Cert.KernelIdeal.nD → PrngReg)
    (hO : Cert.KernelIdeal.Experts.Ok m) (h : ∀ i, (Cert.KernelIdeal.Experts.expertAt m i).toNat < 32) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0)
        = (fun i : Cert.KernelIdeal.S1196032x128.Idx => Cert.KernelIdeal.Experts.resultAt m h c (Cert.KernelIdeal.Experts.expertOf m h c) (i 0) (i 1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run _ _ _).mono (fun _ h' c => ⟨((h'.1 c).1 7).trans (Cert.KernelIdeal.Experts.result_array m hO h c), h'.2 c⟩)
    (θ_run_and (Cert.KernelIdeal.Experts.run_main m g hO) (Cert.KernelIdeal.Experts.unchanged m g hO))

/-- On arguments equal to the kernel's the reference's result is the same array. -/
theorem reference_value (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (h : ∀ i, (Cert.KernelIdeal.Experts.expertAt m i).toNat < 32) (c : Dev Cert.KernelIdeal.nD)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Value.res_main_v76 m' c : Cert.ReferenceIdeal.S1196032x128.Idx → EReal)
      = (fun i : Cert.KernelIdeal.S1196032x128.Idx => Cert.KernelIdeal.Experts.resultAt m h c (Cert.KernelIdeal.Experts.expertOf m h c) (i 0) (i 1)) := by
  obtain ⟨h0, h1, h2, h3, h4, h5, h6, h7, h8⟩ := hm
  refine (Cert.ReferenceIdeal.Entries.result_eq m' c _ _ _ _ _ _ _ _ _ h0 h1 h2 h3 h4 h5 h6 h7 h8).trans (funext fun i => ?_)
  obtain ⟨R, C, rfl⟩ : ∃ (R : Fin 1196032) (C : Fin 128), i = ix2 R C := ⟨i 0, i 1, funext fun (a : Fin 2) => by
    match a with
    | ⟨0, _⟩ => rfl
    | ⟨1, _⟩ => rfl⟩
  exact Cert.ReferenceIdeal.Entries.result_apply _ _ _ _ _ _ _ _ _ (fun b => (Cert.KernelIdeal.Experts.expertOf m h c b).isLt) R C

/-- The value claim: the kernel's result is the reference's. -/
theorem value : Cert.algebraic_KernelIdeal_ReferenceIdeal (hKernelIdeal := Cert.KernelIdeal.Gen.facts) (hReferenceIdeal := Cert.ReferenceIdeal.Gen.facts)
    (hPre_experts_exist := Cert.Pre_experts_exist.Gen.facts) := fun m g m' g' hpre hm =>
  ⟨_, run_kernel m g (Cert.KernelIdeal.Experts.ok_of_pre m hpre) (Cert.KernelIdeal.Experts.expert_lt m hpre),
    (θ_run _ _ _).mono (fun _ h c => ⟨(h c).1.trans (reference_value m m' (Cert.KernelIdeal.Experts.expert_lt m hpre) c (hm c)), (h c).2⟩)
      (Cert.ReferenceIdeal.Value.run (F := Ideal) m' g')⟩

end Cert.Experts

end
-- ==== Proof.Projection.Model.lean ====
/- The mathematics of an input projection: a token row, scaled and shifted entry by entry, times a weight matrix. -/
module

public import Idealize.ShloMosaic.PureOps.Ideal

@[expose] public section

noncomputable section

namespace Cert.Projection

open Idealize.ShloMosaic

/-- Column `w` of the projection of one row: the row is scaled by `1 + scale` and shifted first. -/
def projected (x scale shift w : Fin 1024 → EReal) : EReal := ∑ k, (x k * (1 + scale k) + shift k) * w k

/-- Equal rows and columns give equal projections. -/
theorem projected_congr {x x' scale scale' shift shift' w w' : Fin 1024 → EReal} (hx : ∀ k, x k = x' k) (hs : ∀ k, scale k = scale' k)
    (ht : ∀ k, shift k = shift' k) (hw : ∀ k, w k = w' k) : projected x scale shift w = projected x' scale' shift' w' := by
  rw [funext hx, funext hs, funext ht, funext hw]

end Cert.Projection

end
-- ==== Proof.Projection.Even.lean ====
/- The input projection of the even layer: the kernel's result array, entry by entry. A point of the grid brings in 512 token
   rows of one sequence, the sequence's scale and shift, and the whole weight matrix; it stores eight column blocks. -/
module

public import proofs.«01_k».proof.Proof.Gen.Kernel2Ideal.Value
public import proofs.«01_k».proof.Proof.Projection.Model
public import Idealize.ShloMosaic.Lib.Pointwise
public import Idealize.ShloMosaic.Lib.Pipeline.ValueKit.Tiles
public import Idealize.ShloMosaic.Lib.Pipeline.ValueKit.Geometry

@[expose] public section

set_option maxRecDepth 16384

noncomputable section

namespace Cert.Kernel2Ideal.Projection

open Cert.Kernel2Ideal Cert.Kernel2Ideal.Gen Cert.Projection
open Idealize.ShloMosaic Idealize.ShloMosaic.TcCoe Idealize.SL.Sem
open Pipeline (Dat)

/-- The scaled and shifted rows of a block, at an entry. -/
theorem rows_apply (v0 : Vec Ideal S1x512x1024 .f32) (v2 v8 : Vec Ideal S1x1x1024 .f32) (r : Fin 512) (k : Fin 1024) :
    k0_pay2 v0 v2 v8 (ix2 r k) = v0 (ix3 0 r k) * (1 + v2 (ix3 0 0 k)) + v8 (ix3 0 0 k) := by
  pointwise [k0_pay2]

/-- One column block of a point, at an entry: the projection of the row by the column of the block's weights. -/
theorem block_apply (v0 : Vec Ideal S1x512x1024 .f32) (v2 v8 : Vec Ideal S1x1x1024 .f32) (w : Vec Ideal S1024x512 .bf16) (b : Fin 1) (r : Fin 512) (n : Fin 512) :
    k0_pay3 v0 v2 v8 w (ix3 b r n) = projected (fun k => v0 (ix3 0 r k)) (fun k => v2 (ix3 0 0 k)) (fun k => v8 (ix3 0 0 k)) (fun k => w (ix2 k n)) := by
  have h := fun k => rows_apply v0 v2 v8 r k
  unfold k0_pay3
  generalize k0_pay2 v0 v2 v8 = X at h ⊢
  pointwise []
  simp only [h, projected]

/-- The same inside the whole buffer: the block's column is a column of the whole matrix. -/
theorem tile_apply (x0 : Vec Ideal S1x512x1024 .f32) (x1 x2 : Vec Ideal S1x1x1024 .f32) (x3 : Vec Ideal S1024x4096 .bf16) (w : Vec Ideal S1024x512 .bf16)
    (x : S1x512x512.Idx) (r : Fin 512) (n : Fin 4096) (hr : r.val = (x 1).val) (hw : ∀ k : Fin 1024, w (ix2 k (x 2)) = x3 (ix2 k n)) :
    k0_pay3 x0 x1 x2 w x = projected (fun k => x0 (ix3 0 r k)) (fun k => x1 (ix3 0 0 k)) (fun k => x2 (ix3 0 0 k)) (fun k => x3 (ix2 k n)) := by
  have e : x = ix3 (0 : Fin 1) r (x 2) := funext fun (a : Fin 3) => by
    match a with
    | ⟨0, _⟩ => exact Subsingleton.elim (α := Fin 1) _ _
    | ⟨1, _⟩ => exact Fin.ext hr.symm
    | ⟨2, _⟩ => rfl
  refine (congrArg (k0_pay3 x0 x1 x2 w) e).trans ((block_apply x0 x1 x2 w 0 r (x 2)).trans ?_)
  rw [funext hw]

/-- What a point leaves in the result's buffer: the projection of each row by each column. -/
theorem out_apply (x0 : Vec Ideal S1x512x1024 .f32) (x1 x2 : Vec Ideal S1x1x1024 .f32) (x3 : Vec Ideal S1024x4096 .bf16) (b : Fin 1) (r : Fin 512) (n : Fin 4096) :
    out0_4 x0 x1 x2 x3 (ix3 b r n) = projected (fun k => x0 (ix3 0 r k)) (fun k => x1 (ix3 0 0 k)) (fun k => x2 (ix3 0 0 k)) (fun k => x3 (ix2 k n)) := by
  have e0 : View.ld x0 r0_0 = x0 := View.ld_unit_lit' _ _ (by decide)
  have e1 : View.ld x1 r0_1 = x1 := View.ld_unit_lit' _ _ (by decide)
  have e2 : View.ld x2 r0_1 = x2 := View.ld_unit_lit' _ _ (by decide)
  unfold out0_4 k0_pay11
  rw [e0, e1, e2]
  canon_tiles x h using (cover0_4 _ _ _ _ _ _ _ _ _)
  all_goals
    refine tile_apply x0 x1 x2 x3 _ x r n (by simpa using h1) (fun k => View.ld_unit_apply_of _ _ _ _ _ _ fun (a : Fin 2) => ?_)
    match a with
    | ⟨0, _⟩ => show k.val = 0 + k.val; omega
    | ⟨1, _⟩ => first | exact h2 | exact h2.trans (Nat.zero_add _).symm

variable (m : (ℓ : Loc nD τ sig) → Buf (Elt Ideal) ℓ)

/-- A grid coordinate fits a word. -/
theorem coord_word (i : grid0.Coords) : (BitVec.ofNat 32 (i 0).val).toNat = (i 0).val ∧ (BitVec.ofNat 32 (i 1).val).toNat = (i 1).val := by
  have h0 : (i 0).val < 2 := (i 0).isLt
  have h1 : (i 1).val < 32 := (i 1).isLt
  rw [BitVec.toNat_ofNat, BitVec.toNat_ofNat]; omega

/-- The token rows of a point: 512 rows of the point's sequence. -/
theorem iblk0_apply (c : Dev nD) (t : Fin cfg0.N) (r : Fin 512) (k : Fin 1024) (b : Fin 2) (R : Fin 16384)
    (hb : b.val = (grid0.coords t 0).val) (hR : R.val = (grid0.coords t 1).val * 512 + r.val) :
    (iblk m c 0 t : S1x512x1024.Idx → EReal) (ix3 0 r k) = (m ((c.tc : Thread nD τ).loc main_arg0) : S2x16384x1024.Idx → EReal) (ix3 b R k) := by
  refine congrArg (m ((c.tc : Thread nD τ).loc main_arg0) : S2x16384x1024.Idx → EReal) (funext fun (a : Fin 3) => Fin.ext ?_)
  obtain ⟨w0, w1⟩ := coord_word (grid0.coords t)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 0 * 1024 + 1 * k.val = k.val
    omega

/-- The scale of a point: the row of the point's sequence. -/
theorem iblk1_apply (c : Dev nD) (t : Fin cfg0.N) (k : Fin 1024) (b : Fin 8) (hb : b.val = (grid0.coords t 0).val) :
    (iblk m c 1 t : S1x1x1024.Idx → EReal) (ix3 0 0 k) = (m ((c.tc : Thread nD τ).loc main_arg1) : S8x1x1024.Idx → EReal) (ix3 b 0 k) := by
  refine congrArg (m ((c.tc : Thread nD τ).loc main_arg1) : S8x1x1024.Idx → EReal) (funext fun (a : Fin 3) => Fin.ext ?_)
  match a with
  | ⟨0, _⟩ =>
    show (BitVec.ofNat 32 (grid0.coords t 0).val).toNat * 1 + 1 * 0 = b.val
    rw [(coord_word (grid0.coords t)).1]; omega
  | ⟨1, _⟩ => rfl
  | ⟨2, _⟩ =>
    show 0 * 1024 + 1 * k.val = k.val
    omega

/-- The shift of a point: the row of the point's sequence. -/
theorem iblk2_apply (c : Dev nD) (t : Fin cfg0.N) (k : Fin 1024) (b : Fin 8) (hb : b.val = (grid0.coords t 0).val) :
    (iblk m c 2 t : S1x1x1024.Idx → EReal) (ix3 0 0 k) = (m ((c.tc : Thread nD τ).loc main_arg2) : S8x1x1024.Idx → EReal) (ix3 b 0 k) := by
  refine congrArg (m ((c.tc : Thread nD τ).loc main_arg2) : S8x1x1024.Idx → EReal) (funext fun (a : Fin 3) => Fin.ext ?_)
  match a with
  | ⟨0, _⟩ =>
    show (BitVec.ofNat 32 (grid0.coords t 0).val).toNat * 1 + 1 * 0 = b.val
    rw [(coord_word (grid0.coords t)).1]; omega
  | ⟨1, _⟩ => rfl
  | ⟨2, _⟩ =>
    show 0 * 1024 + 1 * k.val = k.val
    omega

/-- The weights of a point: the whole matrix. -/
theorem iblk3_apply (c : Dev nD) (t : Fin cfg0.N) (k : Fin 1024) (n : Fin 4096) :
    (iblk m c 3 t : S1024x4096.Idx → EReal) (ix2 k n) = (m ((c.tc : Thread nD τ).loc main_arg3) : S1024x4096.Idx → EReal) (ix2 k n) := by
  refine congrArg (m ((c.tc : Thread nD τ).loc main_arg3) : S1024x4096.Idx → EReal) (funext fun (a : Fin 2) => Fin.ext ?_)
  match a with
  | ⟨0, _⟩ =>
    show 0 * 1024 + 1 * k.val = k.val
    omega
  | ⟨1, _⟩ =>
    show 0 * 4096 + 1 * n.val = n.val
    omega

/-- The result array, as a function of the arguments: token `R` of sequence `b` is scaled and shifted by the sequence's
    rows and multiplied by column `n` of the weights. -/
def resultAt (c : Dev nD) (b : Fin 2) (R : Fin 16384) (n : Fin 4096) : EReal :=
  projected (fun k => (m ((c.tc : Thread nD τ).loc main_arg0) : S2x16384x1024.Idx → EReal) (ix3 b R k))
    (fun k => (m ((c.tc : Thread nD τ).loc main_arg1) : S8x1x1024.Idx → EReal) (ix3 (⟨b.val, by omega⟩ : Fin 8) (0 : Fin 1) k))
    (fun k => (m ((c.tc : Thread nD τ).loc main_arg2) : S8x1x1024.Idx → EReal) (ix3 (⟨b.val, by omega⟩ : Fin 8) (0 : Fin 1) k))
    (fun k => (m ((c.tc : Thread nD τ).loc main_arg3) : S1024x4096.Idx → EReal) (ix2 k n))

/-- Equal places give equal entries. -/
theorem resultAt_congr (c : Dev nD) {b b' : Fin 2} {R R' : Fin 16384} {n n' : Fin 4096} (hb : b.val = b'.val) (hR : R.val = R'.val) (hn : n.val = n'.val) :
    resultAt m c b R n = resultAt m c b' R' n' := by
  rw [Fin.ext hb, Fin.ext hR, Fin.ext hn]

/-- What a point leaves in the result's buffer, entry by entry. -/
theorem point_apply (c : Dev nD) (t : Fin cfg0.N) (z : Fin 1) (r : Fin 512) (n : Fin 4096) (b : Fin 2) (R : Fin 16384)
    (hb : b.val = (grid0.coords t 0).val) (hR : R.val = (grid0.coords t 1).val * 512 + r.val) :
    out0_4 (iblk m c 0 t) (iblk m c 1 t) (iblk m c 2 t) (iblk m c 3 t) (ix3 z r n) = resultAt m c b R n :=
  (out_apply _ _ _ _ z r n).trans (projected_congr (fun k => iblk0_apply m c t r k b R hb hR) (fun k => iblk1_apply m c t k _ hb)
    (fun k => iblk2_apply m c t k _ hb) (fun k => iblk3_apply m c t k n))

/-- The result array after the run. -/
theorem result_array (c : Dev nD) :
    (dats m 0 c).arrAt 4 cfg0.N = (fun i : S2x16384x4096.Idx => resultAt m c (i 0) (i 1) (i 2)) := by
  refine (dats m 0 c).arrAt_eq_of_covers 4 _ (by decide +kernel) (fun t _ => ?_)
  intro (y : S1x512x4096.Idx)
  rw [after0_4]
  have h0 : (grid0.coords t 0).val < 2 := (grid0.coords t 0).isLt
  have h1 : (grid0.coords t 1).val < 32 := (grid0.coords t 1).isLt
  have hy0 : (y 0).val < 1 := (y 0).isLt
  have hy1 : (y 1).val < 512 := (y 1).isLt
  have hy2 : (y 2).val < 4096 := (y 2).isLt
  have key := point_apply m c t ⟨(y 0).val, hy0⟩ ⟨(y 1).val, hy1⟩ ⟨(y 2).val, hy2⟩ ⟨(grid0.coords t 0).val, h0⟩ ⟨(grid0.coords t 1).val * 512 + (y 1).val, by omega⟩ rfl rfl
  generalize out0_4 (iblk m c 0 t) (iblk m c 1 t) (iblk m c 2 t) (iblk m c 3 t) = O at key ⊢
  have e : y = ix3 (⟨(y 0).val, hy0⟩ : Fin 1) (⟨(y 1).val, hy1⟩ : Fin 512) (⟨(y 2).val, hy2⟩ : Fin 4096) := funext fun (a : Fin 3) => by
    match a with
    | ⟨0, _⟩ => rfl
    | ⟨1, _⟩ => rfl
    | ⟨2, _⟩ => rfl
  refine (congrArg (O : S1x512x4096.Idx → EReal) e).trans (key.trans (resultAt_congr m c ?_ ?_ ?_))
  · show (grid0.coords t 0).val = (BitVec.ofNat 32 (grid0.coords t 0).val).toNat * 1 + 1 * (y 0).val
    rw [(coord_word (grid0.coords t)).1]; omega
  · show (grid0.coords t 1).val * 512 + (y 1).val = (BitVec.ofNat 32 (grid0.coords t 1).val).toNat * 512 + 1 * (y 1).val
    rw [(coord_word (grid0.coords t)).2]; omega
  · show (y 2).val = 0 * 4096 + 1 * (y 2).val
    omega

end Cert.Kernel2Ideal.Projection

end
-- ==== Proof.Projection.EvenClaims.lean ====
/- The claims about the input projection of the EVEN layer: the frames of the kernel and of the reference, and the equality of
   their results. -/
module

public import proofs.«01_k».proof.Defs
public import proofs.«01_k».proof.Proof.Gen.Kernel2.Frame
public import proofs.«01_k».proof.Proof.Gen.Reference2Ideal.Run
public import proofs.«01_k».proof.Proof.Projection.Even
public import Idealize.ShloMosaic.Lib.Quiescent

@[expose] public section

set_option maxRecDepth 16384

noncomputable section

namespace Cert.Reference2Ideal.Projection

open Cert.Reference2Ideal Cert.Reference2Ideal.Gen Cert.Projection
open Idealize.ShloMosaic Idealize.ShloMosaic.TcCoe

/-- The reference's array from its arguments. -/
def result (x : FVec Ideal S2x16384x1024 .f32) (sc sh : FVec Ideal S8x1x1024 .f32) (w : FVec Ideal S1024x4096 .bf16) : FVec Ideal S2x16384x4096 .bf16 :=
  truncf .bf16 (Host.dotGeneral dot_S2x16384x1024_S1024x4096_S2x16384x4096_2_0_01_1_n_n none
    (addf (mulf x (broadcastInDim S2x16384x1024 ![0, 1, 2] bcast_S2x1x1024_S2x16384x1024_0_1_2
        (addf (broadcastInDim S2x1x1024 ![] bcast_S_S2x1x1024 (constant S_ .f32 0x3F800000#32)) (extractStridedSlice S2x1x1024 ![0, 0, 0] sc slices_S8x1x1024_S2x1x1024_0_0_0))))
      (broadcastInDim S2x16384x1024 ![0, 1, 2] bcast_S2x1x1024_S2x16384x1024_0_1_2 (extractStridedSlice S2x1x1024 ![0, 0, 0] sh slices_S8x1x1024_S2x1x1024_0_0_0)))
    (extf .f32 w bitsLt_bf16_f32)) bitsLt_bf16_f32

/-- An entry of it: the projection of a token row by a column of the weights. -/
theorem result_apply (x : FVec Ideal S2x16384x1024 .f32) (sc sh : FVec Ideal S8x1x1024 .f32) (w : FVec Ideal S1024x4096 .bf16) (b : Fin 2) (R : Fin 16384) (n : Fin 4096) :
    result x sc sh w (ix3 b R n) = projected (fun k => x (ix3 b R k)) (fun k => sc (ix3 (⟨b.val, by omega⟩ : Fin 8) 0 k)) (fun k => sh (ix3 (⟨b.val, by omega⟩ : Fin 8) 0 k)) (fun k => w (ix2 k n)) := by
  unfold result projected
  pointwise []

end Cert.Reference2Ideal.Projection

namespace Cert.Projection.Even

open Idealize.ShloMosaic Idealize.ShloMosaic.TcCoe Idealize.SL.Sem

/-- The frame of the kernel as it is. -/
theorem frame_kernel : Cert.quiescent_Kernel2 (hKernel2 := Cert.Kernel2.Gen.facts) := fun m g _ => Cert.Kernel2.Gen.frame m g

/-- The frame of the kernel over the extended reals. -/
theorem frame_ideal : Cert.quiescent_Kernel2Ideal (hKernel2Ideal := Cert.Kernel2Ideal.Gen.facts) := fun m g _ => Cert.Kernel2Ideal.Gen.frame m g

/-- The frame of the reference: it is host code only and declares no semaphore. -/
theorem frame_reference : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run (F := Ideal) m g)

/-- The value claim: the kernel's result is the reference's. -/
theorem value : Cert.algebraic_Kernel2Ideal_Reference2Ideal (hKernel2Ideal := Cert.Kernel2Ideal.Gen.facts) (hReference2Ideal := Cert.Reference2Ideal.Gen.facts) := fun m g m' g' _ hm =>
  ⟨fun c => (fun i : Cert.Kernel2Ideal.S2x16384x4096.Idx => Cert.Kernel2Ideal.Projection.resultAt m c (i 0) (i 1) (i 2)),
    (θ_run _ _ _).mono (fun _ h c => ⟨(h c).1.trans (Cert.Kernel2Ideal.Projection.result_array m c), (h c).2⟩) (Cert.Kernel2Ideal.Value.run_blocks (F := Ideal) m g),
    (θ_run _ _ _).mono (fun _ h c => ⟨(h c).1.trans (by
      obtain ⟨h0, h1, h2, h3⟩ := hm c
      rw [h0, h1, h2, h3]
      refine funext fun (i : Cert.Kernel2Ideal.S2x16384x4096.Idx) => ?_
      obtain ⟨b, R, n, rfl⟩ : ∃ (b : Fin 2) (R : Fin 16384) (n : Fin 4096), i = ix3 b R n := ⟨i 0, i 1, i 2, funext fun (a : Fin 3) => by
        match a with
        | ⟨0, _⟩ => rfl
        | ⟨1, _⟩ => rfl
        | ⟨2, _⟩ => rfl⟩
      exact Cert.Reference2Ideal.Projection.result_apply _ _ _ _ b R n), (h c).2⟩)
      (Cert.Reference2Ideal.Value.run (F := Ideal) m' g')⟩

end Cert.Projection.Even

end
-- ==== Proof.Projection.Odd.lean ====
/- The input projection of the odd layer: the kernel's result array, entry by entry. A point of the grid brings in 512 token
   rows of one sequence, the sequence's scale and shift, and the whole weight matrix; it stores three column blocks. -/
module

public import proofs.«01_k».proof.Proof.Gen.Kernel3Ideal.Value
public import proofs.«01_k».proof.Proof.Projection.Model
public import Idealize.ShloMosaic.Lib.Pointwise
public import Idealize.ShloMosaic.Lib.Pipeline.ValueKit.Tiles
public import Idealize.ShloMosaic.Lib.Pipeline.ValueKit.Geometry

@[expose] public section

set_option maxRecDepth 16384

noncomputable section

namespace Cert.Kernel3Ideal.Projection

open Cert.Kernel3Ideal Cert.Kernel3Ideal.Gen Cert.Projection
open Idealize.ShloMosaic Idealize.ShloMosaic.TcCoe Idealize.SL.Sem
open Pipeline (Dat)

/-- The scaled and shifted rows of a block, at an entry. -/
theorem rows_apply (v0 : Vec Ideal S1x512x1024 .f32) (v2 v8 : Vec Ideal S1x1x1024 .f32) (r : Fin 512) (k : Fin 1024) :
    k0_pay2 v0 v2 v8 (ix2 r k) = v0 (ix3 0 r k) * (1 + v2 (ix3 0 0 k)) + v8 (ix3 0 0 k) := by
  pointwise [k0_pay2]

/-- One column block of a point, at an entry: the projection of the row by the column of the block's weights. -/
theorem block_apply (v0 : Vec Ideal S1x512x1024 .f32) (v2 v8 : Vec Ideal S1x1x1024 .f32) (w : Vec Ideal S1024x512 .bf16) (b : Fin 1) (r : Fin 512) (n : Fin 512) :
    k0_pay3 v0 v2 v8 w (ix3 b r n) = projected (fun k => v0 (ix3 0 r k)) (fun k => v2 (ix3 0 0 k)) (fun k => v8 (ix3 0 0 k)) (fun k => w (ix2 k n)) := by
  have h := fun k => rows_apply v0 v2 v8 r k
  unfold k0_pay3
  generalize k0_pay2 v0 v2 v8 = X at h ⊢
  pointwise []
  simp only [h, projected]

/-- The same inside the whole buffer: the block's column is a column of the whole matrix. -/
theorem tile_apply (x0 : Vec Ideal S1x512x1024 .f32) (x1 x2 : Vec Ideal S1x1x1024 .f32) (x3 : Vec Ideal S1024x1536 .bf16) (w : Vec Ideal S1024x512 .bf16)
    (x : S1x512x512.Idx) (r : Fin 512) (n : Fin 1536) (hr : r.val = (x 1).val) (hw : ∀ k : Fin 1024, w (ix2 k (x 2)) = x3 (ix2 k n)) :
    k0_pay3 x0 x1 x2 w x = projected (fun k => x0 (ix3 0 r k)) (fun k => x1 (ix3 0 0 k)) (fun k => x2 (ix3 0 0 k)) (fun k => x3 (ix2 k n)) := by
  have e : x = ix3 (0 : Fin 1) r (x 2) := funext fun (a : Fin 3) => by
    match a with
    | ⟨0, _⟩ => exact Subsingleton.elim (α := Fin 1) _ _
    | ⟨1, _⟩ => exact Fin.ext hr.symm
    | ⟨2, _⟩ => rfl
  refine (congrArg (k0_pay3 x0 x1 x2 w) e).trans ((block_apply x0 x1 x2 w 0 r (x 2)).trans ?_)
  rw [funext hw]

/-- What a point leaves in the result's buffer: the projection of each row by each column. -/
theorem out_apply (x0 : Vec Ideal S1x512x1024 .f32) (x1 x2 : Vec Ideal S1x1x1024 .f32) (x3 : Vec Ideal S1024x1536 .bf16) (b : Fin 1) (r : Fin 512) (n : Fin 1536) :
    out0_4 x0 x1 x2 x3 (ix3 b r n) = projected (fun k => x0 (ix3 0 r k)) (fun k => x1 (ix3 0 0 k)) (fun k => x2 (ix3 0 0 k)) (fun k => x3 (ix2 k n)) := by
  have e0 : View.ld x0 r0_0 = x0 := View.ld_unit_lit' _ _ (by decide)
  have e1 : View.ld x1 r0_1 = x1 := View.ld_unit_lit' _ _ (by decide)
  have e2 : View.ld x2 r0_1 = x2 := View.ld_unit_lit' _ _ (by decide)
  unfold out0_4
  rw [e0, e1, e2]
  canon_tiles x h using (cover0_4 _ _ _ _)
  all_goals
    refine tile_apply x0 x1 x2 x3 _ x r n (by simpa using h1) (fun k => View.ld_unit_apply_of _ _ _ _ _ _ fun (a : Fin 2) => ?_)
    match a with
    | ⟨0, _⟩ => show k.val = 0 + k.val; omega
    | ⟨1, _⟩ => first | exact h2 | exact h2.trans (Nat.zero_add _).symm

variable (m : (ℓ : Loc nD τ sig) → Buf (Elt Ideal) ℓ)

/-- A grid coordinate fits a word. -/
theorem coord_word (i : grid0.Coords) : (BitVec.ofNat 32 (i 0).val).toNat = (i 0).val ∧ (BitVec.ofNat 32 (i 1).val).toNat = (i 1).val := by
  have h0 : (i 0).val < 2 := (i 0).isLt
  have h1 : (i 1).val < 32 := (i 1).isLt
  rw [BitVec.toNat_ofNat, BitVec.toNat_ofNat]; omega

/-- The token rows of a point: 512 rows of the point's sequence. -/
theorem iblk0_apply (c : Dev nD) (t : Fin cfg0.N) (r : Fin 512) (k : Fin 1024) (b : Fin 2) (R : Fin 16384)
    (hb : b.val = (grid0.coords t 0).val) (hR : R.val = (grid0.coords t 1).val * 512 + r.val) :
    (iblk m c 0 t : S1x512x1024.Idx → EReal) (ix3 0 r k) = (m ((c.tc : Thread nD τ).loc main_arg0) : S2x16384x1024.Idx → EReal) (ix3 b R k) := by
  refine congrArg (m ((c.tc : Thread nD τ).loc main_arg0) : S2x16384x1024.Idx → EReal) (funext fun (a : Fin 3) => Fin.ext ?_)
  obtain ⟨w0, w1⟩ := coord_word (grid0.coords t)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 0 * 1024 + 1 * k.val = k.val
    omega

/-- The scale of a point: the row of the point's sequence. -/
theorem iblk1_apply (c : Dev nD) (t : Fin cfg0.N) (k : Fin 1024) (b : Fin 8) (hb : b.val = (grid0.coords t 0).val) :
    (iblk m c 1 t : S1x1x1024.Idx → EReal) (ix3 0 0 k) = (m ((c.tc : Thread nD τ).loc main_arg1) : S8x1x1024.Idx → EReal) (ix3 b 0 k) := by
  refine congrArg (m ((c.tc : Thread nD τ).loc main_arg1) : S8x1x1024.Idx → EReal) (funext fun (a : Fin 3) => Fin.ext ?_)
  match a with
  | ⟨0, _⟩ =>
    show (BitVec.ofNat 32 (grid0.coords t 0).val).toNat * 1 + 1 * 0 = b.val
    rw [(coord_word (grid0.coords t)).1]; omega
  | ⟨1, _⟩ => rfl
  | ⟨2, _⟩ =>
    show 0 * 1024 + 1 * k.val = k.val
    omega

/-- The shift of a point: the row of the point's sequence. -/
theorem iblk2_apply (c : Dev nD) (t : Fin cfg0.N) (k : Fin 1024) (b : Fin 8) (hb : b.val = (grid0.coords t 0).val) :
    (iblk m c 2 t : S1x1x1024.Idx → EReal) (ix3 0 0 k) = (m ((c.tc : Thread nD τ).loc main_arg2) : S8x1x1024.Idx → EReal) (ix3 b 0 k) := by
  refine congrArg (m ((c.tc : Thread nD τ).loc main_arg2) : S8x1x1024.Idx → EReal) (funext fun (a : Fin 3) => Fin.ext ?_)
  match a with
  | ⟨0, _⟩ =>
    show (BitVec.ofNat 32 (grid0.coords t 0).val).toNat * 1 + 1 * 0 = b.val
    rw [(coord_word (grid0.coords t)).1]; omega
  | ⟨1, _⟩ => rfl
  | ⟨2, _⟩ =>
    show 0 * 1024 + 1 * k.val = k.val
    omega

/-- The weights of a point: the whole matrix. -/
theorem iblk3_apply (c : Dev nD) (t : Fin cfg0.N) (k : Fin 1024) (n : Fin 1536) :
    (iblk m c 3 t : S1024x1536.Idx → EReal) (ix2 k n) = (m ((c.tc : Thread nD τ).loc main_arg3) : S1024x1536.Idx → EReal) (ix2 k n) := by
  refine congrArg (m ((c.tc : Thread nD τ).loc main_arg3) : S1024x1536.Idx → EReal) (funext fun (a : Fin 2) => Fin.ext ?_)
  match a with
  | ⟨0, _⟩ =>
    show 0 * 1024 + 1 * k.val = k.val
    omega
  | ⟨1, _⟩ =>
    show 0 * 1536 + 1 * n.val = n.val
    omega

/-- The result array, as a function of the arguments: token `R` of sequence `b` is scaled and shifted by the sequence's
    rows and multiplied by column `n` of the weights. -/
def resultAt (c : Dev nD) (b : Fin 2) (R : Fin 16384) (n : Fin 1536) : EReal :=
  projected (fun k => (m ((c.tc : Thread nD τ).loc main_arg0) : S2x16384x1024.Idx → EReal) (ix3 b R k))
    (fun k => (m ((c.tc : Thread nD τ).loc main_arg1) : S8x1x1024.Idx → EReal) (ix3 (⟨b.val, by omega⟩ : Fin 8) (0 : Fin 1) k))
    (fun k => (m ((c.tc : Thread nD τ).loc main_arg2) : S8x1x1024.Idx → EReal) (ix3 (⟨b.val, by omega⟩ : Fin 8) (0 : Fin 1) k))
    (fun k => (m ((c.tc : Thread nD τ).loc main_arg3) : S1024x1536.Idx → EReal) (ix2 k n))

/-- Equal places give equal entries. -/
theorem resultAt_congr (c : Dev nD) {b b' : Fin 2} {R R' : Fin 16384} {n n' : Fin 1536} (hb : b.val = b'.val) (hR : R.val = R'.val) (hn : n.val = n'.val) :
    resultAt m c b R n = resultAt m c b' R' n' := by
  rw [Fin.ext hb, Fin.ext hR, Fin.ext hn]

/-- What a point leaves in the result's buffer, entry by entry. -/
theorem point_apply (c : Dev nD) (t : Fin cfg0.N) (z : Fin 1) (r : Fin 512) (n : Fin 1536) (b : Fin 2) (R : Fin 16384)
    (hb : b.val = (grid0.coords t 0).val) (hR : R.val = (grid0.coords t 1).val * 512 + r.val) :
    out0_4 (iblk m c 0 t) (iblk m c 1 t) (iblk m c 2 t) (iblk m c 3 t) (ix3 z r n) = resultAt m c b R n :=
  (out_apply _ _ _ _ z r n).trans (projected_congr (fun k => iblk0_apply m c t r k b R hb hR) (fun k => iblk1_apply m c t k _ hb)
    (fun k => iblk2_apply m c t k _ hb) (fun k => iblk3_apply m c t k n))

/-- The result array after the run. -/
theorem result_array (c : Dev nD) :
    (dats m 0 c).arrAt 4 cfg0.N = (fun i : S2x16384x1536.Idx => resultAt m c (i 0) (i 1) (i 2)) := by
  refine (dats m 0 c).arrAt_eq_of_covers 4 _ (by decide +kernel) (fun t _ => ?_)
  intro (y : S1x512x1536.Idx)
  rw [after0_4]
  have h0 : (grid0.coords t 0).val < 2 := (grid0.coords t 0).isLt
  have h1 : (grid0.coords t 1).val < 32 := (grid0.coords t 1).isLt
  have hy0 : (y 0).val < 1 := (y 0).isLt
  have hy1 : (y 1).val < 512 := (y 1).isLt
  have hy2 : (y 2).val < 1536 := (y 2).isLt
  have key := point_apply m c t ⟨(y 0).val, hy0⟩ ⟨(y 1).val, hy1⟩ ⟨(y 2).val, hy2⟩ ⟨(grid0.coords t 0).val, h0⟩ ⟨(grid0.coords t 1).val * 512 + (y 1).val, by omega⟩ rfl rfl
  generalize out0_4 (iblk m c 0 t) (iblk m c 1 t) (iblk m c 2 t) (iblk m c 3 t) = O at key ⊢
  have e : y = ix3 (⟨(y 0).val, hy0⟩ : Fin 1) (⟨(y 1).val, hy1⟩ : Fin 512) (⟨(y 2).val, hy2⟩ : Fin 1536) := funext fun (a : Fin 3) => by
    match a with
    | ⟨0, _⟩ => rfl
    | ⟨1, _⟩ => rfl
    | ⟨2, _⟩ => rfl
  refine (congrArg (O : S1x512x1536.Idx → EReal) e).trans (key.trans (resultAt_congr m c ?_ ?_ ?_))
  · show (grid0.coords t 0).val = (BitVec.ofNat 32 (grid0.coords t 0).val).toNat * 1 + 1 * (y 0).val
    rw [(coord_word (grid0.coords t)).1]; omega
  · show (grid0.coords t 1).val * 512 + (y 1).val = (BitVec.ofNat 32 (grid0.coords t 1).val).toNat * 512 + 1 * (y 1).val
    rw [(coord_word (grid0.coords t)).2]; omega
  · show (y 2).val = 0 * 1536 + 1 * (y 2).val
    omega

end Cert.Kernel3Ideal.Projection

end
-- ==== Proof.Projection.OddClaims.lean ====
/- The claims about the input projection of the ODD layer: the frames of the kernel and of the reference, and the equality of
   their results. -/
module

public import proofs.«01_k».proof.Defs
public import proofs.«01_k».proof.Proof.Gen.Kernel3.Frame
public import proofs.«01_k».proof.Proof.Gen.Reference3Ideal.Run
public import proofs.«01_k».proof.Proof.Projection.Odd
public import Idealize.ShloMosaic.Lib.Quiescent

@[expose] public section

set_option maxRecDepth 16384

noncomputable section

namespace Cert.Reference3Ideal.Projection

open Cert.Reference3Ideal Cert.Reference3Ideal.Gen Cert.Projection
open Idealize.ShloMosaic Idealize.ShloMosaic.TcCoe

/-- The reference's array from its arguments. -/
def result (x : FVec Ideal S2x16384x1024 .f32) (sc sh : FVec Ideal S8x1x1024 .f32) (w : FVec Ideal S1024x1536 .bf16) : FVec Ideal S2x16384x1536 .bf16 :=
  truncf .bf16 (Host.dotGeneral dot_S2x16384x1024_S1024x1536_S2x16384x1536_2_0_01_1_n_n none
    (addf (mulf x (broadcastInDim S2x16384x1024 ![0, 1, 2] bcast_S2x1x1024_S2x16384x1024_0_1_2
        (addf (broadcastInDim S2x1x1024 ![] bcast_S_S2x1x1024 (constant S_ .f32 0x3F800000#32)) (extractStridedSlice S2x1x1024 ![0, 0, 0] sc slices_S8x1x1024_S2x1x1024_0_0_0))))
      (broadcastInDim S2x16384x1024 ![0, 1, 2] bcast_S2x1x1024_S2x16384x1024_0_1_2 (extractStridedSlice S2x1x1024 ![0, 0, 0] sh slices_S8x1x1024_S2x1x1024_0_0_0)))
    (extf .f32 w bitsLt_bf16_f32)) bitsLt_bf16_f32

/-- An entry of it: the projection of a token row by a column of the weights. -/
theorem result_apply (x : FVec Ideal S2x16384x1024 .f32) (sc sh : FVec Ideal S8x1x1024 .f32) (w : FVec Ideal S1024x1536 .bf16) (b : Fin 2) (R : Fin 16384) (n : Fin 1536) :
    result x sc sh w (ix3 b R n) = projected (fun k => x (ix3 b R k)) (fun k => sc (ix3 (⟨b.val, by omega⟩ : Fin 8) 0 k)) (fun k => sh (ix3 (⟨b.val, by omega⟩ : Fin 8) 0 k)) (fun k => w (ix2 k n)) := by
  unfold result projected
  pointwise []

end Cert.Reference3Ideal.Projection

namespace Cert.Projection.Odd

open Idealize.ShloMosaic Idealize.ShloMosaic.TcCoe Idealize.SL.Sem

/-- The frame of the kernel as it is. -/
theorem frame_kernel : Cert.quiescent_Kernel3 (hKernel3 := Cert.Kernel3.Gen.facts) := fun m g _ => Cert.Kernel3.Gen.frame m g

/-- The frame of the kernel over the extended reals. -/
theorem frame_ideal : Cert.quiescent_Kernel3Ideal (hKernel3Ideal := Cert.Kernel3Ideal.Gen.facts) := fun m g _ => Cert.Kernel3Ideal.Gen.frame m g

/-- The frame of the reference: it is host code only and declares no semaphore. -/
theorem frame_reference : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run (F := Ideal) m g)

/-- The value claim: the kernel's result is the reference's. -/
theorem value : Cert.algebraic_Kernel3Ideal_Reference3Ideal (hKernel3Ideal := Cert.Kernel3Ideal.Gen.facts) (hReference3Ideal := Cert.Reference3Ideal.Gen.facts) := fun m g m' g' _ hm =>
  ⟨fun c => (fun i : Cert.Kernel3Ideal.S2x16384x1536.Idx => Cert.Kernel3Ideal.Projection.resultAt m c (i 0) (i 1) (i 2)),
    (θ_run _ _ _).mono (fun _ h c => ⟨(h c).1.trans (Cert.Kernel3Ideal.Projection.result_array m c), (h c).2⟩) (Cert.Kernel3Ideal.Value.run_blocks (F := Ideal) m g),
    (θ_run _ _ _).mono (fun _ h c => ⟨(h c).1.trans (by
      obtain ⟨h0, h1, h2, h3⟩ := hm c
      rw [h0, h1, h2, h3]
      refine funext fun (i : Cert.Kernel3Ideal.S2x16384x1536.Idx) => ?_
      obtain ⟨b, R, n, rfl⟩ : ∃ (b : Fin 2) (R : Fin 16384) (n : Fin 1536), i = ix3 b R n := ⟨i 0, i 1, i 2, funext fun (a : Fin 3) => by
        match a with
        | ⟨0, _⟩ => rfl
        | ⟨1, _⟩ => rfl
        | ⟨2, _⟩ => rfl⟩
      exact Cert.Reference3Ideal.Projection.result_apply _ _ _ _ b R n), (h c).2⟩)
      (Cert.Reference3Ideal.Value.run (F := Ideal) m' g')⟩

end Cert.Projection.Odd

end
-- ==== Proof.Projection.Context.lean ====
/- The input projection of the even layer on the context: the kernel's result array, entry by entry. A point of the grid brings
   in the 256 context rows of one sequence, the context's scale and shift, and the whole weight matrix; it stores eight
   column blocks. -/
module

public import proofs.«01_k».proof.Proof.Gen.Kernel11Ideal.Value
public import proofs.«01_k».proof.Proof.Projection.Model
public import Idealize.ShloMosaic.Lib.Pointwise
public import Idealize.ShloMosaic.Lib.Pipeline.ValueKit.Tiles
public import Idealize.ShloMosaic.Lib.Pipeline.ValueKit.Geometry

@[expose] public section

set_option maxRecDepth 16384

noncomputable section

namespace Cert.Kernel11Ideal.Projection

open Cert.Kernel11Ideal Cert.Kernel11Ideal.Gen Cert.Projection
open Idealize.ShloMosaic Idealize.ShloMosaic.TcCoe Idealize.SL.Sem
open Pipeline (Dat)

/-- The scaled and shifted rows of a block, at an entry. -/
theorem rows_apply (v0 : Vec Ideal S1x256x1024 .f32) (v2 v8 : Vec Ideal S1x1x1024 .f32) (r : Fin 256) (k : Fin 1024) :
    k0_pay2 v0 v2 v8 (ix2 r k) = v0 (ix3 0 r k) * (1 + v2 (ix3 0 0 k)) + v8 (ix3 0 0 k) := by
  pointwise [k0_pay2]

/-- One column block of a point, at an entry: the projection of the row by the column of the block's weights. -/
theorem block_apply (v0 : Vec Ideal S1x256x1024 .f32) (v2 v8 : Vec Ideal S1x1x1024 .f32) (w : Vec Ideal S1024x512 .bf16) (b : Fin 1) (r : Fin 256) (n : Fin 512) :
    k0_pay3 v0 v2 v8 w (ix3 b r n) = projected (fun k => v0 (ix3 0 r k)) (fun k => v2 (ix3 0 0 k)) (fun k => v8 (ix3 0 0 k)) (fun k => w (ix2 k n)) := by
  have h := fun k => rows_apply v0 v2 v8 r k
  unfold k0_pay3
  generalize k0_pay2 v0 v2 v8 = X at h ⊢
  pointwise []
  simp only [h, projected]

/-- The same inside the whole buffer: the block's column is a column of the whole matrix. -/
theorem tile_apply (x0 : Vec Ideal S1x256x1024 .f32) (x1 x2 : Vec Ideal S1x1x1024 .f32) (x3 : Vec Ideal S1024x4096 .bf16) (w : Vec Ideal S1024x512 .bf16)
    (x : S1x256x512.Idx) (r : Fin 256) (n : Fin 4096) (hr : r.val = (x 1).val) (hw : ∀ k : Fin 1024, w (ix2 k (x 2)) = x3 (ix2 k n)) :
    k0_pay3 x0 x1 x2 w x = projected (fun k => x0 (ix3 0 r k)) (fun k => x1 (ix3 0 0 k)) (fun k => x2 (ix3 0 0 k)) (fun k => x3 (ix2 k n)) := by
  have e : x = ix3 (0 : Fin 1) r (x 2) := funext fun (a : Fin 3) => by
    match a with
    | ⟨0, _⟩ => exact Subsingleton.elim (α := Fin 1) _ _
    | ⟨1, _⟩ => exact Fin.ext hr.symm
    | ⟨2, _⟩ => rfl
  refine (congrArg (k0_pay3 x0 x1 x2 w) e).trans ((block_apply x0 x1 x2 w 0 r (x 2)).trans ?_)
  rw [funext hw]

/-- What a point leaves in the result's buffer: the projection of each row by each column. -/
theorem out_apply (x0 : Vec Ideal S1x256x1024 .f32) (x1 x2 : Vec Ideal S1x1x1024 .f32) (x3 : Vec Ideal S1024x4096 .bf16) (b : Fin 1) (r : Fin 256) (n : Fin 4096) :
    out0_4 x0 x1 x2 x3 (ix3 b r n) = projected (fun k => x0 (ix3 0 r k)) (fun k => x1 (ix3 0 0 k)) (fun k => x2 (ix3 0 0 k)) (fun k => x3 (ix2 k n)) := by
  have e0 : View.ld x0 r0_0 = x0 := View.ld_unit_lit' _ _ (by decide)
  have e1 : View.ld x1 r0_1 = x1 := View.ld_unit_lit' _ _ (by decide)
  have e2 : View.ld x2 r0_1 = x2 := View.ld_unit_lit' _ _ (by decide)
  unfold out0_4 k0_pay11
  rw [e0, e1, e2]
  canon_tiles x h using (cover0_4 _ _ _ _ _ _ _ _ _)
  all_goals
    refine tile_apply x0 x1 x2 x3 _ x r n (by simpa using h1) (fun k => View.ld_unit_apply_of _ _ _ _ _ _ fun (a : Fin 2) => ?_)
    match a with
    | ⟨0, _⟩ => show k.val = 0 + k.val; omega
    | ⟨1, _⟩ => first | exact h2 | exact h2.trans (Nat.zero_add _).symm

variable (m : (ℓ : Loc nD τ sig) → Buf (Elt Ideal) ℓ)

/-- A grid coordinate fits a word. -/
theorem coord_word (i : grid0.Coords) : (BitVec.ofNat 32 (i 0).val).toNat = (i 0).val ∧ (BitVec.ofNat 32 (i 1).val).toNat = (i 1).val := by
  have h0 : (i 0).val < 2 := (i 0).isLt
  have h1 : (i 1).val < 1 := (i 1).isLt
  rw [BitVec.toNat_ofNat, BitVec.toNat_ofNat]; omega

/-- The token rows of a point: the context rows of the point's sequence. -/
theorem iblk0_apply (c : Dev nD) (t : Fin cfg0.N) (r : Fin 256) (k : Fin 1024) (b : Fin 2) (R : Fin 256)
    (hb : b.val = (grid0.coords t 0).val) (hR : R.val = (grid0.coords t 1).val * 256 + r.val) :
    (iblk m c 0 t : S1x256x1024.Idx → EReal) (ix3 0 r k) = (m ((c.tc : Thread nD τ).loc main_arg0) : S2x256x1024.Idx → EReal) (ix3 b R k) := by
  refine congrArg (m ((c.tc : Thread nD τ).loc main_arg0) : S2x256x1024.Idx → EReal) (funext fun (a : Fin 3) => Fin.ext ?_)
  obtain ⟨w0, w1⟩ := coord_word (grid0.coords t)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 256 + 1 * r.val = R.val
    rw [w1]; omega
  | ⟨2, _⟩ =>
    show 0 * 1024 + 1 * k.val = k.val
    omega

/-- The scale of a point: the context's row. -/
theorem iblk1_apply (c : Dev nD) (t : Fin cfg0.N) (k : Fin 1024) :
    (iblk m c 1 t : S1x1x1024.Idx → EReal) (ix3 0 0 k) = (m ((c.tc : Thread nD τ).loc main_arg1) : S8x1x1024.Idx → EReal) (ix3 2 0 k) := by
  refine congrArg (m ((c.tc : Thread nD τ).loc main_arg1) : S8x1x1024.Idx → EReal) (funext fun (a : Fin 3) => Fin.ext ?_)
  match a with
  | ⟨0, _⟩ =>
    show 2 * 1 + 1 * 0 = 2
    omega
  | ⟨1, _⟩ => rfl
  | ⟨2, _⟩ =>
    show 0 * 1024 + 1 * k.val = k.val
    omega

/-- The shift of a point: the context's row. -/
theorem iblk2_apply (c : Dev nD) (t : Fin cfg0.N) (k : Fin 1024) :
    (iblk m c 2 t : S1x1x1024.Idx → EReal) (ix3 0 0 k) = (m ((c.tc : Thread nD τ).loc main_arg2) : S8x1x1024.Idx → EReal) (ix3 2 0 k) := by
  refine congrArg (m ((c.tc : Thread nD τ).loc main_arg2) : S8x1x1024.Idx → EReal) (funext fun (a : Fin 3) => Fin.ext ?_)
  match a with
  | ⟨0, _⟩ =>
    show 2 * 1 + 1 * 0 = 2
    omega
  | ⟨1, _⟩ => rfl
  | ⟨2, _⟩ =>
    show 0 * 1024 + 1 * k.val = k.val
    omega

/-- The weights of a point: the whole matrix. -/
theorem iblk3_apply (c : Dev nD) (t : Fin cfg0.N) (k : Fin 1024) (n : Fin 4096) :
    (iblk m c 3 t : S1024x4096.Idx → EReal) (ix2 k n) = (m ((c.tc : Thread nD τ).loc main_arg3) : S1024x4096.Idx → EReal) (ix2 k n) := by
  refine congrArg (m ((c.tc : Thread nD τ).loc main_arg3) : S1024x4096.Idx → EReal) (funext fun (a : Fin 2) => Fin.ext ?_)
  match a with
  | ⟨0, _⟩ =>
    show 0 * 1024 + 1 * k.val = k.val
    omega
  | ⟨1, _⟩ =>
    show 0 * 4096 + 1 * n.val = n.val
    omega

/-- The result array, as a function of the arguments: context token `R` of sequence `b` is scaled and shifted by the
    context's rows and multiplied by column `n` of the weights. -/
def resultAt (c : Dev nD) (b : Fin 2) (R : Fin 256) (n : Fin 4096) : EReal :=
  projected (fun k => (m ((c.tc : Thread nD τ).loc main_arg0) : S2x256x1024.Idx → EReal) (ix3 b R k))
    (fun k => (m ((c.tc : Thread nD τ).loc main_arg1) : S8x1x1024.Idx → EReal) (ix3 (2 : Fin 8) (0 : Fin 1) k))
    (fun k => (m ((c.tc : Thread nD τ).loc main_arg2) : S8x1x1024.Idx → EReal) (ix3 (2 : Fin 8) (0 : Fin 1) k))
    (fun k => (m ((c.tc : Thread nD τ).loc main_arg3) : S1024x4096.Idx → EReal) (ix2 k n))

/-- Equal places give equal entries. -/
theorem resultAt_congr (c : Dev nD) {b b' : Fin 2} {R R' : Fin 256} {n n' : Fin 4096} (hb : b.val = b'.val) (hR : R.val = R'.val) (hn : n.val = n'.val) :
    resultAt m c b R n = resultAt m c b' R' n' := by
  rw [Fin.ext hb, Fin.ext hR, Fin.ext hn]

/-- What a point leaves in the result's buffer, entry by entry. -/
theorem point_apply (c : Dev nD) (t : Fin cfg0.N) (z : Fin 1) (r : Fin 256) (n : Fin 4096) (b : Fin 2) (R : Fin 256)
    (hb : b.val = (grid0.coords t 0).val) (hR : R.val = (grid0.coords t 1).val * 256 + r.val) :
    out0_4 (iblk m c 0 t) (iblk m c 1 t) (iblk m c 2 t) (iblk m c 3 t) (ix3 z r n) = resultAt m c b R n :=
  (out_apply _ _ _ _ z r n).trans (projected_congr (fun k => iblk0_apply m c t r k b R hb hR) (fun k => iblk1_apply m c t k)
    (fun k => iblk2_apply m c t k) (fun k => iblk3_apply m c t k n))

/-- The result array after the run. -/
theorem result_array (c : Dev nD) :
    (dats m 0 c).arrAt 4 cfg0.N = (fun i : S2x256x4096.Idx => resultAt m c (i 0) (i 1) (i 2)) := by
  refine (dats m 0 c).arrAt_eq_of_covers 4 _ (by decide +kernel) (fun t _ => ?_)
  intro (y : S1x256x4096.Idx)
  rw [after0_4]
  have h0 : (grid0.coords t 0).val < 2 := (grid0.coords t 0).isLt
  have h1 : (grid0.coords t 1).val < 1 := (grid0.coords t 1).isLt
  have hy0 : (y 0).val < 1 := (y 0).isLt
  have hy1 : (y 1).val < 256 := (y 1).isLt
  have hy2 : (y 2).val < 4096 := (y 2).isLt
  have key := point_apply m c t ⟨(y 0).val, hy0⟩ ⟨(y 1).val, hy1⟩ ⟨(y 2).val, hy2⟩ ⟨(grid0.coords t 0).val, h0⟩ ⟨(grid0.coords t 1).val * 256 + (y 1).val, by omega⟩ rfl rfl
  generalize out0_4 (iblk m c 0 t) (iblk m c 1 t) (iblk m c 2 t) (iblk m c 3 t) = O at key ⊢
  have e : y = ix3 (⟨(y 0).val, hy0⟩ : Fin 1) (⟨(y 1).val, hy1⟩ : Fin 256) (⟨(y 2).val, hy2⟩ : Fin 4096) := funext fun (a : Fin 3) => by
    match a with
    | ⟨0, _⟩ => rfl
    | ⟨1, _⟩ => rfl
    | ⟨2, _⟩ => rfl
  refine (congrArg (O : S1x256x4096.Idx → EReal) e).trans (key.trans (resultAt_congr m c ?_ ?_ ?_))
  · show (grid0.coords t 0).val = (BitVec.ofNat 32 (grid0.coords t 0).val).toNat * 1 + 1 * (y 0).val
    rw [(coord_word (grid0.coords t)).1]; omega
  · show (grid0.coords t 1).val * 256 + (y 1).val = (BitVec.ofNat 32 (grid0.coords t 1).val).toNat * 256 + 1 * (y 1).val
    rw [(coord_word (grid0.coords t)).2]; omega
  · show (y 2).val = 0 * 4096 + 1 * (y 2).val
    omega

end Cert.Kernel11Ideal.Projection

end
-- ==== Proof.Projection.ContextClaims.lean ====
/- The claims about the input projection of the even layer on the context: the frames of the kernel and of the reference,
   and the equality of their results. -/
module

public import proofs.«01_k».proof.Defs
public import proofs.«01_k».proof.Proof.Gen.Kernel11.Frame
public import proofs.«01_k».proof.Proof.Gen.Reference11Ideal.Run
public import proofs.«01_k».proof.Proof.Projection.Context
public import Idealize.ShloMosaic.Lib.Quiescent

@[expose] public section

set_option maxRecDepth 16384

noncomputable section

namespace Cert.Reference11Ideal.Projection

open Cert.Reference11Ideal Cert.Reference11Ideal.Gen Cert.Projection
open Idealize.ShloMosaic Idealize.ShloMosaic.TcCoe

/-- The reference's array from its arguments. -/
def result (x : FVec Ideal S2x256x1024 .f32) (sc sh : FVec Ideal S8x1x1024 .f32) (w : FVec Ideal S1024x4096 .bf16) : FVec Ideal S2x256x4096 .bf16 :=
  truncf .bf16 (Host.dotGeneral dot_S2x256x1024_S1024x4096_S2x256x4096_2_0_01_1_n_n none (addf (mulf x (broadcastInDim S2x256x1024 ![0, 1, 2] bcast_S1x1x1024_S2x256x1024_0_1_2 (broadcastInDim S1x1x1024 ![1, 2] bcast_S1x1024_S1x1x1024_1_2 (addf (broadcastInDim S1x1024 ![] bcast_S_S1x1024 (constant S_ .f32 0x3F800000#32)) (shapeCast _ (extractStridedSlice S1x1x1024 ![2, 0, 0] sc slices_S8x1x1024_S1x1x1024_2_0_0) shapeCasts_S1x1x1024_S1x1024))))) (broadcastInDim S2x256x1024 ![0, 1, 2] bcast_S1x1x1024_S2x256x1024_0_1_2 (broadcastInDim S1x1x1024 ![1, 2] bcast_S1x1024_S1x1x1024_1_2 (shapeCast _ (extractStridedSlice S1x1x1024 ![2, 0, 0] sh slices_S8x1x1024_S1x1x1024_2_0_0) shapeCasts_S1x1x1024_S1x1024)))) (extf .f32 w bitsLt_bf16_f32)) bitsLt_bf16_f32

/-- An entry of it: the projection of a context row by a column of the weights. -/
theorem result_apply (x : FVec Ideal S2x256x1024 .f32) (sc sh : FVec Ideal S8x1x1024 .f32) (w : FVec Ideal S1024x4096 .bf16) (b : Fin 2) (R : Fin 256) (n : Fin 4096) :
    result x sc sh w (ix3 b R n) = projected (fun k => x (ix3 b R k)) (fun k => sc (ix3 (2 : Fin 8) 0 k)) (fun k => sh (ix3 (2 : Fin 8) 0 k)) (fun k => w (ix2 k n)) := by
  unfold result projected
  pointwise []

end Cert.Reference11Ideal.Projection

namespace Cert.Projection.Context

open Idealize.ShloMosaic Idealize.ShloMosaic.TcCoe Idealize.SL.Sem

/-- The frame of the kernel as it is. -/
theorem frame_kernel : Cert.quiescent_Kernel11 (hKernel11 := Cert.Kernel11.Gen.facts) := fun m g _ => Cert.Kernel11.Gen.frame m g

/-- The frame of the kernel over the extended reals. -/
theorem frame_ideal : Cert.quiescent_Kernel11Ideal (hKernel11Ideal := Cert.Kernel11Ideal.Gen.facts) := fun m g _ => Cert.Kernel11Ideal.Gen.frame m g

/-- The frame of the reference: it is host code only and declares no semaphore. -/
theorem frame_reference : Cert.quiescent_Reference11Ideal (hReference11Ideal := Cert.Reference11Ideal.Gen.facts) := fun m g _ =>
  (θ_run _ _ _).mono (fun r h => ⟨fun c => (h c).2, sem_eq_zero_of_no_sems (by decide) r.2⟩) (Cert.Reference11Ideal.Value.run (F := Ideal) m g)

/-- The value claim: the kernel's result is the reference's. -/
theorem value : Cert.algebraic_Kernel11Ideal_Reference11Ideal (hKernel11Ideal := Cert.Kernel11Ideal.Gen.facts) (hReference11Ideal := Cert.Reference11Ideal.Gen.facts) := fun m g m' g' _ hm =>
  ⟨fun c => (fun i : Cert.Kernel11Ideal.S2x256x4096.Idx => Cert.Kernel11Ideal.Projection.resultAt m c (i 0) (i 1) (i 2)),
    (θ_run _ _ _).mono (fun _ h c => ⟨(h c).1.trans (Cert.Kernel11Ideal.Projection.result_array m c), (h c).2⟩) (Cert.Kernel11Ideal.Value.run_blocks (F := Ideal) m g),
    (θ_run _ _ _).mono (fun _ h c => ⟨(h c).1.trans (by
      obtain ⟨h0, h1, h2, h3⟩ := hm c
      rw [h0, h1, h2, h3]
      refine funext fun (i : Cert.Kernel11Ideal.S2x256x4096.Idx) => ?_
      obtain ⟨b, R, n, rfl⟩ : ∃ (b : Fin 2) (R : Fin 256) (n : Fin 4096), i = ix3 b R n := ⟨i 0, i 1, i 2, funext fun (a : Fin 3) => by
        match a with
        | ⟨0, _⟩ => rfl
        | ⟨1, _⟩ => rfl
        | ⟨2, _⟩ => rfl⟩
      exact Cert.Reference11Ideal.Projection.result_apply _ _ _ _ b R n), (h c).2⟩)
      (Cert.Reference11Ideal.Value.run (F := Ideal) m' g')⟩

end Cert.Projection.Context

end
-- ==== Proof.OutProj.Model.lean ====
/- The mathematics of the odd layer's output projection, for one chunk of 128 tokens: the gated spatial product, the
   projection, the residual stream with its layer norm, the modulation, and the choice of four experts. -/
module

public import Idealize.ShloMosaic.PureOps.Ideal
public import Idealize.ShloMosaic.PureOps.Reduce

@[expose] public section

noncomputable section

namespace Cert.OutProj

open Idealize.ShloMosaic

/-- The Gaussian error unit, with the rounded reciprocal of the square root of two. -/
def gelu (x : EReal) : EReal :=
  Ideal.ofBits FTy.f32 0x3F000000#32 * x * (1 + FloatOps.erf (F := Ideal) (φ := FTy.f32) (x * Ideal.ofBits FTy.f32 0x3F3504F3#32))

/-- An entry of a row, centred and divided by the root of its variance; `d` is the row's length. -/
def normed {n : ℕ} (d : EReal) (f : Fin n → EReal) (i : Fin n) : EReal :=
  (f i - Ideal.div (∑ k, f k) d) * Ideal.rsqrt (Ideal.div (∑ k, (f k - Ideal.div (∑ j, f j) d) * (f k - Ideal.div (∑ j, f j) d)) d + Ideal.ofBits FTy.f32 0x3727C5AC#32)

/-- The spatial product of a chunk at one token and channel: a weighted sum over the chunk's tokens of their normed and
    scaled entries, plus a bias. -/
def spatial (w : Fin 128 → EReal) (s : EReal) (v : Fin 128 → Fin 128 → EReal) (g b : EReal) (d : Fin 128) : EReal :=
  ∑ q, w q * (normed (Ideal.ofBits FTy.f32 0x43000000#32) (v q) d * g + b) + s

/-- Equal parts give equal spatial products. -/
theorem spatial_congr {w w' : Fin 128 → EReal} {s s' : EReal} {v v' : Fin 128 → Fin 128 → EReal} {g g' b b' : EReal} {d d' : Fin 128}
    (hw : ∀ q, w q = w' q) (hs : s = s') (hv : ∀ q e, v q e = v' q e) (hg : g = g') (hb : b = b') (hd : d = d') : spatial w s v g b d = spatial w' s' v' g' b' d' := by
  rw [funext hw, hs, show v = v' from funext fun q => funext (hv q), hg, hb, hd]

/-- The weights of the layer. -/
structure Weights where
  scale : Fin 512 → EReal
  shift : Fin 512 → EReal
  mix : Fin 4 → Fin 128 → Fin 128 → EReal
  bias : Fin 4 → Fin 128 → EReal
  out : Fin 1024 → Fin 1024 → EReal
  lnScale : Fin 1024 → EReal
  lnShift : Fin 1024 → EReal
  router : Fin 32 → Fin 1024 → EReal
  routerBias : Fin 32 → EReal

/-- A chunk of 128 tokens: the Fourier mixer's rows, the two halves of the input projection, the residual stream, and the
    three rows of modulation of the chunk's sequence. -/
structure Chunk where
  fourier : Fin 128 → Fin 512 → EReal
  gate : Fin 128 → Fin 512 → EReal
  value : Fin 128 → Fin 512 → EReal
  stream : Fin 128 → Fin 1024 → EReal
  resid : Fin 1024 → EReal
  modScale : Fin 1024 → EReal
  modShift : Fin 1024 → EReal

/-- The gated spatial product of token `p` at channel `j`. -/
def act (W : Weights) (X : Chunk) (p : Fin 128) (j : Fin 512) : EReal :=
  gelu (X.gate p j) * spatial (W.mix ⟨j.val / 128, by omega⟩ p) (W.bias ⟨j.val / 128, by omega⟩ p)
    (fun q e => gelu (X.value q ⟨128 * (j.val / 128) + e.val, by omega⟩)) (W.scale j) (W.shift j) ⟨j.val % 128, by omega⟩

/-- The stream before its layer norm: the scaled old stream plus the gated projection of the two mixers. -/
def mixed (W : Weights) (X : Chunk) (p : Fin 128) (n : Fin 1024) : EReal :=
  Ideal.ofBits FTy.f32 0x3FB504F3#32 * X.stream p n
    + X.resid n * (∑ k : Fin 512, X.fourier p k * W.out ⟨k.val, by omega⟩ n + ∑ k : Fin 512, act W X p k * W.out ⟨512 + k.val, by omega⟩ n)

/-- The new stream. -/
def newStream (W : Weights) (X : Chunk) (p : Fin 128) (n : Fin 1024) : EReal :=
  normed (Ideal.ofBits FTy.f32 0x44800000#32) (mixed W X p) n * W.lnScale n + W.lnShift n

/-- The modulated stream, which the experts read. -/
def hidden (W : Weights) (X : Chunk) (p : Fin 128) (n : Fin 1024) : EReal :=
  newStream W X p n * (1 + X.modScale n) + X.modShift n

/-- The router's score of expert `e`. -/
def logit (W : Weights) (X : Chunk) (p : Fin 128) (e : Fin 32) : EReal :=
  ∑ k, W.router e k * hidden W X p k + W.routerBias e

/-- The largest score. -/
def best (l : Fin 32 → EReal) : EReal := Finset.univ.fold max (Ideal.ofBits FTy.f32 0xFF800000#32) l

/-- The first expert with the largest score. -/
def first (l : Fin 32 → EReal) : BitVec 32 :=
  Finset.univ.fold IntOp.minsi 2147483647#32 (fun e : Fin 32 => if l e = best l then BitVec.ofNat 32 e.val else 32#32)

/-- The scores with that expert's taken out. -/
def rest (l : Fin 32 → EReal) (e : Fin 32) : EReal :=
  Scalar.select (IntOp.cmpi CmpIPredicate.eq (BitVec.ofNat 32 e.val) (first l)) (Ideal.ofBits FTy.f32 0xFF800000#32) (l e)

/-- The scores after `i` rounds. -/
def rounds (l : Fin 32 → EReal) : ℕ → Fin 32 → EReal
  | 0 => l
  | i + 1 => rest (rounds l i)

/-- The expert that round `i` chooses. -/
def chosen (l : Fin 32 → EReal) (i : Fin 4) : BitVec 32 := first (rounds l i.val)

/-- The weight of the expert that round `i` chooses: the exponentials of the four best scores, relative to the largest,
    divided by their sum. -/
def weight (l : Fin 32 → EReal) (i : Fin 4) : EReal :=
  Ideal.div (Ideal.exp (best (rounds l i.val) - best l)) (∑ j : Fin 4, Ideal.exp (best (rounds l j.val) - best l))

/-- Taking an expert out makes no score larger. -/
theorem rest_le (l : Fin 32 → EReal) (e : Fin 32) : rest l e ≤ l e := by
  unfold rest Scalar.select
  have h : Ideal.ofBits FTy.f32 0xFF800000#32 = ⊥ := by
    simp [Ideal.ofBits, Ideal.ieee]
  split
  · rw [h]; exact bot_le
  · exact le_refl _

/-- A bound of the scores bounds the largest. -/
theorem best_mono {l l' : Fin 32 → EReal} (h : ∀ e, l e ≤ l' e) : best l ≤ best l' := by
  unfold best
  rw [Finset.fold_max_le]
  exact ⟨(Finset.le_fold_max _).mpr (Or.inl le_rfl), fun e _ => (Finset.le_fold_max _).mpr (Or.inr ⟨e, Finset.mem_univ e, h e⟩)⟩

/-- The largest score does not grow from round to round. -/
theorem best_rounds_le (l : Fin 32 → EReal) : ∀ i, best (rounds l i) ≤ best l
  | 0 => le_refl _
  | i + 1 => (best_mono (rest_le (rounds l i))).trans (best_rounds_le l i)

end Cert.OutProj

end
-- ==== Proof.OutProj.Block.lean ====
/- The body of the odd layer's output projection, part by part, at an entry. A block is 512 tokens, that is four chunks. -/
module

public import proofs.«01_k».proof.Proof.Gen.Kernel4Ideal.Skeleton
public import proofs.«01_k».proof.Proof.OutProj.Model
public import Idealize.ShloMosaic.Lib.Pointwise

@[expose] public section

set_option maxRecDepth 16384

noncomputable section

namespace Cert.Kernel4Ideal.OutProj

open Cert.Kernel4Ideal Cert.Kernel4Ideal.Gen Cert.OutProj
open Idealize.ShloMosaic Idealize.ShloMosaic.TcCoe Idealize.SL.Sem

/-- The error unit of the gate half. -/
theorem gate_apply (v : Vec Ideal S1x512x512 .bf16) (r k : Fin 512) : k0_pay2 v (ix2 r k) = gelu (v (ix3 0 r k)) := by
  pointwise [k0_pay2]
  rfl

/-- The error unit of the value half. -/
theorem value_apply (v : Vec Ideal S1x512x512 .bf16) (r k : Fin 512) : k0_pay3 v (ix2 r k) = gelu (v (ix3 0 r k)) := by
  pointwise [k0_pay3]
  rfl

/-- The normed and scaled rows of channel group `o`. -/
def rowAt (V : S512x512.Idx → EReal) (g b : S1x128.Idx → EReal) (o : ℕ) (ho : o < 4) (r : Fin 512) (d : Fin 128) : EReal :=
  normed (Ideal.ofBits FTy.f32 0x43000000#32) (fun e : Fin 128 => V (ix2 r ⟨128 * o + e.val, by omega⟩)) d * g (ix2 0 d) + b (ix2 0 d)

/-- Group 0's rows. -/
theorem row0_apply (v : Vec Ideal S1x512x512 .bf16) (g b : Vec Ideal S1x128 .f32) (r : Fin 512) (d : Fin 128) :
    k0_pay5 (k0_pay4 v) g b (ix2 r d) = rowAt (k0_pay3 v) g b 0 (by omega) r d := by
  unfold k0_pay4
  generalize k0_pay3 v = V
  pointwise [k0_pay5]
  unfold rowAt normed
  simp only [Nat.reduceMul, Nat.zero_add]

/-- Group 1's rows. -/
theorem row1_apply (V : FVec Ideal S512x512 .f32) (g b : Vec Ideal S1x128 .f32) (r : Fin 512) (d : Fin 128) :
    k0_pay12 V g b (ix2 r d) = rowAt V g b 1 (by omega) r d := by
  pointwise [k0_pay12]
  unfold rowAt normed
  simp only [Nat.reduceMul, Nat.zero_add]

/-- Group 2's rows. -/
theorem row2_apply (V : FVec Ideal S512x512 .f32) (g b : Vec Ideal S1x128 .f32) (r : Fin 512) (d : Fin 128) :
    k0_pay17 (k0_pay15 V) (k0_pay16 V) g b (ix2 r d) = rowAt V g b 2 (by omega) r d := by
  pointwise [k0_pay17, k0_pay16, k0_pay15]
  unfold rowAt normed
  simp only [Nat.reduceMul, Nat.zero_add]

/-- Group 3's rows. -/
theorem row3_apply (V : FVec Ideal S512x512 .f32) (g b : Vec Ideal S1x128 .f32) (r : Fin 512) (d : Fin 128) :
    k0_pay23 V g b (ix2 r d) = rowAt V g b 3 (by omega) r d := by
  pointwise [k0_pay23]
  unfold rowAt normed
  simp only [Nat.reduceMul, Nat.zero_add]

/-- The spatial product of a chunk of given rows at an entry. -/
def prodAt (R : S512x128.Idx → EReal) (w : S1x128x128.Idx → EReal) (s : S128x1.Idx → EReal) (r : Fin 512) (d : Fin 128) : EReal :=
  ∑ q : Fin 128, w (ix3 0 ⟨r.val % 128, by omega⟩ q) * R (ix2 ⟨128 * (r.val / 128) + q.val, by omega⟩ d) + s (ix2 ⟨r.val % 128, by omega⟩ 0)

/-- The same product, the rows written in any way. -/
theorem prodAt_of (R : S512x128.Idx → EReal) (w : S1x128x128.Idx → EReal) (s : S128x1.Idx → EReal) (r : Fin 512) (d p : Fin 128) (f : Fin 128 → EReal)
    (hp : p.val = r.val % 128) (h : ∀ q : Fin 128, R (ix2 ⟨128 * (r.val / 128) + q.val, by omega⟩ d) = f q) :
    ∑ q : Fin 128, w (ix3 0 p q) * f q + s (ix2 p 0) = prodAt R w s r d := by
  have e : p = ⟨r.val % 128, Nat.mod_lt _ (by decide)⟩ := Fin.ext hp
  rw [e]
  unfold prodAt
  rw [show f = fun q => _ from (funext h).symm]

/-- Group 0, the four chunks joined and gated. -/
theorem group0_apply (U : FVec Ideal S512x512 .f32) (n : FVec Ideal S512x128 .f32) (g b : Vec Ideal S1x128 .f32) (w : Vec Ideal S1x128x128 .bf16) (s : Vec Ideal S128x1 .f32) (r : Fin 512) (d : Fin 128) :
    k0_pay11 U (k0_pay6 n g b w s) (k0_pay7 n g b w s) (k0_pay8 n g b w s) (k0_pay9 w) (k0_pay10 n g b) (constant S128x128 .f32 0x00000000#32) s (ix2 r d)
      = U (ix2 r ⟨d.val, by omega⟩) * prodAt (k0_pay5 n g b) w s r d := by
  unfold k0_pay6 k0_pay7 k0_pay8 k0_pay9 k0_pay10
  generalize k0_pay5 n g b = R
  pointwise [k0_pay11]
  refine congrArg _ ?_
  split_ifs
  all_goals
    refine prodAt_of R w s r d _ _ ?_ (fun q => congrArg (fun z => R (ix2 z d)) (Fin.ext ?_))
  all_goals
    show _ = _
    simp only []
    omega

/-- Group 1, the four chunks joined and gated. -/
theorem group1_apply (U V : FVec Ideal S512x512 .f32) (g b : Vec Ideal S1x128 .f32) (w : Vec Ideal S1x128x128 .bf16) (s : Vec Ideal S128x1 .f32) (r : Fin 512) (d : Fin 128) :
    k0_pay14 U (k0_pay12 V g b) (k0_pay13 V g b w s) w s w s w s (ix2 r d) = U (ix2 r ⟨128 + d.val, by omega⟩) * prodAt (k0_pay12 V g b) w s r d := by
  unfold k0_pay13
  generalize k0_pay12 V g b = R
  pointwise [k0_pay14]
  refine congrArg _ ?_
  split_ifs
  all_goals
    refine prodAt_of R w s r d _ _ ?_ (fun q => congrArg (fun z => R (ix2 z d)) (Fin.ext ?_))
  all_goals
    show _ = _
    simp only []
    omega

/-- Group 2, the four chunks joined and gated. -/
theorem group2_apply (U : FVec Ideal S512x512 .f32) (n : FVec Ideal S512x128 .f32) (m : FVec Ideal S512x1 .f32) (g b : Vec Ideal S1x128 .f32) (w : Vec Ideal S1x128x128 .bf16) (s : Vec Ideal S128x1 .f32) (r : Fin 512) (d : Fin 128) :
    k0_pay22 U (k0_pay17 n m g b) (k0_pay18 n m g b w s) (k0_pay19 n m g b w s) (k0_pay20 n m g b w) (k0_pay21 s) w s (ix2 r d)
      = U (ix2 r ⟨256 + d.val, by omega⟩) * prodAt (k0_pay17 n m g b) w s r d := by
  unfold k0_pay18 k0_pay19 k0_pay20 k0_pay21
  generalize k0_pay17 n m g b = R
  pointwise [k0_pay22]
  refine congrArg _ ?_
  split_ifs
  all_goals
    refine prodAt_of R w s r d _ _ ?_ (fun q => congrArg (fun z => R (ix2 z d)) (Fin.ext ?_))
  all_goals
    show _ = _
    simp only []
    omega

/-- The four groups joined; the last one is gated here. -/
theorem joined_apply (U V : FVec Ideal S512x512 .f32) (P0 P1 P2 : FVec Ideal S512x128 .f32) (g b : Vec Ideal S1x128 .f32) (w : Vec Ideal S1x128x128 .bf16) (s : Vec Ideal S128x1 .f32) (r j : Fin 512) :
    k0_pay26 U P0 P1 P2 (k0_pay23 V g b) (k0_pay24 w) (k0_pay25 V g b) (constant S128x128 .f32 0x00000000#32) s w s w s w s (ix2 r j)
      = if h0 : j.val < 128 then P0 (ix2 r ⟨j.val, h0⟩) else if h1 : j.val - 128 < 128 then P1 (ix2 r ⟨j.val - 128, h1⟩)
        else if h2 : j.val - 128 - 128 < 128 then P2 (ix2 r ⟨j.val - 128 - 128, h2⟩)
        else U (ix2 r j) * prodAt (k0_pay23 V g b) w s r ⟨j.val - 128 - 128 - 128, by omega⟩ := by
  unfold k0_pay24 k0_pay25
  generalize k0_pay23 V g b = R
  pointwise [k0_pay26]
  split_ifs
  all_goals try rfl
  all_goals refine congrArg₂ (· * ·) (congrArg (fun z => U (ix2 r z)) (Fin.ext ?_)) ?_
  all_goals try (show 384 + (j.val - 128 - 128 - 128) = j.val; omega)
  all_goals split_ifs
  all_goals
    refine prodAt_of R w s r _ _ _ ?_ (fun q => congrArg (fun z => R (ix2 z _)) (Fin.ext ?_))
  all_goals
    show _ = _
    simp only []
    omega

/-- The first half of a block, at an entry of the new stream: the row before its layer norm is `f`. -/
theorem stream0_apply (a : FVec Ideal S512x512 .bf16) (c : Vec Ideal S1x256x512 .f32) (w0 w1 : Vec Ideal S512x1024 .bf16) (x : Vec Ideal S1x256x1024 .f32)
    (g : Vec Ideal S1x1x1024 .f32) (u v : Vec Ideal S1x1024 .f32) (r : Fin 256) (n : Fin 1024) :
    k0_pay30 (k0_pay28 a (k0_pay27 c) w0 w1 x g u) (k0_pay29 v) (ix2 r n)
      = normed (Ideal.ofBits FTy.f32 0x44800000#32) (fun n : Fin 1024 => Ideal.ofBits FTy.f32 0x3FB504F3#32 * x (ix3 0 r n)
          + g (ix3 0 0 n) * (∑ k : Fin 512, c (ix3 0 r k) * w0 (ix2 k n) + ∑ k : Fin 512, a (ix2 ⟨r.val, by omega⟩ k) * w1 (ix2 k n))) n * u (ix2 0 n) + v (ix2 0 n) := by
  pointwise [k0_pay30, k0_pay28, k0_pay27, k0_pay29]
  rfl

/-- The second half of a block. -/
theorem stream1_apply (a : FVec Ideal S512x512 .bf16) (c : Vec Ideal S1x256x512 .f32) (w0 w1 : Vec Ideal S512x1024 .bf16) (x : Vec Ideal S1x256x1024 .f32)
    (g : Vec Ideal S1x1x1024 .f32) (u v : Vec Ideal S1x1024 .f32) (r : Fin 256) (n : Fin 1024) :
    k0_pay49 (k0_pay47 a c w0 w1 x g) (k0_pay48 u) v (ix2 r n)
      = normed (Ideal.ofBits FTy.f32 0x44800000#32) (fun n : Fin 1024 => Ideal.ofBits FTy.f32 0x3FB504F3#32 * x (ix3 0 r n)
          + g (ix3 0 0 n) * (∑ k : Fin 512, c (ix3 0 r k) * w0 (ix2 k n) + ∑ k : Fin 512, a (ix2 ⟨256 + r.val, by omega⟩ k) * w1 (ix2 k n))) n * u (ix2 0 n) + v (ix2 0 n) := by
  pointwise [k0_pay49, k0_pay47, k0_pay48]
  rfl

/-- The modulated stream of the first half. -/
theorem hidden0_apply (y z : FVec Ideal S256x1024 .f32) (p q : Vec Ideal S1x1x1024 .f32) (r : Fin 256) (n : Fin 1024) :
    k0_pay32 y z p q (ix2 r n) = k0_pay30 y z (ix2 r n) * (1 + p (ix3 0 0 n)) + q (ix3 0 0 n) := by
  unfold k0_pay32
  generalize k0_pay30 y z = Y
  pointwise []

/-- The modulated stream of the second half. -/
theorem hidden1_apply (y : FVec Ideal S256x1024 .f32) (u : FVec Ideal S1x1024 .f32) (v : Vec Ideal S1x1024 .f32) (p q : Vec Ideal S1x1x1024 .f32) (r : Fin 256) (n : Fin 1024) :
    k0_pay51 y u v p q (ix2 r n) = k0_pay49 y u v (ix2 r n) * (1 + p (ix3 0 0 n)) + q (ix3 0 0 n) := by
  unfold k0_pay51
  generalize k0_pay49 y u v = Y
  pointwise []

/-- The scores of the first half. -/
theorem logit0_apply (y z : FVec Ideal S256x1024 .f32) (p q : Vec Ideal S1x1x1024 .f32) (w : Vec Ideal S32x1024 .bf16) (s : Vec Ideal S32x1 .f32) (e : Fin 32) (r : Fin 256) :
    k0_pay34 y z p q w s (ix2 e r) = ∑ n : Fin 1024, w (ix2 e n) * k0_pay32 y z p q (ix2 r n) + s (ix2 e 0) := by
  unfold k0_pay34
  generalize k0_pay32 y z p q = Y
  pointwise []

/-- The scores of the second half. -/
theorem logit1_apply (y : FVec Ideal S256x1024 .f32) (u : FVec Ideal S1x1024 .f32) (v : Vec Ideal S1x1024 .f32) (p q : Vec Ideal S1x1x1024 .f32) (w : Vec Ideal S32x1024 .bf16) (s : Vec Ideal S32x1 .f32) (e : Fin 32) (r : Fin 256) :
    k0_pay53 y u v p q w s (ix2 e r) = ∑ n : Fin 1024, w (ix2 e n) * k0_pay51 y u v p q (ix2 r n) + s (ix2 e 0) := by
  unfold k0_pay53
  generalize k0_pay51 y u v p q = Y
  pointwise []

/-- The numbers of the experts, down a column. -/
abbrev experts : IVec S32x256 32 := iota .tc S32x256 32 [0] iota_S32x256_d0_w32

/-- The best score of a column. -/
theorem best_apply (L : FVec Ideal S32x256 .f32) (z : Fin 1) (r : Fin 256) : k0_pay38 L (ix2 z r) = best (fun e => L (ix2 e r)) := by
  pointwise [k0_pay38]
  rfl

/-- The first expert with it. -/
theorem first_apply (L : FVec Ideal S32x256 .f32) (z : Fin 1) (r : Fin 256) : k0_pay39 experts L (ix2 z r) = first (fun e => L (ix2 e r)) := by
  have h := fun z => best_apply L z r
  unfold k0_pay39
  generalize k0_pay38 L = M at h ⊢
  pointwise []
  rw [h]
  rfl

/-- The scores with that expert's taken out. -/
theorem rest_apply (L : FVec Ideal S32x256 .f32) (e : Fin 32) (r : Fin 256) : k0_pay40 experts L (ix2 e r) = rest (fun e => L (ix2 e r)) e := by
  have h := fun z => first_apply L z r
  unfold k0_pay40
  generalize k0_pay39 experts L = M at h ⊢
  pointwise []
  rw [h]
  rfl

/-- The four chosen experts of a column. -/
theorem chosen_apply (L : FVec Ideal S32x256 .f32) (i : Fin 4) (r : Fin 256) :
    k0_pay46 experts (k0_pay39 experts L) (k0_pay40 experts L) (ix2 i r) = chosen (fun e => L (ix2 e r)) i := by
  have h0 := first_apply L 0 r
  have h1 := first_apply (k0_pay40 experts L) 0 r
  have h2 := first_apply (k0_pay40 experts (k0_pay40 experts L)) 0 r
  have h3 := first_apply (k0_pay40 experts (k0_pay40 experts (k0_pay40 experts L))) 0 r
  simp only [rest_apply] at h1 h2 h3
  have e : k0_pay46 experts (k0_pay39 experts L) (k0_pay40 experts L) = k0_pay1 (k0_pay39 experts L) (k0_pay39 experts (k0_pay40 experts L))
    (k0_pay39 experts (k0_pay40 experts (k0_pay40 experts L))) (k0_pay39 experts (k0_pay40 experts (k0_pay40 experts (k0_pay40 experts L)))) := rfl
  rw [e]
  generalize k0_pay39 experts L = M0 at h0 ⊢
  generalize k0_pay39 experts (k0_pay40 experts L) = M1 at h1 ⊢
  generalize k0_pay39 experts (k0_pay40 experts (k0_pay40 experts L)) = M2 at h2 ⊢
  generalize k0_pay39 experts (k0_pay40 experts (k0_pay40 experts (k0_pay40 experts L))) = M3 at h3 ⊢
  pointwise [k0_pay1]
  match i with
  | ⟨0, _⟩ => exact h0
  | ⟨1, _⟩ => exact h1
  | ⟨2, _⟩ => exact h2
  | ⟨3, _⟩ => exact h3

/-- Their weights. -/
theorem weight_apply (L : FVec Ideal S32x256 .f32) (i : Fin 4) (r : Fin 256) :
    k0_pay45 experts (k0_pay38 L) (k0_pay40 experts L) (ix2 i r) = weight (fun e => L (ix2 e r)) i := by
  have h0 := best_apply L 0 r
  have h1 := best_apply (k0_pay40 experts L) 0 r
  have h2 := best_apply (k0_pay40 experts (k0_pay40 experts L)) 0 r
  have h3 := best_apply (k0_pay40 experts (k0_pay40 experts (k0_pay40 experts L))) 0 r
  simp only [rest_apply] at h1 h2 h3
  unfold k0_pay45
  rw [show k0_pay41 experts (k0_pay40 experts L) = k0_pay38 (k0_pay40 experts (k0_pay40 experts L)) from rfl,
    show k0_pay44 experts (k0_pay40 experts L) = k0_pay38 (k0_pay40 experts (k0_pay40 experts (k0_pay40 experts L))) from rfl]
  generalize k0_pay38 L = M0 at h0 ⊢
  generalize k0_pay38 (k0_pay40 experts L) = M1 at h1 ⊢
  generalize k0_pay38 (k0_pay40 experts (k0_pay40 experts L)) = M2 at h2 ⊢
  generalize k0_pay38 (k0_pay40 experts (k0_pay40 experts (k0_pay40 experts L))) = M3 at h3 ⊢
  pointwise []
  have key : ∀ j : Fin 4, (if h : j.val < 1 then M0 (ix2 ⟨j.val, h⟩ r) else if h : j.val - 1 < 1 then M1 (ix2 ⟨j.val - 1, h⟩ r)
      else if h : j.val - 1 - 1 < 1 then M2 (ix2 ⟨j.val - 1 - 1, h⟩ r) else M3 (ix2 ⟨j.val - 1 - 1 - 1, by omega⟩ r)) = best (rounds (fun e => L (ix2 e r)) j.val) := fun j => by
    match j with
    | ⟨0, _⟩ => exact h0
    | ⟨1, _⟩ => exact h1
    | ⟨2, _⟩ => exact h2
    | ⟨3, _⟩ => exact h3
  simp only [key, h0]
  rfl

end Cert.Kernel4Ideal.OutProj

end
-- ==== Proof.OutProj.Out.lean ====
/- What a point of the odd layer's output projection leaves in its four result buffers, as the mathematics of the block's
   four chunks of tokens. -/
module

public import proofs.«01_k».proof.Proof.Gen.Kernel4Ideal.Frame
public import proofs.«01_k».proof.Proof.OutProj.Block
public import Idealize.ShloMosaic.Lib.Pipeline.ValueKit.Tiles

@[expose] public section

set_option maxRecDepth 16384

noncomputable section

namespace Cert.Kernel4Ideal.OutProj

open Cert.Kernel4Ideal Cert.Kernel4Ideal.Gen Cert.OutProj
open Idealize.ShloMosaic Idealize.ShloMosaic.TcCoe Idealize.SL.Sem

/-- The weights in a point's buffers. -/
def blockWeights (x3 x4 : Vec Ideal S1x512 .f32) (x5 : Vec Ideal S4x128x128 .bf16) (x6 : Vec Ideal S128x4 .f32) (x7 : Vec Ideal S1024x1024 .bf16)
    (x10 x11 : Vec Ideal S1x1024 .f32) (x14 : Vec Ideal S32x1024 .bf16) (x15 : Vec Ideal S32x1 .f32) : Weights where
  scale j := x3 (ix2 0 j)
  shift j := x4 (ix2 0 j)
  mix o p q := x5 (ix3 o p q)
  bias o p := x6 (ix2 p o)
  out k n := x7 (ix2 k n)
  lnScale n := x10 (ix2 0 n)
  lnShift n := x11 (ix2 0 n)
  router e n := x14 (ix2 e n)
  routerBias e := x15 (ix2 e 0)

/-- Chunk `j` of the tokens in a point's buffers. -/
def blockChunk (x0 : Vec Ideal S1x512x512 .f32) (x1 x2 : Vec Ideal S1x512x512 .bf16) (x8 : Vec Ideal S1x512x1024 .f32) (x9 x12 x13 : Vec Ideal S1x1x1024 .f32) (j : Fin 4) : Chunk where
  fourier p k := x0 (ix3 0 ⟨128 * j.val + p.val, by omega⟩ k)
  gate p k := x1 (ix3 0 ⟨128 * j.val + p.val, by omega⟩ k)
  value p k := x2 (ix3 0 ⟨128 * j.val + p.val, by omega⟩ k)
  stream p n := x8 (ix3 0 ⟨128 * j.val + p.val, by omega⟩ n)
  resid n := x9 (ix3 0 0 n)
  modScale n := x12 (ix3 0 0 n)
  modShift n := x13 (ix3 0 0 n)

/-- The gated product of channel group `o` is the mathematics, for any loads that hold the group's scales and weights. -/
theorem group_eq (x0 : Vec Ideal S1x512x512 .f32) (x1 x2 : Vec Ideal S1x512x512 .bf16) (x3 x4 : Vec Ideal S1x512 .f32) (x5 : Vec Ideal S4x128x128 .bf16) (x6 : Vec Ideal S128x4 .f32) (x7 : Vec Ideal S1024x1024 .bf16)
    (x8 : Vec Ideal S1x512x1024 .f32) (x9 : Vec Ideal S1x1x1024 .f32) (x10 x11 : Vec Ideal S1x1024 .f32) (x12 x13 : Vec Ideal S1x1x1024 .f32) (x14 : Vec Ideal S32x1024 .bf16) (x15 : Vec Ideal S32x1 .f32)
    (o : ℕ) (ho : o < 4) (G B : Vec Ideal S1x128 .f32) (w : Vec Ideal S1x128x128 .bf16) (s : Vec Ideal S128x1 .f32) (R : S512x128.Idx → EReal)
    (hR : ∀ r d, R (ix2 r d) = rowAt (k0_pay3 x2) G B o ho r d) (hG : ∀ d : Fin 128, G (ix2 0 d) = x3 (ix2 0 ⟨128 * o + d.val, by omega⟩)) (hB : ∀ d : Fin 128, B (ix2 0 d) = x4 (ix2 0 ⟨128 * o + d.val, by omega⟩))
    (hw : ∀ p q : Fin 128, w (ix3 0 p q) = x5 (ix3 ⟨o, ho⟩ p q)) (hs : ∀ p : Fin 128, s (ix2 p 0) = x6 (ix2 p ⟨o, ho⟩))
    (r k k' : Fin 512) (d : Fin 128) (hk : k.val = 128 * o + d.val) (hk' : k'.val = k.val) :
    k0_pay2 x1 (ix2 r k') * prodAt R w s r d = act (blockWeights x3 x4 x5 x6 x7 x10 x11 x14 x15) (blockChunk x0 x1 x2 x8 x9 x12 x13 ⟨r.val / 128, by omega⟩) ⟨r.val % 128, by omega⟩ k := by
  obtain rfl : k' = k := Fin.ext hk'
  have e1 : k'.val / 128 = o := by omega
  have e2 : k'.val % 128 = d.val := by omega
  have hp : prodAt R w s r d = spatial (fun q => w (ix3 0 ⟨r.val % 128, by omega⟩ q)) (s (ix2 ⟨r.val % 128, by omega⟩ 0))
      (fun q e => k0_pay3 x2 (ix2 ⟨128 * (r.val / 128) + q.val, by omega⟩ ⟨128 * o + e.val, by omega⟩)) (G (ix2 0 d)) (B (ix2 0 d)) d := by
    unfold prodAt spatial
    simp only [hR]
    rfl
  rw [gate_apply, hp]
  unfold act
  refine congrArg₂ (· * ·) (congrArg gelu ?_) (spatial_congr (fun q => ?_) ?_ (fun q e => ?_) ?_ ?_ ?_)
  · exact congrArg (fun z => x1 (ix3 0 z k')) (Fin.ext (by show r.val = 128 * (r.val / 128) + r.val % 128; omega))
  · exact (hw _ _).trans (congrArg (fun z => x5 (ix3 z _ q)) (Fin.ext e1.symm))
  · exact (hs _).trans (congrArg (fun z => x6 (ix2 _ z)) (Fin.ext e1.symm))
  · rw [value_apply]
    exact congrArg (fun z => gelu (x2 (ix3 0 _ z))) (Fin.ext (by show 128 * o + e.val = 128 * (k'.val / 128) + e.val; omega))
  · exact (hG d).trans (congrArg (fun z => x3 (ix2 0 z)) (Fin.ext hk.symm))
  · exact (hB d).trans (congrArg (fun z => x4 (ix2 0 z)) (Fin.ext hk.symm))
  · exact Fin.ext e2.symm

variable (x0 : Vec Ideal S1x512x512 .f32)
  (x1 : Vec Ideal S1x512x512 .bf16)
  (x2 : Vec Ideal S1x512x512 .bf16)
  (x3 : Vec Ideal S1x512 .f32)
  (x4 : Vec Ideal S1x512 .f32)
  (x5 : Vec Ideal S4x128x128 .bf16)
  (x6 : Vec Ideal S128x4 .f32)
  (x7 : Vec Ideal S1024x1024 .bf16)
  (x8 : Vec Ideal S1x512x1024 .f32)
  (x9 : Vec Ideal S1x1x1024 .f32)
  (x10 : Vec Ideal S1x1024 .f32)
  (x11 : Vec Ideal S1x1024 .f32)
  (x12 : Vec Ideal S1x1x1024 .f32)
  (x13 : Vec Ideal S1x1x1024 .f32)
  (x14 : Vec Ideal S32x1024 .bf16)
  (x15 : Vec Ideal S32x1 .f32)

/-- A load of a column range of a one-row array. -/
theorem ld_row (x : Vec Ideal S1x512 .f32) (o : ℕ) (ho : o < 4) (inb) (d : Fin 128) :
    View.ld x (Rect.unit (s := S1x512) ![0, 128 * o] S1x128.size inb) (ix2 0 d) = x (ix2 0 ⟨128 * o + d.val, by omega⟩) :=
  View.ld_unit_apply_of _ _ _ _ _ _ fun (a : Fin 2) => by
    match a with
    | ⟨0, _⟩ => rfl
    | ⟨1, _⟩ => rfl

/-- A load of one matrix of four. -/
theorem ld_mat (x : Vec Ideal S4x128x128 .bf16) (o : ℕ) (ho : o < 4) (inb) (p q : Fin 128) :
    View.ld x (Rect.unit (s := S4x128x128) ![o, 0, 0] S1x128x128.size inb) (ix3 0 p q) = x (ix3 ⟨o, ho⟩ p q) :=
  View.ld_unit_apply_of _ _ _ _ _ _ fun (a : Fin 3) => by
    match a with
    | ⟨0, _⟩ => rfl
    | ⟨1, _⟩ => show p.val = 0 + p.val; omega
    | ⟨2, _⟩ => show q.val = 0 + q.val; omega

/-- A load of one column of four. -/
theorem ld_col (x : Vec Ideal S128x4 .f32) (o : ℕ) (ho : o < 4) (inb) (p : Fin 128) :
    View.ld x (Rect.unit (s := S128x4) ![0, o] S128x1.size inb) (ix2 p 0) = x (ix2 p ⟨o, ho⟩) :=
  View.ld_unit_apply_of _ _ _ _ _ _ fun (a : Fin 2) => by
    match a with
    | ⟨0, _⟩ => show p.val = 0 + p.val; omega
    | ⟨1, _⟩ => rfl

/-- The gated spatial products of a block. -/
theorem act_apply (r k : Fin 512) :
    k0_pay72 x0 x1 x2 x3 x4 x5 x6 x7 x8 x9 x10 x11 x12 x13 x14 x15 (ix2 r k) = act (blockWeights x3 x4 x5 x6 x7 x10 x11 x14 x15) (blockChunk x0 x1 x2 x8 x9 x12 x13 ⟨r.val / 128, by omega⟩) ⟨r.val % 128, by omega⟩ k := by
  have e1 : View.ld x1 r0_0 = x1 := View.ld_unit_lit' _ _ (by decide)
  have e2 : View.ld x2 r0_0 = x2 := View.ld_unit_lit' _ _ (by decide)
  unfold k0_pay72 k0_pay71 k0_pay70 k0_pay69 k0_pay68 k0_pay67
  rw [e1, e2, joined_apply]
  split_ifs with h0 h1 h2
  · rw [group0_apply]
    exact group_eq x0 x1 x2 x3 x4 x5 x6 x7 x8 x9 x10 x11 x12 x13 x14 x15 0 (by omega) _ _ _ _ _ (fun r d => row0_apply x2 _ _ r d) (fun d => ld_row x3 0 (by omega) _ d) (fun d => ld_row x4 0 (by omega) _ d) (fun p q => ld_mat x5 0 (by omega) _ p q) (fun p => ld_col x6 0 (by omega) _ p) r k _ _ (by show k.val = 128 * 0 + k.val; omega) rfl
  · rw [group1_apply]
    exact group_eq x0 x1 x2 x3 x4 x5 x6 x7 x8 x9 x10 x11 x12 x13 x14 x15 1 (by omega) _ _ _ _ _ (fun r d => row1_apply _ _ _ r d) (fun d => ld_row x3 1 (by omega) _ d) (fun d => ld_row x4 1 (by omega) _ d) (fun p q => ld_mat x5 1 (by omega) _ p q) (fun p => ld_col x6 1 (by omega) _ p) r k _ _ (by show k.val = 128 * 1 + (k.val - 128); omega) (by show 128 + (k.val - 128) = k.val; omega)
  · rw [group2_apply]
    exact group_eq x0 x1 x2 x3 x4 x5 x6 x7 x8 x9 x10 x11 x12 x13 x14 x15 2 (by omega) _ _ _ _ _ (fun r d => row2_apply _ _ _ r d) (fun d => ld_row x3 2 (by omega) _ d) (fun d => ld_row x4 2 (by omega) _ d) (fun p q => ld_mat x5 2 (by omega) _ p q) (fun p => ld_col x6 2 (by omega) _ p) r k _ _ (by show k.val = 128 * 2 + (k.val - 128 - 128); omega) (by show 256 + (k.val - 128 - 128) = k.val; omega)
  · exact group_eq x0 x1 x2 x3 x4 x5 x6 x7 x8 x9 x10 x11 x12 x13 x14 x15 3 (by omega) _ _ _ _ _ (fun r d => row3_apply _ _ _ r d) (fun d => ld_row x3 3 (by omega) _ d) (fun d => ld_row x4 3 (by omega) _ d) (fun p q => ld_mat x5 3 (by omega) _ p q) (fun p => ld_col x6 3 (by omega) _ p) r k _ _ (by show k.val = 128 * 3 + (k.val - 128 - 128 - 128); omega) rfl

/-- The new stream of the first half. -/
theorem stream_first (r : Fin 256) (n : Fin 1024) :
    k0_pay30 (k0_pay73 x0 x1 x2 x3 x4 x5 x6 x7 x8 x9 x10 x11 x12 x13 x14 x15) (k0_pay74 x0 x1 x2 x3 x4 x5 x6 x7 x8 x9 x10 x11 x12 x13 x14 x15) (ix2 r n) = newStream (blockWeights x3 x4 x5 x6 x7 x10 x11 x14 x15) (blockChunk x0 x1 x2 x8 x9 x12 x13 ⟨(0 + r.val) / 128, by omega⟩) ⟨(0 + r.val) % 128, by omega⟩ n := by
  have e9 : View.ld x9 r0_17 = x9 := View.ld_unit_lit' _ _ (by decide)
  have e10 : View.ld x10 r0_18 = x10 := View.ld_unit_lit' _ _ (by decide)
  have e11 : View.ld x11 r0_18 = x11 := View.ld_unit_lit' _ _ (by decide)
  have hx : ∀ n : Fin 1024, View.ld x8 r0_16 (ix3 0 r n) = x8 (ix3 0 ⟨0 + r.val, by omega⟩ n) := fun n => View.ld_unit_apply_of _ _ _ _ _ _ fun (a : Fin 3) => by
    match a with
    | ⟨0, _⟩ => rfl
    | ⟨1, _⟩ => rfl
    | ⟨2, _⟩ => show n.val = 0 + n.val; omega
  have hc : ∀ k : Fin 512, View.ld x0 r0_13 (ix3 0 r k) = x0 (ix3 0 ⟨0 + r.val, by omega⟩ k) := fun k => View.ld_unit_apply_of _ _ _ _ _ _ fun (a : Fin 3) => by
    match a with
    | ⟨0, _⟩ => rfl
    | ⟨1, _⟩ => rfl
    | ⟨2, _⟩ => show k.val = 0 + k.val; omega
  have hu : ∀ (k : Fin 512) (n : Fin 1024), View.ld x7 r0_14 (ix2 k n) = x7 (ix2 ⟨k.val, by omega⟩ n) := fun k n => View.ld_unit_apply_of _ _ _ _ _ _ fun (a : Fin 2) => by
    match a with
    | ⟨0, _⟩ => show k.val = 0 + k.val; omega
    | ⟨1, _⟩ => show n.val = 0 + n.val; omega
  have hl : ∀ (k : Fin 512) (n : Fin 1024), View.ld x7 r0_15 (ix2 k n) = x7 (ix2 ⟨512 + k.val, by omega⟩ n) := fun k n => View.ld_unit_apply_of _ _ _ _ _ _ fun (a : Fin 2) => by
    match a with
    | ⟨0, _⟩ => rfl
    | ⟨1, _⟩ => show n.val = 0 + n.val; omega
  unfold k0_pay73 k0_pay74
  rw [e9, e10, e11, stream0_apply]
  unfold newStream
  refine congrArg (fun f => normed _ f n * x10 (ix2 0 n) + x11 (ix2 0 n)) (funext fun n => ?_)
  unfold mixed
  have er : (0 + r.val) = 128 * ((0 + r.val) / 128) + (0 + r.val) % 128 := by omega
  refine congrArg₂ (· + ·) (congrArg (_ * ·) ((hx n).trans (congrArg (fun z => x8 (ix3 0 z n)) (Fin.ext er))))
    (congrArg (_ * ·) (congrArg₂ (· + ·) (Finset.sum_congr rfl fun k _ => ?_) (Finset.sum_congr rfl fun k _ => ?_)))
  · exact congrArg₂ (· * ·) ((hc k).trans (congrArg (fun z => x0 (ix3 0 z k)) (Fin.ext er))) (hu k n)
  · exact congrArg₂ (· * ·) ((congrArg (fun z => k0_pay72 x0 x1 x2 x3 x4 x5 x6 x7 x8 x9 x10 x11 x12 x13 x14 x15 (ix2 z k)) (Fin.ext (by show r.val = 0 + r.val; omega))).trans (act_apply x0 x1 x2 x3 x4 x5 x6 x7 x8 x9 x10 x11 x12 x13 x14 x15 ⟨0 + r.val, by omega⟩ k)) (hl k n)

/-- The modulated stream of the first half. -/
theorem hidden_first (r : Fin 256) (n : Fin 1024) :
    k0_pay32 (k0_pay73 x0 x1 x2 x3 x4 x5 x6 x7 x8 x9 x10 x11 x12 x13 x14 x15) (k0_pay74 x0 x1 x2 x3 x4 x5 x6 x7 x8 x9 x10 x11 x12 x13 x14 x15) (View.ld x12 r0_17) (View.ld x13 r0_17) (ix2 r n) = hidden (blockWeights x3 x4 x5 x6 x7 x10 x11 x14 x15) (blockChunk x0 x1 x2 x8 x9 x12 x13 ⟨(0 + r.val) / 128, by omega⟩) ⟨(0 + r.val) % 128, by omega⟩ n := by
  have e12 : View.ld x12 r0_17 = x12 := View.ld_unit_lit' _ _ (by decide)
  have e13 : View.ld x13 r0_17 = x13 := View.ld_unit_lit' _ _ (by decide)
  rw [hidden0_apply, stream_first, e12, e13]
  rfl

/-- The scores of the first half. -/
theorem logit_first (e : Fin 32) (r : Fin 256) :
    k0_pay34 (k0_pay73 x0 x1 x2 x3 x4 x5 x6 x7 x8 x9 x10 x11 x12 x13 x14 x15) (k0_pay74 x0 x1 x2 x3 x4 x5 x6 x7 x8 x9 x10 x11 x12 x13 x14 x15) (View.ld x12 r0_17) (View.ld x13 r0_17) (View.ld x14 r0_20) (View.ld x15 r0_21) (ix2 e r) = logit (blockWeights x3 x4 x5 x6 x7 x10 x11 x14 x15) (blockChunk x0 x1 x2 x8 x9 x12 x13 ⟨(0 + r.val) / 128, by omega⟩) ⟨(0 + r.val) % 128, by omega⟩ e := by
  have e14 : View.ld x14 r0_20 = x14 := View.ld_unit_lit' _ _ (by decide)
  have e15 : View.ld x15 r0_21 = x15 := View.ld_unit_lit' _ _ (by decide)
  rw [logit0_apply, e14, e15]
  simp only [hidden_first]
  rfl

/-- The new stream of the second half. -/
theorem stream_second (r : Fin 256) (n : Fin 1024) :
    k0_pay49 (k0_pay77 x0 x1 x2 x3 x4 x5 x6 x7 x8 x9 x10 x11 x12 x13 x14 x15) (k0_pay78 x0 x1 x2 x3 x4 x5 x6 x7 x8 x9 x10 x11 x12 x13 x14 x15) (View.ld x11 r0_18) (ix2 r n) = newStream (blockWeights x3 x4 x5 x6 x7 x10 x11 x14 x15) (blockChunk x0 x1 x2 x8 x9 x12 x13 ⟨(256 + r.val) / 128, by omega⟩) ⟨(256 + r.val) % 128, by omega⟩ n := by
  have e9 : View.ld x9 r0_17 = x9 := View.ld_unit_lit' _ _ (by decide)
  have e10 : View.ld x10 r0_18 = x10 := View.ld_unit_lit' _ _ (by decide)
  have e11 : View.ld x11 r0_18 = x11 := View.ld_unit_lit' _ _ (by decide)
  have hx : ∀ n : Fin 1024, View.ld x8 r0_24 (ix3 0 r n) = x8 (ix3 0 ⟨256 + r.val, by omega⟩ n) := fun n => View.ld_unit_apply_of _ _ _ _ _ _ fun (a : Fin 3) => by
    match a with
    | ⟨0, _⟩ => rfl
    | ⟨1, _⟩ => rfl
    | ⟨2, _⟩ => show n.val = 0 + n.val; omega
  have hc : ∀ k : Fin 512, View.ld x0 r0_23 (ix3 0 r k) = x0 (ix3 0 ⟨256 + r.val, by omega⟩ k) := fun k => View.ld_unit_apply_of _ _ _ _ _ _ fun (a : Fin 3) => by
    match a with
    | ⟨0, _⟩ => rfl
    | ⟨1, _⟩ => rfl
    | ⟨2, _⟩ => show k.val = 0 + k.val; omega
  have hu : ∀ (k : Fin 512) (n : Fin 1024), View.ld x7 r0_14 (ix2 k n) = x7 (ix2 ⟨k.val, by omega⟩ n) := fun k n => View.ld_unit_apply_of _ _ _ _ _ _ fun (a : Fin 2) => by
    match a with
    | ⟨0, _⟩ => show k.val = 0 + k.val; omega
    | ⟨1, _⟩ => show n.val = 0 + n.val; omega
  have hl : ∀ (k : Fin 512) (n : Fin 1024), View.ld x7 r0_15 (ix2 k n) = x7 (ix2 ⟨512 + k.val, by omega⟩ n) := fun k n => View.ld_unit_apply_of _ _ _ _ _ _ fun (a : Fin 2) => by
    match a with
    | ⟨0, _⟩ => rfl
    | ⟨1, _⟩ => show n.val = 0 + n.val; omega
  unfold k0_pay77 k0_pay78
  rw [e9, e10, e11, stream1_apply]
  unfold newStream
  refine congrArg (fun f => normed _ f n * x10 (ix2 0 n) + x11 (ix2 0 n)) (funext fun n => ?_)
  unfold mixed
  have er : (256 + r.val) = 128 * ((256 + r.val) / 128) + (256 + r.val) % 128 := by omega
  refine congrArg₂ (· + ·) (congrArg (_ * ·) ((hx n).trans (congrArg (fun z => x8 (ix3 0 z n)) (Fin.ext er))))
    (congrArg (_ * ·) (congrArg₂ (· + ·) (Finset.sum_congr rfl fun k _ => ?_) (Finset.sum_congr rfl fun k _ => ?_)))
  · exact congrArg₂ (· * ·) ((hc k).trans (congrArg (fun z => x0 (ix3 0 z k)) (Fin.ext er))) (hu k n)
  · exact congrArg₂ (· * ·) (act_apply x0 x1 x2 x3 x4 x5 x6 x7 x8 x9 x10 x11 x12 x13 x14 x15 ⟨256 + r.val, by omega⟩ k) (hl k n)

/-- The modulated stream of the second half. -/
theorem hidden_second (r : Fin 256) (n : Fin 1024) :
    k0_pay51 (k0_pay77 x0 x1 x2 x3 x4 x5 x6 x7 x8 x9 x10 x11 x12 x13 x14 x15) (k0_pay78 x0 x1 x2 x3 x4 x5 x6 x7 x8 x9 x10 x11 x12 x13 x14 x15) (View.ld x11 r0_18) (View.ld x12 r0_17) (View.ld x13 r0_17) (ix2 r n) = hidden (blockWeights x3 x4 x5 x6 x7 x10 x11 x14 x15) (blockChunk x0 x1 x2 x8 x9 x12 x13 ⟨(256 + r.val) / 128, by omega⟩) ⟨(256 + r.val) % 128, by omega⟩ n := by
  have e12 : View.ld x12 r0_17 = x12 := View.ld_unit_lit' _ _ (by decide)
  have e13 : View.ld x13 r0_17 = x13 := View.ld_unit_lit' _ _ (by decide)
  rw [hidden1_apply, stream_second, e12, e13]
  rfl

/-- The scores of the second half. -/
theorem logit_second (e : Fin 32) (r : Fin 256) :
    k0_pay53 (k0_pay77 x0 x1 x2 x3 x4 x5 x6 x7 x8 x9 x10 x11 x12 x13 x14 x15) (k0_pay78 x0 x1 x2 x3 x4 x5 x6 x7 x8 x9 x10 x11 x12 x13 x14 x15) (View.ld x11 r0_18) (View.ld x12 r0_17) (View.ld x13 r0_17) (View.ld x14 r0_20) (View.ld x15 r0_21) (ix2 e r) = logit (blockWeights x3 x4 x5 x6 x7 x10 x11 x14 x15) (blockChunk x0 x1 x2 x8 x9 x12 x13 ⟨(256 + r.val) / 128, by omega⟩) ⟨(256 + r.val) % 128, by omega⟩ e := by
  have e14 : View.ld x14 r0_20 = x14 := View.ld_unit_lit' _ _ (by decide)
  have e15 : View.ld x15 r0_21 = x15 := View.ld_unit_lit' _ _ (by decide)
  rw [logit1_apply, e14, e15]
  simp only [hidden_second]
  rfl

end Cert.Kernel4Ideal.OutProj

end
-- ==== Proof.OutProj.Stored.lean ====
/- The four buffers of a point of the odd layer's output projection after the body, entry by entry. -/
module

public import proofs.«01_k».proof.Proof.OutProj.Out

@[expose] public section

set_option maxRecDepth 16384

noncomputable section

namespace Cert.Kernel4Ideal.OutProj

open Cert.Kernel4Ideal Cert.Kernel4Ideal.Gen Cert.OutProj
open Idealize.ShloMosaic Idealize.ShloMosaic.TcCoe Idealize.SL.Sem

variable (x0 : Vec Ideal S1x512x512 .f32)
  (x1 : Vec Ideal S1x512x512 .bf16)
  (x2 : Vec Ideal S1x512x512 .bf16)
  (x3 : Vec Ideal S1x512 .f32)
  (x4 : Vec Ideal S1x512 .f32)
  (x5 : Vec Ideal S4x128x128 .bf16)
  (x6 : Vec Ideal S128x4 .f32)
  (x7 : Vec Ideal S1024x1024 .bf16)
  (x8 : Vec Ideal S1x512x1024 .f32)
  (x9 : Vec Ideal S1x1x1024 .f32)
  (x10 : Vec Ideal S1x1024 .f32)
  (x11 : Vec Ideal S1x1024 .f32)
  (x12 : Vec Ideal S1x1x1024 .f32)
  (x13 : Vec Ideal S1x1x1024 .f32)
  (x14 : Vec Ideal S32x1024 .bf16)
  (x15 : Vec Ideal S32x1 .f32)

/-- The stored stream of the first half, with its leading axis of one. -/
theorem stored_first (a b : FVec Ideal S256x1024 .f32) (z : Fin 1) (r : Fin 256) (n : Fin 1024) : k0_pay31 a b (ix3 z r n) = k0_pay30 a b (ix2 r n) := by
  unfold k0_pay31
  generalize k0_pay30 a b = X
  pointwise []

/-- The stored stream of the second half, with its leading axis of one. -/
theorem stored_second (a : FVec Ideal S256x1024 .f32) (b : FVec Ideal S1x1024 .f32) (d : Vec Ideal S1x1024 .f32) (z : Fin 1) (r : Fin 256) (n : Fin 1024) :
    k0_pay50 a b d (ix3 z r n) = k0_pay49 a b d (ix2 r n) := by
  unfold k0_pay50
  generalize k0_pay49 a b d = X
  pointwise []

/-- The new stream of a point's tokens. -/
theorem out16_apply (z : Fin 1) (R : Fin 512) (n : Fin 1024) : out0_16 x0 x1 x2 x3 x4 x5 x6 x7 x8 x9 x10 x11 x12 x13 x14 x15 (ix3 z R n) = newStream (blockWeights x3 x4 x5 x6 x7 x10 x11 x14 x15) (blockChunk x0 x1 x2 x8 x9 x12 x13 ⟨R.val / 128, by omega⟩) ⟨R.val % 128, by omega⟩ n := by
  unfold out0_16
  canon_tiles x h using (cover0_16 (F := Ideal) _ _ _)
  all_goals
    obtain ⟨a, r, q, rfl⟩ : ∃ (a : Fin 1) (r : Fin 256) (q : Fin 1024), x = ix3 a r q := ⟨x 0, x 1, x 2, funext fun (a : Fin 3) => by
      match a with
      | ⟨0, _⟩ => rfl
      | ⟨1, _⟩ => rfl
      | ⟨2, _⟩ => rfl⟩
    obtain rfl : n = q := Fin.ext (by first | exact h2 | exact h2.trans (Nat.zero_add _))
  · obtain rfl : R = ⟨256 + r.val, Nat.add_lt_add_left r.isLt 256⟩ := Fin.ext h1
    exact (stored_second _ _ _ a r n).trans (stream_second x0 x1 x2 x3 x4 x5 x6 x7 x8 x9 x10 x11 x12 x13 x14 x15 r n)
  · obtain rfl : R = ⟨0 + r.val, Nat.lt_of_lt_of_le (Nat.add_lt_add_left r.isLt 0) (by decide)⟩ := Fin.ext (by first | exact h1 | exact h1.trans (Nat.zero_add _).symm)
    exact (stored_first _ _ a r n).trans (stream_first x0 x1 x2 x3 x4 x5 x6 x7 x8 x9 x10 x11 x12 x13 x14 x15 r n)

/-- The modulated stream of a point's tokens. -/
theorem out17_apply (R : Fin 512) (n : Fin 1024) : out0_17 x0 x1 x2 x3 x4 x5 x6 x7 x8 x9 x10 x11 x12 x13 x14 x15 (ix2 R n) = hidden (blockWeights x3 x4 x5 x6 x7 x10 x11 x14 x15) (blockChunk x0 x1 x2 x8 x9 x12 x13 ⟨R.val / 128, by omega⟩) ⟨R.val % 128, by omega⟩ n := by
  unfold out0_17
  canon_tiles x h using (cover0_17 (F := Ideal) _ _ _)
  all_goals
    obtain ⟨r, q, rfl⟩ : ∃ (r : Fin 256) (q : Fin 1024), x = ix2 r q := ⟨x 0, x 1, funext fun (a : Fin 2) => by
      match a with
      | ⟨0, _⟩ => rfl
      | ⟨1, _⟩ => rfl⟩
    obtain rfl : n = q := Fin.ext (by first | exact h1 | exact h1.trans (Nat.zero_add _))
  · obtain rfl : R = ⟨256 + r.val, Nat.add_lt_add_left r.isLt 256⟩ := Fin.ext h0
    exact hidden_second x0 x1 x2 x3 x4 x5 x6 x7 x8 x9 x10 x11 x12 x13 x14 x15 r n
  · obtain rfl : R = ⟨0 + r.val, Nat.lt_of_lt_of_le (Nat.add_lt_add_left r.isLt 0) (by decide)⟩ := Fin.ext (by first | exact h0 | exact h0.trans (Nat.zero_add _).symm)
    exact hidden_first x0 x1 x2 x3 x4 x5 x6 x7 x8 x9 x10 x11 x12 x13 x14 x15 r n

/-- The experts that a point's tokens choose. -/
theorem out18_apply (i : Fin 4) (R : Fin 512) : out0_18 x0 x1 x2 x3 x4 x5 x6 x7 x8 x9 x10 x11 x12 x13 x14 x15 (ix2 i R) = chosen (logit (blockWeights x3 x4 x5 x6 x7 x10 x11 x14 x15) (blockChunk x0 x1 x2 x8 x9 x12 x13 ⟨R.val / 128, by omega⟩) ⟨R.val % 128, by omega⟩) i := by
  unfold out0_18
  canon_tiles x h using (cover0_18 (F := Ideal) _ _ _)
  all_goals
    obtain ⟨j, r, rfl⟩ : ∃ (j : Fin 4) (r : Fin 256), x = ix2 j r := ⟨x 0, x 1, funext fun (a : Fin 2) => by
      match a with
      | ⟨0, _⟩ => rfl
      | ⟨1, _⟩ => rfl⟩
    obtain rfl : i = j := Fin.ext (by first | exact h0 | exact h0.trans (Nat.zero_add _))
  · obtain rfl : R = ⟨256 + r.val, Nat.add_lt_add_left r.isLt 256⟩ := Fin.ext h1
    show (k0_pay46 experts (k0_pay39 experts (k0_pay53 (k0_pay77 x0 x1 x2 x3 x4 x5 x6 x7 x8 x9 x10 x11 x12 x13 x14 x15) (k0_pay78 x0 x1 x2 x3 x4 x5 x6 x7 x8 x9 x10 x11 x12 x13 x14 x15) (View.ld x11 r0_18) (View.ld x12 r0_17) (View.ld x13 r0_17) (View.ld x14 r0_20) (View.ld x15 r0_21))) (k0_pay40 experts (k0_pay53 (k0_pay77 x0 x1 x2 x3 x4 x5 x6 x7 x8 x9 x10 x11 x12 x13 x14 x15) (k0_pay78 x0 x1 x2 x3 x4 x5 x6 x7 x8 x9 x10 x11 x12 x13 x14 x15) (View.ld x11 r0_18) (View.ld x12 r0_17) (View.ld x13 r0_17) (View.ld x14 r0_20) (View.ld x15 r0_21)))) (ix2 i r) = _
    rw [chosen_apply]
    exact congrArg (fun l => chosen l i) (funext fun e => logit_second x0 x1 x2 x3 x4 x5 x6 x7 x8 x9 x10 x11 x12 x13 x14 x15 e r)
  · obtain rfl : R = ⟨0 + r.val, Nat.lt_of_lt_of_le (Nat.add_lt_add_left r.isLt 0) (by decide)⟩ := Fin.ext (by first | exact h1 | exact h1.trans (Nat.zero_add _).symm)
    show (k0_pay46 experts (k0_pay39 experts (k0_pay34 (k0_pay73 x0 x1 x2 x3 x4 x5 x6 x7 x8 x9 x10 x11 x12 x13 x14 x15) (k0_pay74 x0 x1 x2 x3 x4 x5 x6 x7 x8 x9 x10 x11 x12 x13 x14 x15) (View.ld x12 r0_17) (View.ld x13 r0_17) (View.ld x14 r0_20) (View.ld x15 r0_21))) (k0_pay40 experts (k0_pay34 (k0_pay73 x0 x1 x2 x3 x4 x5 x6 x7 x8 x9 x10 x11 x12 x13 x14 x15) (k0_pay74 x0 x1 x2 x3 x4 x5 x6 x7 x8 x9 x10 x11 x12 x13 x14 x15) (View.ld x12 r0_17) (View.ld x13 r0_17) (View.ld x14 r0_20) (View.ld x15 r0_21)))) (ix2 i r) = _
    rw [chosen_apply]
    exact congrArg (fun l => chosen l i) (funext fun e => logit_first x0 x1 x2 x3 x4 x5 x6 x7 x8 x9 x10 x11 x12 x13 x14 x15 e r)

/-- The weights that a point's tokens give their experts. -/
theorem out19_apply (i : Fin 4) (R : Fin 512) : out0_19 x0 x1 x2 x3 x4 x5 x6 x7 x8 x9 x10 x11 x12 x13 x14 x15 (ix2 i R) = weight (logit (blockWeights x3 x4 x5 x6 x7 x10 x11 x14 x15) (blockChunk x0 x1 x2 x8 x9 x12 x13 ⟨R.val / 128, by omega⟩) ⟨R.val % 128, by omega⟩) i := by
  unfold out0_19
  canon_tiles x h using (cover0_19 (F := Ideal) _ _ _)
  all_goals
    obtain ⟨j, r, rfl⟩ : ∃ (j : Fin 4) (r : Fin 256), x = ix2 j r := ⟨x 0, x 1, funext fun (a : Fin 2) => by
      match a with
      | ⟨0, _⟩ => rfl
      | ⟨1, _⟩ => rfl⟩
    obtain rfl : i = j := Fin.ext (by first | exact h0 | exact h0.trans (Nat.zero_add _))
  · obtain rfl : R = ⟨256 + r.val, Nat.add_lt_add_left r.isLt 256⟩ := Fin.ext h1
    show (k0_pay45 experts (k0_pay38 (k0_pay53 (k0_pay77 x0 x1 x2 x3 x4 x5 x6 x7 x8 x9 x10 x11 x12 x13 x14 x15) (k0_pay78 x0 x1 x2 x3 x4 x5 x6 x7 x8 x9 x10 x11 x12 x13 x14 x15) (View.ld x11 r0_18) (View.ld x12 r0_17) (View.ld x13 r0_17) (View.ld x14 r0_20) (View.ld x15 r0_21))) (k0_pay40 experts (k0_pay53 (k0_pay77 x0 x1 x2 x3 x4 x5 x6 x7 x8 x9 x10 x11 x12 x13 x14 x15) (k0_pay78 x0 x1 x2 x3 x4 x5 x6 x7 x8 x9 x10 x11 x12 x13 x14 x15) (View.ld x11 r0_18) (View.ld x12 r0_17) (View.ld x13 r0_17) (View.ld x14 r0_20) (View.ld x15 r0_21)))) (ix2 i r) = _
    rw [weight_apply]
    exact congrArg (fun l => weight l i) (funext fun e => logit_second x0 x1 x2 x3 x4 x5 x6 x7 x8 x9 x10 x11 x12 x13 x14 x15 e r)
  · obtain rfl : R = ⟨0 + r.val, Nat.lt_of_lt_of_le (Nat.add_lt_add_left r.isLt 0) (by decide)⟩ := Fin.ext (by first | exact h1 | exact h1.trans (Nat.zero_add _).symm)
    show (k0_pay45 experts (k0_pay38 (k0_pay34 (k0_pay73 x0 x1 x2 x3 x4 x5 x6 x7 x8 x9 x10 x11 x12 x13 x14 x15) (k0_pay74 x0 x1 x2 x3 x4 x5 x6 x7 x8 x9 x10 x11 x12 x13 x14 x15) (View.ld x12 r0_17) (View.ld x13 r0_17) (View.ld x14 r0_20) (View.ld x15 r0_21))) (k0_pay40 experts (k0_pay34 (k0_pay73 x0 x1 x2 x3 x4 x5 x6 x7 x8 x9 x10 x11 x12 x13 x14 x15) (k0_pay74 x0 x1 x2 x3 x4 x5 x6 x7 x8 x9 x10 x11 x12 x13 x14 x15) (View.ld x12 r0_17) (View.ld x13 r0_17) (View.ld x14 r0_20) (View.ld x15 r0_21)))) (ix2 i r) = _
    rw [weight_apply]
    exact congrArg (fun l => weight l i) (funext fun e => logit_first x0 x1 x2 x3 x4 x5 x6 x7 x8 x9 x10 x11 x12 x13 x14 x15 e r)

end Cert.Kernel4Ideal.OutProj

end
-- ==== Proof.OutProj.Arrays.lean ====
/- The four result arrays of the odd layer's output projection over the extended reals, as functions of the arguments. -/
module

public import proofs.«01_k».proof.Proof.OutProj.Stored
public import proofs.«01_k».proof.Proof.Gen.Kernel4Ideal.Value
public import Idealize.ShloMosaic.Lib.Pointwise
public import Idealize.ShloMosaic.Lib.Pipeline.ValueKit.Tiles
public import Idealize.ShloMosaic.Lib.Pipeline.ValueKit.Geometry

@[expose] public section

set_option maxRecDepth 16384

noncomputable section

namespace Cert.Kernel4Ideal.OutProj

open Cert.Kernel4Ideal Cert.Kernel4Ideal.Gen Cert.OutProj
open Idealize.ShloMosaic Idealize.ShloMosaic.TcCoe Idealize.SL.Sem

variable (m : (ℓ : Loc nD τ sig) → Buf (Elt Ideal) ℓ)

/-- A grid coordinate fits a word. -/
theorem coord_word (i : grid0.Coords) : (BitVec.ofNat 32 (i 0).val).toNat = (i 0).val ∧ (BitVec.ofNat 32 (i 1).val).toNat = (i 1).val := by
  have h0 : (i 0).val < 2 := (i 0).isLt
  have h1 : (i 1).val < 32 := (i 1).isLt
  rw [BitVec.toNat_ofNat, BitVec.toNat_ofNat]; omega

/-- The number of a block of rows over both sequences: 32 blocks a sequence. -/
theorem row_word : ∀ (a : Fin 2) (b : Fin 32), (Scalar.addi (Scalar.addi 0#32 (Scalar.muli (BitVec.ofNat 32 a.val) 32#32)) (BitVec.ofNat 32 b.val)).toNat = a.val * 32 + b.val := by
  decide

/-- What the launch finds prepared: the scales of the spatial norm, as a row. -/
theorem prepared0_apply (c : Dev nD) (z : Fin 1) (j : Fin 512) : (V m c main_v0 : S1x512.Idx → EReal) (ix2 z j) = (m ((c.tc : Thread nD τ).loc main_arg2) : S512.Idx → EReal) (ix1 j) := by
  have h : (V m c main_v0 : S1x512.Idx → EReal) = shapeCast S1x512 (m ((c.tc : Thread nD τ).loc main_arg2) : S512.Idx → EReal) shapeCasts_S512_S1x512 := by
    show StableHlo.after hostOps0 (fun b => m (c, b)) main_v0 = _
    simp only [hostOps0, StableHlo.after_cons, StableHlo.after_nil]
    rfl
  rw [h]
  generalize (m ((c.tc : Thread nD τ).loc main_arg2) : S512.Idx → EReal) = X
  pointwise []

/-- What the launch finds prepared: the shifts of the spatial norm, as a row. -/
theorem prepared1_apply (c : Dev nD) (z : Fin 1) (j : Fin 512) : (V m c main_v1 : S1x512.Idx → EReal) (ix2 z j) = (m ((c.tc : Thread nD τ).loc main_arg3) : S512.Idx → EReal) (ix1 j) := by
  have h : (V m c main_v1 : S1x512.Idx → EReal) = shapeCast S1x512 (m ((c.tc : Thread nD τ).loc main_arg3) : S512.Idx → EReal) shapeCasts_S512_S1x512 := by
    show StableHlo.after hostOps0 (fun b => m (c, b)) main_v1 = _
    simp only [hostOps0, StableHlo.after_cons, StableHlo.after_nil]
    rfl
  rw [h]
  generalize (m ((c.tc : Thread nD τ).loc main_arg3) : S512.Idx → EReal) = X
  pointwise []

/-- What the launch finds prepared: the spatial weights. -/
theorem prepared2_apply (c : Dev nD) (o : Fin 4) (p q : Fin 128) : (V m c main_v2 : S4x128x128.Idx → EReal) (ix3 o p q) = (m ((c.tc : Thread nD τ).loc main_arg4) : S4x128x128.Idx → EReal) (ix3 o p q) := by
  have h : (V m c main_v2 : S4x128x128.Idx → EReal) = (truncf .bf16 ((m ((c.tc : Thread nD τ).loc main_arg4) : S4x128x128.Idx → EReal) : FVec Ideal S4x128x128 .f32) bitsLt_bf16_f32 : FVec Ideal S4x128x128 .bf16) := by
    show StableHlo.after hostOps0 (fun b => m (c, b)) main_v2 = _
    simp only [hostOps0, StableHlo.after_cons, StableHlo.after_nil]
    rfl
  rw [h]
  generalize (m ((c.tc : Thread nD τ).loc main_arg4) : S4x128x128.Idx → EReal) = X
  pointwise []

/-- What the launch finds prepared: the spatial biases, transposed. -/
theorem prepared3_apply (c : Dev nD) (p : Fin 128) (o : Fin 4) : (V m c main_v3 : S128x4.Idx → EReal) (ix2 p o) = (m ((c.tc : Thread nD τ).loc main_arg5) : S4x128.Idx → EReal) (ix2 o p) := by
  have h : (V m c main_v3 : S128x4.Idx → EReal) = transpose S128x4 [1, 0] (m ((c.tc : Thread nD τ).loc main_arg5) : S4x128.Idx → EReal) transposes_S4x128_S128x4_1_0 := by
    show StableHlo.after hostOps0 (fun b => m (c, b)) main_v3 = _
    simp only [hostOps0, StableHlo.after_cons, StableHlo.after_nil]
    rfl
  rw [h]
  generalize (m ((c.tc : Thread nD τ).loc main_arg5) : S4x128.Idx → EReal) = X
  pointwise []

/-- What the launch finds prepared: the scales of the layer norm, as a row. -/
theorem prepared4_apply (c : Dev nD) (z : Fin 1) (n : Fin 1024) : (V m c main_v4 : S1x1024.Idx → EReal) (ix2 z n) = (m ((c.tc : Thread nD τ).loc main_arg11) : S1024.Idx → EReal) (ix1 n) := by
  have h : (V m c main_v4 : S1x1024.Idx → EReal) = shapeCast S1x1024 (m ((c.tc : Thread nD τ).loc main_arg11) : S1024.Idx → EReal) shapeCasts_S1024_S1x1024 := by
    show StableHlo.after hostOps0 (fun b => m (c, b)) main_v4 = _
    simp only [hostOps0, StableHlo.after_cons, StableHlo.after_nil]
    rfl
  rw [h]
  generalize (m ((c.tc : Thread nD τ).loc main_arg11) : S1024.Idx → EReal) = X
  pointwise []

/-- What the launch finds prepared: the shifts of the layer norm, as a row. -/
theorem prepared5_apply (c : Dev nD) (z : Fin 1) (n : Fin 1024) : (V m c main_v5 : S1x1024.Idx → EReal) (ix2 z n) = (m ((c.tc : Thread nD τ).loc main_arg12) : S1024.Idx → EReal) (ix1 n) := by
  have h : (V m c main_v5 : S1x1024.Idx → EReal) = shapeCast S1x1024 (m ((c.tc : Thread nD τ).loc main_arg12) : S1024.Idx → EReal) shapeCasts_S1024_S1x1024 := by
    show StableHlo.after hostOps0 (fun b => m (c, b)) main_v5 = _
    simp only [hostOps0, StableHlo.after_cons, StableHlo.after_nil]
    rfl
  rw [h]
  generalize (m ((c.tc : Thread nD τ).loc main_arg12) : S1024.Idx → EReal) = X
  pointwise []

/-- What the launch finds prepared: the router biases, as a column. -/
theorem prepared6_apply (c : Dev nD) (e : Fin 32) (z : Fin 1) : (V m c main_v6 : S32x1.Idx → EReal) (ix2 e z) = (m ((c.tc : Thread nD τ).loc main_arg14) : S32.Idx → EReal) (ix1 e) := by
  have h : (V m c main_v6 : S32x1.Idx → EReal) = shapeCast S32x1 (m ((c.tc : Thread nD τ).loc main_arg14) : S32.Idx → EReal) shapeCasts_S32_S32x1 := by
    show StableHlo.after hostOps0 (fun b => m (c, b)) main_v6 = _
    simp only [hostOps0, StableHlo.after_cons, StableHlo.after_nil]
    rfl
  rw [h]
  generalize (m ((c.tc : Thread nD τ).loc main_arg14) : S32.Idx → EReal) = X
  pointwise []

/-- The layer's weights, from the arguments. -/
def weightsOf (c : Dev nD) : Weights where
  scale j := (m ((c.tc : Thread nD τ).loc main_arg2) : S512.Idx → EReal) (ix1 j)
  shift j := (m ((c.tc : Thread nD τ).loc main_arg3) : S512.Idx → EReal) (ix1 j)
  mix o p q := (m ((c.tc : Thread nD τ).loc main_arg4) : S4x128x128.Idx → EReal) (ix3 o p q)
  bias o p := (m ((c.tc : Thread nD τ).loc main_arg5) : S4x128.Idx → EReal) (ix2 o p)
  out k n := (m ((c.tc : Thread nD τ).loc main_arg6) : S1024x1024.Idx → EReal) (ix2 k n)
  lnScale n := (m ((c.tc : Thread nD τ).loc main_arg11) : S1024.Idx → EReal) (ix1 n)
  lnShift n := (m ((c.tc : Thread nD τ).loc main_arg12) : S1024.Idx → EReal) (ix1 n)
  router e n := (m ((c.tc : Thread nD τ).loc main_arg13) : S32x1024.Idx → EReal) (ix2 e n)
  routerBias e := (m ((c.tc : Thread nD τ).loc main_arg14) : S32.Idx → EReal) (ix1 e)

/-- Chunk `J` of the 128 chunks of sequence `b`, from the arguments. -/
def chunkOf (c : Dev nD) (b : Fin 2) (J : Fin 128) : Chunk where
  fourier p k := (m ((c.tc : Thread nD τ).loc main_arg0) : S2x16384x512.Idx → EReal) (ix3 b ⟨128 * J.val + p.val, by omega⟩ k)
  gate p k := (m ((c.tc : Thread nD τ).loc main_arg1) : S2x16384x1536.Idx → EReal) (ix3 b ⟨128 * J.val + p.val, by omega⟩ ⟨512 + k.val, by omega⟩)
  value p k := (m ((c.tc : Thread nD τ).loc main_arg1) : S2x16384x1536.Idx → EReal) (ix3 b ⟨128 * J.val + p.val, by omega⟩ ⟨1024 + k.val, by omega⟩)
  stream p n := (m ((c.tc : Thread nD τ).loc main_arg7) : S2x16384x1024.Idx → EReal) (ix3 b ⟨128 * J.val + p.val, by omega⟩ n)
  resid n := (m ((c.tc : Thread nD τ).loc main_arg8) : S8x1x1024.Idx → EReal) (ix3 (⟨b.val, by omega⟩ : Fin 8) (0 : Fin 1) n)
  modScale n := (m ((c.tc : Thread nD τ).loc main_arg9) : S8x1x1024.Idx → EReal) (ix3 (⟨b.val, by omega⟩ : Fin 8) (0 : Fin 1) n)
  modShift n := (m ((c.tc : Thread nD τ).loc main_arg10) : S8x1x1024.Idx → EReal) (ix3 (⟨b.val, by omega⟩ : Fin 8) (0 : Fin 1) n)

/-- The Fourier mixer's rows of a point. -/
theorem iblk0_apply (c : Dev nD) (t : Fin cfg0.N) (r : Fin 512) (k : Fin 512) (b : Fin 2) (R : Fin 16384) (hb : b.val = (grid0.coords t 0).val) (hR : R.val = (grid0.coords t 1).val * 512 + r.val) :
    (iblk m c 0 t : S1x512x512.Idx → EReal) (ix3 0 r k) = (m ((c.tc : Thread nD τ).loc main_arg0) : S2x16384x512.Idx → EReal) (ix3 b R k) := by
  obtain ⟨w0, w1⟩ := coord_word (grid0.coords t)
  refine Eq.trans ?_ (congrFun (V_main_arg0 m c : (V m c main_arg0 : S2x16384x512.Idx → EReal) = _) _)
  refine congrArg (V m c main_arg0 : S2x16384x512.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 0 * 512 + 1 * k.val = k.val
    omega

/-- The gate half of a point's rows: columns 512 to 1023. -/
theorem iblk1_apply (c : Dev nD) (t : Fin cfg0.N) (r : Fin 512) (k : Fin 512) (b : Fin 2) (R : Fin 16384) (hb : b.val = (grid0.coords t 0).val) (hR : R.val = (grid0.coords t 1).val * 512 + r.val) :
    (iblk m c 1 t : S1x512x512.Idx → EReal) (ix3 0 r k) = (m ((c.tc : Thread nD τ).loc main_arg1) : S2x16384x1536.Idx → EReal) (ix3 b R ⟨512 + k.val, by omega⟩) := by
  obtain ⟨w0, w1⟩ := coord_word (grid0.coords t)
  refine Eq.trans ?_ (congrFun (V_main_arg1 m c : (V m c main_arg1 : S2x16384x1536.Idx → EReal) = _) _)
  refine congrArg (V m c main_arg1 : S2x16384x1536.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 1 * 512 + 1 * k.val = 512 + k.val
    omega

/-- The value half of a point's rows: columns 1024 to 1535. -/
theorem iblk2_apply (c : Dev nD) (t : Fin cfg0.N) (r : Fin 512) (k : Fin 512) (b : Fin 2) (R : Fin 16384) (hb : b.val = (grid0.coords t 0).val) (hR : R.val = (grid0.coords t 1).val * 512 + r.val) :
    (iblk m c 2 t : S1x512x512.Idx → EReal) (ix3 0 r k) = (m ((c.tc : Thread nD τ).loc main_arg1) : S2x16384x1536.Idx → EReal) (ix3 b R ⟨1024 + k.val, by omega⟩) := by
  obtain ⟨w0, w1⟩ := coord_word (grid0.coords t)
  refine Eq.trans ?_ (congrFun (V_main_arg1 m c : (V m c main_arg1 : S2x16384x1536.Idx → EReal) = _) _)
  refine congrArg (V m c main_arg1 : S2x16384x1536.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 2 * 512 + 1 * k.val = 1024 + k.val
    omega

/-- The scales of the spatial norm: the whole row. -/
theorem iblk3_apply (c : Dev nD) (t : Fin cfg0.N) (x : Fin 1) (y : Fin 512) :
    (iblk m c 3 t : S1x512.Idx → EReal) (ix2 x y) = (V m c main_v0 : S1x512.Idx → EReal) (ix2 x y) := by
  obtain ⟨w0, w1⟩ := coord_word (grid0.coords t)
  refine congrArg (V m c main_v0 : S1x512.Idx → EReal) (funext fun (a : Fin 2) => Fin.ext ?_)
  match a with
  | ⟨0, _⟩ =>
    show 0 * 1 + 1 * x.val = x.val
    omega
  | ⟨1, _⟩ =>
    show 0 * 512 + 1 * y.val = y.val
    omega

/-- The shifts of the spatial norm: the whole row. -/
theorem iblk4_apply (c : Dev nD) (t : Fin cfg0.N) (x : Fin 1) (y : Fin 512) :
    (iblk m c 4 t : S1x512.Idx → EReal) (ix2 x y) = (V m c main_v1 : S1x512.Idx → EReal) (ix2 x y) := by
  obtain ⟨w0, w1⟩ := coord_word (grid0.coords t)
  refine congrArg (V m c main_v1 : S1x512.Idx → EReal) (funext fun (a : Fin 2) => Fin.ext ?_)
  match a with
  | ⟨0, _⟩ =>
    show 0 * 1 + 1 * x.val = x.val
    omega
  | ⟨1, _⟩ =>
    show 0 * 512 + 1 * y.val = y.val
    omega

/-- The spatial weights: all four matrices. -/
theorem iblk5_apply (c : Dev nD) (t : Fin cfg0.N) (x : Fin 4) (y : Fin 128) (z : Fin 128) :
    (iblk m c 5 t : S4x128x128.Idx → EReal) (ix3 x y z) = (V m c main_v2 : S4x128x128.Idx → EReal) (ix3 x y z) := by
  obtain ⟨w0, w1⟩ := coord_word (grid0.coords t)
  refine congrArg (V m c main_v2 : S4x128x128.Idx → EReal) (funext fun (a : Fin 3) => Fin.ext ?_)
  match a with
  | ⟨0, _⟩ =>
    show 0 * 4 + 1 * x.val = x.val
    omega
  | ⟨1, _⟩ =>
    show 0 * 128 + 1 * y.val = y.val
    omega
  | ⟨2, _⟩ =>
    show 0 * 128 + 1 * z.val = z.val
    omega

/-- The spatial biases: all four columns. -/
theorem iblk6_apply (c : Dev nD) (t : Fin cfg0.N) (x : Fin 128) (y : Fin 4) :
    (iblk m c 6 t : S128x4.Idx → EReal) (ix2 x y) = (V m c main_v3 : S128x4.Idx → EReal) (ix2 x y) := by
  obtain ⟨w0, w1⟩ := coord_word (grid0.coords t)
  refine congrArg (V m c main_v3 : S128x4.Idx → EReal) (funext fun (a : Fin 2) => Fin.ext ?_)
  match a with
  | ⟨0, _⟩ =>
    show 0 * 128 + 1 * x.val = x.val
    omega
  | ⟨1, _⟩ =>
    show 0 * 4 + 1 * y.val = y.val
    omega

/-- The projection: the whole matrix. -/
theorem iblk7_apply (c : Dev nD) (t : Fin cfg0.N) (x : Fin 1024) (y : Fin 1024) :
    (iblk m c 7 t : S1024x1024.Idx → EReal) (ix2 x y) = (m ((c.tc : Thread nD τ).loc main_arg6) : S1024x1024.Idx → EReal) (ix2 x y) := by
  obtain ⟨w0, w1⟩ := coord_word (grid0.coords t)
  refine Eq.trans ?_ (congrFun (V_main_arg6 m c : (V m c main_arg6 : S1024x1024.Idx → EReal) = _) _)
  refine congrArg (V m c main_arg6 : S1024x1024.Idx → EReal) (funext fun (a : Fin 2) => Fin.ext ?_)
  match a with
  | ⟨0, _⟩ =>
    show 0 * 1024 + 1 * x.val = x.val
    omega
  | ⟨1, _⟩ =>
    show 0 * 1024 + 1 * y.val = y.val
    omega

/-- The old stream of a point's tokens. -/
theorem iblk8_apply (c : Dev nD) (t : Fin cfg0.N) (r : Fin 512) (k : Fin 1024) (b : Fin 2) (R : Fin 16384) (hb : b.val = (grid0.coords t 0).val) (hR : R.val = (grid0.coords t 1).val * 512 + r.val) :
    (iblk m c 8 t : S1x512x1024.Idx → EReal) (ix3 0 r k) = (m ((c.tc : Thread nD τ).loc main_arg7) : S2x16384x1024.Idx → EReal) (ix3 b R k) := by
  obtain ⟨w0, w1⟩ := coord_word (grid0.coords t)
  refine Eq.trans ?_ (congrFun (V_main_arg7 m c : (V m c main_arg7 : S2x16384x1024.Idx → EReal) = _) _)
  refine congrArg (V m c main_arg7 : S2x16384x1024.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 0 * 1024 + 1 * k.val = k.val
    omega

/-- The residual gate of a point: the row of its sequence. -/
theorem iblk9_apply (c : Dev nD) (t : Fin cfg0.N) (k : Fin 1024) (b : Fin 8) (hb : b.val = (grid0.coords t 0).val) :
    (iblk m c 9 t : S1x1x1024.Idx → EReal) (ix3 0 0 k) = (m ((c.tc : Thread nD τ).loc main_arg8) : S8x1x1024.Idx → EReal) (ix3 b 0 k) := by
  obtain ⟨w0, w1⟩ := coord_word (grid0.coords t)
  refine Eq.trans ?_ (congrFun (V_main_arg8 m c : (V m c main_arg8 : S8x1x1024.Idx → EReal) = _) _)
  refine congrArg (V m c main_arg8 : S8x1x1024.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show 0 * 1 + 1 * 0 = 0
    omega
  | ⟨2, _⟩ =>
    show 0 * 1024 + 1 * k.val = k.val
    omega

/-- The modulation's scale of a point: the row of its sequence. -/
theorem iblk12_apply (c : Dev nD) (t : Fin cfg0.N) (k : Fin 1024) (b : Fin 8) (hb : b.val = (grid0.coords t 0).val) :
    (iblk m c 12 t : S1x1x1024.Idx → EReal) (ix3 0 0 k) = (m ((c.tc : Thread nD τ).loc main_arg9) : S8x1x1024.Idx → EReal) (ix3 b 0 k) := by
  obtain ⟨w0, w1⟩ := coord_word (grid0.coords t)
  refine Eq.trans ?_ (congrFun (V_main_arg9 m c : (V m c main_arg9 : S8x1x1024.Idx → EReal) = _) _)
  refine congrArg (V m c main_arg9 : S8x1x1024.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show 0 * 1 + 1 * 0 = 0
    omega
  | ⟨2, _⟩ =>
    show 0 * 1024 + 1 * k.val = k.val
    omega

/-- The modulation's shift of a point: the row of its sequence. -/
theorem iblk13_apply (c : Dev nD) (t : Fin cfg0.N) (k : Fin 1024) (b : Fin 8) (hb : b.val = (grid0.coords t 0).val) :
    (iblk m c 13 t : S1x1x1024.Idx → EReal) (ix3 0 0 k) = (m ((c.tc : Thread nD τ).loc main_arg10) : S8x1x1024.Idx → EReal) (ix3 b 0 k) := by
  obtain ⟨w0, w1⟩ := coord_word (grid0.coords t)
  refine Eq.trans ?_ (congrFun (V_main_arg10 m c : (V m c main_arg10 : S8x1x1024.Idx → EReal) = _) _)
  refine congrArg (V m c main_arg10 : S8x1x1024.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show 0 * 1 + 1 * 0 = 0
    omega
  | ⟨2, _⟩ =>
    show 0 * 1024 + 1 * k.val = k.val
    omega

/-- The scales of the layer norm: the whole row. -/
theorem iblk10_apply (c : Dev nD) (t : Fin cfg0.N) (x : Fin 1) (y : Fin 1024) :
    (iblk m c 10 t : S1x1024.Idx → EReal) (ix2 x y) = (V m c main_v4 : S1x1024.Idx → EReal) (ix2 x y) := by
  obtain ⟨w0, w1⟩ := coord_word (grid0.coords t)
  refine congrArg (V m c main_v4 : S1x1024.Idx → EReal) (funext fun (a : Fin 2) => Fin.ext ?_)
  match a with
  | ⟨0, _⟩ =>
    show 0 * 1 + 1 * x.val = x.val
    omega
  | ⟨1, _⟩ =>
    show 0 * 1024 + 1 * y.val = y.val
    omega

/-- The shifts of the layer norm: the whole row. -/
theorem iblk11_apply (c : Dev nD) (t : Fin cfg0.N) (x : Fin 1) (y : Fin 1024) :
    (iblk m c 11 t : S1x1024.Idx → EReal) (ix2 x y) = (V m c main_v5 : S1x1024.Idx → EReal) (ix2 x y) := by
  obtain ⟨w0, w1⟩ := coord_word (grid0.coords t)
  refine congrArg (V m c main_v5 : S1x1024.Idx → EReal) (funext fun (a : Fin 2) => Fin.ext ?_)
  match a with
  | ⟨0, _⟩ =>
    show 0 * 1 + 1 * x.val = x.val
    omega
  | ⟨1, _⟩ =>
    show 0 * 1024 + 1 * y.val = y.val
    omega

/-- The router: the whole matrix. -/
theorem iblk14_apply (c : Dev nD) (t : Fin cfg0.N) (x : Fin 32) (y : Fin 1024) :
    (iblk m c 14 t : S32x1024.Idx → EReal) (ix2 x y) = (m ((c.tc : Thread nD τ).loc main_arg13) : S32x1024.Idx → EReal) (ix2 x y) := by
  obtain ⟨w0, w1⟩ := coord_word (grid0.coords t)
  refine Eq.trans ?_ (congrFun (V_main_arg13 m c : (V m c main_arg13 : S32x1024.Idx → EReal) = _) _)
  refine congrArg (V m c main_arg13 : S32x1024.Idx → EReal) (funext fun (a : Fin 2) => Fin.ext ?_)
  match a with
  | ⟨0, _⟩ =>
    show 0 * 32 + 1 * x.val = x.val
    omega
  | ⟨1, _⟩ =>
    show 0 * 1024 + 1 * y.val = y.val
    omega

/-- The router biases: the whole column. -/
theorem iblk15_apply (c : Dev nD) (t : Fin cfg0.N) (x : Fin 32) (y : Fin 1) :
    (iblk m c 15 t : S32x1.Idx → EReal) (ix2 x y) = (V m c main_v6 : S32x1.Idx → EReal) (ix2 x y) := by
  obtain ⟨w0, w1⟩ := coord_word (grid0.coords t)
  refine congrArg (V m c main_v6 : S32x1.Idx → EReal) (funext fun (a : Fin 2) => Fin.ext ?_)
  match a with
  | ⟨0, _⟩ =>
    show 0 * 32 + 1 * x.val = x.val
    omega
  | ⟨1, _⟩ =>
    show 0 * 1 + 1 * y.val = y.val
    omega

/-- The weights in a point's buffers are the layer's. -/
theorem weights_eq (c : Dev nD) (t : Fin cfg0.N) :
    blockWeights (iblk m c 3 t) (iblk m c 4 t) (iblk m c 5 t) (iblk m c 6 t) (iblk m c 7 t) (iblk m c 10 t) (iblk m c 11 t) (iblk m c 14 t) (iblk m c 15 t) = weightsOf m c := by
  unfold blockWeights weightsOf
  congr 1
  · exact funext fun j => (iblk3_apply m c t 0 j).trans (prepared0_apply m c 0 j)
  · exact funext fun j => (iblk4_apply m c t 0 j).trans (prepared1_apply m c 0 j)
  · exact funext fun o => funext fun p => funext fun q => (iblk5_apply m c t o p q).trans (prepared2_apply m c o p q)
  · exact funext fun o => funext fun p => (iblk6_apply m c t p o).trans (prepared3_apply m c p o)
  · exact funext fun k => funext fun n => iblk7_apply m c t k n
  · exact funext fun n => (iblk10_apply m c t 0 n).trans (prepared4_apply m c 0 n)
  · exact funext fun n => (iblk11_apply m c t 0 n).trans (prepared5_apply m c 0 n)
  · exact funext fun e => funext fun n => iblk14_apply m c t e n
  · exact funext fun e => (iblk15_apply m c t e 0).trans (prepared6_apply m c e 0)

/-- A point's four chunks are four consecutive chunks of its sequence. -/
theorem chunk_eq (c : Dev nD) (t : Fin cfg0.N) (j : Fin 4) (b : Fin 2) (J : Fin 128) (hb : b.val = (grid0.coords t 0).val) (hJ : J.val = 4 * (grid0.coords t 1).val + j.val) :
    blockChunk (iblk m c 0 t) (iblk m c 1 t) (iblk m c 2 t) (iblk m c 8 t) (iblk m c 9 t) (iblk m c 12 t) (iblk m c 13 t) j = chunkOf m c b J := by
  have hr : ∀ p : Fin 128, 128 * J.val + p.val = (grid0.coords t 1).val * 512 + (128 * j.val + p.val) := fun p => by omega
  unfold blockChunk chunkOf
  congr 1
  · exact funext fun p => funext fun k => iblk0_apply m c t ⟨128 * j.val + p.val, by omega⟩ k b ⟨128 * J.val + p.val, by omega⟩ hb (hr p)
  · exact funext fun p => funext fun k => iblk1_apply m c t ⟨128 * j.val + p.val, by omega⟩ k b ⟨128 * J.val + p.val, by omega⟩ hb (hr p)
  · exact funext fun p => funext fun k => iblk2_apply m c t ⟨128 * j.val + p.val, by omega⟩ k b ⟨128 * J.val + p.val, by omega⟩ hb (hr p)
  · exact funext fun p => funext fun k => iblk8_apply m c t ⟨128 * j.val + p.val, by omega⟩ k b ⟨128 * J.val + p.val, by omega⟩ hb (hr p)
  · exact funext fun n => iblk9_apply m c t n ⟨b.val, by omega⟩ hb
  · exact funext fun n => iblk12_apply m c t n ⟨b.val, by omega⟩ hb
  · exact funext fun n => iblk13_apply m c t n ⟨b.val, by omega⟩ hb

/-- The new stream of token `R` of sequence `b`. -/
def streamAt (c : Dev nD) (b : Fin 2) (R : Fin 16384) (n : Fin 1024) : EReal :=
  newStream (weightsOf m c) (chunkOf m c b ⟨R.val / 128, by omega⟩) ⟨R.val % 128, by omega⟩ n

/-- The modulated stream of token `q`, counted over both sequences. -/
def hiddenAt (c : Dev nD) (q : Fin 32768) (n : Fin 1024) : EReal :=
  hidden (weightsOf m c) (chunkOf m c ⟨q.val / 16384, by omega⟩ ⟨q.val % 16384 / 128, by omega⟩) ⟨q.val % 128, by omega⟩ n

/-- The router's scores of token `q`, counted over both sequences. -/
def logitsAt (c : Dev nD) (q : Fin 32768) : Fin 32 → EReal :=
  logit (weightsOf m c) (chunkOf m c ⟨q.val / 16384, by omega⟩ ⟨q.val % 16384 / 128, by omega⟩) ⟨q.val % 128, by omega⟩

/-- What a point leaves in the buffer of the new stream, entry by entry. -/
theorem point16_apply (c : Dev nD) (t : Fin cfg0.N) (z : Fin 1) (r : Fin 512) (n : Fin 1024) (b : Fin 2) (R : Fin 16384) (hb : b.val = (grid0.coords t 0).val) (hR : R.val = (grid0.coords t 1).val * 512 + r.val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 z r n) = streamAt m c b R n := by
  have h0 : (grid0.coords t 0).val < 2 := (grid0.coords t 0).isLt
  have h1 : (grid0.coords t 1).val < 32 := (grid0.coords t 1).isLt
  refine (out16_apply _ _ _ _ _ _ _ _ _ _ _ _ _ _ _ _ z r n).trans ?_
  rw [weights_eq, chunk_eq m c t ⟨r.val / 128, by omega⟩ b ⟨R.val / 128, by omega⟩ hb (by show R.val / 128 = _ + r.val / 128; omega)]
  exact congrArg (fun x => newStream (weightsOf m c) (chunkOf m c b ⟨R.val / 128, by omega⟩) x n) (Fin.ext (by show r.val % 128 = R.val % 128; omega))

/-- The array of the new stream after the run. -/
theorem array16 (c : Dev nD) : (dats m 0 c).arrAt 16 cfg0.N = (fun i : S2x16384x1024.Idx => (streamAt m c (i 0) (i 1) (i 2) : EReal)) := by
  refine (dats m 0 c).arrAt_eq_of_covers 16 _ (by decide +kernel) (fun t _ => ?_)
  intro (y : S1x512x1024.Idx)
  rw [after0_16]
  have h0 : (grid0.coords t 0).val < 2 := (grid0.coords t 0).isLt
  have h1 : (grid0.coords t 1).val < 32 := (grid0.coords t 1).isLt
  have hy0 : (y 0).val < 1 := (y 0).isLt
  have hy1 : (y 1).val < 512 := (y 1).isLt
  have hy2 : (y 2).val < 1024 := (y 2).isLt
  have key := point16_apply m c t ⟨(y 0).val, hy0⟩ ⟨(y 1).val, hy1⟩ ⟨(y 2).val, hy2⟩ ⟨(grid0.coords t 0).val, h0⟩ ⟨(grid0.coords t 1).val * 512 + (y 1).val, by omega⟩ rfl rfl
  generalize out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = O at key ⊢
  have e : y = ix3 (⟨(y 0).val, hy0⟩ : Fin 1) (⟨(y 1).val, hy1⟩ : Fin 512) (⟨(y 2).val, hy2⟩ : Fin 1024) := funext fun (a : Fin 3) => by
    match a with
    | ⟨0, _⟩ => rfl
    | ⟨1, _⟩ => rfl
    | ⟨2, _⟩ => rfl
  refine (congrArg (O : S1x512x1024.Idx → EReal) e).trans (key.trans ?_)
  refine congr (congr (congrArg (streamAt m c) (Fin.ext ?_)) (Fin.ext ?_)) (Fin.ext ?_)
  · show (grid0.coords t 0).val = (BitVec.ofNat 32 (grid0.coords t 0).val).toNat * 1 + 1 * (y 0).val
    rw [(coord_word (grid0.coords t)).1]; omega
  · show (grid0.coords t 1).val * 512 + (y 1).val = (BitVec.ofNat 32 (grid0.coords t 1).val).toNat * 512 + 1 * (y 1).val
    rw [(coord_word (grid0.coords t)).2]; omega
  · show (y 2).val = 0 * 1024 + 1 * (y 2).val
    omega

/-- What a point leaves in the buffer of the modulated stream, entry by entry. -/
theorem point17_apply (c : Dev nD) (t : Fin cfg0.N) (r : Fin 512) (n : Fin 1024) (q : Fin 32768) (hq : q.val = ((grid0.coords t 0).val * 32 + (grid0.coords t 1).val) * 512 + r.val) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r n) = hiddenAt m c q n := by
  have h0 : (grid0.coords t 0).val < 2 := (grid0.coords t 0).isLt
  have h1 : (grid0.coords t 1).val < 32 := (grid0.coords t 1).isLt
  refine (out17_apply _ _ _ _ _ _ _ _ _ _ _ _ _ _ _ _ r n).trans ?_
  rw [weights_eq, chunk_eq m c t ⟨r.val / 128, by omega⟩ ⟨q.val / 16384, by omega⟩ ⟨q.val % 16384 / 128, by omega⟩ (by show q.val / 16384 = _; omega) (by show q.val % 16384 / 128 = _ + r.val / 128; omega)]
  exact congrArg (fun x => hidden (weightsOf m c) (chunkOf m c ⟨q.val / 16384, by omega⟩ ⟨q.val % 16384 / 128, by omega⟩) x n) (Fin.ext (by show r.val % 128 = q.val % 128; omega))

/-- The array of the modulated stream after the run. -/
theorem array17 (c : Dev nD) : (dats m 0 c).arrAt 17 cfg0.N = (fun i : S32768x1024.Idx => (hiddenAt m c (i 0) (i 1) : EReal)) := by
  refine (dats m 0 c).arrAt_eq_of_covers 17 _ (by decide +kernel) (fun t _ => ?_)
  intro (y : S512x1024.Idx)
  rw [after0_17]
  have h0 : (grid0.coords t 0).val < 2 := (grid0.coords t 0).isLt
  have h1 : (grid0.coords t 1).val < 32 := (grid0.coords t 1).isLt
  have hy0 : (y 0).val < 512 := (y 0).isLt
  have hy1 : (y 1).val < 1024 := (y 1).isLt
  have hw := row_word ⟨(grid0.coords t 0).val, h0⟩ ⟨(grid0.coords t 1).val, h1⟩
  have key := point17_apply m c t ⟨(y 0).val, hy0⟩ ⟨(y 1).val, hy1⟩ ⟨((grid0.coords t 0).val * 32 + (grid0.coords t 1).val) * 512 + (y 0).val, by omega⟩ rfl
  generalize out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = O at key ⊢
  have e : y = ix2 (⟨(y 0).val, hy0⟩ : Fin 512) (⟨(y 1).val, hy1⟩ : Fin 1024) := funext fun (a : Fin 2) => by
    match a with
    | ⟨0, _⟩ => rfl
    | ⟨1, _⟩ => rfl
  refine (congrArg (O : S512x1024.Idx → EReal) e).trans (key.trans ?_)
  refine congr (congrArg (hiddenAt m c) (Fin.ext ?_)) (Fin.ext ?_)
  · show ((grid0.coords t 0).val * 32 + (grid0.coords t 1).val) * 512 + (y 0).val = (Scalar.addi (Scalar.addi 0#32 (Scalar.muli (BitVec.ofNat 32 (grid0.coords t 0).val) 32#32)) (BitVec.ofNat 32 (grid0.coords t 1).val)).toNat * 512 + 1 * (y 0).val
    rw [show (Scalar.addi (Scalar.addi 0#32 (Scalar.muli (BitVec.ofNat 32 (grid0.coords t 0).val) 32#32)) (BitVec.ofNat 32 (grid0.coords t 1).val)).toNat = (grid0.coords t 0).val * 32 + (grid0.coords t 1).val from hw]; omega
  · show (y 1).val = 0 * 1024 + 1 * (y 1).val
    omega

/-- What a point leaves in the buffer of the chosen experts, entry by entry. -/
theorem point18_apply (c : Dev nD) (t : Fin cfg0.N) (i : Fin 4) (r : Fin 512) (q : Fin 32768) (hq : q.val = ((grid0.coords t 0).val * 32 + (grid0.coords t 1).val) * 512 + r.val) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) = chosen (logitsAt m c q) i := by
  have h0 : (grid0.coords t 0).val < 2 := (grid0.coords t 0).isLt
  have h1 : (grid0.coords t 1).val < 32 := (grid0.coords t 1).isLt
  refine (out18_apply _ _ _ _ _ _ _ _ _ _ _ _ _ _ _ _ i r).trans ?_
  rw [weights_eq, chunk_eq m c t ⟨r.val / 128, by omega⟩ ⟨q.val / 16384, by omega⟩ ⟨q.val % 16384 / 128, by omega⟩ (by show q.val / 16384 = _; omega) (by show q.val % 16384 / 128 = _ + r.val / 128; omega)]
  exact congrArg (fun x => chosen (logit (weightsOf m c) (chunkOf m c ⟨q.val / 16384, by omega⟩ ⟨q.val % 16384 / 128, by omega⟩) x) i) (Fin.ext (by show r.val % 128 = q.val % 128; omega))

/-- The array of the chosen experts after the run. -/
theorem array18 (c : Dev nD) : (dats m 0 c).arrAt 18 cfg0.N = (fun i : S4x32768.Idx => (chosen (logitsAt m c (i 1)) (i 0) : BitVec 32)) := by
  refine (dats m 0 c).arrAt_eq_of_covers 18 _ (by decide +kernel) (fun t _ => ?_)
  intro (y : S4x512.Idx)
  rw [after0_18]
  have h0 : (grid0.coords t 0).val < 2 := (grid0.coords t 0).isLt
  have h1 : (grid0.coords t 1).val < 32 := (grid0.coords t 1).isLt
  have hy0 : (y 0).val < 4 := (y 0).isLt
  have hy1 : (y 1).val < 512 := (y 1).isLt
  have hw := row_word ⟨(grid0.coords t 0).val, h0⟩ ⟨(grid0.coords t 1).val, h1⟩
  have key := point18_apply m c t ⟨(y 0).val, hy0⟩ ⟨(y 1).val, hy1⟩ ⟨((grid0.coords t 0).val * 32 + (grid0.coords t 1).val) * 512 + (y 1).val, by omega⟩ rfl
  generalize out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = O at key ⊢
  have e : y = ix2 (⟨(y 0).val, hy0⟩ : Fin 4) (⟨(y 1).val, hy1⟩ : Fin 512) := funext fun (a : Fin 2) => by
    match a with
    | ⟨0, _⟩ => rfl
    | ⟨1, _⟩ => rfl
  refine (congrArg (O : S4x512.Idx → BitVec 32) e).trans (key.trans ?_)
  refine congr (congrArg (fun q => chosen (logitsAt m c q)) (Fin.ext ?_)) (Fin.ext ?_)
  · show ((grid0.coords t 0).val * 32 + (grid0.coords t 1).val) * 512 + (y 1).val = (Scalar.addi (Scalar.addi 0#32 (Scalar.muli (BitVec.ofNat 32 (grid0.coords t 0).val) 32#32)) (BitVec.ofNat 32 (grid0.coords t 1).val)).toNat * 512 + 1 * (y 1).val
    rw [show (Scalar.addi (Scalar.addi 0#32 (Scalar.muli (BitVec.ofNat 32 (grid0.coords t 0).val) 32#32)) (BitVec.ofNat 32 (grid0.coords t 1).val)).toNat = (grid0.coords t 0).val * 32 + (grid0.coords t 1).val from hw]; omega
  · show (y 0).val = 0 * 4 + 1 * (y 0).val
    omega

/-- What a point leaves in the buffer of the weights of the chosen experts, entry by entry. -/
theorem point19_apply (c : Dev nD) (t : Fin cfg0.N) (i : Fin 4) (r : Fin 512) (q : Fin 32768) (hq : q.val = ((grid0.coords t 0).val * 32 + (grid0.coords t 1).val) * 512 + r.val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 i r) = weight (logitsAt m c q) i := by
  have h0 : (grid0.coords t 0).val < 2 := (grid0.coords t 0).isLt
  have h1 : (grid0.coords t 1).val < 32 := (grid0.coords t 1).isLt
  refine (out19_apply _ _ _ _ _ _ _ _ _ _ _ _ _ _ _ _ i r).trans ?_
  rw [weights_eq, chunk_eq m c t ⟨r.val / 128, by omega⟩ ⟨q.val / 16384, by omega⟩ ⟨q.val % 16384 / 128, by omega⟩ (by show q.val / 16384 = _; omega) (by show q.val % 16384 / 128 = _ + r.val / 128; omega)]
  exact congrArg (fun x => weight (logit (weightsOf m c) (chunkOf m c ⟨q.val / 16384, by omega⟩ ⟨q.val % 16384 / 128, by omega⟩) x) i) (Fin.ext (by show r.val % 128 = q.val % 128; omega))

/-- The array of the weights of the chosen experts after the run. -/
theorem array19 (c : Dev nD) : (dats m 0 c).arrAt 19 cfg0.N = (fun i : S4x32768.Idx => (weight (logitsAt m c (i 1)) (i 0) : EReal)) := by
  refine (dats m 0 c).arrAt_eq_of_covers 19 _ (by decide +kernel) (fun t _ => ?_)
  intro (y : S4x512.Idx)
  rw [after0_19]
  have h0 : (grid0.coords t 0).val < 2 := (grid0.coords t 0).isLt
  have h1 : (grid0.coords t 1).val < 32 := (grid0.coords t 1).isLt
  have hy0 : (y 0).val < 4 := (y 0).isLt
  have hy1 : (y 1).val < 512 := (y 1).isLt
  have hw := row_word ⟨(grid0.coords t 0).val, h0⟩ ⟨(grid0.coords t 1).val, h1⟩
  have key := point19_apply m c t ⟨(y 0).val, hy0⟩ ⟨(y 1).val, hy1⟩ ⟨((grid0.coords t 0).val * 32 + (grid0.coords t 1).val) * 512 + (y 1).val, by omega⟩ rfl
  generalize out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = O at key ⊢
  have e : y = ix2 (⟨(y 0).val, hy0⟩ : Fin 4) (⟨(y 1).val, hy1⟩ : Fin 512) := funext fun (a : Fin 2) => by
    match a with
    | ⟨0, _⟩ => rfl
    | ⟨1, _⟩ => rfl
  refine (congrArg (O : S4x512.Idx → EReal) e).trans (key.trans ?_)
  refine congr (congrArg (fun q => weight (logitsAt m c q)) (Fin.ext ?_)) (Fin.ext ?_)
  · show ((grid0.coords t 0).val * 32 + (grid0.coords t 1).val) * 512 + (y 1).val = (Scalar.addi (Scalar.addi 0#32 (Scalar.muli (BitVec.ofNat 32 (grid0.coords t 0).val) 32#32)) (BitVec.ofNat 32 (grid0.coords t 1).val)).toNat * 512 + 1 * (y 1).val
    rw [show (Scalar.addi (Scalar.addi 0#32 (Scalar.muli (BitVec.ofNat 32 (grid0.coords t 0).val) 32#32)) (BitVec.ofNat 32 (grid0.coords t 1).val)).toNat = (grid0.coords t 0).val * 32 + (grid0.coords t 1).val from hw]; omega
  · show (y 0).val = 0 * 4 + 1 * (y 0).val
    omega

end Cert.Kernel4Ideal.OutProj

end
-- ==== Proof.OutProj.Reference.lean ====
/- The odd output projection's reference over the extended reals, entry by entry. -/
module

public import proofs.«01_k».proof.Proof.Gen.Reference4Ideal.Run
public import proofs.«01_k».proof.Proof.OutProj.Model
public import Idealize.ShloMosaic.Lib.Pointwise

@[expose] public section

set_option maxRecDepth 16384

noncomputable section

namespace Cert.Reference4Ideal.OutProj

open Cert.Reference4Ideal Cert.Reference4Ideal.Gen Cert.Reference4Ideal.Value Cert.OutProj
open Idealize.ShloMosaic Idealize.ShloMosaic.TcCoe Idealize.ShloMosaic.StableHlo Idealize.SL.Sem

variable (V : Valuation τ sig (Elt Ideal))

/-- The layer's weights, from the arguments. -/
def weightsOf : Weights where
  scale j := (V (Proc.devRef .tc main_arg2) : S512.Idx → EReal) (ix1 j)
  shift j := (V (Proc.devRef .tc main_arg3) : S512.Idx → EReal) (ix1 j)
  mix o p q := (V (Proc.devRef .tc main_arg4) : S4x128x128.Idx → EReal) (ix3 o p q)
  bias o p := (V (Proc.devRef .tc main_arg5) : S4x128.Idx → EReal) (ix2 o p)
  out k n := (V (Proc.devRef .tc main_arg6) : S1024x1024.Idx → EReal) (ix2 k n)
  lnScale n := (V (Proc.devRef .tc main_arg11) : S1024.Idx → EReal) (ix1 n)
  lnShift n := (V (Proc.devRef .tc main_arg12) : S1024.Idx → EReal) (ix1 n)
  router e n := (V (Proc.devRef .tc main_arg13) : S32x1024.Idx → EReal) (ix2 e n)
  routerBias e := (V (Proc.devRef .tc main_arg14) : S32.Idx → EReal) (ix1 e)

/-- Chunk `J` of the 128 chunks of sequence `b`, from the arguments. -/
def chunkOf (b : Fin 2) (J : Fin 128) : Chunk where
  fourier p k := (V (Proc.devRef .tc main_arg0) : S2x16384x512.Idx → EReal) (ix3 b ⟨128 * J.val + p.val, by omega⟩ k)
  gate p k := (V (Proc.devRef .tc main_arg1) : S2x16384x1536.Idx → EReal) (ix3 b ⟨128 * J.val + p.val, by omega⟩ ⟨512 + k.val, by omega⟩)
  value p k := (V (Proc.devRef .tc main_arg1) : S2x16384x1536.Idx → EReal) (ix3 b ⟨128 * J.val + p.val, by omega⟩ ⟨1024 + k.val, by omega⟩)
  stream p n := (V (Proc.devRef .tc main_arg7) : S2x16384x1024.Idx → EReal) (ix3 b ⟨128 * J.val + p.val, by omega⟩ n)
  resid n := (V (Proc.devRef .tc main_arg8) : S8x1x1024.Idx → EReal) (ix3 (⟨b.val, by omega⟩ : Fin 8) (0 : Fin 1) n)
  modScale n := (V (Proc.devRef .tc main_arg9) : S8x1x1024.Idx → EReal) (ix3 (⟨b.val, by omega⟩ : Fin 8) (0 : Fin 1) n)
  modShift n := (V (Proc.devRef .tc main_arg10) : S8x1x1024.Idx → EReal) (ix3 (⟨b.val, by omega⟩ : Fin 8) (0 : Fin 1) n)

/-- The value half through the error unit, a channel group at a time. -/
theorem value_apply (b : Fin 2) (R : Fin 16384) (g : Fin 4) (e : Fin 128) :
    (res_main_v19 V : S2x16384x4x128.Idx → EReal) (ix4 b R g e) = gelu ((V (Proc.devRef .tc main_arg1) : S2x16384x1536.Idx → EReal) (ix3 b R ⟨1024 + (128 * g.val + e.val), by omega⟩)) := by
  unfold res_main_v19 res_main_v10 res_main_v0
  generalize (V (Proc.devRef .tc main_arg1) : S2x16384x1536.Idx → EReal) = X
  pointwise []
  have e : (⟨1024 + (g.val * 128 + e.val), by omega⟩ : Fin 1536) = ⟨1024 + (128 * g.val + e.val), by omega⟩ := Fin.ext (by show 1024 + (g.val * 128 + e.val) = 1024 + (128 * g.val + e.val); omega)
  rw [e]
  rfl

/-- The gate half before the error unit. -/
theorem gate_apply (b : Fin 2) (R : Fin 16384) (k : Fin 512) :
    (res_main_v1 V : S2x16384x512.Idx → EReal) (ix3 b R k) = (V (Proc.devRef .tc main_arg1) : S2x16384x1536.Idx → EReal) (ix3 b R ⟨512 + k.val, by omega⟩) := by
  unfold res_main_v1 res_main_v0
  generalize (V (Proc.devRef .tc main_arg1) : S2x16384x1536.Idx → EReal) = X
  pointwise []

/-- The value half through the error unit, as a table. -/
def groups : S2x16384x4x128.Idx → EReal := res_main_v19 V

/-- The row mean of the spatial norm. -/
theorem mean_apply (b : Fin 2) (R : Fin 16384) (g : Fin 4) (z : Fin 1) :
    (res_main_v23 V : S2x16384x4x1.Idx → EReal) (ix4 b R g z) = Ideal.div (∑ e : Fin 128, groups V (ix4 b R g e)) (Ideal.ofBits FTy.f32 0x43000000#32) := by
  unfold groups res_main_v23
  generalize (res_main_v19 V : S2x16384x4x128.Idx → EReal) = X
  pointwise []

/-- A centred entry of the spatial norm. -/
theorem centred_apply (b : Fin 2) (R : Fin 16384) (g : Fin 4) (e : Fin 128) :
    (res_main_v25 V : S2x16384x4x128.Idx → EReal) (ix4 b R g e) = groups V (ix4 b R g e)
      - Ideal.div (∑ e : Fin 128, groups V (ix4 b R g e)) (Ideal.ofBits FTy.f32 0x43000000#32) := by
  have h := mean_apply V b R g
  unfold groups at h ⊢
  unfold res_main_v25
  generalize (res_main_v19 V : S2x16384x4x128.Idx → EReal) = X at h ⊢
  generalize (res_main_v23 V : S2x16384x4x1.Idx → EReal) = Y at h ⊢
  pointwise []
  rw [h]

/-- The normed and scaled value half, before it is laid out in chunks. -/
def affine : FVec Ideal S2x16384x512 .f32 :=
  addf (mulf (shapeCast S2x16384x512 (mulf (subf (res_main_v19 V) (broadcastInDim S2x16384x4x128 ![0, 1, 2, 3] bcast_S2x16384x4x1_S2x16384x4x128_0_1_2_3 (res_main_v23 V))) (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf (res_main_v25 V) (res_main_v25 V)) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x3727C5AC#32)))))) shapeCasts_S2x16384x4x128_S2x16384x512) (broadcastInDim S2x16384x512 ![0, 1, 2] bcast_S1x1x512_S2x16384x512_0_1_2 (broadcastInDim S1x1x512 ![2] bcast_S512_S1x1x512_2 (V (Proc.devRef .tc main_arg2))))) (broadcastInDim S2x16384x512 ![0, 1, 2] bcast_S1x1x512_S2x16384x512_0_1_2 (broadcastInDim S1x1x512 ![2] bcast_S512_S1x1x512_2 (V (Proc.devRef .tc main_arg3))))

/-- An entry of it. -/
theorem affine_apply (b : Fin 2) (R : Fin 16384) (j : Fin 512) :
    affine V (ix3 b R j) = normed (Ideal.ofBits FTy.f32 0x43000000#32) (fun e : Fin 128 => (res_main_v19 V : S2x16384x4x128.Idx → EReal) (ix4 b R ⟨j.val / 128, by omega⟩ e)) ⟨j.val % 128, by omega⟩
      * (V (Proc.devRef .tc main_arg2) : S512.Idx → EReal) (ix1 j) + (V (Proc.devRef .tc main_arg3) : S512.Idx → EReal) (ix1 j) := by
  have hm := mean_apply V b R
  have hc := centred_apply V b R
  unfold groups at hm hc
  unfold affine normed
  generalize (res_main_v19 V : S2x16384x4x128.Idx → EReal) = X at hm hc ⊢
  generalize (res_main_v23 V : S2x16384x4x1.Idx → EReal) = Y at hm ⊢
  generalize (res_main_v25 V : S2x16384x4x128.Idx → EReal) = Z at hc ⊢
  generalize (V (Proc.devRef .tc main_arg2) : S512.Idx → EReal) = s
  generalize (V (Proc.devRef .tc main_arg3) : S512.Idx → EReal) = t
  pointwise []
  simp only [hm, hc]

/-- The stream before its layer norm, with the normed and scaled value half named. -/
theorem mixed_eq : res_main_v62 V = addf (mulf (broadcastInDim S2x16384x1024 ![] bcast_S_S2x16384x1024 (constant S_ .f32 0x3FB504F3#32)) (V (Proc.devRef .tc main_arg7))) (mulf (broadcastInDim S2x16384x1024 ![0, 1, 2] bcast_S2x1x1024_S2x16384x1024_0_1_2 (extractStridedSlice S2x1x1024 ![0, 0, 0] (V (Proc.devRef .tc main_arg8)) slices_S8x1x1024_S2x1x1024_0_0_0)) (Host.dotGeneral (F := Ideal) (φ₁ := .f32) (φ₂ := .f32) dot_S2x16384x1024_S1024x1024_S2x16384x1024_2_0_01_1_n_n none (concatenate S2x16384x1024 2 [⟨S2x16384x512, (V (Proc.devRef .tc main_arg0))⟩, ⟨S2x16384x512, (mulf (mulf (mulf (broadcastInDim S2x16384x512 ![] bcast_S_S2x16384x512 (constant S_ .f32 0x3F000000#32)) (res_main_v1 V)) (addf (broadcastInDim S2x16384x512 ![] bcast_S_S2x16384x512 (constant S_ .f32 0x3F800000#32)) (Host.erf (mulf (res_main_v1 V) (broadcastInDim S2x16384x512 ![] bcast_S_S2x16384x512 (constant S_ .f32 0x3F3504F3#32)))))) (shapeCast _ (addf (transpose S2x128x128x4x128 [1, 2, 4, 0, 3] (Host.dotGeneral (F := Ideal) (φ₁ := .f32) (φ₂ := .f32) dot_S2x128x128x4x128_S4x128x128_S4x2x128x128x128_2_2_014_1_3_0 none (shapeCast _ (affine V) shapeCasts_S2x16384x512_S2x128x128x4x128) (V (Proc.devRef .tc main_arg4))) transposes_S4x2x128x128x128_S2x128x128x4x128_1_2_4_0_3) (broadcastInDim S2x128x128x4x128 ![0, 1, 2, 3, 4] bcast_S1x1x128x4x1_S2x128x128x4x128_0_1_2_3_4 (broadcastInDim S1x1x128x4x1 ![2, 3] bcast_S128x4_S1x1x128x4x1_2_3 (transpose S128x4 [1, 0] (V (Proc.devRef .tc main_arg5)) transposes_S4x128_S128x4_1_0)))) shapeCasts_S2x128x128x4x128_S2x16384x512))⟩] concatenates_S2x16384x512_S2x16384x512_S2x16384x1024_d2) (extf .f32 (V (Proc.devRef .tc main_arg6)) bitsLt_bf16_f32))) := rfl

/-- An entry of it: the mathematics of the token's chunk. -/
theorem mixed_apply (b : Fin 2) (R : Fin 16384) (n : Fin 1024) :
    (res_main_v62 V : S2x16384x1024.Idx → EReal) (ix3 b R n) = mixed (weightsOf V) (chunkOf V b ⟨R.val / 128, by omega⟩) ⟨R.val % 128, by omega⟩ n := by
  have ha := affine_apply V b
  have hg := gate_apply V b
  simp only [value_apply] at ha
  rw [mixed_eq]
  unfold mixed act spatial gelu weightsOf chunkOf
  generalize affine V = Z at ha ⊢
  generalize (res_main_v1 V : S2x16384x512.Idx → EReal) = G at hg ⊢
  pointwise []
  have hR : (⟨128 * (R.val / 128) + R.val % 128, by omega⟩ : Fin 16384) = R := Fin.ext (Nat.div_add_mod _ _)
  have hc : R.val / 128 * 128 = 128 * (R.val / 128) := Nat.mul_comm _ _
  simp only [ha, hg, Nat.div_add_mod', hc, hR, Fin.eta]
  refine congrArg (HAdd.hAdd _) (congrArg (HMul.hMul _) (congrArg (HAdd.hAdd _) (Finset.sum_congr rfl fun x _ => congrFun (congrArg HMul.hMul (congrArg (HMul.hMul _) (congrFun (congrArg HAdd.hAdd (Finset.sum_congr rfl fun q _ => ?_)) _))) _)))
  exact mul_comm _ _

/-- The stream before its layer norm, as a table. -/
def pre : S2x16384x1024.Idx → EReal := res_main_v62 V

/-- The new stream. -/
def stream : FVec Ideal S2x16384x1024 .f32 :=
  addf (mulf (mulf (subf (res_main_v62 V) (broadcastInDim S2x16384x1024 ![0, 1, 2] bcast_S2x16384x1_S2x16384x1024_0_1_2 (res_main_v66 V))) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (res_main_v68 V) (res_main_v68 V)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x3727C5AC#32)))))) (broadcastInDim S2x16384x1024 ![0, 1, 2] bcast_S1x1x1024_S2x16384x1024_0_1_2 (broadcastInDim S1x1x1024 ![2] bcast_S1024_S1x1x1024_2 (V (Proc.devRef .tc main_arg11))))) (broadcastInDim S2x16384x1024 ![0, 1, 2] bcast_S1x1x1024_S2x16384x1024_0_1_2 (broadcastInDim S1x1x1024 ![2] bcast_S1024_S1x1x1024_2 (V (Proc.devRef .tc main_arg12))))

/-- The row mean of the layer norm. -/
theorem rowMean_apply (b : Fin 2) (R : Fin 16384) (z : Fin 1) :
    (res_main_v66 V : S2x16384x1.Idx → EReal) (ix3 b R z) = Ideal.div (∑ n : Fin 1024, pre V (ix3 b R n)) (Ideal.ofBits FTy.f32 0x44800000#32) := by
  unfold pre res_main_v66
  generalize (res_main_v62 V : S2x16384x1024.Idx → EReal) = X
  pointwise []

/-- A centred entry of the layer norm. -/
theorem rowCentred_apply (b : Fin 2) (R : Fin 16384) (n : Fin 1024) :
    (res_main_v68 V : S2x16384x1024.Idx → EReal) (ix3 b R n) = pre V (ix3 b R n)
      - Ideal.div (∑ n : Fin 1024, pre V (ix3 b R n)) (Ideal.ofBits FTy.f32 0x44800000#32) := by
  have h := rowMean_apply V b R
  unfold pre at h ⊢
  unfold res_main_v68
  generalize (res_main_v62 V : S2x16384x1024.Idx → EReal) = X at h ⊢
  generalize (res_main_v66 V : S2x16384x1.Idx → EReal) = Y at h ⊢
  pointwise []
  rw [h]

/-- An entry of the new stream: the mathematics of the token's chunk. -/
theorem stream_apply (b : Fin 2) (R : Fin 16384) (n : Fin 1024) :
    stream V (ix3 b R n) = newStream (weightsOf V) (chunkOf V b ⟨R.val / 128, by omega⟩) ⟨R.val % 128, by omega⟩ n := by
  have hm := rowMean_apply V b R
  have hc := rowCentred_apply V b R
  have hx := mixed_apply V b R
  unfold pre at hm hc
  unfold stream newStream normed
  generalize (res_main_v62 V : S2x16384x1024.Idx → EReal) = X at hm hc hx ⊢
  generalize (res_main_v66 V : S2x16384x1.Idx → EReal) = Y at hm ⊢
  generalize (res_main_v68 V : S2x16384x1024.Idx → EReal) = Z at hc ⊢
  pointwise []
  simp only [hm, hc, hx]
  rfl

/-- The modulated stream, from the new one. -/
theorem hidden_eq : (res_main_v95 V : FVec Ideal S32768x1024 .f32) = shapeCast S32768x1024 (addf (mulf (stream V) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 0] (V (Proc.devRef .tc main_arg9)) slices_S8x1x1024_S2x1x1024_0_0_0)))) (broadcastInDim S2x16384x1024 ![0, 1, 2] bcast_S2x1x1024_S2x16384x1024_0_1_2 (extractStridedSlice S2x1x1024 ![0, 0, 0] (V (Proc.devRef .tc main_arg10)) slices_S8x1x1024_S2x1x1024_0_0_0))) shapeCasts_S2x16384x1024_S32768x1024 := rfl

/-- The chunk of token `q`, counted over both sequences. -/
abbrev tokenChunk (q : Fin 32768) : Chunk := chunkOf V ⟨q.val / 16384, by omega⟩ ⟨q.val % 16384 / 128, by omega⟩

/-- An entry of the modulated stream. -/
theorem hidden_apply (q : Fin 32768) (n : Fin 1024) :
    (res_main_v95 V : S32768x1024.Idx → EReal) (ix2 q n) = hidden (weightsOf V) (tokenChunk V q) ⟨q.val % 128, by omega⟩ n := by
  have hs := stream_apply V
  rw [hidden_eq]
  unfold OutProj.hidden
  generalize stream V = X at hs ⊢
  pointwise []
  rw [hs, show (⟨q.val % 16384 % 128, by omega⟩ : Fin 128) = ⟨q.val % 128, by omega⟩ from Fin.ext (by show q.val % 16384 % 128 = q.val % 128; omega)]
  rfl

/-- The router's scores of token `q`. -/
abbrev scores (q : Fin 32768) : Fin 32 → EReal := logit (weightsOf V) (tokenChunk V q) ⟨q.val % 128, by omega⟩

/-- An entry of the scores. -/
theorem logit_apply (q : Fin 32768) (e : Fin 32) : (res_main_v101 V : S32768x32.Idx → EReal) (ix2 q e) = scores V q e := by
  have hh := hidden_apply V q
  unfold res_main_v101 scores logit
  generalize (res_main_v95 V : S32768x1024.Idx → EReal) = X at hh ⊢
  pointwise []
  simp only [hh]
  exact congrArg₂ (· + ·) (Finset.sum_congr rfl fun k _ => mul_comm _ _) rfl

/-- The best score of each row. -/
def bestOf (L : FVec Ideal S32768x32 .f32) : FVec Ideal S32768x1 .f32 :=
  broadcastInDim S32768x1 ![0] bcast_S32768_S32768x1_0 (Host.reduce FloatOps.maximumf L (constant S_ .f32 0xFF800000#32) reducesTo_S32768x32_S32768_d1 h_S_)

/-- The first expert of each row with the best score. -/
def firstOf (L : FVec Ideal S32768x32 .f32) : IVec S32768x1 32 :=
  broadcastInDim S32768x1 ![0] bcast_S32768_S32768x1_0 (Host.reduce IntOp.minsi (select (cmpf .oeq L (broadcastInDim S32768x32 ![0, 1] bcast_S32768x1_S32768x32_0_1 (bestOf L))) (iotaInDim S32768x32 32 1) (broadcastInDim S32768x32 ![] bcast_S_S32768x32 (id (constantI S_ 32 32#32)))) (constantI S_ 32 2147483647#32) reducesTo_S32768x32_S32768_d1 h_S_)

/-- The scores with each row's first best expert taken out. -/
def restOf (L : FVec Ideal S32768x32 .f32) : FVec Ideal S32768x32 .f32 :=
  select (cmpi .eq (iotaInDim S32768x32 32 1) (broadcastInDim S32768x32 ![0, 1] bcast_S32768x1_S32768x32_0_1 (firstOf L))) (broadcastInDim S32768x32 ![] bcast_S_S32768x32 (id (constant S_ .f32 0xFF800000#32))) L

/-- An entry of the best scores. -/
theorem bestOf_apply (L : FVec Ideal S32768x32 .f32) (q : Fin 32768) (z : Fin 1) : bestOf L (ix2 q z) = best (fun e => L (ix2 q e)) := by
  unfold bestOf
  pointwise []
  rfl

/-- An entry of the first best experts. -/
theorem firstOf_apply (L : FVec Ideal S32768x32 .f32) (q : Fin 32768) (z : Fin 1) : firstOf L (ix2 q z) = first (fun e => L (ix2 q e)) := by
  have h := bestOf_apply L q
  unfold firstOf first
  generalize bestOf L = M at h ⊢
  pointwise []
  simp only [h]
  rfl

/-- An entry of the remaining scores. -/
theorem restOf_apply (L : FVec Ideal S32768x32 .f32) (q : Fin 32768) (e : Fin 32) : restOf L (ix2 q e) = rest (fun e => L (ix2 q e)) e := by
  have h := firstOf_apply L q
  unfold restOf rest
  generalize firstOf L = M at h ⊢
  pointwise []
  simp only [h]
  rfl

/-- The scores after one round. -/
theorem round1 (q : Fin 32768) (e : Fin 32) : (res_main_v112 V : S32768x32.Idx → EReal) (ix2 q e) = rounds (scores V q) 1 e := by
  rw [show (res_main_v112 V : FVec Ideal S32768x32 .f32) = restOf (res_main_v101 V) from rfl, restOf_apply]
  simp only [logit_apply]
  rfl
/-- The scores after two rounds. -/
theorem round2 (q : Fin 32768) (e : Fin 32) : (res_main_v122 V : S32768x32.Idx → EReal) (ix2 q e) = rounds (scores V q) 2 e := by
  rw [show (res_main_v122 V : FVec Ideal S32768x32 .f32) = restOf (res_main_v112 V) from rfl, restOf_apply]
  simp only [round1]
  rfl
/-- The scores after three rounds. -/
theorem round3 (q : Fin 32768) (e : Fin 32) : (res_main_v132 V : S32768x32.Idx → EReal) (ix2 q e) = rounds (scores V q) 3 e := by
  rw [show (res_main_v132 V : FVec Ideal S32768x32 .f32) = restOf (res_main_v122 V) from rfl, restOf_apply]
  simp only [round2]
  rfl

/-- The best score in round 0. -/
theorem best0 (q : Fin 32768) (z : Fin 1) : (res_main_v104 V : S32768x1.Idx → EReal) (ix2 q z) = best (rounds (scores V q) 0) := by
  rw [show (res_main_v104 V : FVec Ideal S32768x1 .f32) = bestOf (res_main_v101 V) from rfl, bestOf_apply]
  simp only [logit_apply]
  rfl
/-- The first expert with the best score in round 0. -/
theorem first0 (q : Fin 32768) (z : Fin 1) : (res_main_v109 V : S32768x1.Idx → BitVec 32) (ix2 q z) = first (rounds (scores V q) 0) := by
  rw [show (res_main_v109 V : IVec S32768x1 32) = firstOf (res_main_v101 V) from rfl, firstOf_apply]
  simp only [logit_apply]
  rfl

/-- The best score in round 1. -/
theorem best1 (q : Fin 32768) (z : Fin 1) : (res_main_v114 V : S32768x1.Idx → EReal) (ix2 q z) = best (rounds (scores V q) 1) := by
  rw [show (res_main_v114 V : FVec Ideal S32768x1 .f32) = bestOf (res_main_v112 V) from rfl, bestOf_apply]
  simp only [round1]
/-- The first expert with the best score in round 1. -/
theorem first1 (q : Fin 32768) (z : Fin 1) : (res_main_v119 V : S32768x1.Idx → BitVec 32) (ix2 q z) = first (rounds (scores V q) 1) := by
  rw [show (res_main_v119 V : IVec S32768x1 32) = firstOf (res_main_v112 V) from rfl, firstOf_apply]
  simp only [round1]

/-- The best score in round 2. -/
theorem best2 (q : Fin 32768) (z : Fin 1) : (res_main_v124 V : S32768x1.Idx → EReal) (ix2 q z) = best (rounds (scores V q) 2) := by
  rw [show (res_main_v124 V : FVec Ideal S32768x1 .f32) = bestOf (res_main_v122 V) from rfl, bestOf_apply]
  simp only [round2]
/-- The first expert with the best score in round 2. -/
theorem first2 (q : Fin 32768) (z : Fin 1) : (res_main_v129 V : S32768x1.Idx → BitVec 32) (ix2 q z) = first (rounds (scores V q) 2) := by
  rw [show (res_main_v129 V : IVec S32768x1 32) = firstOf (res_main_v122 V) from rfl, firstOf_apply]
  simp only [round2]

/-- The best score in round 3. -/
theorem best3 (q : Fin 32768) (z : Fin 1) : (res_main_v134 V : S32768x1.Idx → EReal) (ix2 q z) = best (rounds (scores V q) 3) := by
  rw [show (res_main_v134 V : FVec Ideal S32768x1 .f32) = bestOf (res_main_v132 V) from rfl, bestOf_apply]
  simp only [round3]
/-- The first expert with the best score in round 3. -/
theorem first3 (q : Fin 32768) (z : Fin 1) : (res_main_v139 V : S32768x1.Idx → BitVec 32) (ix2 q z) = first (rounds (scores V q) 3) := by
  rw [show (res_main_v139 V : IVec S32768x1 32) = firstOf (res_main_v132 V) from rfl, firstOf_apply]
  simp only [round3]

/-- The chosen experts, a row a round. -/
def experts : IVec S4x32768 32 :=
  transpose S4x32768 [1, 0] ((concatenate S32768x4 1 [⟨S32768x1, ((res_main_v109 V) : (⟨S32768x1, .i32⟩ : BufTy).Contents (Elt Ideal))⟩, ⟨S32768x1, ((res_main_v119 V) : (⟨S32768x1, .i32⟩ : BufTy).Contents (Elt Ideal))⟩, ⟨S32768x1, ((res_main_v129 V) : (⟨S32768x1, .i32⟩ : BufTy).Contents (Elt Ideal))⟩, ⟨S32768x1, ((res_main_v139 V) : (⟨S32768x1, .i32⟩ : BufTy).Contents (Elt Ideal))⟩] concatenates_S32768x1_S32768x1_S32768x1_S32768x1_S32768x4_d1 : (⟨S32768x4, .i32⟩ : BufTy).Contents (Elt Ideal))) transposes_S32768x4_S4x32768_1_0

/-- An entry of them. -/
theorem experts_apply (i : Fin 4) (q : Fin 32768) : experts V (ix2 i q) = chosen (scores V q) i := by
  have h0 := first0 V q
  have h1 := first1 V q
  have h2 := first2 V q
  have h3 := first3 V q
  unfold experts chosen
  generalize (res_main_v109 V : S32768x1.Idx → BitVec 32) = A at h0 ⊢
  generalize (res_main_v119 V : S32768x1.Idx → BitVec 32) = B at h1 ⊢
  generalize (res_main_v129 V : S32768x1.Idx → BitVec 32) = C at h2 ⊢
  generalize (res_main_v139 V : S32768x1.Idx → BitVec 32) = D at h3 ⊢
  pointwise []
  simp only [h0, h1, h2, h3]
  match i with
  | ⟨0, _⟩ => rfl
  | ⟨1, _⟩ => rfl
  | ⟨2, _⟩ => rfl
  | ⟨3, _⟩ => rfl

/-- The four best scores of a token. -/
theorem bests_apply (q : Fin 32768) (i : Fin 4) : (res_main_v143 V : S32768x4.Idx → EReal) (ix2 q i) = best (rounds (scores V q) i.val) := by
  have h0 := best0 V q
  have h1 := best1 V q
  have h2 := best2 V q
  have h3 := best3 V q
  unfold res_main_v143
  generalize (res_main_v104 V : S32768x1.Idx → EReal) = A at h0 ⊢
  generalize (res_main_v114 V : S32768x1.Idx → EReal) = B at h1 ⊢
  generalize (res_main_v124 V : S32768x1.Idx → EReal) = C at h2 ⊢
  generalize (res_main_v134 V : S32768x1.Idx → EReal) = D at h3 ⊢
  pointwise []
  simp only [h0, h1, h2, h3]
  match i with
  | ⟨0, _⟩ => rfl
  | ⟨1, _⟩ => rfl
  | ⟨2, _⟩ => rfl
  | ⟨3, _⟩ => rfl

/-- The largest of the four best scores is the first. -/
theorem max_bests (l : Fin 32 → EReal) : max (Ideal.ofBits FTy.f32 0xFF800000#32) (Finset.univ.fold max (Ideal.ofBits FTy.f32 0xFF800000#32) fun i : Fin 4 => best (rounds l i.val)) = best l := by
  have hb : Ideal.ofBits FTy.f32 0xFF800000#32 = ⊥ := by
    simp [Ideal.ofBits, Ideal.ieee]
  rw [hb, max_eq_right bot_le]
  refine le_antisymm ((Finset.fold_max_le _).mpr ⟨bot_le, fun i _ => best_rounds_le l i.val⟩) ((Finset.le_fold_max _).mpr (Or.inr ⟨0, Finset.mem_univ _, le_refl _⟩))

/-- The exponentials of each row of four, relative to the row's largest. -/
def expsOf (B : FVec Ideal S32768x4 .f32) : FVec Ideal S32768x4 .f32 :=
  Host.exp (subf B (broadcastInDim S32768x4 ![0, 1] bcast_S32768x1_S32768x4_0_1 (broadcastInDim S32768x1 ![0] bcast_S32768_S32768x1_0 (maximumf (broadcastInDim S32768 ![] bcast_S_S32768 (constant S_ .f32 0xFF800000#32)) (Host.reduce FloatOps.maximumf B (constant S_ .f32 0xFF800000#32) reducesTo_S32768x4_S32768_d1 h_S_)))))

/-- An entry of them. -/
theorem expsOf_apply (B : FVec Ideal S32768x4 .f32) (q : Fin 32768) (i : Fin 4) :
    expsOf B (ix2 q i) = Ideal.exp (B (ix2 q i) - max (Ideal.ofBits FTy.f32 0xFF800000#32) (Finset.univ.fold max (Ideal.ofBits FTy.f32 0xFF800000#32) fun j : Fin 4 => B (ix2 q j))) := by
  unfold expsOf
  pointwise []

/-- The exponentials of the four best scores, relative to the largest. -/
theorem exps_apply (q : Fin 32768) (i : Fin 4) : (res_main_v150 V : S32768x4.Idx → EReal) (ix2 q i) = Ideal.exp (best (rounds (scores V q) i.val) - best (scores V q)) := by
  have h := bests_apply V q
  rw [show (res_main_v150 V : FVec Ideal S32768x4 .f32) = expsOf (res_main_v143 V) from rfl, expsOf_apply]
  simp only [h]
  rw [max_bests]

/-- The weights of the chosen experts, a row a round. -/
def gates : FVec Ideal S4x32768 .f32 :=
  transpose S4x32768 [1, 0] (Host.divf (res_main_v150 V) (broadcastInDim S32768x4 ![0, 1] bcast_S32768x1_S32768x4_0_1 (broadcastInDim S32768x1 ![0] bcast_S32768_S32768x1_0 (Host.reduceAdd (res_main_v150 V) (constant S_ .f32 0x00000000#32) reducesTo_S32768x4_S32768_d1 h_S_)))) transposes_S32768x4_S4x32768_1_0

/-- An entry of them. -/
theorem gates_apply (i : Fin 4) (q : Fin 32768) : gates V (ix2 i q) = weight (scores V q) i := by
  have h := exps_apply V q
  unfold gates weight
  generalize (res_main_v150 V : S32768x4.Idx → EReal) = A at h ⊢
  pointwise []
  simp only [h]

end Cert.Reference4Ideal.OutProj

end
-- ==== Proof.OutProj.Claims.lean ====
/- The claims about the output projection of the ODD layer: the frames of the kernel and of the reference, and the equality of
   their four results. -/
module

public import proofs.«01_k».proof.Defs
public import proofs.«01_k».proof.Proof.Gen.Kernel4.Frame
public import proofs.«01_k».proof.Proof.Gen.Reference4Ideal.Run
public import proofs.«01_k».proof.Proof.OutProj.Arrays
public import proofs.«01_k».proof.Proof.OutProj.Reference
public import Idealize.ShloMosaic.Lib.Quiescent

@[expose] public section

set_option maxRecDepth 16384

noncomputable section

namespace Cert.OutProj

open Idealize.ShloMosaic Idealize.ShloMosaic.TcCoe Idealize.ShloMosaic.StableHlo Idealize.SL.Sem

/-- The frame of the kernel as it is. -/
theorem frame_kernel : Cert.quiescent_Kernel4 (hKernel4 := Cert.Kernel4.Gen.facts) := fun m g _ => Cert.Kernel4.Gen.frame m g

/-- The frame of the kernel over the extended reals. -/
theorem frame_ideal : Cert.quiescent_Kernel4Ideal (hKernel4Ideal := Cert.Kernel4Ideal.Gen.facts) := fun m g _ => Cert.Kernel4Ideal.Gen.frame m g

/-- The frame of the reference: it is host code only and declares no semaphore. -/
theorem frame_reference : Cert.quiescent_Reference4Ideal (hReference4Ideal := Cert.Reference4Ideal.Gen.facts) := fun m g _ =>
  (θ_run _ _ _).mono (fun r h => ⟨fun c => (h c).2.2.2.2, sem_eq_zero_of_no_sems (by decide) r.2⟩) (Cert.Reference4Ideal.Value.run (F := Ideal) m g)

variable (m : (ℓ : Loc Cert.Kernel4Ideal.nD Cert.Kernel4Ideal.τ Cert.Kernel4Ideal.sig) → Buf (Elt Ideal) ℓ)
variable (m' : (ℓ : Loc Cert.Reference4Ideal.nD Cert.Reference4Ideal.τ Cert.Reference4Ideal.sig) → Buf (Elt Ideal) ℓ)

/-- Equal arguments give both sides the same weights. -/
theorem weights_eq (c : Dev Cert.Kernel4Ideal.nD) (c' : Dev Cert.Reference4Ideal.nD)
    (h2 : m' ((c'.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c'.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c'.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c'.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (h6 : m' ((c'.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6))
    (h11 : m' ((c'.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11))
    (h12 : m' ((c'.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12))
    (h13 : m' ((c'.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13))
    (h14 : m' ((c'.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) :
    Cert.Reference4Ideal.OutProj.weightsOf (launchContents m' c') = Cert.Kernel4Ideal.OutProj.weightsOf m c := by
  have e2 : launchContents m' c' (Proc.devRef .tc Cert.Reference4Ideal.main_arg2) = m ((c.tc : Thread Cert.Kernel4Ideal.nD Cert.Kernel4Ideal.τ).loc Cert.Kernel4Ideal.main_arg2) := h2
  have e3 : launchContents m' c' (Proc.devRef .tc Cert.Reference4Ideal.main_arg3) = m ((c.tc : Thread Cert.Kernel4Ideal.nD Cert.Kernel4Ideal.τ).loc Cert.Kernel4Ideal.main_arg3) := h3
  have e4 : launchContents m' c' (Proc.devRef .tc Cert.Reference4Ideal.main_arg4) = m ((c.tc : Thread Cert.Kernel4Ideal.nD Cert.Kernel4Ideal.τ).loc Cert.Kernel4Ideal.main_arg4) := h4
  have e5 : launchContents m' c' (Proc.devRef .tc Cert.Reference4Ideal.main_arg5) = m ((c.tc : Thread Cert.Kernel4Ideal.nD Cert.Kernel4Ideal.τ).loc Cert.Kernel4Ideal.main_arg5) := h5
  have e6 : launchContents m' c' (Proc.devRef .tc Cert.Reference4Ideal.main_arg6) = m ((c.tc : Thread Cert.Kernel4Ideal.nD Cert.Kernel4Ideal.τ).loc Cert.Kernel4Ideal.main_arg6) := h6
  have e11 : launchContents m' c' (Proc.devRef .tc Cert.Reference4Ideal.main_arg11) = m ((c.tc : Thread Cert.Kernel4Ideal.nD Cert.Kernel4Ideal.τ).loc Cert.Kernel4Ideal.main_arg11) := h11
  have e12 : launchContents m' c' (Proc.devRef .tc Cert.Reference4Ideal.main_arg12) = m ((c.tc : Thread Cert.Kernel4Ideal.nD Cert.Kernel4Ideal.τ).loc Cert.Kernel4Ideal.main_arg12) := h12
  have e13 : launchContents m' c' (Proc.devRef .tc Cert.Reference4Ideal.main_arg13) = m ((c.tc : Thread Cert.Kernel4Ideal.nD Cert.Kernel4Ideal.τ).loc Cert.Kernel4Ideal.main_arg13) := h13
  have e14 : launchContents m' c' (Proc.devRef .tc Cert.Reference4Ideal.main_arg14) = m ((c.tc : Thread Cert.Kernel4Ideal.nD Cert.Kernel4Ideal.τ).loc Cert.Kernel4Ideal.main_arg14) := h14
  unfold Cert.Reference4Ideal.OutProj.weightsOf
  rw [e2, e3, e4, e5, e6, e11, e12, e13, e14]
  rfl

/-- Equal arguments give both sides the same chunks. -/
theorem chunk_eq (c : Dev Cert.Kernel4Ideal.nD) (c' : Dev Cert.Reference4Ideal.nD)
    (h0 : m' ((c'.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c'.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h7 : m' ((c'.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7))
    (h8 : m' ((c'.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8))
    (h9 : m' ((c'.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9))
    (h10 : m' ((c'.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10))
    (b : Fin 2) (J : Fin 128) :
    Cert.Reference4Ideal.OutProj.chunkOf (launchContents m' c') b J = Cert.Kernel4Ideal.OutProj.chunkOf m c b J := by
  have e0 : launchContents m' c' (Proc.devRef .tc Cert.Reference4Ideal.main_arg0) = m ((c.tc : Thread Cert.Kernel4Ideal.nD Cert.Kernel4Ideal.τ).loc Cert.Kernel4Ideal.main_arg0) := h0
  have e1 : launchContents m' c' (Proc.devRef .tc Cert.Reference4Ideal.main_arg1) = m ((c.tc : Thread Cert.Kernel4Ideal.nD Cert.Kernel4Ideal.τ).loc Cert.Kernel4Ideal.main_arg1) := h1
  have e7 : launchContents m' c' (Proc.devRef .tc Cert.Reference4Ideal.main_arg7) = m ((c.tc : Thread Cert.Kernel4Ideal.nD Cert.Kernel4Ideal.τ).loc Cert.Kernel4Ideal.main_arg7) := h7
  have e8 : launchContents m' c' (Proc.devRef .tc Cert.Reference4Ideal.main_arg8) = m ((c.tc : Thread Cert.Kernel4Ideal.nD Cert.Kernel4Ideal.τ).loc Cert.Kernel4Ideal.main_arg8) := h8
  have e9 : launchContents m' c' (Proc.devRef .tc Cert.Reference4Ideal.main_arg9) = m ((c.tc : Thread Cert.Kernel4Ideal.nD Cert.Kernel4Ideal.τ).loc Cert.Kernel4Ideal.main_arg9) := h9
  have e10 : launchContents m' c' (Proc.devRef .tc Cert.Reference4Ideal.main_arg10) = m ((c.tc : Thread Cert.Kernel4Ideal.nD Cert.Kernel4Ideal.τ).loc Cert.Kernel4Ideal.main_arg10) := h10
  unfold Cert.Reference4Ideal.OutProj.chunkOf
  rw [e0, e1, e7, e8, e9, e10]
  rfl

/-- The value claim: the kernel's four results are the reference's. -/
theorem value : Cert.algebraic_Kernel4Ideal_Reference4Ideal (hKernel4Ideal := Cert.Kernel4Ideal.Gen.facts) (hReference4Ideal := Cert.Reference4Ideal.Gen.facts) := fun m g m' g' _ hm =>
  ⟨fun c => (fun i : Cert.Kernel4Ideal.S2x16384x1024.Idx => Cert.Kernel4Ideal.OutProj.streamAt m c (i 0) (i 1) (i 2)),
    fun c => (fun i : Cert.Kernel4Ideal.S32768x1024.Idx => Cert.Kernel4Ideal.OutProj.hiddenAt m c (i 0) (i 1)),
    fun c => (fun i : Cert.Kernel4Ideal.S4x32768.Idx => (chosen (Cert.Kernel4Ideal.OutProj.logitsAt m c (i 1)) (i 0) : BitVec 32)),
    fun c => (fun i : Cert.Kernel4Ideal.S4x32768.Idx => (weight (Cert.Kernel4Ideal.OutProj.logitsAt m c (i 1)) (i 0) : EReal)),
    (θ_run _ _ _).mono (fun _ h c => ⟨(h c).1.trans (Cert.Kernel4Ideal.OutProj.array16 m c), (h c).2.1.trans (Cert.Kernel4Ideal.OutProj.array17 m c),
      (h c).2.2.1.trans (Cert.Kernel4Ideal.OutProj.array18 m c), (h c).2.2.2.1.trans (Cert.Kernel4Ideal.OutProj.array19 m c), (h c).2.2.2.2⟩) (Cert.Kernel4Ideal.Value.run_blocks (F := Ideal) m g),
    (θ_run _ _ _).mono (fun _ h c => by
      obtain ⟨h0, h1, h2, h3, h4, h5, h6, h7, h8, h9, h10, h11, h12, h13, h14⟩ := hm c
      have hw := weights_eq m m' c c h2 h3 h4 h5 h6 h11 h12 h13 h14
      have hk := chunk_eq m m' c c h0 h1 h7 h8 h9 h10
      refine ⟨(h c).1.trans ?_, (h c).2.1.trans ?_, (h c).2.2.1.trans ?_, (h c).2.2.2.1.trans ?_, (h c).2.2.2.2⟩
      · refine funext fun (i : Cert.Kernel4Ideal.S2x16384x1024.Idx) => ?_
        obtain ⟨b, R, n, rfl⟩ : ∃ (b : Fin 2) (R : Fin 16384) (n : Fin 1024), i = ix3 b R n := ⟨i 0, i 1, i 2, funext fun (a : Fin 3) => by
          match a with
          | ⟨0, _⟩ => rfl
          | ⟨1, _⟩ => rfl
          | ⟨2, _⟩ => rfl⟩
        refine (Cert.Reference4Ideal.OutProj.stream_apply (launchContents m' c) b R n).trans ?_
        rw [hw, hk]
        rfl
      · refine funext fun (i : Cert.Kernel4Ideal.S32768x1024.Idx) => ?_
        obtain ⟨A, B, rfl⟩ : ∃ (A : Fin 32768) (B : Fin 1024), i = ix2 A B := ⟨i 0, i 1, funext fun (a : Fin 2) => by
          match a with
          | ⟨0, _⟩ => rfl
          | ⟨1, _⟩ => rfl⟩
        refine (Cert.Reference4Ideal.OutProj.hidden_apply (launchContents m' c) A B).trans ?_
        unfold Cert.Reference4Ideal.OutProj.tokenChunk
        rw [hw, hk]
        rfl
      · refine funext fun (i : Cert.Kernel4Ideal.S4x32768.Idx) => ?_
        obtain ⟨A, B, rfl⟩ : ∃ (A : Fin 4) (B : Fin 32768), i = ix2 A B := ⟨i 0, i 1, funext fun (a : Fin 2) => by
          match a with
          | ⟨0, _⟩ => rfl
          | ⟨1, _⟩ => rfl⟩
        refine (Cert.Reference4Ideal.OutProj.experts_apply (launchContents m' c) A B).trans ?_
        unfold Cert.Reference4Ideal.OutProj.scores Cert.Reference4Ideal.OutProj.tokenChunk
        rw [hw, hk]
        rfl
      · refine funext fun (i : Cert.Kernel4Ideal.S4x32768.Idx) => ?_
        obtain ⟨A, B, rfl⟩ : ∃ (A : Fin 4) (B : Fin 32768), i = ix2 A B := ⟨i 0, i 1, funext fun (a : Fin 2) => by
          match a with
          | ⟨0, _⟩ => rfl
          | ⟨1, _⟩ => rfl⟩
        refine (Cert.Reference4Ideal.OutProj.gates_apply (launchContents m' c) A B).trans ?_
        unfold Cert.Reference4Ideal.OutProj.scores Cert.Reference4Ideal.OutProj.tokenChunk
        rw [hw, hk]
        rfl)
      (Cert.Reference4Ideal.Value.run (F := Ideal) m' g')⟩

end Cert.OutProj

end
-- ==== Proof.EvenOut.Model.lean ====
/- The mathematics of the even layer's output projection, for one token: the gated convolution of three neighbouring tokens,
   the projection, the residual stream with its layer norm, the modulation, and the router's scores. The choice of four
   experts is the odd layer's. -/
module

public import proofs.«01_k».proof.Proof.OutProj.Model

@[expose] public section

noncomputable section

namespace Cert.EvenOut

open Idealize.ShloMosaic
open Cert.OutProj (normed best first rest rounds chosen weight)

/-- The weights of the layer. -/
structure Weights where
  conv : Fin 3 → Fin 512 → EReal
  out : Fin 1024 → Fin 1024 → EReal
  lnScale : Fin 1024 → EReal
  lnShift : Fin 1024 → EReal
  router : Fin 32 → Fin 1024 → EReal
  routerBias : Fin 32 → EReal

/-- A token: its attention row, the gated input row of the token before it, of itself and of the one after it (zero outside
    the sequence), the output gate, the residual stream, and the three rows of modulation of its sequence. -/
structure Token where
  attn : Fin 512 → EReal
  before : Fin 512 → EReal
  here : Fin 512 → EReal
  after : Fin 512 → EReal
  gate : Fin 512 → EReal
  stream : Fin 1024 → EReal
  resid : Fin 1024 → EReal
  modScale : Fin 1024 → EReal
  modShift : Fin 1024 → EReal

/-- The gated convolution at channel `k`. -/
def act (W : Weights) (T : Token) (k : Fin 512) : EReal :=
  T.gate k * (W.conv 0 k * T.before k + W.conv 1 k * T.here k + W.conv 2 k * T.after k)

/-- The stream before its layer norm: the scaled old stream plus the gated projection of the two mixers. -/
def mixed (W : Weights) (T : Token) (n : Fin 1024) : EReal :=
  Ideal.ofBits FTy.f32 0x3FB504F3#32 * T.stream n
    + T.resid n * (∑ k : Fin 512, T.attn k * W.out ⟨k.val, by omega⟩ n + ∑ k : Fin 512, act W T k * W.out ⟨512 + k.val, by omega⟩ n)

/-- The new stream. -/
def newStream (W : Weights) (T : Token) (n : Fin 1024) : EReal :=
  normed (Ideal.ofBits FTy.f32 0x44800000#32) (mixed W T) n * W.lnScale n + W.lnShift n

/-- The modulated stream, which the experts read. -/
def hidden (W : Weights) (T : Token) (n : Fin 1024) : EReal :=
  newStream W T n * (1 + T.modScale n) + T.modShift n

/-- The router's score of expert `e`. -/
def logit (W : Weights) (T : Token) (e : Fin 32) : EReal :=
  ∑ k, W.router e k * hidden W T k + W.routerBias e

end Cert.EvenOut

end
-- ==== Proof.EvenOut.Block.lean ====
/- The body of the even layer's output projection, part by part, at an entry. A block is 512 tokens of one sequence. -/
module

public import proofs.«01_k».proof.Proof.Gen.Kernel5Ideal.Skeleton
public import proofs.«01_k».proof.Proof.EvenOut.Model
public import Idealize.ShloMosaic.Lib.Pointwise

@[expose] public section

set_option maxRecDepth 16384

noncomputable section

namespace Cert.Kernel5Ideal.EvenOut

open Cert.Kernel5Ideal Cert.Kernel5Ideal.Gen
open Cert.OutProj (normed best first rest rounds chosen weight)
open Idealize.ShloMosaic Idealize.ShloMosaic.TcCoe Idealize.SL.Sem

/-- A choice by an equality of two small numbers. -/
theorem select_eq {α : Type} (n m : ℕ) (hn : n < 2 ^ 32) (hm : m < 2 ^ 32) (x y : α) :
    Scalar.select (IntOp.cmpi CmpIPredicate.eq (BitVec.ofNat 32 n) (BitVec.ofNat 32 m)) x y = if n = m then x else y := by
  by_cases h : n = m
  · subst h
    simp [Scalar.select, IntOp.cmpi]
  · have h' : ¬BitVec.ofNat 32 n = BitVec.ofNat 32 m := fun e => h (by
      have := congrArg BitVec.toNat e
      rwa [BitVec.toNat_ofNat, BitVec.toNat_ofNat, Nat.mod_eq_of_lt hn, Nat.mod_eq_of_lt hm] at this)
    have hb : (BitVec.ofNat 32 n == BitVec.ofNat 32 m) = false := beq_eq_false_iff_ne.mpr h'
    show (if BitVec.ofBool (BitVec.ofNat 32 n == BitVec.ofNat 32 m) = 1 then x else y) = _
    rw [hb, if_neg h]
    rfl

/-- The gated input of a block. -/
theorem gated_apply (a b : Vec Ideal S1x512x512 .bf16) (r k : Fin 512) : k0_pay7 a b (ix2 r k) = a (ix3 0 r k) * b (ix3 0 r k) := by
  pointwise [k0_pay7]

/-- The gated input of the row after the block; zero at the end of the sequence. -/
theorem after_apply (i : grid0.Coords) (a b : Vec Ideal S1x1x512 .bf16) (k : Fin 512) :
    k0_pay8 i a b (ix2 0 k) = if (i 1).val = 31 then 0 else a (ix3 0 0 k) * b (ix3 0 0 k) := by
  pointwise [k0_pay8]
  exact select_eq _ _ (lt_trans (i 1).isLt (by decide)) (by decide) _ _

/-- The gated input one row up; for the block's first row that of the row before the block, which is zero at the start of the
    sequence. -/
theorem prev_apply (i : grid0.Coords) (a b : Vec Ideal S1x512x512 .bf16) (c d : Vec Ideal S1x1x512 .bf16) (r k : Fin 512) :
    k0_pay9 i a b c d (ix2 r k) = if r.val = 0 then (if (i 1).val = 0 then 0 else c (ix3 0 0 k) * d (ix3 0 0 k)) else a (ix3 0 ⟨r.val - 1, by omega⟩ k) * b (ix3 0 ⟨r.val - 1, by omega⟩ k) := by
  have h := gated_apply a b
  unfold k0_pay9
  generalize k0_pay7 a b = Z at h ⊢
  pointwise []
  rw [select_eq _ _ (lt_trans r.isLt (by decide)) (by decide)]
  split_ifs
  · exact (select_eq _ _ (lt_trans (i 1).isLt (by decide)) (by decide) _ _).trans (if_pos ‹_›)
  · exact (select_eq _ _ (lt_trans (i 1).isLt (by decide)) (by decide) _ _).trans (if_neg ‹_›)
  · rw [h, show (⟨(r.val + 512 - 1) % 512, Nat.mod_lt _ (by decide)⟩ : Fin 512) = ⟨r.val - 1, by omega⟩ from Fin.ext (by show (r.val + 512 - 1) % 512 = r.val - 1; omega)]

/-- The row numbers of a block. -/
abbrev rows : IVec S512x512 32 := iota .tc S512x512 32 [0] iota_S512x512_d0_w32

/-- The gated convolution of a block. -/
theorem conv_apply (Z : FVec Ideal S512x512 .f32) (n : FVec Ideal S1x512 .f32) (p : FVec Ideal S512x512 .f32) (w0 w1 w2 : Vec Ideal S1x512 .f32) (g : Vec Ideal S1x512x512 .bf16) (r k : Fin 512) :
    k0_pay10 Z n rows p w0 w1 w2 g (ix2 r k)
      = g (ix3 0 r k) * (w0 (ix2 0 k) * p (ix2 r k) + w1 (ix2 0 k) * Z (ix2 r k) + w2 (ix2 0 k) * (if h : r.val = 511 then n (ix2 0 k) else Z (ix2 ⟨r.val + 1, by omega⟩ k))) := by
  pointwise [k0_pay10]
  refine congrArg (HMul.hMul _) (congrArg (HAdd.hAdd _) (congrArg (HMul.hMul _) ((select_eq _ _ (lt_trans r.isLt (by decide)) (by decide) _ _).trans ?_)))
  split_ifs with h
  · rfl
  · exact congrArg (fun z => Z (ix2 z k)) (Fin.ext (by show (r.val + 512 - 511) % 512 = r.val + 1; omega))

/-- The first half of a block, at an entry of the new stream. -/
theorem stream0_apply (Z : FVec Ideal S512x512 .f32) (nx : FVec Ideal S1x512 .f32) (p : FVec Ideal S512x512 .f32) (t0 t1 t2 : Vec Ideal S1x512 .f32) (h : Vec Ideal S1x512x512 .bf16)
    (c : Vec Ideal S1x256x512 .bf16) (w0 w1 : Vec Ideal S512x1024 .bf16) (x : Vec Ideal S1x256x1024 .f32)
    (g : Vec Ideal S1x1x1024 .f32) (u v : Vec Ideal S1x1024 .f32) (r : Fin 256) (n : Fin 1024) :
    k0_pay13 (k0_pay11 Z nx rows p t0 t1 t2 h c w0 w1) (k0_pay12 x) g u v (ix2 r n)
      = normed (Ideal.ofBits FTy.f32 0x44800000#32) (fun n : Fin 1024 => Ideal.ofBits FTy.f32 0x3FB504F3#32 * x (ix3 0 r n)
          + g (ix3 0 0 n) * (∑ k : Fin 512, c (ix3 0 r k) * w0 (ix2 k n) + ∑ k : Fin 512, k0_pay10 Z nx rows p t0 t1 t2 h (ix2 ⟨r.val, by omega⟩ k) * w1 (ix2 k n))) n * u (ix2 0 n) + v (ix2 0 n) := by
  unfold k0_pay11
  generalize k0_pay10 Z nx rows p t0 t1 t2 h = a
  pointwise [k0_pay13, k0_pay12]
  rfl

/-- The second half of a block. -/
theorem stream1_apply (a : FVec Ideal S512x512 .bf16) (c : Vec Ideal S1x256x512 .bf16) (w0 w1 : Vec Ideal S512x1024 .bf16) (x : Vec Ideal S1x256x1024 .f32)
    (g : Vec Ideal S1x1x1024 .f32) (u v : Vec Ideal S1x1024 .f32) (r : Fin 256) (n : Fin 1024) :
    k0_pay34 (k0_pay33 a c w0 w1) x g u v (ix2 r n)
      = normed (Ideal.ofBits FTy.f32 0x44800000#32) (fun n : Fin 1024 => Ideal.ofBits FTy.f32 0x3FB504F3#32 * x (ix3 0 r n)
          + g (ix3 0 0 n) * (∑ k : Fin 512, c (ix3 0 r k) * w0 (ix2 k n) + ∑ k : Fin 512, a (ix2 ⟨256 + r.val, by omega⟩ k) * w1 (ix2 k n))) n * u (ix2 0 n) + v (ix2 0 n) := by
  pointwise [k0_pay34, k0_pay33]
  rfl

/-- The modulated stream of the first half. -/
theorem hidden0_apply (y z : FVec Ideal S256x1024 .f32) (g : Vec Ideal S1x1x1024 .f32) (u v : Vec Ideal S1x1024 .f32) (p q : Vec Ideal S1x1x1024 .f32) (r : Fin 256) (n : Fin 1024) :
    k0_pay16 (k0_pay15 y z g u v p) q (ix2 r n) = k0_pay13 y z g u v (ix2 r n) * (1 + p (ix3 0 0 n)) + q (ix3 0 0 n) := by
  unfold k0_pay16 k0_pay15
  generalize k0_pay13 y z g u v = Y
  pointwise []

/-- The modulated stream of the second half. -/
theorem hidden1_apply (Y : FVec Ideal S256x1024 .f32) (p q : Vec Ideal S1x1x1024 .f32) (r : Fin 256) (n : Fin 1024) :
    k0_pay37 Y (k0_pay36 p) q (ix2 r n) = Y (ix2 r n) * (1 + p (ix3 0 0 n)) + q (ix3 0 0 n) := by
  pointwise [k0_pay37, k0_pay36]

/-- The scores of the first half. -/
theorem logit0_apply (y : FVec Ideal S256x1024 .f32) (q : Vec Ideal S1x1x1024 .f32) (w : Vec Ideal S32x1024 .bf16) (s : Vec Ideal S32x1 .f32) (e : Fin 32) (r : Fin 256) :
    k0_pay18 y q w s (ix2 e r) = ∑ n : Fin 1024, w (ix2 e n) * k0_pay16 y q (ix2 r n) + s (ix2 e 0) := by
  unfold k0_pay18
  generalize k0_pay16 y q = Y
  pointwise []

/-- The scores of the second half. -/
theorem logit1_apply (y : FVec Ideal S256x1024 .f32) (u : FVec Ideal S1x1024 .f32) (q : Vec Ideal S1x1x1024 .f32) (w : Vec Ideal S32x1024 .bf16) (s : Vec Ideal S32x1 .f32) (e : Fin 32) (r : Fin 256) :
    k0_pay39 y u q w s (ix2 e r) = ∑ n : Fin 1024, w (ix2 e n) * k0_pay37 y u q (ix2 r n) + s (ix2 e 0) := by
  unfold k0_pay39
  generalize k0_pay37 y u q = Y
  pointwise []

/-- The numbers of the experts, down a column. -/
abbrev experts : IVec S32x256 32 := iota .tc S32x256 32 [0] iota_S32x256_d0_w32

/-- The best score of a column. -/
theorem best_apply (L : FVec Ideal S32x256 .f32) (z : Fin 1) (r : Fin 256) : k0_pay1 L (ix2 z r) = best (fun e => L (ix2 e r)) := by
  pointwise [k0_pay1]
  rfl

/-- The first expert with it. -/
theorem first_apply (L : FVec Ideal S32x256 .f32) (z : Fin 1) (r : Fin 256) : k0_pay2 experts L (ix2 z r) = first (fun e => L (ix2 e r)) := by
  have h := fun z => best_apply L z r
  unfold k0_pay2
  generalize k0_pay1 L = M at h ⊢
  pointwise []
  rw [h]
  rfl

/-- The scores with that expert's taken out. -/
theorem rest_apply (L : FVec Ideal S32x256 .f32) (e : Fin 32) (r : Fin 256) : k0_pay3 experts L (ix2 e r) = rest (fun e => L (ix2 e r)) e := by
  have h := fun z => first_apply L z r
  unfold k0_pay3
  generalize k0_pay2 experts L = M at h ⊢
  pointwise []
  rw [h]
  rfl

/-- The four chosen experts of a column. -/
theorem chosen_apply (L : FVec Ideal S32x256 .f32) (i : Fin 4) (r : Fin 256) :
    k0_pay6 experts (k0_pay2 experts L) (k0_pay2 experts (k0_pay3 experts L)) (k0_pay3 experts (k0_pay3 experts L)) (ix2 i r) = chosen (fun e => L (ix2 e r)) i := by
  have h0 := first_apply L 0 r
  have h1 := first_apply (k0_pay3 experts L) 0 r
  have h2 := first_apply (k0_pay3 experts (k0_pay3 experts L)) 0 r
  have h3 := first_apply (k0_pay3 experts (k0_pay3 experts (k0_pay3 experts L))) 0 r
  simp only [rest_apply] at h1 h2 h3
  have e : k0_pay6 experts (k0_pay2 experts L) (k0_pay2 experts (k0_pay3 experts L)) (k0_pay3 experts (k0_pay3 experts L))
      = concatenate S4x256 0 [⟨S1x256, k0_pay2 experts L⟩, ⟨S1x256, k0_pay2 experts (k0_pay3 experts L)⟩, ⟨S1x256, k0_pay2 experts (k0_pay3 experts (k0_pay3 experts L))⟩,
        ⟨S1x256, k0_pay2 experts (k0_pay3 experts (k0_pay3 experts (k0_pay3 experts L)))⟩] concatenates_S1x256_S1x256_S1x256_S1x256_S4x256_d0 := rfl
  rw [e]
  generalize k0_pay2 experts L = M0 at h0 ⊢
  generalize k0_pay2 experts (k0_pay3 experts L) = M1 at h1 ⊢
  generalize k0_pay2 experts (k0_pay3 experts (k0_pay3 experts L)) = M2 at h2 ⊢
  generalize k0_pay2 experts (k0_pay3 experts (k0_pay3 experts (k0_pay3 experts L))) = M3 at h3 ⊢
  pointwise []
  match i with
  | ⟨0, _⟩ => exact h0
  | ⟨1, _⟩ => exact h1
  | ⟨2, _⟩ => exact h2
  | ⟨3, _⟩ => exact h3

/-- Their weights. -/
theorem weight_apply (L : FVec Ideal S32x256 .f32) (i : Fin 4) (r : Fin 256) :
    k0_pay5 experts (k0_pay1 L) (k0_pay1 (k0_pay3 experts L)) (k0_pay3 experts (k0_pay3 experts L)) (ix2 i r) = weight (fun e => L (ix2 e r)) i := by
  have h0 := best_apply L 0 r
  have h1 := best_apply (k0_pay3 experts L) 0 r
  have h2 := best_apply (k0_pay3 experts (k0_pay3 experts L)) 0 r
  have h3 := best_apply (k0_pay3 experts (k0_pay3 experts (k0_pay3 experts L))) 0 r
  simp only [rest_apply] at h1 h2 h3
  unfold k0_pay5
  rw [show k0_pay4 experts (k0_pay3 experts (k0_pay3 experts L)) = k0_pay1 (k0_pay3 experts (k0_pay3 experts (k0_pay3 experts L))) from rfl]
  generalize k0_pay1 L = M0 at h0 ⊢
  generalize k0_pay1 (k0_pay3 experts L) = M1 at h1 ⊢
  generalize k0_pay1 (k0_pay3 experts (k0_pay3 experts L)) = M2 at h2 ⊢
  generalize k0_pay1 (k0_pay3 experts (k0_pay3 experts (k0_pay3 experts L))) = M3 at h3 ⊢
  pointwise []
  have key : ∀ j : Fin 4, (if h : j.val < 1 then M0 (ix2 ⟨j.val, h⟩ r) else if h : j.val - 1 < 1 then M1 (ix2 ⟨j.val - 1, h⟩ r)
      else if h : j.val - 1 - 1 < 1 then M2 (ix2 ⟨j.val - 1 - 1, h⟩ r) else M3 (ix2 ⟨j.val - 1 - 1 - 1, by omega⟩ r)) = best (rounds (fun e => L (ix2 e r)) j.val) := fun j => by
    match j with
    | ⟨0, _⟩ => exact h0
    | ⟨1, _⟩ => exact h1
    | ⟨2, _⟩ => exact h2
    | ⟨3, _⟩ => exact h3
  simp only [key, h0]
  rfl

end Cert.Kernel5Ideal.EvenOut

end
-- ==== Proof.EvenOut.Pieces.lean ====
/- What a point of the even layer's output projection stores, as the payloads of its body over the point's buffers. -/
module

public import proofs.«01_k».proof.Proof.Gen.Kernel5Ideal.Frame
public import proofs.«01_k».proof.Proof.EvenOut.Block
public import Idealize.ShloMosaic.Lib.Pipeline.ValueKit.Tiles

@[expose] public section

set_option maxRecDepth 16384

noncomputable section

namespace Cert.Kernel5Ideal.EvenOut

open Cert.Kernel5Ideal Cert.Kernel5Ideal.Gen
open Cert.OutProj (normed best first rest rounds chosen weight)
open Idealize.ShloMosaic Idealize.ShloMosaic.TcCoe Idealize.SL.Sem

/-- A load of a whole buffer that holds `X` reads `X`. -/
theorem readAt_eq {sp : Space} {s : Shape} {e : EltTy} {M : Memref sig .tc sp s e} (h : M.IsWhole) (X : s.Idx → Elt Ideal e) (R : Rect s) :
    View.readAt (Elt Ideal) M.view R.toLoadRect (h.unread X) = View.ld X R := funext fun y => congrFun (h.read_unread X) (R.toLoadRect.idx y)

variable (i : grid0.Coords)
  (x0 : Vec Ideal S1x512x512 .bf16)
  (x1 : Vec Ideal S1x512x512 .bf16)
  (x2 : Vec Ideal S1x512x512 .bf16)
  (x3 : Vec Ideal S1x512x512 .bf16)
  (x4 : Vec Ideal S1x16x512 .bf16)
  (x5 : Vec Ideal S1x16x512 .bf16)
  (x6 : Vec Ideal S1x16x512 .bf16)
  (x7 : Vec Ideal S1x16x512 .bf16)
  (x8 : Vec Ideal S3x512 .f32)
  (x9 : Vec Ideal S1024x1024 .bf16)
  (x10 : Vec Ideal S1x512x1024 .f32)
  (x11 : Vec Ideal S1x1x1024 .f32)
  (x12 : Vec Ideal S1x1024 .f32)
  (x13 : Vec Ideal S1x1024 .f32)
  (x14 : Vec Ideal S1x1x1024 .f32)
  (x15 : Vec Ideal S1x1x1024 .f32)
  (x16 : Vec Ideal S32x1024 .bf16)
  (x17 : Vec Ideal S32x1 .f32)

/-- The gated convolution of the point's tokens. -/
def conv : FVec Ideal S512x512 .bf16 :=
  k0_pay10 (k0_pay7 x3 x1) (k0_pay8 i (View.ld x7 (Rect.unit (s := S1x16x512) ![0, 0, 0] S1x1x512.size inb_S1x16x512_S1x1x512_0_0_0)) (View.ld x6 (Rect.unit (s := S1x16x512) ![0, 0, 0] S1x1x512.size inb_S1x16x512_S1x1x512_0_0_0))) rows
    (k0_pay9 i x3 x1 (View.ld x5 (Rect.unit (s := S1x16x512) ![0, 15, 0] S1x1x512.size inb_S1x16x512_S1x1x512_0_15_0)) (View.ld x4 (Rect.unit (s := S1x16x512) ![0, 15, 0] S1x1x512.size inb_S1x16x512_S1x1x512_0_15_0))) (View.ld x8 (Rect.unit (s := S3x512) ![0, 0] S1x512.size inb_S3x512_S1x512_0_0)) (View.ld x8 (Rect.unit (s := S3x512) ![1, 0] S1x512.size inb_S3x512_S1x512_1_0)) (View.ld x8 (Rect.unit (s := S3x512) ![2, 0] S1x512.size inb_S3x512_S1x512_2_0)) x2

/-- The projection of the first half. -/
def proj0 : FVec Ideal S256x1024 .f32 :=
  k0_pay11 (k0_pay7 x3 x1) (k0_pay8 i (View.ld x7 (Rect.unit (s := S1x16x512) ![0, 0, 0] S1x1x512.size inb_S1x16x512_S1x1x512_0_0_0)) (View.ld x6 (Rect.unit (s := S1x16x512) ![0, 0, 0] S1x1x512.size inb_S1x16x512_S1x1x512_0_0_0))) rows
    (k0_pay9 i x3 x1 (View.ld x5 (Rect.unit (s := S1x16x512) ![0, 15, 0] S1x1x512.size inb_S1x16x512_S1x1x512_0_15_0)) (View.ld x4 (Rect.unit (s := S1x16x512) ![0, 15, 0] S1x1x512.size inb_S1x16x512_S1x1x512_0_15_0))) (View.ld x8 (Rect.unit (s := S3x512) ![0, 0] S1x512.size inb_S3x512_S1x512_0_0)) (View.ld x8 (Rect.unit (s := S3x512) ![1, 0] S1x512.size inb_S3x512_S1x512_1_0)) (View.ld x8 (Rect.unit (s := S3x512) ![2, 0] S1x512.size inb_S3x512_S1x512_2_0)) x2
    (View.ld x0 (Rect.unit (s := S1x512x512) ![0, 0, 0] S1x256x512.size inb_S1x512x512_S1x256x512_0_0_0)) (View.ld x9 (Rect.unit (s := S1024x1024) ![0, 0] S512x1024.size inb_S1024x1024_S512x1024_0_0)) (View.ld x9 (Rect.unit (s := S1024x1024) ![512, 0] S512x1024.size inb_S1024x1024_S512x1024_512_0))

/-- The scaled old stream of the first half. -/
def old0 : FVec Ideal S256x1024 .f32 := k0_pay12 (View.ld x10 (Rect.unit (s := S1x512x1024) ![0, 0, 0] S1x256x1024.size inb_S1x512x1024_S1x256x1024_0_0_0))

/-- The new stream of the first half. -/
def new0 : FVec Ideal S256x1024 .f32 := k0_pay13 (proj0 i x0 x1 x2 x3 x4 x5 x6 x7 x8 x9) (old0 x10) x11 x12 x13

/-- The scaled new stream of the first half. -/
def mod0 : FVec Ideal S256x1024 .f32 := k0_pay15 (proj0 i x0 x1 x2 x3 x4 x5 x6 x7 x8 x9) (old0 x10) x11 x12 x13 x14

/-- The scores of the first half. -/
def score0 : FVec Ideal S32x256 .f32 := k0_pay18 (mod0 i x0 x1 x2 x3 x4 x5 x6 x7 x8 x9 x10 x11 x12 x13 x14) x15 x16 x17

/-- The projection of the second half. -/
def proj1 : FVec Ideal S256x1024 .f32 := k0_pay33 (conv i x1 x2 x3 x4 x5 x6 x7 x8) (View.ld x0 (Rect.unit (s := S1x512x512) ![0, 256, 0] S1x256x512.size inb_S1x512x512_S1x256x512_0_256_0)) (View.ld x9 (Rect.unit (s := S1024x1024) ![0, 0] S512x1024.size inb_S1024x1024_S512x1024_0_0)) (View.ld x9 (Rect.unit (s := S1024x1024) ![512, 0] S512x1024.size inb_S1024x1024_S512x1024_512_0))

/-- The new stream of the second half. -/
def new1 : FVec Ideal S256x1024 .f32 := k0_pay34 (proj1 i x0 x1 x2 x3 x4 x5 x6 x7 x8 x9) (View.ld x10 (Rect.unit (s := S1x512x1024) ![0, 256, 0] S1x256x1024.size inb_S1x512x1024_S1x256x1024_0_256_0)) x11 x12 x13

/-- The scores of the second half. -/
def score1 : FVec Ideal S32x256 .f32 := k0_pay39 (new1 i x0 x1 x2 x3 x4 x5 x6 x7 x8 x9 x10 x11 x12 x13) (k0_pay36 x14) x15 x16 x17

/-- The new stream of a point's tokens, as the two pieces the body stores. -/
theorem pieces18 (c : Dev nD) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S32x1024 .bf16) (harg18 : arg18.IsWhole) (arg19 : Memref sig .tc .vmem S32x1 .f32) (harg19 : arg19.IsWhole) (arg23 : Memref sig .tc .vmem S1x512x1024 .f32) (harg23 : arg23.IsWhole) (arg24 : Memref sig .tc .vmem S512x1024 .bf16) (harg24 : arg24.IsWhole) (arg25 : Memref sig .tc .vmem S4x512 .i32) (harg25 : arg25.IsWhole) (arg26 : Memref sig .tc .vmem S4x512 .f32) (harg26 : arg26.IsWhole) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 harg23 arg24 harg24 arg25 harg25 arg26 harg26 x0 x1 x2 x3 x4 x5 x6 x7 x8 x9 x10 x11 x12 x13 x14 x15 x16 x17 = View.canon (Val := Elt Ideal) (s := S1x512x1024) (e := .f32) [⟨Rect.unit (s := S1x512x1024) ![0, 256, 0] S1x256x1024.size inb_S1x512x1024_S1x256x1024_0_256_0, (k0_pay35 (proj1 i x0 x1 x2 x3 x4 x5 x6 x7 x8 x9) (View.ld x10 (Rect.unit (s := S1x512x1024) ![0, 256, 0] S1x256x1024.size inb_S1x512x1024_S1x256x1024_0_256_0)) x11 x12 x13)⟩,
      ⟨Rect.unit (s := S1x512x1024) ![0, 0, 0] S1x256x1024.size inb_S1x512x1024_S1x256x1024_0_0_0, (k0_pay14 (proj0 i x0 x1 x2 x3 x4 x5 x6 x7 x8 x9) (old0 x10) x11 x12 x13)⟩] := by
  have e1 : View.ld x1 (Rect.unit (s := S1x512x512) ![0, 0, 0] S1x512x512.size inb_S1x512x512_S1x512x512_0_0_0) = x1 := View.ld_unit_lit' _ _ (by decide)
  have e2 : View.ld x2 (Rect.unit (s := S1x512x512) ![0, 0, 0] S1x512x512.size inb_S1x512x512_S1x512x512_0_0_0) = x2 := View.ld_unit_lit' _ _ (by decide)
  have e3 : View.ld x3 (Rect.unit (s := S1x512x512) ![0, 0, 0] S1x512x512.size inb_S1x512x512_S1x512x512_0_0_0) = x3 := View.ld_unit_lit' _ _ (by decide)
  have e11 : View.ld x11 (Rect.unit (s := S1x1x1024) ![0, 0, 0] S1x1x1024.size inb_S1x1x1024_S1x1x1024_0_0_0) = x11 := View.ld_unit_lit' _ _ (by decide)
  have e12 : View.ld x12 (Rect.unit (s := S1x1024) ![0, 0] S1x1024.size inb_S1x1024_S1x1024_0_0) = x12 := View.ld_unit_lit' _ _ (by decide)
  have e13 : View.ld x13 (Rect.unit (s := S1x1024) ![0, 0] S1x1024.size inb_S1x1024_S1x1024_0_0) = x13 := View.ld_unit_lit' _ _ (by decide)
  have e14 : View.ld x14 (Rect.unit (s := S1x1x1024) ![0, 0, 0] S1x1x1024.size inb_S1x1x1024_S1x1x1024_0_0_0) = x14 := View.ld_unit_lit' _ _ (by decide)
  have e15 : View.ld x15 (Rect.unit (s := S1x1x1024) ![0, 0, 0] S1x1x1024.size inb_S1x1x1024_S1x1x1024_0_0_0) = x15 := View.ld_unit_lit' _ _ (by decide)
  have e16 : View.ld x16 (Rect.unit (s := S32x1024) ![0, 0] S32x1024.size inb_S32x1024_S32x1024_0_0) = x16 := View.ld_unit_lit' _ _ (by decide)
  have e17 : View.ld x17 (Rect.unit (s := S32x1) ![0, 0] S32x1.size inb_S32x1_S32x1_0_0) = x17 := View.ld_unit_lit' _ _ (by decide)
  unfold out0_A_18
  rw [View.read_writes_junk_eq_canon]
  unfold kernelRun0_A
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, readAt_eq, e1, e2, e3, e11, e12, e13, e14, e15, e16, e17]
  rfl

/-- The modulated stream of a point's tokens, as the two pieces the body stores. -/
theorem pieces19 (c : Dev nD) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S32x1024 .bf16) (harg18 : arg18.IsWhole) (arg19 : Memref sig .tc .vmem S32x1 .f32) (harg19 : arg19.IsWhole) (arg23 : Memref sig .tc .vmem S1x512x1024 .f32) (harg23 : arg23.IsWhole) (arg24 : Memref sig .tc .vmem S512x1024 .bf16) (harg24 : arg24.IsWhole) (arg25 : Memref sig .tc .vmem S4x512 .i32) (harg25 : arg25.IsWhole) (arg26 : Memref sig .tc .vmem S4x512 .f32) (harg26 : arg26.IsWhole) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 harg23 arg24 harg24 arg25 harg25 arg26 harg26 x0 x1 x2 x3 x4 x5 x6 x7 x8 x9 x10 x11 x12 x13 x14 x15 x16 x17 = View.canon (Val := Elt Ideal) (s := S512x1024) (e := .bf16) [⟨Rect.unit (s := S512x1024) ![256, 0] S256x1024.size inb_S512x1024_S256x1024_256_0, (k0_pay38 (new1 i x0 x1 x2 x3 x4 x5 x6 x7 x8 x9 x10 x11 x12 x13) (k0_pay36 x14) x15)⟩,
      ⟨Rect.unit (s := S512x1024) ![0, 0] S256x1024.size inb_S512x1024_S256x1024_0_0, (k0_pay17 (mod0 i x0 x1 x2 x3 x4 x5 x6 x7 x8 x9 x10 x11 x12 x13 x14) x15)⟩] := by
  have e1 : View.ld x1 (Rect.unit (s := S1x512x512) ![0, 0, 0] S1x512x512.size inb_S1x512x512_S1x512x512_0_0_0) = x1 := View.ld_unit_lit' _ _ (by decide)
  have e2 : View.ld x2 (Rect.unit (s := S1x512x512) ![0, 0, 0] S1x512x512.size inb_S1x512x512_S1x512x512_0_0_0) = x2 := View.ld_unit_lit' _ _ (by decide)
  have e3 : View.ld x3 (Rect.unit (s := S1x512x512) ![0, 0, 0] S1x512x512.size inb_S1x512x512_S1x512x512_0_0_0) = x3 := View.ld_unit_lit' _ _ (by decide)
  have e11 : View.ld x11 (Rect.unit (s := S1x1x1024) ![0, 0, 0] S1x1x1024.size inb_S1x1x1024_S1x1x1024_0_0_0) = x11 := View.ld_unit_lit' _ _ (by decide)
  have e12 : View.ld x12 (Rect.unit (s := S1x1024) ![0, 0] S1x1024.size inb_S1x1024_S1x1024_0_0) = x12 := View.ld_unit_lit' _ _ (by decide)
  have e13 : View.ld x13 (Rect.unit (s := S1x1024) ![0, 0] S1x1024.size inb_S1x1024_S1x1024_0_0) = x13 := View.ld_unit_lit' _ _ (by decide)
  have e14 : View.ld x14 (Rect.unit (s := S1x1x1024) ![0, 0, 0] S1x1x1024.size inb_S1x1x1024_S1x1x1024_0_0_0) = x14 := View.ld_unit_lit' _ _ (by decide)
  have e15 : View.ld x15 (Rect.unit (s := S1x1x1024) ![0, 0, 0] S1x1x1024.size inb_S1x1x1024_S1x1x1024_0_0_0) = x15 := View.ld_unit_lit' _ _ (by decide)
  have e16 : View.ld x16 (Rect.unit (s := S32x1024) ![0, 0] S32x1024.size inb_S32x1024_S32x1024_0_0) = x16 := View.ld_unit_lit' _ _ (by decide)
  have e17 : View.ld x17 (Rect.unit (s := S32x1) ![0, 0] S32x1.size inb_S32x1_S32x1_0_0) = x17 := View.ld_unit_lit' _ _ (by decide)
  unfold out0_A_19
  rw [View.read_writes_junk_eq_canon]
  unfold kernelRun0_A
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, readAt_eq, e1, e2, e3, e11, e12, e13, e14, e15, e16, e17]
  rfl

/-- The chosen experts of a point's tokens, as the two pieces the body stores. -/
theorem pieces20 (c : Dev nD) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S32x1024 .bf16) (harg18 : arg18.IsWhole) (arg19 : Memref sig .tc .vmem S32x1 .f32) (harg19 : arg19.IsWhole) (arg23 : Memref sig .tc .vmem S1x512x1024 .f32) (harg23 : arg23.IsWhole) (arg24 : Memref sig .tc .vmem S512x1024 .bf16) (harg24 : arg24.IsWhole) (arg25 : Memref sig .tc .vmem S4x512 .i32) (harg25 : arg25.IsWhole) (arg26 : Memref sig .tc .vmem S4x512 .f32) (harg26 : arg26.IsWhole) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 harg23 arg24 harg24 arg25 harg25 arg26 harg26 x0 x1 x2 x3 x4 x5 x6 x7 x8 x9 x10 x11 x12 x13 x14 x15 x16 x17 = View.canon (Val := Elt Ideal) (s := S4x512) (e := .i32) [⟨Rect.unit (s := S4x512) ![0, 256] S4x256.size inb_S4x512_S4x256_0_256, (k0_pay6 experts (k0_pay2 experts (score1 i x0 x1 x2 x3 x4 x5 x6 x7 x8 x9 x10 x11 x12 x13 x14 x15 x16 x17)) (k0_pay2 experts (k0_pay3 experts (score1 i x0 x1 x2 x3 x4 x5 x6 x7 x8 x9 x10 x11 x12 x13 x14 x15 x16 x17))) (k0_pay3 experts (k0_pay3 experts (score1 i x0 x1 x2 x3 x4 x5 x6 x7 x8 x9 x10 x11 x12 x13 x14 x15 x16 x17))))⟩,
      ⟨Rect.unit (s := S4x512) ![0, 0] S4x256.size inb_S4x512_S4x256_0_0, (k0_pay6 experts (k0_pay2 experts (score0 i x0 x1 x2 x3 x4 x5 x6 x7 x8 x9 x10 x11 x12 x13 x14 x15 x16 x17)) (k0_pay2 experts (k0_pay3 experts (score0 i x0 x1 x2 x3 x4 x5 x6 x7 x8 x9 x10 x11 x12 x13 x14 x15 x16 x17))) (k0_pay3 experts (k0_pay3 experts (score0 i x0 x1 x2 x3 x4 x5 x6 x7 x8 x9 x10 x11 x12 x13 x14 x15 x16 x17))))⟩] := by
  have e1 : View.ld x1 (Rect.unit (s := S1x512x512) ![0, 0, 0] S1x512x512.size inb_S1x512x512_S1x512x512_0_0_0) = x1 := View.ld_unit_lit' _ _ (by decide)
  have e2 : View.ld x2 (Rect.unit (s := S1x512x512) ![0, 0, 0] S1x512x512.size inb_S1x512x512_S1x512x512_0_0_0) = x2 := View.ld_unit_lit' _ _ (by decide)
  have e3 : View.ld x3 (Rect.unit (s := S1x512x512) ![0, 0, 0] S1x512x512.size inb_S1x512x512_S1x512x512_0_0_0) = x3 := View.ld_unit_lit' _ _ (by decide)
  have e11 : View.ld x11 (Rect.unit (s := S1x1x1024) ![0, 0, 0] S1x1x1024.size inb_S1x1x1024_S1x1x1024_0_0_0) = x11 := View.ld_unit_lit' _ _ (by decide)
  have e12 : View.ld x12 (Rect.unit (s := S1x1024) ![0, 0] S1x1024.size inb_S1x1024_S1x1024_0_0) = x12 := View.ld_unit_lit' _ _ (by decide)
  have e13 : View.ld x13 (Rect.unit (s := S1x1024) ![0, 0] S1x1024.size inb_S1x1024_S1x1024_0_0) = x13 := View.ld_unit_lit' _ _ (by decide)
  have e14 : View.ld x14 (Rect.unit (s := S1x1x1024) ![0, 0, 0] S1x1x1024.size inb_S1x1x1024_S1x1x1024_0_0_0) = x14 := View.ld_unit_lit' _ _ (by decide)
  have e15 : View.ld x15 (Rect.unit (s := S1x1x1024) ![0, 0, 0] S1x1x1024.size inb_S1x1x1024_S1x1x1024_0_0_0) = x15 := View.ld_unit_lit' _ _ (by decide)
  have e16 : View.ld x16 (Rect.unit (s := S32x1024) ![0, 0] S32x1024.size inb_S32x1024_S32x1024_0_0) = x16 := View.ld_unit_lit' _ _ (by decide)
  have e17 : View.ld x17 (Rect.unit (s := S32x1) ![0, 0] S32x1.size inb_S32x1_S32x1_0_0) = x17 := View.ld_unit_lit' _ _ (by decide)
  unfold out0_A_20
  rw [View.read_writes_junk_eq_canon]
  unfold kernelRun0_A
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, readAt_eq, e1, e2, e3, e11, e12, e13, e14, e15, e16, e17]
  rfl

/-- Their weights of a point's tokens, as the two pieces the body stores. -/
theorem pieces21 (c : Dev nD) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S32x1024 .bf16) (harg18 : arg18.IsWhole) (arg19 : Memref sig .tc .vmem S32x1 .f32) (harg19 : arg19.IsWhole) (arg23 : Memref sig .tc .vmem S1x512x1024 .f32) (harg23 : arg23.IsWhole) (arg24 : Memref sig .tc .vmem S512x1024 .bf16) (harg24 : arg24.IsWhole) (arg25 : Memref sig .tc .vmem S4x512 .i32) (harg25 : arg25.IsWhole) (arg26 : Memref sig .tc .vmem S4x512 .f32) (harg26 : arg26.IsWhole) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 harg23 arg24 harg24 arg25 harg25 arg26 harg26 x0 x1 x2 x3 x4 x5 x6 x7 x8 x9 x10 x11 x12 x13 x14 x15 x16 x17 = View.canon (Val := Elt Ideal) (s := S4x512) (e := .f32) [⟨Rect.unit (s := S4x512) ![0, 256] S4x256.size inb_S4x512_S4x256_0_256, (k0_pay5 experts (k0_pay1 (score1 i x0 x1 x2 x3 x4 x5 x6 x7 x8 x9 x10 x11 x12 x13 x14 x15 x16 x17)) (k0_pay1 (k0_pay3 experts (score1 i x0 x1 x2 x3 x4 x5 x6 x7 x8 x9 x10 x11 x12 x13 x14 x15 x16 x17))) (k0_pay3 experts (k0_pay3 experts (score1 i x0 x1 x2 x3 x4 x5 x6 x7 x8 x9 x10 x11 x12 x13 x14 x15 x16 x17))))⟩,
      ⟨Rect.unit (s := S4x512) ![0, 0] S4x256.size inb_S4x512_S4x256_0_0, (k0_pay5 experts (k0_pay1 (score0 i x0 x1 x2 x3 x4 x5 x6 x7 x8 x9 x10 x11 x12 x13 x14 x15 x16 x17)) (k0_pay1 (k0_pay3 experts (score0 i x0 x1 x2 x3 x4 x5 x6 x7 x8 x9 x10 x11 x12 x13 x14 x15 x16 x17))) (k0_pay3 experts (k0_pay3 experts (score0 i x0 x1 x2 x3 x4 x5 x6 x7 x8 x9 x10 x11 x12 x13 x14 x15 x16 x17))))⟩] := by
  have e1 : View.ld x1 (Rect.unit (s := S1x512x512) ![0, 0, 0] S1x512x512.size inb_S1x512x512_S1x512x512_0_0_0) = x1 := View.ld_unit_lit' _ _ (by decide)
  have e2 : View.ld x2 (Rect.unit (s := S1x512x512) ![0, 0, 0] S1x512x512.size inb_S1x512x512_S1x512x512_0_0_0) = x2 := View.ld_unit_lit' _ _ (by decide)
  have e3 : View.ld x3 (Rect.unit (s := S1x512x512) ![0, 0, 0] S1x512x512.size inb_S1x512x512_S1x512x512_0_0_0) = x3 := View.ld_unit_lit' _ _ (by decide)
  have e11 : View.ld x11 (Rect.unit (s := S1x1x1024) ![0, 0, 0] S1x1x1024.size inb_S1x1x1024_S1x1x1024_0_0_0) = x11 := View.ld_unit_lit' _ _ (by decide)
  have e12 : View.ld x12 (Rect.unit (s := S1x1024) ![0, 0] S1x1024.size inb_S1x1024_S1x1024_0_0) = x12 := View.ld_unit_lit' _ _ (by decide)
  have e13 : View.ld x13 (Rect.unit (s := S1x1024) ![0, 0] S1x1024.size inb_S1x1024_S1x1024_0_0) = x13 := View.ld_unit_lit' _ _ (by decide)
  have e14 : View.ld x14 (Rect.unit (s := S1x1x1024) ![0, 0, 0] S1x1x1024.size inb_S1x1x1024_S1x1x1024_0_0_0) = x14 := View.ld_unit_lit' _ _ (by decide)
  have e15 : View.ld x15 (Rect.unit (s := S1x1x1024) ![0, 0, 0] S1x1x1024.size inb_S1x1x1024_S1x1x1024_0_0_0) = x15 := View.ld_unit_lit' _ _ (by decide)
  have e16 : View.ld x16 (Rect.unit (s := S32x1024) ![0, 0] S32x1024.size inb_S32x1024_S32x1024_0_0) = x16 := View.ld_unit_lit' _ _ (by decide)
  have e17 : View.ld x17 (Rect.unit (s := S32x1) ![0, 0] S32x1.size inb_S32x1_S32x1_0_0) = x17 := View.ld_unit_lit' _ _ (by decide)
  unfold out0_A_21
  rw [View.read_writes_junk_eq_canon]
  unfold kernelRun0_A
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, readAt_eq, e1, e2, e3, e11, e12, e13, e14, e15, e16, e17]
  rfl

end Cert.Kernel5Ideal.EvenOut

end
-- ==== Proof.EvenOut.Out.lean ====
/- What a point of the even layer's output projection leaves in its four result buffers, as the mathematics of the point's
   tokens. -/
module

public import proofs.«01_k».proof.Proof.Gen.Kernel5Ideal.Frame
public import proofs.«01_k».proof.Proof.EvenOut.Pieces
public import Idealize.ShloMosaic.Lib.Pipeline.ValueKit.Tiles

@[expose] public section

set_option maxRecDepth 16384

noncomputable section

namespace Cert.Kernel5Ideal.EvenOut

open Cert.Kernel5Ideal Cert.Kernel5Ideal.Gen
open Cert.EvenOut
open Cert.OutProj (normed best first rest rounds chosen weight)
open Idealize.ShloMosaic Idealize.ShloMosaic.TcCoe Idealize.SL.Sem

/-- The weights in a point's buffers. -/
def blockWeights (x8 : Vec Ideal S3x512 .f32) (x9 : Vec Ideal S1024x1024 .bf16) (x12 : Vec Ideal S1x1024 .f32) (x13 : Vec Ideal S1x1024 .f32) (x16 : Vec Ideal S32x1024 .bf16) (x17 : Vec Ideal S32x1 .f32) : Weights where
  conv o k := x8 (ix2 o k)
  out k n := x9 (ix2 k n)
  lnScale n := x12 (ix2 0 n)
  lnShift n := x13 (ix2 0 n)
  router e n := x16 (ix2 e n)
  routerBias e := x17 (ix2 e 0)

/-- Token `r` of a point's buffers. Its neighbours are the block's rows, or the halo rows at the block's ends; at the ends of
    the sequence they are zero. -/
def blockToken (i : grid0.Coords) (x0 x1 x2 x3 : Vec Ideal S1x512x512 .bf16) (x4 x5 x6 x7 : Vec Ideal S1x16x512 .bf16) (x10 : Vec Ideal S1x512x1024 .f32) (x11 x14 x15 : Vec Ideal S1x1x1024 .f32) (r : Fin 512) : Token where
  attn k := x0 (ix3 0 r k)
  before k := if r.val = 0 then (if (i 1).val = 0 then 0 else x5 (ix3 0 15 k) * x4 (ix3 0 15 k)) else x3 (ix3 0 ⟨r.val - 1, by omega⟩ k) * x1 (ix3 0 ⟨r.val - 1, by omega⟩ k)
  here k := x3 (ix3 0 r k) * x1 (ix3 0 r k)
  after k := if h : r.val = 511 then (if (i 1).val = 31 then 0 else x7 (ix3 0 0 k) * x6 (ix3 0 0 k)) else x3 (ix3 0 ⟨r.val + 1, by omega⟩ k) * x1 (ix3 0 ⟨r.val + 1, by omega⟩ k)
  gate k := x2 (ix3 0 r k)
  stream n := x10 (ix3 0 r n)
  resid n := x11 (ix3 0 0 n)
  modScale n := x14 (ix3 0 0 n)
  modShift n := x15 (ix3 0 0 n)

variable (i : grid0.Coords)
  (x0 : Vec Ideal S1x512x512 .bf16)
  (x1 : Vec Ideal S1x512x512 .bf16)
  (x2 : Vec Ideal S1x512x512 .bf16)
  (x3 : Vec Ideal S1x512x512 .bf16)
  (x4 : Vec Ideal S1x16x512 .bf16)
  (x5 : Vec Ideal S1x16x512 .bf16)
  (x6 : Vec Ideal S1x16x512 .bf16)
  (x7 : Vec Ideal S1x16x512 .bf16)
  (x8 : Vec Ideal S3x512 .f32)
  (x9 : Vec Ideal S1024x1024 .bf16)
  (x10 : Vec Ideal S1x512x1024 .f32)
  (x11 : Vec Ideal S1x1x1024 .f32)
  (x12 : Vec Ideal S1x1024 .f32)
  (x13 : Vec Ideal S1x1024 .f32)
  (x14 : Vec Ideal S1x1x1024 .f32)
  (x15 : Vec Ideal S1x1x1024 .f32)
  (x16 : Vec Ideal S32x1024 .bf16)
  (x17 : Vec Ideal S32x1 .f32)

/-- A load of one of a halo's sixteen rows. -/
theorem ld_halo (x : Vec Ideal S1x16x512 .bf16) (o : Fin 16) (inb) (k : Fin 512) :
    View.ld x (Rect.unit (s := S1x16x512) ![0, o.val, 0] S1x1x512.size inb) (ix3 0 0 k) = x (ix3 0 o k) :=
  View.ld_unit_apply_of _ _ _ _ _ _ fun (a : Fin 3) => by
    match a with
    | ⟨0, _⟩ => rfl
    | ⟨1, _⟩ => rfl
    | ⟨2, _⟩ => show k.val = 0 + k.val; omega

/-- A load of one of the convolution's three rows. -/
theorem ld_conv (x : Vec Ideal S3x512 .f32) (o : Fin 3) (inb) (k : Fin 512) :
    View.ld x (Rect.unit (s := S3x512) ![o.val, 0] S1x512.size inb) (ix2 0 k) = x (ix2 o k) :=
  View.ld_unit_apply_of _ _ _ _ _ _ fun (a : Fin 2) => by
    match a with
    | ⟨0, _⟩ => rfl
    | ⟨1, _⟩ => show k.val = 0 + k.val; omega

/-- The gated convolution of a point's tokens. -/
theorem conv_eq (r k : Fin 512) : conv i x1 x2 x3 x4 x5 x6 x7 x8 (ix2 r k) = act (blockWeights x8 x9 x12 x13 x16 x17) (blockToken i x0 x1 x2 x3 x4 x5 x6 x7 x10 x11 x14 x15 r) k := by
  have a0 := ld_conv x8 0 inb_S3x512_S1x512_0_0 k
  have a1 := ld_conv x8 1 inb_S3x512_S1x512_1_0 k
  have a2 := ld_conv x8 2 inb_S3x512_S1x512_2_0 k
  have b4 := ld_halo x4 15 inb_S1x16x512_S1x1x512_0_15_0 k
  have b5 := ld_halo x5 15 inb_S1x16x512_S1x1x512_0_15_0 k
  have b6 := ld_halo x6 0 inb_S1x16x512_S1x1x512_0_0_0 k
  have b7 := ld_halo x7 0 inb_S1x16x512_S1x1x512_0_0_0 k
  unfold conv
  rw [conv_apply, prev_apply, gated_apply, after_apply]
  unfold act
  refine congrArg (HMul.hMul _) (congrArg₂ (· + ·) (congrArg₂ (· + ·) (congrArg₂ (· * ·) a0 ?_) (congrArg₂ (· * ·) a1 rfl)) (congrArg₂ (· * ·) a2 ?_))
  · exact congrArg (fun z => if r.val = 0 then (if (i 1).val = 0 then 0 else z) else _) (congrArg₂ (· * ·) b5 b4)
  · show (if h : r.val = 511 then _ else _) = if h : r.val = 511 then _ else _
    split_ifs
    · rfl
    · exact congrArg₂ (· * ·) b7 b6
    · exact gated_apply x3 x1 _ k

/-- The new stream of the first half. -/
theorem stream_first (r : Fin 256) (n : Fin 1024) :
    new0 i x0 x1 x2 x3 x4 x5 x6 x7 x8 x9 x10 x11 x12 x13 (ix2 r n) = newStream (blockWeights x8 x9 x12 x13 x16 x17) (blockToken i x0 x1 x2 x3 x4 x5 x6 x7 x10 x11 x14 x15 ⟨0 + r.val, by omega⟩) n := by
  have hx : ∀ n : Fin 1024, (View.ld x10 (Rect.unit (s := S1x512x1024) ![0, 0, 0] S1x256x1024.size inb_S1x512x1024_S1x256x1024_0_0_0)) (ix3 0 r n) = x10 (ix3 0 ⟨0 + r.val, by omega⟩ n) := fun n => View.ld_unit_apply_of _ _ _ _ _ _ fun (a : Fin 3) => by
    match a with
    | ⟨0, _⟩ => rfl
    | ⟨1, _⟩ => rfl
    | ⟨2, _⟩ => show n.val = 0 + n.val; omega
  have hc : ∀ k : Fin 512, (View.ld x0 (Rect.unit (s := S1x512x512) ![0, 0, 0] S1x256x512.size inb_S1x512x512_S1x256x512_0_0_0)) (ix3 0 r k) = x0 (ix3 0 ⟨0 + r.val, by omega⟩ k) := fun k => View.ld_unit_apply_of _ _ _ _ _ _ fun (a : Fin 3) => by
    match a with
    | ⟨0, _⟩ => rfl
    | ⟨1, _⟩ => rfl
    | ⟨2, _⟩ => show k.val = 0 + k.val; omega
  have hu : ∀ (k : Fin 512) (n : Fin 1024), (View.ld x9 (Rect.unit (s := S1024x1024) ![0, 0] S512x1024.size inb_S1024x1024_S512x1024_0_0)) (ix2 k n) = x9 (ix2 ⟨k.val, by omega⟩ n) := fun k n => View.ld_unit_apply_of _ _ _ _ _ _ fun (a : Fin 2) => by
    match a with
    | ⟨0, _⟩ => show k.val = 0 + k.val; omega
    | ⟨1, _⟩ => show n.val = 0 + n.val; omega
  have hl : ∀ (k : Fin 512) (n : Fin 1024), (View.ld x9 (Rect.unit (s := S1024x1024) ![512, 0] S512x1024.size inb_S1024x1024_S512x1024_512_0)) (ix2 k n) = x9 (ix2 ⟨512 + k.val, by omega⟩ n) := fun k n => View.ld_unit_apply_of _ _ _ _ _ _ fun (a : Fin 2) => by
    match a with
    | ⟨0, _⟩ => rfl
    | ⟨1, _⟩ => show n.val = 0 + n.val; omega
  unfold new0 proj0 old0
  rw [stream0_apply]
  unfold newStream
  refine congrArg (fun f => normed _ f n * x12 (ix2 0 n) + x13 (ix2 0 n)) (funext fun n => ?_)
  unfold mixed
  refine congrArg₂ (· + ·) (congrArg (_ * ·) (hx n))
    (congrArg (_ * ·) (congrArg₂ (· + ·) (Finset.sum_congr rfl fun k _ => ?_) (Finset.sum_congr rfl fun k _ => ?_)))
  · exact congrArg₂ (· * ·) (hc k) (hu k n)
  · exact congrArg₂ (· * ·) ((congrArg (fun z => conv i x1 x2 x3 x4 x5 x6 x7 x8 (ix2 z k)) (Fin.ext (by show r.val = 0 + r.val; omega))).trans (conv_eq i x0 x1 x2 x3 x4 x5 x6 x7 x8 x9 x10 x11 x12 x13 x14 x15 x16 x17 ⟨0 + r.val, by omega⟩ k)) (hl k n)

/-- The modulated stream of the first half. -/
theorem hidden_first (r : Fin 256) (n : Fin 1024) :
    k0_pay16 (mod0 i x0 x1 x2 x3 x4 x5 x6 x7 x8 x9 x10 x11 x12 x13 x14) x15 (ix2 r n) = hidden (blockWeights x8 x9 x12 x13 x16 x17) (blockToken i x0 x1 x2 x3 x4 x5 x6 x7 x10 x11 x14 x15 ⟨0 + r.val, by omega⟩) n := by
  unfold mod0
  rw [hidden0_apply]
  exact congrArg (fun z => z * (1 + x14 (ix3 0 0 n)) + x15 (ix3 0 0 n)) (stream_first i x0 x1 x2 x3 x4 x5 x6 x7 x8 x9 x10 x11 x12 x13 x14 x15 x16 x17 r n)

/-- The scores of the first half. -/
theorem logit_first (e : Fin 32) (r : Fin 256) : score0 i x0 x1 x2 x3 x4 x5 x6 x7 x8 x9 x10 x11 x12 x13 x14 x15 x16 x17 (ix2 e r) = logit (blockWeights x8 x9 x12 x13 x16 x17) (blockToken i x0 x1 x2 x3 x4 x5 x6 x7 x10 x11 x14 x15 ⟨0 + r.val, by omega⟩) e := by
  unfold score0
  rw [logit0_apply]
  simp only [hidden_first i x0 x1 x2 x3 x4 x5 x6 x7 x8 x9 x10 x11 x12 x13 x14 x15 x16 x17]
  rfl

/-- The new stream of the second half. -/
theorem stream_second (r : Fin 256) (n : Fin 1024) :
    new1 i x0 x1 x2 x3 x4 x5 x6 x7 x8 x9 x10 x11 x12 x13 (ix2 r n) = newStream (blockWeights x8 x9 x12 x13 x16 x17) (blockToken i x0 x1 x2 x3 x4 x5 x6 x7 x10 x11 x14 x15 ⟨256 + r.val, by omega⟩) n := by
  have hx : ∀ n : Fin 1024, (View.ld x10 (Rect.unit (s := S1x512x1024) ![0, 256, 0] S1x256x1024.size inb_S1x512x1024_S1x256x1024_0_256_0)) (ix3 0 r n) = x10 (ix3 0 ⟨256 + r.val, by omega⟩ n) := fun n => View.ld_unit_apply_of _ _ _ _ _ _ fun (a : Fin 3) => by
    match a with
    | ⟨0, _⟩ => rfl
    | ⟨1, _⟩ => rfl
    | ⟨2, _⟩ => show n.val = 0 + n.val; omega
  have hc : ∀ k : Fin 512, (View.ld x0 (Rect.unit (s := S1x512x512) ![0, 256, 0] S1x256x512.size inb_S1x512x512_S1x256x512_0_256_0)) (ix3 0 r k) = x0 (ix3 0 ⟨256 + r.val, by omega⟩ k) := fun k => View.ld_unit_apply_of _ _ _ _ _ _ fun (a : Fin 3) => by
    match a with
    | ⟨0, _⟩ => rfl
    | ⟨1, _⟩ => rfl
    | ⟨2, _⟩ => show k.val = 0 + k.val; omega
  have hu : ∀ (k : Fin 512) (n : Fin 1024), (View.ld x9 (Rect.unit (s := S1024x1024) ![0, 0] S512x1024.size inb_S1024x1024_S512x1024_0_0)) (ix2 k n) = x9 (ix2 ⟨k.val, by omega⟩ n) := fun k n => View.ld_unit_apply_of _ _ _ _ _ _ fun (a : Fin 2) => by
    match a with
    | ⟨0, _⟩ => show k.val = 0 + k.val; omega
    | ⟨1, _⟩ => show n.val = 0 + n.val; omega
  have hl : ∀ (k : Fin 512) (n : Fin 1024), (View.ld x9 (Rect.unit (s := S1024x1024) ![512, 0] S512x1024.size inb_S1024x1024_S512x1024_512_0)) (ix2 k n) = x9 (ix2 ⟨512 + k.val, by omega⟩ n) := fun k n => View.ld_unit_apply_of _ _ _ _ _ _ fun (a : Fin 2) => by
    match a with
    | ⟨0, _⟩ => rfl
    | ⟨1, _⟩ => show n.val = 0 + n.val; omega
  unfold new1 proj1
  rw [stream1_apply]
  unfold newStream
  refine congrArg (fun f => normed _ f n * x12 (ix2 0 n) + x13 (ix2 0 n)) (funext fun n => ?_)
  unfold mixed
  refine congrArg₂ (· + ·) (congrArg (_ * ·) (hx n))
    (congrArg (_ * ·) (congrArg₂ (· + ·) (Finset.sum_congr rfl fun k _ => ?_) (Finset.sum_congr rfl fun k _ => ?_)))
  · exact congrArg₂ (· * ·) (hc k) (hu k n)
  · exact congrArg₂ (· * ·) ((conv_eq i x0 x1 x2 x3 x4 x5 x6 x7 x8 x9 x10 x11 x12 x13 x14 x15 x16 x17 ⟨256 + r.val, by omega⟩ k)) (hl k n)

/-- The modulated stream of the second half. -/
theorem hidden_second (r : Fin 256) (n : Fin 1024) :
    k0_pay37 (new1 i x0 x1 x2 x3 x4 x5 x6 x7 x8 x9 x10 x11 x12 x13) (k0_pay36 x14) x15 (ix2 r n) = hidden (blockWeights x8 x9 x12 x13 x16 x17) (blockToken i x0 x1 x2 x3 x4 x5 x6 x7 x10 x11 x14 x15 ⟨256 + r.val, by omega⟩) n := by
  rw [hidden1_apply]
  exact congrArg (fun z => z * (1 + x14 (ix3 0 0 n)) + x15 (ix3 0 0 n)) (stream_second i x0 x1 x2 x3 x4 x5 x6 x7 x8 x9 x10 x11 x12 x13 x14 x15 x16 x17 r n)

/-- The scores of the second half. -/
theorem logit_second (e : Fin 32) (r : Fin 256) : score1 i x0 x1 x2 x3 x4 x5 x6 x7 x8 x9 x10 x11 x12 x13 x14 x15 x16 x17 (ix2 e r) = logit (blockWeights x8 x9 x12 x13 x16 x17) (blockToken i x0 x1 x2 x3 x4 x5 x6 x7 x10 x11 x14 x15 ⟨256 + r.val, by omega⟩) e := by
  unfold score1
  rw [logit1_apply]
  simp only [hidden_second i x0 x1 x2 x3 x4 x5 x6 x7 x8 x9 x10 x11 x12 x13 x14 x15 x16 x17]
  rfl

end Cert.Kernel5Ideal.EvenOut

end
-- ==== Proof.EvenOut.Stored.lean ====
/- The four buffers of a point of the even layer's output projection after the body, entry by entry. -/
module

public import proofs.«01_k».proof.Proof.Gen.Kernel5Ideal.Frame
public import proofs.«01_k».proof.Proof.EvenOut.Out
public import Idealize.ShloMosaic.Lib.Pipeline.ValueKit.Tiles

@[expose] public section

set_option maxRecDepth 16384

noncomputable section

namespace Cert.Kernel5Ideal.EvenOut

open Cert.Kernel5Ideal Cert.Kernel5Ideal.Gen
open Cert.EvenOut
open Cert.OutProj (normed best first rest rounds chosen weight)
open Idealize.ShloMosaic Idealize.ShloMosaic.TcCoe Idealize.SL.Sem

/-- The stored stream of the first half, with its leading axis of one. -/
theorem stored_first (a b : FVec Ideal S256x1024 .f32) (g : Vec Ideal S1x1x1024 .f32) (u v : Vec Ideal S1x1024 .f32) (z : Fin 1) (r : Fin 256) (n : Fin 1024) :
    k0_pay14 a b g u v (ix3 z r n) = k0_pay13 a b g u v (ix2 r n) := by
  unfold k0_pay14
  generalize k0_pay13 a b g u v = X
  pointwise []

/-- The stored stream of the second half, with its leading axis of one. -/
theorem stored_second (a : FVec Ideal S256x1024 .f32) (b : Vec Ideal S1x256x1024 .f32) (g : Vec Ideal S1x1x1024 .f32) (u v : Vec Ideal S1x1024 .f32) (z : Fin 1) (r : Fin 256) (n : Fin 1024) :
    k0_pay35 a b g u v (ix3 z r n) = k0_pay34 a b g u v (ix2 r n) := by
  unfold k0_pay35
  generalize k0_pay34 a b g u v = X
  pointwise []

/-- The new stream of a point's tokens. -/
theorem out18_apply (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S32x1024 .bf16) (harg18 : arg18.IsWhole) (arg19 : Memref sig .tc .vmem S32x1 .f32) (harg19 : arg19.IsWhole) (arg23 : Memref sig .tc .vmem S1x512x1024 .f32) (harg23 : arg23.IsWhole) (arg24 : Memref sig .tc .vmem S512x1024 .bf16) (harg24 : arg24.IsWhole) (arg25 : Memref sig .tc .vmem S4x512 .i32) (harg25 : arg25.IsWhole) (arg26 : Memref sig .tc .vmem S4x512 .f32) (harg26 : arg26.IsWhole)
    (x0 : Vec Ideal S1x512x512 .bf16) (x1 : Vec Ideal S1x512x512 .bf16) (x2 : Vec Ideal S1x512x512 .bf16) (x3 : Vec Ideal S1x512x512 .bf16) (x4 : Vec Ideal S1x16x512 .bf16) (x5 : Vec Ideal S1x16x512 .bf16) (x6 : Vec Ideal S1x16x512 .bf16) (x7 : Vec Ideal S1x16x512 .bf16) (x8 : Vec Ideal S3x512 .f32) (x9 : Vec Ideal S1024x1024 .bf16) (x10 : Vec Ideal S1x512x1024 .f32) (x11 : Vec Ideal S1x1x1024 .f32) (x12 : Vec Ideal S1x1024 .f32) (x13 : Vec Ideal S1x1024 .f32) (x14 : Vec Ideal S1x1x1024 .f32) (x15 : Vec Ideal S1x1x1024 .f32) (x16 : Vec Ideal S32x1024 .bf16) (x17 : Vec Ideal S32x1 .f32) (z : Fin 1) (R : Fin 512) (n : Fin 1024) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 harg23 arg24 harg24 arg25 harg25 arg26 harg26 x0 x1 x2 x3 x4 x5 x6 x7 x8 x9 x10 x11 x12 x13 x14 x15 x16 x17 (ix3 z R n) = newStream (blockWeights x8 x9 x12 x13 x16 x17) (blockToken i x0 x1 x2 x3 x4 x5 x6 x7 x10 x11 x14 x15 R) n := by
  rw [pieces18]
  canon_tiles x h
  all_goals
    obtain ⟨a, r, q, rfl⟩ : ∃ (a : Fin 1) (r : Fin 256) (q : Fin 1024), x = ix3 a r q := ⟨x 0, x 1, x 2, funext fun (a : Fin 3) => by
      match a with
      | ⟨0, _⟩ => rfl
      | ⟨1, _⟩ => rfl
      | ⟨2, _⟩ => rfl⟩
    obtain rfl : n = q := Fin.ext (by first | exact h2 | exact h2.trans (Nat.zero_add _))
  · obtain rfl : R = ⟨256 + r.val, Nat.add_lt_add_left r.isLt 256⟩ := Fin.ext h1
    exact (stored_second _ _ _ _ _ a r n).trans (stream_second i x0 x1 x2 x3 x4 x5 x6 x7 x8 x9 x10 x11 x12 x13 x14 x15 x16 x17 r n)
  · obtain rfl : R = ⟨0 + r.val, Nat.lt_of_lt_of_le (Nat.add_lt_add_left r.isLt 0) (by decide)⟩ := Fin.ext (by first | exact h1 | exact h1.trans (Nat.zero_add _).symm)
    exact (stored_first _ _ _ _ _ a r n).trans (stream_first i x0 x1 x2 x3 x4 x5 x6 x7 x8 x9 x10 x11 x12 x13 x14 x15 x16 x17 r n)

/-- The modulated stream of a point's tokens. -/
theorem out19_apply (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S32x1024 .bf16) (harg18 : arg18.IsWhole) (arg19 : Memref sig .tc .vmem S32x1 .f32) (harg19 : arg19.IsWhole) (arg23 : Memref sig .tc .vmem S1x512x1024 .f32) (harg23 : arg23.IsWhole) (arg24 : Memref sig .tc .vmem S512x1024 .bf16) (harg24 : arg24.IsWhole) (arg25 : Memref sig .tc .vmem S4x512 .i32) (harg25 : arg25.IsWhole) (arg26 : Memref sig .tc .vmem S4x512 .f32) (harg26 : arg26.IsWhole)
    (x0 : Vec Ideal S1x512x512 .bf16) (x1 : Vec Ideal S1x512x512 .bf16) (x2 : Vec Ideal S1x512x512 .bf16) (x3 : Vec Ideal S1x512x512 .bf16) (x4 : Vec Ideal S1x16x512 .bf16) (x5 : Vec Ideal S1x16x512 .bf16) (x6 : Vec Ideal S1x16x512 .bf16) (x7 : Vec Ideal S1x16x512 .bf16) (x8 : Vec Ideal S3x512 .f32) (x9 : Vec Ideal S1024x1024 .bf16) (x10 : Vec Ideal S1x512x1024 .f32) (x11 : Vec Ideal S1x1x1024 .f32) (x12 : Vec Ideal S1x1024 .f32) (x13 : Vec Ideal S1x1024 .f32) (x14 : Vec Ideal S1x1x1024 .f32) (x15 : Vec Ideal S1x1x1024 .f32) (x16 : Vec Ideal S32x1024 .bf16) (x17 : Vec Ideal S32x1 .f32) (R : Fin 512) (n : Fin 1024) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 harg23 arg24 harg24 arg25 harg25 arg26 harg26 x0 x1 x2 x3 x4 x5 x6 x7 x8 x9 x10 x11 x12 x13 x14 x15 x16 x17 (ix2 R n) = hidden (blockWeights x8 x9 x12 x13 x16 x17) (blockToken i x0 x1 x2 x3 x4 x5 x6 x7 x10 x11 x14 x15 R) n := by
  rw [pieces19]
  canon_tiles x h
  all_goals
    obtain ⟨r, q, rfl⟩ : ∃ (r : Fin 256) (q : Fin 1024), x = ix2 r q := ⟨x 0, x 1, funext fun (a : Fin 2) => by
      match a with
      | ⟨0, _⟩ => rfl
      | ⟨1, _⟩ => rfl⟩
    obtain rfl : n = q := Fin.ext (by first | exact h1 | exact h1.trans (Nat.zero_add _))
  · obtain rfl : R = ⟨256 + r.val, Nat.add_lt_add_left r.isLt 256⟩ := Fin.ext h0
    exact hidden_second i x0 x1 x2 x3 x4 x5 x6 x7 x8 x9 x10 x11 x12 x13 x14 x15 x16 x17 r n
  · obtain rfl : R = ⟨0 + r.val, Nat.lt_of_lt_of_le (Nat.add_lt_add_left r.isLt 0) (by decide)⟩ := Fin.ext (by first | exact h0 | exact h0.trans (Nat.zero_add _).symm)
    exact hidden_first i x0 x1 x2 x3 x4 x5 x6 x7 x8 x9 x10 x11 x12 x13 x14 x15 x16 x17 r n

/-- The experts that a point's tokens choose. -/
theorem out20_apply (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S32x1024 .bf16) (harg18 : arg18.IsWhole) (arg19 : Memref sig .tc .vmem S32x1 .f32) (harg19 : arg19.IsWhole) (arg23 : Memref sig .tc .vmem S1x512x1024 .f32) (harg23 : arg23.IsWhole) (arg24 : Memref sig .tc .vmem S512x1024 .bf16) (harg24 : arg24.IsWhole) (arg25 : Memref sig .tc .vmem S4x512 .i32) (harg25 : arg25.IsWhole) (arg26 : Memref sig .tc .vmem S4x512 .f32) (harg26 : arg26.IsWhole)
    (x0 : Vec Ideal S1x512x512 .bf16) (x1 : Vec Ideal S1x512x512 .bf16) (x2 : Vec Ideal S1x512x512 .bf16) (x3 : Vec Ideal S1x512x512 .bf16) (x4 : Vec Ideal S1x16x512 .bf16) (x5 : Vec Ideal S1x16x512 .bf16) (x6 : Vec Ideal S1x16x512 .bf16) (x7 : Vec Ideal S1x16x512 .bf16) (x8 : Vec Ideal S3x512 .f32) (x9 : Vec Ideal S1024x1024 .bf16) (x10 : Vec Ideal S1x512x1024 .f32) (x11 : Vec Ideal S1x1x1024 .f32) (x12 : Vec Ideal S1x1024 .f32) (x13 : Vec Ideal S1x1024 .f32) (x14 : Vec Ideal S1x1x1024 .f32) (x15 : Vec Ideal S1x1x1024 .f32) (x16 : Vec Ideal S32x1024 .bf16) (x17 : Vec Ideal S32x1 .f32) (j : Fin 4) (R : Fin 512) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 harg23 arg24 harg24 arg25 harg25 arg26 harg26 x0 x1 x2 x3 x4 x5 x6 x7 x8 x9 x10 x11 x12 x13 x14 x15 x16 x17 (ix2 j R) = chosen (logit (blockWeights x8 x9 x12 x13 x16 x17) (blockToken i x0 x1 x2 x3 x4 x5 x6 x7 x10 x11 x14 x15 R)) j := by
  rw [pieces20]
  canon_tiles x h
  all_goals
    obtain ⟨q, r, rfl⟩ : ∃ (q : Fin 4) (r : Fin 256), x = ix2 q r := ⟨x 0, x 1, funext fun (a : Fin 2) => by
      match a with
      | ⟨0, _⟩ => rfl
      | ⟨1, _⟩ => rfl⟩
    obtain rfl : j = q := Fin.ext (by first | exact h0 | exact h0.trans (Nat.zero_add _))
  · obtain rfl : R = ⟨256 + r.val, Nat.add_lt_add_left r.isLt 256⟩ := Fin.ext h1
    exact (chosen_apply _ j r).trans (congrArg (fun l => chosen l j) (funext fun e => logit_second i x0 x1 x2 x3 x4 x5 x6 x7 x8 x9 x10 x11 x12 x13 x14 x15 x16 x17 e r))
  · obtain rfl : R = ⟨0 + r.val, Nat.lt_of_lt_of_le (Nat.add_lt_add_left r.isLt 0) (by decide)⟩ := Fin.ext (by first | exact h1 | exact h1.trans (Nat.zero_add _).symm)
    exact (chosen_apply _ j r).trans (congrArg (fun l => chosen l j) (funext fun e => logit_first i x0 x1 x2 x3 x4 x5 x6 x7 x8 x9 x10 x11 x12 x13 x14 x15 x16 x17 e r))

/-- The weights that a point's tokens give their experts. -/
theorem out21_apply (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x16x512 .bf16) (harg6 : arg6.IsWhole) (arg7 : Memref sig .tc .vmem S1x16x512 .bf16) (harg7 : arg7.IsWhole) (arg8 : Memref sig .tc .vmem S1x16x512 .bf16) (harg8 : arg8.IsWhole) (arg9 : Memref sig .tc .vmem S1x16x512 .bf16) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S32x1024 .bf16) (harg18 : arg18.IsWhole) (arg19 : Memref sig .tc .vmem S32x1 .f32) (harg19 : arg19.IsWhole) (arg23 : Memref sig .tc .vmem S1x512x1024 .f32) (harg23 : arg23.IsWhole) (arg24 : Memref sig .tc .vmem S512x1024 .bf16) (harg24 : arg24.IsWhole) (arg25 : Memref sig .tc .vmem S4x512 .i32) (harg25 : arg25.IsWhole) (arg26 : Memref sig .tc .vmem S4x512 .f32) (harg26 : arg26.IsWhole)
    (x0 : Vec Ideal S1x512x512 .bf16) (x1 : Vec Ideal S1x512x512 .bf16) (x2 : Vec Ideal S1x512x512 .bf16) (x3 : Vec Ideal S1x512x512 .bf16) (x4 : Vec Ideal S1x16x512 .bf16) (x5 : Vec Ideal S1x16x512 .bf16) (x6 : Vec Ideal S1x16x512 .bf16) (x7 : Vec Ideal S1x16x512 .bf16) (x8 : Vec Ideal S3x512 .f32) (x9 : Vec Ideal S1024x1024 .bf16) (x10 : Vec Ideal S1x512x1024 .f32) (x11 : Vec Ideal S1x1x1024 .f32) (x12 : Vec Ideal S1x1024 .f32) (x13 : Vec Ideal S1x1024 .f32) (x14 : Vec Ideal S1x1x1024 .f32) (x15 : Vec Ideal S1x1x1024 .f32) (x16 : Vec Ideal S32x1024 .bf16) (x17 : Vec Ideal S32x1 .f32) (j : Fin 4) (R : Fin 512) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 harg23 arg24 harg24 arg25 harg25 arg26 harg26 x0 x1 x2 x3 x4 x5 x6 x7 x8 x9 x10 x11 x12 x13 x14 x15 x16 x17 (ix2 j R) = weight (logit (blockWeights x8 x9 x12 x13 x16 x17) (blockToken i x0 x1 x2 x3 x4 x5 x6 x7 x10 x11 x14 x15 R)) j := by
  rw [pieces21]
  canon_tiles x h
  all_goals
    obtain ⟨q, r, rfl⟩ : ∃ (q : Fin 4) (r : Fin 256), x = ix2 q r := ⟨x 0, x 1, funext fun (a : Fin 2) => by
      match a with
      | ⟨0, _⟩ => rfl
      | ⟨1, _⟩ => rfl⟩
    obtain rfl : j = q := Fin.ext (by first | exact h0 | exact h0.trans (Nat.zero_add _))
  · obtain rfl : R = ⟨256 + r.val, Nat.add_lt_add_left r.isLt 256⟩ := Fin.ext h1
    exact (weight_apply _ j r).trans (congrArg (fun l => weight l j) (funext fun e => logit_second i x0 x1 x2 x3 x4 x5 x6 x7 x8 x9 x10 x11 x12 x13 x14 x15 x16 x17 e r))
  · obtain rfl : R = ⟨0 + r.val, Nat.lt_of_lt_of_le (Nat.add_lt_add_left r.isLt 0) (by decide)⟩ := Fin.ext (by first | exact h1 | exact h1.trans (Nat.zero_add _).symm)
    exact (weight_apply _ j r).trans (congrArg (fun l => weight l j) (funext fun e => logit_first i x0 x1 x2 x3 x4 x5 x6 x7 x8 x9 x10 x11 x12 x13 x14 x15 x16 x17 e r))

end Cert.Kernel5Ideal.EvenOut

end
-- ==== Proof.EvenOut.Points.lean ====
/- What a point of the even layer's output projection finds in its buffers, as functions of the arguments. -/
module

public import proofs.«01_k».proof.Proof.EvenOut.Stored
public import proofs.«01_k».proof.Proof.Gen.Kernel5Ideal.Value
public import Idealize.ShloMosaic.Lib.Pointwise
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

namespace Cert.Kernel5Ideal.EvenOut

open Cert.Kernel5Ideal Cert.Kernel5Ideal.Gen Cert.EvenOut
open Cert.OutProj (chosen weight)
open Idealize.ShloMosaic Idealize.ShloMosaic.TcCoe Idealize.SL.Sem

variable (m : (ℓ : Loc nD τ sig) → Buf (Elt Ideal) ℓ)

/-- A grid coordinate fits a word. -/
theorem coord_word (i : grid0.Coords) : (BitVec.ofNat 32 (i 0).val).toNat = (i 0).val ∧ (BitVec.ofNat 32 (i 1).val).toNat = (i 1).val := by
  have h0 : (i 0).val < 2 := (i 0).isLt
  have h1 : (i 1).val < 32 := (i 1).isLt
  rw [BitVec.toNat_ofNat, BitVec.toNat_ofNat]; omega

/-- The number of a block of rows over both sequences: 32 blocks a sequence. -/
theorem row_word : ∀ (a : Fin 2) (b : Fin 32), (Scalar.addi (Scalar.addi 0#32 (Scalar.muli (BitVec.ofNat 32 a.val) 32#32)) (BitVec.ofNat 32 b.val)).toNat = a.val * 32 + b.val := by
  decide

/-- The halo before a block that is not the first: the sixteen rows that end where the block begins. -/
theorem prev_word : ∀ b : Fin 32, b.val ≠ 0 → (Scalar.maxsi (Scalar.subi (Scalar.muli (BitVec.ofNat 32 b.val) 32#32) 1#32) 0#32).toNat = b.val * 32 - 1 := by
  decide

/-- The halo after a block that is not the last: the sixteen rows that begin where the block ends. -/
theorem next_word : ∀ b : Fin 32, b.val ≠ 31 → (Scalar.minsi (Scalar.muli (Scalar.addi (BitVec.ofNat 32 b.val) 1#32) 32#32) 1023#32).toNat = (b.val + 1) * 32 := by
  decide

/-- What the launch finds prepared: the scales of the layer norm, as a row. -/
theorem prepared_v0 (c : Dev nD) (z : Fin 1) (n : Fin 1024) : (V m c main_v0 : S1x1024.Idx → EReal) (ix2 z n) = (m ((c.tc : Thread nD τ).loc main_arg8) : S1024.Idx → EReal) (ix1 n) := by
  have h : (V m c main_v0 : S1x1024.Idx → EReal) = shapeCast S1x1024 (m ((c.tc : Thread nD τ).loc main_arg8) : S1024.Idx → EReal) shapeCasts_S1024_S1x1024 := by
    show StableHlo.after hostOps0 (fun b => m (c, b)) main_v0 = _
    simp only [hostOps0, StableHlo.after_cons, StableHlo.after_nil]
    rfl
  rw [h]
  generalize (m ((c.tc : Thread nD τ).loc main_arg8) : S1024.Idx → EReal) = X
  pointwise []

/-- What the launch finds prepared: the shifts of the layer norm, as a row. -/
theorem prepared_v1 (c : Dev nD) (z : Fin 1) (n : Fin 1024) : (V m c main_v1 : S1x1024.Idx → EReal) (ix2 z n) = (m ((c.tc : Thread nD τ).loc main_arg9) : S1024.Idx → EReal) (ix1 n) := by
  have h : (V m c main_v1 : S1x1024.Idx → EReal) = shapeCast S1x1024 (m ((c.tc : Thread nD τ).loc main_arg9) : S1024.Idx → EReal) shapeCasts_S1024_S1x1024 := by
    show StableHlo.after hostOps0 (fun b => m (c, b)) main_v1 = _
    simp only [hostOps0, StableHlo.after_cons, StableHlo.after_nil]
    rfl
  rw [h]
  generalize (m ((c.tc : Thread nD τ).loc main_arg9) : S1024.Idx → EReal) = X
  pointwise []

/-- What the launch finds prepared: the router biases, as a column. -/
theorem prepared_v2 (c : Dev nD) (e : Fin 32) (z : Fin 1) : (V m c main_v2 : S32x1.Idx → EReal) (ix2 e z) = (m ((c.tc : Thread nD τ).loc main_arg11) : S32.Idx → EReal) (ix1 e) := by
  have h : (V m c main_v2 : S32x1.Idx → EReal) = shapeCast S32x1 (m ((c.tc : Thread nD τ).loc main_arg11) : S32.Idx → EReal) shapeCasts_S32_S32x1 := by
    show StableHlo.after hostOps0 (fun b => m (c, b)) main_v2 = _
    simp only [hostOps0, StableHlo.after_cons, StableHlo.after_nil]
    rfl
  rw [h]
  generalize (m ((c.tc : Thread nD τ).loc main_arg11) : S32.Idx → EReal) = X
  pointwise []

/-- The result array of the modulated stream begins as a copy of its operand. -/
theorem copied_v3_1 (c : Dev nD) : (V m c main_v3_1 : S33280x1024.Idx → EReal) = (m ((c.tc : Thread nD τ).loc main_arg12) : S33280x1024.Idx → EReal) := by
  show StableHlo.after hostOps0 (fun b => m (c, b)) main_v3_1 = _
  simp only [hostOps0, StableHlo.after_cons, StableHlo.after_nil]
  rfl

/-- The result array of the chosen experts begins as a copy of its operand. -/
theorem copied_v3_2 (c : Dev nD) : (V m c main_v3_2 : S4x33280.Idx → BitVec 32) = (m ((c.tc : Thread nD τ).loc main_arg13) : S4x33280.Idx → BitVec 32) := by
  show StableHlo.after hostOps0 (fun b => m (c, b)) main_v3_2 = _
  simp only [hostOps0, StableHlo.after_cons, StableHlo.after_nil]
  rfl

/-- The result array of the weights of the chosen experts begins as a copy of its operand. -/
theorem copied_v3_3 (c : Dev nD) : (V m c main_v3_3 : S4x33280.Idx → EReal) = (m ((c.tc : Thread nD τ).loc main_arg14) : S4x33280.Idx → EReal) := by
  show StableHlo.after hostOps0 (fun b => m (c, b)) main_v3_3 = _
  simp only [hostOps0, StableHlo.after_cons, StableHlo.after_nil]
  rfl

/-- The gated input of row `R` of sequence `b`: the input gate (columns from 3584) times the value (columns from 2560). -/
def gated (z : S2x16384x4096.Idx → EReal) (b : Fin 2) (R : Fin 16384) (k : Fin 512) : EReal :=
  z (ix3 b R ⟨3584 + k.val, by omega⟩) * z (ix3 b R ⟨2560 + k.val, by omega⟩)

/-- The layer's weights, from the arguments. -/
def weightsOf (c : Dev nD) : Weights where
  conv o k := (m ((c.tc : Thread nD τ).loc main_arg2) : S3x512.Idx → EReal) (ix2 o k)
  out k n := (m ((c.tc : Thread nD τ).loc main_arg3) : S1024x1024.Idx → EReal) (ix2 k n)
  lnScale n := (m ((c.tc : Thread nD τ).loc main_arg8) : S1024.Idx → EReal) (ix1 n)
  lnShift n := (m ((c.tc : Thread nD τ).loc main_arg9) : S1024.Idx → EReal) (ix1 n)
  router e n := (m ((c.tc : Thread nD τ).loc main_arg10) : S32x1024.Idx → EReal) (ix2 e n)
  routerBias e := (m ((c.tc : Thread nD τ).loc main_arg11) : S32.Idx → EReal) (ix1 e)

/-- Token `R` of sequence `b`, from the arguments. -/
def tokenOf (c : Dev nD) (b : Fin 2) (R : Fin 16384) : Token where
  attn k := (m ((c.tc : Thread nD τ).loc main_arg0) : S2x16384x512.Idx → EReal) (ix3 b R k)
  before k := if R.val = 0 then 0 else gated (m ((c.tc : Thread nD τ).loc main_arg1) : S2x16384x4096.Idx → EReal) b ⟨R.val - 1, by omega⟩ k
  here k := gated (m ((c.tc : Thread nD τ).loc main_arg1) : S2x16384x4096.Idx → EReal) b R k
  after k := if h : R.val = 16383 then 0 else gated (m ((c.tc : Thread nD τ).loc main_arg1) : S2x16384x4096.Idx → EReal) b ⟨R.val + 1, by omega⟩ k
  gate k := (m ((c.tc : Thread nD τ).loc main_arg1) : S2x16384x4096.Idx → EReal) (ix3 b R ⟨3072 + k.val, by omega⟩)
  stream n := (m ((c.tc : Thread nD τ).loc main_arg4) : S2x16384x1024.Idx → EReal) (ix3 b R n)
  resid n := (m ((c.tc : Thread nD τ).loc main_arg5) : S8x1x1024.Idx → EReal) (ix3 (⟨b.val, by omega⟩ : Fin 8) (0 : Fin 1) n)
  modScale n := (m ((c.tc : Thread nD τ).loc main_arg6) : S8x1x1024.Idx → EReal) (ix3 (⟨b.val, by omega⟩ : Fin 8) (0 : Fin 1) n)
  modShift n := (m ((c.tc : Thread nD τ).loc main_arg7) : S8x1x1024.Idx → EReal) (ix3 (⟨b.val, by omega⟩ : Fin 8) (0 : Fin 1) n)

/-- The attention rows of a point. -/
theorem iblk0_apply (c : Dev nD) (t : Fin cfg0.N) (r : Fin 512) (k : Fin 512) (b : Fin 2) (R : Fin 16384) (hb : b.val = (grid0.coords t 0).val) (hR : R.val = (grid0.coords t 1).val * 512 + r.val) :
    (iblk m c 0 t : S1x512x512.Idx → EReal) (ix3 0 r k) = (m ((c.tc : Thread nD τ).loc main_arg0) : S2x16384x512.Idx → EReal) (ix3 b R k) := by
  obtain ⟨w0, w1⟩ := coord_word (grid0.coords t)
  refine Eq.trans ?_ (congrFun (V_main_arg0 m c : (V m c main_arg0 : S2x16384x512.Idx → EReal) = _) _)
  refine congrArg (V m c main_arg0 : S2x16384x512.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 0 * 512 + 1 * k.val = k.val
    omega

/-- The value of a point's rows: columns 2560 to 3071. -/
theorem iblk1_apply (c : Dev nD) (t : Fin cfg0.N) (r : Fin 512) (k : Fin 512) (b : Fin 2) (R : Fin 16384) (hb : b.val = (grid0.coords t 0).val) (hR : R.val = (grid0.coords t 1).val * 512 + r.val) :
    (iblk m c 1 t : S1x512x512.Idx → EReal) (ix3 0 r k) = (m ((c.tc : Thread nD τ).loc main_arg1) : S2x16384x4096.Idx → EReal) (ix3 b R ⟨2560 + k.val, by omega⟩) := by
  obtain ⟨w0, w1⟩ := coord_word (grid0.coords t)
  refine Eq.trans ?_ (congrFun (V_main_arg1 m c : (V m c main_arg1 : S2x16384x4096.Idx → EReal) = _) _)
  refine congrArg (V m c main_arg1 : S2x16384x4096.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 5 * 512 + 1 * k.val = 2560 + k.val
    omega

/-- The output gate of a point's rows: columns 3072 to 3583. -/
theorem iblk2_apply (c : Dev nD) (t : Fin cfg0.N) (r : Fin 512) (k : Fin 512) (b : Fin 2) (R : Fin 16384) (hb : b.val = (grid0.coords t 0).val) (hR : R.val = (grid0.coords t 1).val * 512 + r.val) :
    (iblk m c 2 t : S1x512x512.Idx → EReal) (ix3 0 r k) = (m ((c.tc : Thread nD τ).loc main_arg1) : S2x16384x4096.Idx → EReal) (ix3 b R ⟨3072 + k.val, by omega⟩) := by
  obtain ⟨w0, w1⟩ := coord_word (grid0.coords t)
  refine Eq.trans ?_ (congrFun (V_main_arg1 m c : (V m c main_arg1 : S2x16384x4096.Idx → EReal) = _) _)
  refine congrArg (V m c main_arg1 : S2x16384x4096.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 6 * 512 + 1 * k.val = 3072 + k.val
    omega

/-- The input gate of a point's rows: columns 3584 to 4095. -/
theorem iblk3_apply (c : Dev nD) (t : Fin cfg0.N) (r : Fin 512) (k : Fin 512) (b : Fin 2) (R : Fin 16384) (hb : b.val = (grid0.coords t 0).val) (hR : R.val = (grid0.coords t 1).val * 512 + r.val) :
    (iblk m c 3 t : S1x512x512.Idx → EReal) (ix3 0 r k) = (m ((c.tc : Thread nD τ).loc main_arg1) : S2x16384x4096.Idx → EReal) (ix3 b R ⟨3584 + k.val, by omega⟩) := by
  obtain ⟨w0, w1⟩ := coord_word (grid0.coords t)
  refine Eq.trans ?_ (congrFun (V_main_arg1 m c : (V m c main_arg1 : S2x16384x4096.Idx → EReal) = _) _)
  refine congrArg (V m c main_arg1 : S2x16384x4096.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 7 * 512 + 1 * k.val = 3584 + k.val
    omega

/-- The value of the row before a point's rows. -/
theorem iblk4_apply (c : Dev nD) (t : Fin cfg0.N) (k : Fin 512) (b : Fin 2) (R : Fin 16384) (hb : b.val = (grid0.coords t 0).val) (h : (grid0.coords t 1).val ≠ 0) (hR : R.val + 1 = (grid0.coords t 1).val * 512) :
    (iblk m c 4 t : S1x16x512.Idx → EReal) (ix3 0 15 k) = (m ((c.tc : Thread nD τ).loc main_arg1) : S2x16384x4096.Idx → EReal) (ix3 b R ⟨2560 + k.val, by omega⟩) := by
  obtain ⟨w0, w1⟩ := coord_word (grid0.coords t)
  have hw := prev_word ⟨(grid0.coords t 1).val, (grid0.coords t 1).isLt⟩ h
  refine Eq.trans ?_ (congrFun (V_main_arg1 m c : (V m c main_arg1 : S2x16384x4096.Idx → EReal) = _) _)
  refine congrArg (V m c main_arg1 : S2x16384x4096.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (Scalar.maxsi (Scalar.subi (Scalar.muli (BitVec.ofNat 32 (grid0.coords t 1).val) 32#32) 1#32) 0#32).toNat * 16 + 1 * 15 = R.val
    rw [show (Scalar.maxsi (Scalar.subi (Scalar.muli (BitVec.ofNat 32 (grid0.coords t 1).val) 32#32) 1#32) 0#32).toNat = (grid0.coords t 1).val * 32 - 1 from hw]; omega
  | ⟨2, _⟩ =>
    show 5 * 512 + 1 * k.val = 2560 + k.val
    omega

/-- The input gate of the row before a point's rows. -/
theorem iblk5_apply (c : Dev nD) (t : Fin cfg0.N) (k : Fin 512) (b : Fin 2) (R : Fin 16384) (hb : b.val = (grid0.coords t 0).val) (h : (grid0.coords t 1).val ≠ 0) (hR : R.val + 1 = (grid0.coords t 1).val * 512) :
    (iblk m c 5 t : S1x16x512.Idx → EReal) (ix3 0 15 k) = (m ((c.tc : Thread nD τ).loc main_arg1) : S2x16384x4096.Idx → EReal) (ix3 b R ⟨3584 + k.val, by omega⟩) := by
  obtain ⟨w0, w1⟩ := coord_word (grid0.coords t)
  have hw := prev_word ⟨(grid0.coords t 1).val, (grid0.coords t 1).isLt⟩ h
  refine Eq.trans ?_ (congrFun (V_main_arg1 m c : (V m c main_arg1 : S2x16384x4096.Idx → EReal) = _) _)
  refine congrArg (V m c main_arg1 : S2x16384x4096.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (Scalar.maxsi (Scalar.subi (Scalar.muli (BitVec.ofNat 32 (grid0.coords t 1).val) 32#32) 1#32) 0#32).toNat * 16 + 1 * 15 = R.val
    rw [show (Scalar.maxsi (Scalar.subi (Scalar.muli (BitVec.ofNat 32 (grid0.coords t 1).val) 32#32) 1#32) 0#32).toNat = (grid0.coords t 1).val * 32 - 1 from hw]; omega
  | ⟨2, _⟩ =>
    show 7 * 512 + 1 * k.val = 3584 + k.val
    omega

/-- The value of the row after a point's rows. -/
theorem iblk6_apply (c : Dev nD) (t : Fin cfg0.N) (k : Fin 512) (b : Fin 2) (R : Fin 16384) (hb : b.val = (grid0.coords t 0).val) (h : (grid0.coords t 1).val ≠ 31) (hR : R.val = ((grid0.coords t 1).val + 1) * 512) :
    (iblk m c 6 t : S1x16x512.Idx → EReal) (ix3 0 0 k) = (m ((c.tc : Thread nD τ).loc main_arg1) : S2x16384x4096.Idx → EReal) (ix3 b R ⟨2560 + k.val, by omega⟩) := by
  obtain ⟨w0, w1⟩ := coord_word (grid0.coords t)
  have hw := next_word ⟨(grid0.coords t 1).val, (grid0.coords t 1).isLt⟩ h
  refine Eq.trans ?_ (congrFun (V_main_arg1 m c : (V m c main_arg1 : S2x16384x4096.Idx → EReal) = _) _)
  refine congrArg (V m c main_arg1 : S2x16384x4096.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (Scalar.minsi (Scalar.muli (Scalar.addi (BitVec.ofNat 32 (grid0.coords t 1).val) 1#32) 32#32) 1023#32).toNat * 16 + 1 * 0 = R.val
    rw [show (Scalar.minsi (Scalar.muli (Scalar.addi (BitVec.ofNat 32 (grid0.coords t 1).val) 1#32) 32#32) 1023#32).toNat = ((grid0.coords t 1).val + 1) * 32 from hw]; omega
  | ⟨2, _⟩ =>
    show 5 * 512 + 1 * k.val = 2560 + k.val
    omega

/-- The input gate of the row after a point's rows. -/
theorem iblk7_apply (c : Dev nD) (t : Fin cfg0.N) (k : Fin 512) (b : Fin 2) (R : Fin 16384) (hb : b.val = (grid0.coords t 0).val) (h : (grid0.coords t 1).val ≠ 31) (hR : R.val = ((grid0.coords t 1).val + 1) * 512) :
    (iblk m c 7 t : S1x16x512.Idx → EReal) (ix3 0 0 k) = (m ((c.tc : Thread nD τ).loc main_arg1) : S2x16384x4096.Idx → EReal) (ix3 b R ⟨3584 + k.val, by omega⟩) := by
  obtain ⟨w0, w1⟩ := coord_word (grid0.coords t)
  have hw := next_word ⟨(grid0.coords t 1).val, (grid0.coords t 1).isLt⟩ h
  refine Eq.trans ?_ (congrFun (V_main_arg1 m c : (V m c main_arg1 : S2x16384x4096.Idx → EReal) = _) _)
  refine congrArg (V m c main_arg1 : S2x16384x4096.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (Scalar.minsi (Scalar.muli (Scalar.addi (BitVec.ofNat 32 (grid0.coords t 1).val) 1#32) 32#32) 1023#32).toNat * 16 + 1 * 0 = R.val
    rw [show (Scalar.minsi (Scalar.muli (Scalar.addi (BitVec.ofNat 32 (grid0.coords t 1).val) 1#32) 32#32) 1023#32).toNat = ((grid0.coords t 1).val + 1) * 32 from hw]; omega
  | ⟨2, _⟩ =>
    show 7 * 512 + 1 * k.val = 3584 + k.val
    omega

/-- The convolution: its three rows. -/
theorem iblk8_apply (c : Dev nD) (t : Fin cfg0.N) (x : Fin 3) (y : Fin 512) :
    (iblk m c 8 t : S3x512.Idx → EReal) (ix2 x y) = (m ((c.tc : Thread nD τ).loc main_arg2) : S3x512.Idx → EReal) (ix2 x y) := by
  obtain ⟨w0, w1⟩ := coord_word (grid0.coords t)
  refine Eq.trans ?_ (congrFun (V_main_arg2 m c : (V m c main_arg2 : S3x512.Idx → EReal) = _) _)
  refine congrArg (V m c main_arg2 : S3x512.Idx → EReal) (funext fun (a : Fin 2) => Fin.ext ?_)
  match a with
  | ⟨0, _⟩ =>
    show 0 * 3 + 1 * x.val = x.val
    omega
  | ⟨1, _⟩ =>
    show 0 * 512 + 1 * y.val = y.val
    omega

/-- The projection: the whole matrix. -/
theorem iblk9_apply (c : Dev nD) (t : Fin cfg0.N) (x : Fin 1024) (y : Fin 1024) :
    (iblk m c 9 t : S1024x1024.Idx → EReal) (ix2 x y) = (m ((c.tc : Thread nD τ).loc main_arg3) : S1024x1024.Idx → EReal) (ix2 x y) := by
  obtain ⟨w0, w1⟩ := coord_word (grid0.coords t)
  refine Eq.trans ?_ (congrFun (V_main_arg3 m c : (V m c main_arg3 : S1024x1024.Idx → EReal) = _) _)
  refine congrArg (V m c main_arg3 : S1024x1024.Idx → EReal) (funext fun (a : Fin 2) => Fin.ext ?_)
  match a with
  | ⟨0, _⟩ =>
    show 0 * 1024 + 1 * x.val = x.val
    omega
  | ⟨1, _⟩ =>
    show 0 * 1024 + 1 * y.val = y.val
    omega

/-- The old stream of a point's tokens. -/
theorem iblk10_apply (c : Dev nD) (t : Fin cfg0.N) (r : Fin 512) (k : Fin 1024) (b : Fin 2) (R : Fin 16384) (hb : b.val = (grid0.coords t 0).val) (hR : R.val = (grid0.coords t 1).val * 512 + r.val) :
    (iblk m c 10 t : S1x512x1024.Idx → EReal) (ix3 0 r k) = (m ((c.tc : Thread nD τ).loc main_arg4) : S2x16384x1024.Idx → EReal) (ix3 b R k) := by
  obtain ⟨w0, w1⟩ := coord_word (grid0.coords t)
  refine Eq.trans ?_ (congrFun (V_main_arg4 m c : (V m c main_arg4 : S2x16384x1024.Idx → EReal) = _) _)
  refine congrArg (V m c main_arg4 : S2x16384x1024.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show (BitVec.ofNat 32 (grid0.coords t 1).val).toNat * 512 + 1 * r.val = R.val
    rw [w1]; omega
  | ⟨2, _⟩ =>
    show 0 * 1024 + 1 * k.val = k.val
    omega

/-- The residual gate of a point: the row of its sequence. -/
theorem iblk11_apply (c : Dev nD) (t : Fin cfg0.N) (k : Fin 1024) (b : Fin 8) (hb : b.val = (grid0.coords t 0).val) :
    (iblk m c 11 t : S1x1x1024.Idx → EReal) (ix3 0 0 k) = (m ((c.tc : Thread nD τ).loc main_arg5) : S8x1x1024.Idx → EReal) (ix3 b 0 k) := by
  obtain ⟨w0, w1⟩ := coord_word (grid0.coords t)
  refine Eq.trans ?_ (congrFun (V_main_arg5 m c : (V m c main_arg5 : S8x1x1024.Idx → EReal) = _) _)
  refine congrArg (V m c main_arg5 : S8x1x1024.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show 0 * 1 + 1 * 0 = 0
    omega
  | ⟨2, _⟩ =>
    show 0 * 1024 + 1 * k.val = k.val
    omega

/-- The modulation's scale of a point: the row of its sequence. -/
theorem iblk14_apply (c : Dev nD) (t : Fin cfg0.N) (k : Fin 1024) (b : Fin 8) (hb : b.val = (grid0.coords t 0).val) :
    (iblk m c 14 t : S1x1x1024.Idx → EReal) (ix3 0 0 k) = (m ((c.tc : Thread nD τ).loc main_arg6) : S8x1x1024.Idx → EReal) (ix3 b 0 k) := by
  obtain ⟨w0, w1⟩ := coord_word (grid0.coords t)
  refine Eq.trans ?_ (congrFun (V_main_arg6 m c : (V m c main_arg6 : S8x1x1024.Idx → EReal) = _) _)
  refine congrArg (V m c main_arg6 : S8x1x1024.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show 0 * 1 + 1 * 0 = 0
    omega
  | ⟨2, _⟩ =>
    show 0 * 1024 + 1 * k.val = k.val
    omega

/-- The modulation's shift of a point: the row of its sequence. -/
theorem iblk15_apply (c : Dev nD) (t : Fin cfg0.N) (k : Fin 1024) (b : Fin 8) (hb : b.val = (grid0.coords t 0).val) :
    (iblk m c 15 t : S1x1x1024.Idx → EReal) (ix3 0 0 k) = (m ((c.tc : Thread nD τ).loc main_arg7) : S8x1x1024.Idx → EReal) (ix3 b 0 k) := by
  obtain ⟨w0, w1⟩ := coord_word (grid0.coords t)
  refine Eq.trans ?_ (congrFun (V_main_arg7 m c : (V m c main_arg7 : S8x1x1024.Idx → EReal) = _) _)
  refine congrArg (V m c main_arg7 : S8x1x1024.Idx → EReal) (funext fun (a : Fin 3) => Fin.ext ?_)
  match a with
  | ⟨0, _⟩ =>
    show (BitVec.ofNat 32 (grid0.coords t 0).val).toNat * 1 + 1 * 0 = b.val
    rw [w0]; omega
  | ⟨1, _⟩ =>
    show 0 * 1 + 1 * 0 = 0
    omega
  | ⟨2, _⟩ =>
    show 0 * 1024 + 1 * k.val = k.val
    omega

/-- The scales of the layer norm: the whole row. -/
theorem iblk12_apply (c : Dev nD) (t : Fin cfg0.N) (x : Fin 1) (y : Fin 1024) :
    (iblk m c 12 t : S1x1024.Idx → EReal) (ix2 x y) = (V m c main_v0 : S1x1024.Idx → EReal) (ix2 x y) := by
  obtain ⟨w0, w1⟩ := coord_word (grid0.coords t)
  refine congrArg (V m c main_v0 : S1x1024.Idx → EReal) (funext fun (a : Fin 2) => Fin.ext ?_)
  match a with
  | ⟨0, _⟩ =>
    show 0 * 1 + 1 * x.val = x.val
    omega
  | ⟨1, _⟩ =>
    show 0 * 1024 + 1 * y.val = y.val
    omega

/-- The shifts of the layer norm: the whole row. -/
theorem iblk13_apply (c : Dev nD) (t : Fin cfg0.N) (x : Fin 1) (y : Fin 1024) :
    (iblk m c 13 t : S1x1024.Idx → EReal) (ix2 x y) = (V m c main_v1 : S1x1024.Idx → EReal) (ix2 x y) := by
  obtain ⟨w0, w1⟩ := coord_word (grid0.coords t)
  refine congrArg (V m c main_v1 : S1x1024.Idx → EReal) (funext fun (a : Fin 2) => Fin.ext ?_)
  match a with
  | ⟨0, _⟩ =>
    show 0 * 1 + 1 * x.val = x.val
    omega
  | ⟨1, _⟩ =>
    show 0 * 1024 + 1 * y.val = y.val
    omega

/-- The router: the whole matrix. -/
theorem iblk16_apply (c : Dev nD) (t : Fin cfg0.N) (x : Fin 32) (y : Fin 1024) :
    (iblk m c 16 t : S32x1024.Idx → EReal) (ix2 x y) = (m ((c.tc : Thread nD τ).loc main_arg10) : S32x1024.Idx → EReal) (ix2 x y) := by
  obtain ⟨w0, w1⟩ := coord_word (grid0.coords t)
  refine Eq.trans ?_ (congrFun (V_main_arg10 m c : (V m c main_arg10 : S32x1024.Idx → EReal) = _) _)
  refine congrArg (V m c main_arg10 : S32x1024.Idx → EReal) (funext fun (a : Fin 2) => Fin.ext ?_)
  match a with
  | ⟨0, _⟩ =>
    show 0 * 32 + 1 * x.val = x.val
    omega
  | ⟨1, _⟩ =>
    show 0 * 1024 + 1 * y.val = y.val
    omega

/-- The router biases: the whole column. -/
theorem iblk17_apply (c : Dev nD) (t : Fin cfg0.N) (x : Fin 32) (y : Fin 1) :
    (iblk m c 17 t : S32x1.Idx → EReal) (ix2 x y) = (V m c main_v2 : S32x1.Idx → EReal) (ix2 x y) := by
  obtain ⟨w0, w1⟩ := coord_word (grid0.coords t)
  refine congrArg (V m c main_v2 : S32x1.Idx → EReal) (funext fun (a : Fin 2) => Fin.ext ?_)
  match a with
  | ⟨0, _⟩ =>
    show 0 * 32 + 1 * x.val = x.val
    omega
  | ⟨1, _⟩ =>
    show 0 * 1 + 1 * y.val = y.val
    omega

/-- The weights in a point's buffers are the layer's. -/
theorem weights_eq (c : Dev nD) (t : Fin cfg0.N) :
    blockWeights (iblk m c 8 t) (iblk m c 9 t) (iblk m c 12 t) (iblk m c 13 t) (iblk m c 16 t) (iblk m c 17 t) = weightsOf m c := by
  unfold blockWeights weightsOf
  congr 1
  · exact funext fun o => funext fun k => iblk8_apply m c t o k
  · exact funext fun k => funext fun n => iblk9_apply m c t k n
  · exact funext fun n => (iblk12_apply m c t 0 n).trans (prepared_v0 m c 0 n)
  · exact funext fun n => (iblk13_apply m c t 0 n).trans (prepared_v1 m c 0 n)
  · exact funext fun e => funext fun n => iblk16_apply m c t e n
  · exact funext fun e => (iblk17_apply m c t e 0).trans (prepared_v2 m c e 0)

/-- A point's tokens are 512 consecutive tokens of its sequence, with their neighbours. -/
theorem token_eq (c : Dev nD) (t : Fin cfg0.N) (r : Fin 512) (b : Fin 2) (R : Fin 16384) (hb : b.val = (grid0.coords t 0).val) (hR : R.val = (grid0.coords t 1).val * 512 + r.val) :
    blockToken (grid0.coords t) (iblk m c 0 t) (iblk m c 1 t) (iblk m c 2 t) (iblk m c 3 t) (iblk m c 4 t) (iblk m c 5 t) (iblk m c 6 t) (iblk m c 7 t) (iblk m c 10 t) (iblk m c 11 t) (iblk m c 14 t) (iblk m c 15 t) r = tokenOf m c b R := by
  have h1 : (grid0.coords t 1).val < 32 := (grid0.coords t 1).isLt
  unfold blockToken tokenOf
  congr 1
  · exact funext fun k => iblk0_apply m c t r k b R hb hR
  · refine funext fun k => ?_
    by_cases hr : r.val = 0
    · rw [if_pos hr]
      by_cases hi : (grid0.coords t 1).val = 0
      · rw [if_pos hi, if_pos (by omega)]
      · rw [if_neg hi, if_neg (by omega)]
        exact congrArg₂ (fun x y : EReal => x * y) (iblk5_apply m c t k b ⟨R.val - 1, by omega⟩ hb hi (by show R.val - 1 + 1 = _; omega)) (iblk4_apply m c t k b ⟨R.val - 1, by omega⟩ hb hi (by show R.val - 1 + 1 = _; omega))
    · rw [if_neg hr, if_neg (by omega)]
      exact congrArg₂ (fun x y : EReal => x * y) (iblk3_apply m c t ⟨r.val - 1, by omega⟩ k b ⟨R.val - 1, by omega⟩ hb (by show R.val - 1 = _ + (r.val - 1); omega)) (iblk1_apply m c t ⟨r.val - 1, by omega⟩ k b ⟨R.val - 1, by omega⟩ hb (by show R.val - 1 = _ + (r.val - 1); omega))
  · exact funext fun k => congrArg₂ (fun x y : EReal => x * y) (iblk3_apply m c t r k b R hb hR) (iblk1_apply m c t r k b R hb hR)
  · refine funext fun k => ?_
    by_cases hr : r.val = 511
    · rw [dif_pos hr]
      by_cases hi : (grid0.coords t 1).val = 31
      · rw [if_pos hi, dif_pos (by omega)]
      · have hn : R.val ≠ 16383 := by omega
        rw [if_neg hi, dif_neg hn]
        exact congrArg₂ (fun x y : EReal => x * y) (iblk7_apply m c t k b ⟨R.val + 1, by omega⟩ hb hi (by show R.val + 1 = _; omega)) (iblk6_apply m c t k b ⟨R.val + 1, by omega⟩ hb hi (by show R.val + 1 = _; omega))
    · have hn : R.val ≠ 16383 := by omega
      rw [dif_neg hr, dif_neg hn]
      exact congrArg₂ (fun x y : EReal => x * y) (iblk3_apply m c t ⟨r.val + 1, by omega⟩ k b ⟨R.val + 1, by omega⟩ hb (by show R.val + 1 = _ + (r.val + 1); omega)) (iblk1_apply m c t ⟨r.val + 1, by omega⟩ k b ⟨R.val + 1, by omega⟩ hb (by show R.val + 1 = _ + (r.val + 1); omega))
  · exact funext fun k => iblk2_apply m c t r k b R hb hR
  · exact funext fun n => iblk10_apply m c t r n b R hb hR
  · exact funext fun n => iblk11_apply m c t n ⟨b.val, by omega⟩ hb
  · exact funext fun n => iblk14_apply m c t n ⟨b.val, by omega⟩ hb
  · exact funext fun n => iblk15_apply m c t n ⟨b.val, by omega⟩ hb

/-- The new stream of token `R` of sequence `b`. -/
def streamAt (c : Dev nD) (b : Fin 2) (R : Fin 16384) (n : Fin 1024) : EReal :=
  newStream (weightsOf m c) (tokenOf m c b R) n

/-- The modulated stream of token `q`, counted over both sequences. -/
def hiddenAt (c : Dev nD) (q : Fin 32768) (n : Fin 1024) : EReal :=
  hidden (weightsOf m c) (tokenOf m c ⟨q.val / 16384, by omega⟩ ⟨q.val % 16384, by omega⟩) n

/-- The router's scores of token `q`, counted over both sequences. -/
def logitsAt (c : Dev nD) (q : Fin 32768) : Fin 32 → EReal :=
  logit (weightsOf m c) (tokenOf m c ⟨q.val / 16384, by omega⟩ ⟨q.val % 16384, by omega⟩)

/-- Row `q` of the shared array of modulated streams: the layer's for its own tokens, the operand's for the others. -/
def hiddenRow (c : Dev nD) (q : Fin 33280) (n : Fin 1024) : EReal :=
  if h : q.val < 32768 then hiddenAt m c ⟨q.val, h⟩ n else (m ((c.tc : Thread nD τ).loc main_arg12) : S33280x1024.Idx → EReal) (ix2 q n)

/-- Column `q` of the shared array of chosen experts: the layer's for its own tokens, the operand's for the others. -/
def chosenColumn (c : Dev nD) (i : Fin 4) (q : Fin 33280) : BitVec 32 :=
  if h : q.val < 32768 then chosen (logitsAt m c ⟨q.val, h⟩) i else (m ((c.tc : Thread nD τ).loc main_arg13) : S4x33280.Idx → BitVec 32) (ix2 i q)

/-- Column `q` of the shared array of weights: the layer's for its own tokens, the operand's for the others. -/
def weightColumn (c : Dev nD) (i : Fin 4) (q : Fin 33280) : EReal :=
  if h : q.val < 32768 then weight (logitsAt m c ⟨q.val, h⟩) i else (m ((c.tc : Thread nD τ).loc main_arg14) : S4x33280.Idx → EReal) (ix2 i q)

end Cert.Kernel5Ideal.EvenOut

end
-- ==== Proof.EvenOut.Arrays.lean ====
/- The four result arrays of the even layer's output projection over the extended reals, as functions of the arguments. -/
module

public import proofs.«01_k».proof.Proof.EvenOut.Points
public import proofs.«01_k».proof.Proof.Gen.Kernel5Ideal.Value
public import Idealize.ShloMosaic.Lib.Pointwise
public import Idealize.ShloMosaic.Lib.Pipeline.ValueKit.Tiles
public import Idealize.ShloMosaic.Lib.Pipeline.ValueKit.Geometry
public import Idealize.ShloMosaic.Lib.Pipeline.ValueKit.Partial

@[expose] public section

set_option maxRecDepth 16384

noncomputable section

namespace Cert.Kernel5Ideal.EvenOut

open Cert.Kernel5Ideal Cert.Kernel5Ideal.Gen Cert.EvenOut
open Cert.OutProj (chosen weight)
open Idealize.ShloMosaic Idealize.ShloMosaic.TcCoe Idealize.SL.Sem

variable (m : (ℓ : Loc nD τ sig) → Buf (Elt Ideal) ℓ)

/-- The buffer of the new stream after a point is the body's. -/
theorem outs18 (c : Dev nD) (t : Fin cfg0.N) : (outsAt0 m c t).1 = out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by
  simp only [outsAt0]

/-- What a point leaves in the buffer of the new stream, entry by entry. -/
theorem point18_apply (c : Dev nD) (t : Fin cfg0.N) (z : Fin 1) (r : Fin 512) (n : Fin 1024) (b : Fin 2) (R : Fin 16384) (hb : b.val = (grid0.coords t 0).val) (hR : R.val = (grid0.coords t 1).val * 512 + r.val) :
    ((outsAt0 m c t).1 : S1x512x1024.Idx → EReal) (ix3 z r n) = streamAt m c b R n := by
  have h0 : (grid0.coords t 0).val < 2 := (grid0.coords t 0).isLt
  have h1 : (grid0.coords t 1).val < 32 := (grid0.coords t 1).isLt
  refine (congrFun (outs18 m c t) _).trans ((out18_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) z r n).trans ?_)
  rw [weights_eq, token_eq m c t r b R hb hR]
  rfl

/-- The array of the new stream after the run. -/
theorem array18 (c : Dev nD) : (dats m 0 c).arrAt 18 cfg0.N = (fun i : S2x16384x1024.Idx => (streamAt m c (i 0) (i 1) (i 2) : EReal)) := by
  refine (dats m 0 c).arrAt_eq_of_covers 18 _ (by decide +kernel) (fun t _ => ?_)
  · intro (y : S1x512x1024.Idx)
    rw [after0_18]
    have h0 : (grid0.coords t 0).val < 2 := (grid0.coords t 0).isLt
    have h1 : (grid0.coords t 1).val < 32 := (grid0.coords t 1).isLt
    have hy0 : (y 0).val < 1 := (y 0).isLt
    have hy1 : (y 1).val < 512 := (y 1).isLt
    have hy2 : (y 2).val < 1024 := (y 2).isLt
    have key := point18_apply m c t ⟨(y 0).val, hy0⟩ ⟨(y 1).val, hy1⟩ ⟨(y 2).val, hy2⟩ ⟨(grid0.coords t 0).val, h0⟩ ⟨(grid0.coords t 1).val * 512 + (y 1).val, by omega⟩ rfl rfl
    generalize (outsAt0 m c t).1 = O at key ⊢
    have e : y = ix3 (⟨(y 0).val, hy0⟩ : Fin 1) (⟨(y 1).val, hy1⟩ : Fin 512) (⟨(y 2).val, hy2⟩ : Fin 1024) := funext fun (a : Fin 3) => by
      match a with
      | ⟨0, _⟩ => rfl
      | ⟨1, _⟩ => rfl
      | ⟨2, _⟩ => rfl
    refine (congrArg (O : S1x512x1024.Idx → EReal) e).trans (key.trans ?_)
    refine congr (congr (congrArg (streamAt m c) (Fin.ext ?_)) (Fin.ext ?_)) (Fin.ext ?_)
    · show (grid0.coords t 0).val = (BitVec.ofNat 32 (grid0.coords t 0).val).toNat * 1 + 1 * (y 0).val
      rw [(coord_word (grid0.coords t)).1]; omega
    · show (grid0.coords t 1).val * 512 + (y 1).val = (BitVec.ofNat 32 (grid0.coords t 1).val).toNat * 512 + 1 * (y 1).val
      rw [(coord_word (grid0.coords t)).2]; omega
    · show (y 2).val = 0 * 1024 + 1 * (y 2).val
      omega

/-- The buffer of the modulated stream after a point is the body's. -/
theorem outs19 (c : Dev nD) (t : Fin cfg0.N) : (outsAt0 m c t).2.1 = out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by
  simp only [outsAt0]

/-- What a point leaves in the buffer of the modulated stream, entry by entry. -/
theorem point19_apply (c : Dev nD) (t : Fin cfg0.N) (r : Fin 512) (n : Fin 1024) (q : Fin 32768) (hq : q.val = ((grid0.coords t 0).val * 32 + (grid0.coords t 1).val) * 512 + r.val) :
    ((outsAt0 m c t).2.1 : S512x1024.Idx → EReal) (ix2 r n) = hiddenAt m c q n := by
  have h0 : (grid0.coords t 0).val < 2 := (grid0.coords t 0).isLt
  have h1 : (grid0.coords t 1).val < 32 := (grid0.coords t 1).isLt
  refine (congrFun (outs19 m c t) _).trans ((out19_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) r n).trans ?_)
  rw [weights_eq, token_eq m c t r ⟨q.val / 16384, by omega⟩ ⟨q.val % 16384, by omega⟩ (by show q.val / 16384 = _; omega) (by show q.val % 16384 = _; omega)]
  rfl

/-- The array of the modulated stream after the run. -/
theorem array19 (c : Dev nD) : (dats m 0 c).arrAt 19 cfg0.N = (fun i : S33280x1024.Idx => (hiddenRow m c (i 0) (i 1) : EReal)) := by
  refine (dats m 0 c).arrAt_eq_of_coversWhere_of_agree 19 _ (fun β => β (0 : Fin 2) < 64) (by decide +kernel) (fun t _ => ?_) (fun j hj => ?_)
  · intro (y : S512x1024.Idx)
    rw [after0_19]
    have h0 : (grid0.coords t 0).val < 2 := (grid0.coords t 0).isLt
    have h1 : (grid0.coords t 1).val < 32 := (grid0.coords t 1).isLt
    have hy0 : (y 0).val < 512 := (y 0).isLt
    have hy1 : (y 1).val < 1024 := (y 1).isLt
    have hw := row_word ⟨(grid0.coords t 0).val, h0⟩ ⟨(grid0.coords t 1).val, h1⟩
    have key := point19_apply m c t ⟨(y 0).val, hy0⟩ ⟨(y 1).val, hy1⟩ ⟨((grid0.coords t 0).val * 32 + (grid0.coords t 1).val) * 512 + (y 0).val, by omega⟩ rfl
    generalize (outsAt0 m c t).2.1 = O at key ⊢
    have e : y = ix2 (⟨(y 0).val, hy0⟩ : Fin 512) (⟨(y 1).val, hy1⟩ : Fin 1024) := funext fun (a : Fin 2) => by
      match a with
      | ⟨0, _⟩ => rfl
      | ⟨1, _⟩ => rfl
    refine (congrArg (O : S512x1024.Idx → EReal) e).trans (key.trans ?_)
    have hu : (((grid0.coords t 0).val * 32 + (grid0.coords t 1).val) * 512 + (y 0).val) < 32768 := by omega
    have hv : hiddenRow m c ⟨((grid0.coords t 0).val * 32 + (grid0.coords t 1).val) * 512 + (y 0).val, by omega⟩ ⟨(y 1).val, hy1⟩ = hiddenAt m c ⟨((grid0.coords t 0).val * 32 + (grid0.coords t 1).val) * 512 + (y 0).val, hu⟩ ⟨(y 1).val, hy1⟩ := dif_pos hu
    refine hv.symm.trans ?_
    refine congr (congrArg (hiddenRow m c) (Fin.ext ?_)) (Fin.ext ?_)
    · show ((grid0.coords t 0).val * 32 + (grid0.coords t 1).val) * 512 + (y 0).val = (Scalar.addi (Scalar.addi 0#32 (Scalar.muli (BitVec.ofNat 32 (grid0.coords t 0).val) 32#32)) (BitVec.ofNat 32 (grid0.coords t 1).val)).toNat * 512 + 1 * (y 0).val
      rw [show (Scalar.addi (Scalar.addi 0#32 (Scalar.muli (BitVec.ofNat 32 (grid0.coords t 0).val) 32#32)) (BitVec.ofNat 32 (grid0.coords t 1).val)).toNat = (grid0.coords t 0).val * 32 + (grid0.coords t 1).val from hw]; omega
    · show (y 1).val = 0 * 1024 + 1 * (y 1).val
      omega
  · have hc : ¬ (j (0 : Fin 2)).val / 512 < 64 := hj
    have hq : ¬ (j (0 : Fin 2)).val < 32768 := by omega
    refine (congrFun (A_eq m c 19) _).trans ((congrFun (copied_v3_1 m c) j).trans ?_)
    have hv : hiddenRow m c (j (0 : Fin 2)) (j (1 : Fin 2)) = (m ((c.tc : Thread nD τ).loc main_arg12) : S33280x1024.Idx → EReal) (ix2 (j (0 : Fin 2)) (j (1 : Fin 2))) := dif_neg hq
    refine Eq.trans ?_ hv.symm
    exact congrArg (m ((c.tc : Thread nD τ).loc main_arg12) : S33280x1024.Idx → EReal) (funext fun (a : Fin 2) => by
      match a with
      | ⟨0, _⟩ => rfl
      | ⟨1, _⟩ => rfl)

/-- The buffer of the chosen experts after a point is the body's. -/
theorem outs20 (c : Dev nD) (t : Fin cfg0.N) : (outsAt0 m c t).2.2.1 = out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by
  simp only [outsAt0]

/-- What a point leaves in the buffer of the chosen experts, entry by entry. -/
theorem point20_apply (c : Dev nD) (t : Fin cfg0.N) (i : Fin 4) (r : Fin 512) (q : Fin 32768) (hq : q.val = ((grid0.coords t 0).val * 32 + (grid0.coords t 1).val) * 512 + r.val) :
    ((outsAt0 m c t).2.2.1 : S4x512.Idx → BitVec 32) (ix2 i r) = chosen (logitsAt m c q) i := by
  have h0 : (grid0.coords t 0).val < 2 := (grid0.coords t 0).isLt
  have h1 : (grid0.coords t 1).val < 32 := (grid0.coords t 1).isLt
  refine (congrFun (outs20 m c t) _).trans ((out20_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) i r).trans ?_)
  rw [weights_eq, token_eq m c t r ⟨q.val / 16384, by omega⟩ ⟨q.val % 16384, by omega⟩ (by show q.val / 16384 = _; omega) (by show q.val % 16384 = _; omega)]
  rfl

/-- The array of the chosen experts after the run. -/
theorem array20 (c : Dev nD) : (dats m 0 c).arrAt 20 cfg0.N = (fun i : S4x33280.Idx => (chosenColumn m c (i 0) (i 1) : BitVec 32)) := by
  refine (dats m 0 c).arrAt_eq_of_coversWhere_of_agree 20 _ (fun β => β (1 : Fin 2) < 64) (by decide +kernel) (fun t _ => ?_) (fun j hj => ?_)
  · intro (y : S4x512.Idx)
    rw [after0_20]
    have h0 : (grid0.coords t 0).val < 2 := (grid0.coords t 0).isLt
    have h1 : (grid0.coords t 1).val < 32 := (grid0.coords t 1).isLt
    have hy0 : (y 0).val < 4 := (y 0).isLt
    have hy1 : (y 1).val < 512 := (y 1).isLt
    have hw := row_word ⟨(grid0.coords t 0).val, h0⟩ ⟨(grid0.coords t 1).val, h1⟩
    have key := point20_apply m c t ⟨(y 0).val, hy0⟩ ⟨(y 1).val, hy1⟩ ⟨((grid0.coords t 0).val * 32 + (grid0.coords t 1).val) * 512 + (y 1).val, by omega⟩ rfl
    generalize (outsAt0 m c t).2.2.1 = O at key ⊢
    have e : y = ix2 (⟨(y 0).val, hy0⟩ : Fin 4) (⟨(y 1).val, hy1⟩ : Fin 512) := funext fun (a : Fin 2) => by
      match a with
      | ⟨0, _⟩ => rfl
      | ⟨1, _⟩ => rfl
    refine (congrArg (O : S4x512.Idx → BitVec 32) e).trans (key.trans ?_)
    have hu : (((grid0.coords t 0).val * 32 + (grid0.coords t 1).val) * 512 + (y 1).val) < 32768 := by omega
    have hv : chosenColumn m c ⟨(y 0).val, hy0⟩ ⟨((grid0.coords t 0).val * 32 + (grid0.coords t 1).val) * 512 + (y 1).val, by omega⟩ = chosen (logitsAt m c ⟨((grid0.coords t 0).val * 32 + (grid0.coords t 1).val) * 512 + (y 1).val, hu⟩) ⟨(y 0).val, hy0⟩ := dif_pos hu
    refine hv.symm.trans ?_
    refine congr (congrArg (chosenColumn m c) (Fin.ext ?_)) (Fin.ext ?_)
    · show (y 0).val = 0 * 4 + 1 * (y 0).val
      omega
    · show ((grid0.coords t 0).val * 32 + (grid0.coords t 1).val) * 512 + (y 1).val = (Scalar.addi (Scalar.addi 0#32 (Scalar.muli (BitVec.ofNat 32 (grid0.coords t 0).val) 32#32)) (BitVec.ofNat 32 (grid0.coords t 1).val)).toNat * 512 + 1 * (y 1).val
      rw [show (Scalar.addi (Scalar.addi 0#32 (Scalar.muli (BitVec.ofNat 32 (grid0.coords t 0).val) 32#32)) (BitVec.ofNat 32 (grid0.coords t 1).val)).toNat = (grid0.coords t 0).val * 32 + (grid0.coords t 1).val from hw]; omega
  · have hc : ¬ (j (1 : Fin 2)).val / 512 < 64 := hj
    have hq : ¬ (j (1 : Fin 2)).val < 32768 := by omega
    refine (congrFun (A_eq m c 20) _).trans ((congrFun (copied_v3_2 m c) j).trans ?_)
    have hv : chosenColumn m c (j (0 : Fin 2)) (j (1 : Fin 2)) = (m ((c.tc : Thread nD τ).loc main_arg13) : S4x33280.Idx → BitVec 32) (ix2 (j (0 : Fin 2)) (j (1 : Fin 2))) := dif_neg hq
    refine Eq.trans ?_ hv.symm
    exact congrArg (m ((c.tc : Thread nD τ).loc main_arg13) : S4x33280.Idx → BitVec 32) (funext fun (a : Fin 2) => by
      match a with
      | ⟨0, _⟩ => rfl
      | ⟨1, _⟩ => rfl)

/-- The buffer of the weights of the chosen experts after a point is the body's. -/
theorem outs21 (c : Dev nD) (t : Fin cfg0.N) : (outsAt0 m c t).2.2.2 = out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by
  simp only [outsAt0]

/-- What a point leaves in the buffer of the weights of the chosen experts, entry by entry. -/
theorem point21_apply (c : Dev nD) (t : Fin cfg0.N) (i : Fin 4) (r : Fin 512) (q : Fin 32768) (hq : q.val = ((grid0.coords t 0).val * 32 + (grid0.coords t 1).val) * 512 + r.val) :
    ((outsAt0 m c t).2.2.2 : S4x512.Idx → EReal) (ix2 i r) = weight (logitsAt m c q) i := by
  have h0 : (grid0.coords t 0).val < 2 := (grid0.coords t 0).isLt
  have h1 : (grid0.coords t 1).val < 32 := (grid0.coords t 1).isLt
  refine (congrFun (outs21 m c t) _).trans ((out21_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) i r).trans ?_)
  rw [weights_eq, token_eq m c t r ⟨q.val / 16384, by omega⟩ ⟨q.val % 16384, by omega⟩ (by show q.val / 16384 = _; omega) (by show q.val % 16384 = _; omega)]
  rfl

/-- The array of the weights of the chosen experts after the run. -/
theorem array21 (c : Dev nD) : (dats m 0 c).arrAt 21 cfg0.N = (fun i : S4x33280.Idx => (weightColumn m c (i 0) (i 1) : EReal)) := by
  refine (dats m 0 c).arrAt_eq_of_coversWhere_of_agree 21 _ (fun β => β (1 : Fin 2) < 64) (by decide +kernel) (fun t _ => ?_) (fun j hj => ?_)
  · intro (y : S4x512.Idx)
    rw [after0_21]
    have h0 : (grid0.coords t 0).val < 2 := (grid0.coords t 0).isLt
    have h1 : (grid0.coords t 1).val < 32 := (grid0.coords t 1).isLt
    have hy0 : (y 0).val < 4 := (y 0).isLt
    have hy1 : (y 1).val < 512 := (y 1).isLt
    have hw := row_word ⟨(grid0.coords t 0).val, h0⟩ ⟨(grid0.coords t 1).val, h1⟩
    have key := point21_apply m c t ⟨(y 0).val, hy0⟩ ⟨(y 1).val, hy1⟩ ⟨((grid0.coords t 0).val * 32 + (grid0.coords t 1).val) * 512 + (y 1).val, by omega⟩ rfl
    generalize (outsAt0 m c t).2.2.2 = O at key ⊢
    have e : y = ix2 (⟨(y 0).val, hy0⟩ : Fin 4) (⟨(y 1).val, hy1⟩ : Fin 512) := funext fun (a : Fin 2) => by
      match a with
      | ⟨0, _⟩ => rfl
      | ⟨1, _⟩ => rfl
    refine (congrArg (O : S4x512.Idx → EReal) e).trans (key.trans ?_)
    have hu : (((grid0.coords t 0).val * 32 + (grid0.coords t 1).val) * 512 + (y 1).val) < 32768 := by omega
    have hv : weightColumn m c ⟨(y 0).val, hy0⟩ ⟨((grid0.coords t 0).val * 32 + (grid0.coords t 1).val) * 512 + (y 1).val, by omega⟩ = weight (logitsAt m c ⟨((grid0.coords t 0).val * 32 + (grid0.coords t 1).val) * 512 + (y 1).val, hu⟩) ⟨(y 0).val, hy0⟩ := dif_pos hu
    refine hv.symm.trans ?_
    refine congr (congrArg (weightColumn m c) (Fin.ext ?_)) (Fin.ext ?_)
    · show (y 0).val = 0 * 4 + 1 * (y 0).val
      omega
    · show ((grid0.coords t 0).val * 32 + (grid0.coords t 1).val) * 512 + (y 1).val = (Scalar.addi (Scalar.addi 0#32 (Scalar.muli (BitVec.ofNat 32 (grid0.coords t 0).val) 32#32)) (BitVec.ofNat 32 (grid0.coords t 1).val)).toNat * 512 + 1 * (y 1).val
      rw [show (Scalar.addi (Scalar.addi 0#32 (Scalar.muli (BitVec.ofNat 32 (grid0.coords t 0).val) 32#32)) (BitVec.ofNat 32 (grid0.coords t 1).val)).toNat = (grid0.coords t 0).val * 32 + (grid0.coords t 1).val from hw]; omega
  · have hc : ¬ (j (1 : Fin 2)).val / 512 < 64 := hj
    have hq : ¬ (j (1 : Fin 2)).val < 32768 := by omega
    refine (congrFun (A_eq m c 21) _).trans ((congrFun (copied_v3_3 m c) j).trans ?_)
    have hv : weightColumn m c (j (0 : Fin 2)) (j (1 : Fin 2)) = (m ((c.tc : Thread nD τ).loc main_arg14) : S4x33280.Idx → EReal) (ix2 (j (0 : Fin 2)) (j (1 : Fin 2))) := dif_neg hq
    refine Eq.trans ?_ hv.symm
    exact congrArg (m ((c.tc : Thread nD τ).loc main_arg14) : S4x33280.Idx → EReal) (funext fun (a : Fin 2) => by
      match a with
      | ⟨0, _⟩ => rfl
      | ⟨1, _⟩ => rfl)

end Cert.Kernel5Ideal.EvenOut

end
-- ==== Proof.EvenOut.Reference.lean ====
/- The even output projection's reference over the extended reals, entry by entry. -/
module

public import proofs.«01_k».proof.Proof.Gen.Reference5Ideal.Run
public import proofs.«01_k».proof.Proof.EvenOut.Model
public import Idealize.ShloMosaic.Lib.Pointwise

@[expose] public section

set_option maxRecDepth 16384

noncomputable section

namespace Cert.Reference5Ideal.EvenOut

open Cert.Reference5Ideal Cert.Reference5Ideal.Gen Cert.Reference5Ideal.Value Cert.EvenOut
open Cert.OutProj (normed best first rest rounds chosen weight best_rounds_le)
open Idealize.ShloMosaic Idealize.ShloMosaic.TcCoe Idealize.ShloMosaic.StableHlo Idealize.SL.Sem

variable (V : Valuation τ sig (Elt Ideal))

/-- The gated input of row `R` of sequence `b`: the input gate (columns from 3584) times the value (columns from 2560). -/
def gated (z : S2x16384x4096.Idx → EReal) (b : Fin 2) (R : Fin 16384) (k : Fin 512) : EReal :=
  z (ix3 b R ⟨3584 + k.val, by omega⟩) * z (ix3 b R ⟨2560 + k.val, by omega⟩)

/-- The layer's weights, from the arguments. -/
def weightsOf : Weights where
  conv o k := (V (Proc.devRef .tc main_arg2) : S3x512.Idx → EReal) (ix2 o k)
  out k n := (V (Proc.devRef .tc main_arg3) : S1024x1024.Idx → EReal) (ix2 k n)
  lnScale n := (V (Proc.devRef .tc main_arg8) : S1024.Idx → EReal) (ix1 n)
  lnShift n := (V (Proc.devRef .tc main_arg9) : S1024.Idx → EReal) (ix1 n)
  router e n := (V (Proc.devRef .tc main_arg10) : S32x1024.Idx → EReal) (ix2 e n)
  routerBias e := (V (Proc.devRef .tc main_arg11) : S32.Idx → EReal) (ix1 e)

/-- Token `R` of sequence `b`, from the arguments. -/
def tokenOf (b : Fin 2) (R : Fin 16384) : Token where
  attn k := (V (Proc.devRef .tc main_arg0) : S2x16384x512.Idx → EReal) (ix3 b R k)
  before k := if R.val = 0 then 0 else gated (V (Proc.devRef .tc main_arg1) : S2x16384x4096.Idx → EReal) b ⟨R.val - 1, by omega⟩ k
  here k := gated (V (Proc.devRef .tc main_arg1) : S2x16384x4096.Idx → EReal) b R k
  after k := if h : R.val = 16383 then 0 else gated (V (Proc.devRef .tc main_arg1) : S2x16384x4096.Idx → EReal) b ⟨R.val + 1, by omega⟩ k
  gate k := (V (Proc.devRef .tc main_arg1) : S2x16384x4096.Idx → EReal) (ix3 b R ⟨3072 + k.val, by omega⟩)
  stream n := (V (Proc.devRef .tc main_arg4) : S2x16384x1024.Idx → EReal) (ix3 b R n)
  resid n := (V (Proc.devRef .tc main_arg5) : S8x1x1024.Idx → EReal) (ix3 (⟨b.val, by omega⟩ : Fin 8) (0 : Fin 1) n)
  modScale n := (V (Proc.devRef .tc main_arg6) : S8x1x1024.Idx → EReal) (ix3 (⟨b.val, by omega⟩ : Fin 8) (0 : Fin 1) n)
  modShift n := (V (Proc.devRef .tc main_arg7) : S8x1x1024.Idx → EReal) (ix3 (⟨b.val, by omega⟩ : Fin 8) (0 : Fin 1) n)

/-- The gated input with a row of zeros before and after it. -/
theorem padded_apply (b : Fin 2) (R : Fin 16386) (k : Fin 512) :
    (res_main_v5 V : S2x16386x512.Idx → EReal) (ix3 b R k) = if h : 1 ≤ R.val ∧ R.val < 16385 then gated (V (Proc.devRef .tc main_arg1) : S2x16384x4096.Idx → EReal) b ⟨R.val - 1, by omega⟩ k else 0 := by
  unfold res_main_v5 res_main_v0 gated
  generalize (V (Proc.devRef .tc main_arg1) : S2x16384x4096.Idx → EReal) = X
  pointwise []
  by_cases hr : 1 ≤ R.val ∧ R.val < 16385
  · rw [dif_pos hr, dif_pos (by omega)]
  · rw [dif_neg hr, dif_neg (by omega)]
    show (((0#32 : BitVec 32).toInt : ℝ) : EReal) = 0
    simp

/-- The gated convolution of the neighbouring rows. -/
def convolved : FVec Ideal S2x16384x512 .f32 :=
  mulf (extractStridedSlice S2x16384x512 ![0, 0, 3072] (res_main_v0 V) slices_S2x16384x4096_S2x16384x512_0_0_3072) (addf (addf (mulf (broadcastInDim S2x16384x512 ![0, 1, 2] bcast_S1x1x512_S2x16384x512_0_1_2 (broadcastInDim S1x1x512 ![2] bcast_S512_S1x1x512_2 (shapeCast S512 (extractStridedSlice S1x512 ![0, 0] (V (Proc.devRef .tc main_arg2)) slices_S3x512_S1x512_0_0) shapeCasts_S1x512_S512))) (extractStridedSlice S2x16384x512 ![0, 0, 0] (res_main_v5 V) slices_S2x16386x512_S2x16384x512_0_0_0)) (mulf (broadcastInDim S2x16384x512 ![0, 1, 2] bcast_S1x1x512_S2x16384x512_0_1_2 (broadcastInDim S1x1x512 ![2] bcast_S512_S1x1x512_2 (shapeCast S512 (extractStridedSlice S1x512 ![1, 0] (V (Proc.devRef .tc main_arg2)) slices_S3x512_S1x512_1_0) shapeCasts_S1x512_S512))) (extractStridedSlice S2x16384x512 ![0, 1, 0] (res_main_v5 V) slices_S2x16386x512_S2x16384x512_0_1_0))) (mulf (broadcastInDim S2x16384x512 ![0, 1, 2] bcast_S1x1x512_S2x16384x512_0_1_2 (broadcastInDim S1x1x512 ![2] bcast_S512_S1x1x512_2 (shapeCast S512 (extractStridedSlice S1x512 ![2, 0] (V (Proc.devRef .tc main_arg2)) slices_S3x512_S1x512_2_0) shapeCasts_S1x512_S512))) (extractStridedSlice S2x16384x512 ![0, 2, 0] (res_main_v5 V) slices_S2x16386x512_S2x16384x512_0_2_0)))

/-- An entry of it. -/
theorem convolved_apply (b : Fin 2) (R : Fin 16384) (k : Fin 512) : convolved V (ix3 b R k) = act (weightsOf V) (tokenOf V b R) k := by
  have h := padded_apply V b
  unfold convolved act weightsOf tokenOf
  rw [show res_main_v0 V = (V (Proc.devRef .tc main_arg1) : S2x16384x4096.Idx → EReal) from rfl]
  generalize (res_main_v5 V : S2x16386x512.Idx → EReal) = P at h ⊢
  generalize (V (Proc.devRef .tc main_arg1) : S2x16384x4096.Idx → EReal) = Z at h ⊢
  generalize (V (Proc.devRef .tc main_arg2) : S3x512.Idx → EReal) = C
  pointwise []
  simp only [h]
  have e0 : (if h : 1 ≤ R.val ∧ R.val < 16385 then gated Z b ⟨R.val - 1, by omega⟩ k else 0) = if R.val = 0 then 0 else gated Z b ⟨R.val - 1, by omega⟩ k := by
    by_cases hr : R.val = 0
    · rw [if_pos hr, dif_neg (by omega)]
    · rw [if_neg hr, dif_pos (by omega)]
  have e1 : (if h : 1 ≤ 1 + R.val ∧ 1 + R.val < 16385 then gated Z b ⟨1 + R.val - 1, by omega⟩ k else 0) = gated Z b R k := by
    rw [dif_pos (by omega)]
    exact congrArg (fun r => gated Z b r k) (Fin.ext (Nat.add_sub_cancel_left 1 R.val))
  have e2 : (if h : 1 ≤ 2 + R.val ∧ 2 + R.val < 16385 then gated Z b ⟨2 + R.val - 1, by omega⟩ k else 0) = if h : R.val = 16383 then 0 else gated Z b ⟨R.val + 1, by omega⟩ k := by
    by_cases hr : R.val = 16383
    · rw [dif_pos hr, dif_neg (by omega)]
    · rw [dif_neg hr, dif_pos (by omega)]
      exact congrArg (fun r => gated Z b r k) (Fin.ext (by show 2 + R.val - 1 = R.val + 1; omega))
  rw [e0, e1, e2]

/-- The stream before its layer norm, with the gated convolution named. -/
theorem mixed_eq : res_main_v36 V = addf (mulf (broadcastInDim S2x16384x1024 ![] bcast_S_S2x16384x1024 (constant S_ .f32 0x3FB504F3#32)) (V (Proc.devRef .tc main_arg4))) (mulf (broadcastInDim S2x16384x1024 ![0, 1, 2] bcast_S2x1x1024_S2x16384x1024_0_1_2 (extractStridedSlice S2x1x1024 ![0, 0, 0] (V (Proc.devRef .tc main_arg5)) slices_S8x1x1024_S2x1x1024_0_0_0)) (Host.dotGeneral (F := Ideal) (φ₁ := .f32) (φ₂ := .f32) dot_S2x16384x1024_S1024x1024_S2x16384x1024_2_0_01_1_n_n none (concatenate S2x16384x1024 2 [⟨S2x16384x512, (extf .f32 (V (Proc.devRef .tc main_arg0)) bitsLt_bf16_f32)⟩, ⟨S2x16384x512, (convolved V)⟩] concatenates_S2x16384x512_S2x16384x512_S2x16384x1024_d2) (extf .f32 (V (Proc.devRef .tc main_arg3)) bitsLt_bf16_f32))) := rfl

/-- An entry of it: the mathematics of the token. -/
theorem mixed_apply (b : Fin 2) (R : Fin 16384) (n : Fin 1024) :
    (res_main_v36 V : S2x16384x1024.Idx → EReal) (ix3 b R n) = mixed (weightsOf V) (tokenOf V b R) n := by
  have ha := convolved_apply V b
  rw [mixed_eq]
  unfold mixed
  generalize convolved V = Z at ha ⊢
  generalize hw : act (weightsOf V) (tokenOf V b R) = a
  unfold weightsOf tokenOf
  pointwise []
  simp only [ha, hw]

/-- The stream before its layer norm, as a table. -/
def pre : S2x16384x1024.Idx → EReal := res_main_v36 V

/-- The new stream. -/
def stream : FVec Ideal S2x16384x1024 .f32 :=
  addf (mulf (mulf (subf (res_main_v36 V) (broadcastInDim S2x16384x1024 ![0, 1, 2] bcast_S2x16384x1_S2x16384x1024_0_1_2 (res_main_v40 V))) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (res_main_v42 V) (res_main_v42 V)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x3727C5AC#32)))))) (broadcastInDim S2x16384x1024 ![0, 1, 2] bcast_S1x1x1024_S2x16384x1024_0_1_2 (broadcastInDim S1x1x1024 ![2] bcast_S1024_S1x1x1024_2 (V (Proc.devRef .tc main_arg8))))) (broadcastInDim S2x16384x1024 ![0, 1, 2] bcast_S1x1x1024_S2x16384x1024_0_1_2 (broadcastInDim S1x1x1024 ![2] bcast_S1024_S1x1x1024_2 (V (Proc.devRef .tc main_arg9))))

/-- The row mean of the layer norm. -/
theorem rowMean_apply (b : Fin 2) (R : Fin 16384) (z : Fin 1) :
    (res_main_v40 V : S2x16384x1.Idx → EReal) (ix3 b R z) = Ideal.div (∑ n : Fin 1024, pre V (ix3 b R n)) (Ideal.ofBits FTy.f32 0x44800000#32) := by
  unfold pre res_main_v40
  generalize (res_main_v36 V : S2x16384x1024.Idx → EReal) = X
  pointwise []

/-- A centred entry of the layer norm. -/
theorem rowCentred_apply (b : Fin 2) (R : Fin 16384) (n : Fin 1024) :
    (res_main_v42 V : S2x16384x1024.Idx → EReal) (ix3 b R n) = pre V (ix3 b R n)
      - Ideal.div (∑ n : Fin 1024, pre V (ix3 b R n)) (Ideal.ofBits FTy.f32 0x44800000#32) := by
  have h := rowMean_apply V b R
  unfold pre at h ⊢
  unfold res_main_v42
  generalize (res_main_v36 V : S2x16384x1024.Idx → EReal) = X at h ⊢
  generalize (res_main_v40 V : S2x16384x1.Idx → EReal) = Y at h ⊢
  pointwise []
  rw [h]

/-- An entry of the new stream: the mathematics of the token. -/
theorem stream_apply (b : Fin 2) (R : Fin 16384) (n : Fin 1024) :
    stream V (ix3 b R n) = newStream (weightsOf V) (tokenOf V b R) n := by
  have hm := rowMean_apply V b R
  have hc := rowCentred_apply V b R
  have hx := mixed_apply V b R
  unfold pre at hm hc
  unfold stream newStream normed
  generalize (res_main_v36 V : S2x16384x1024.Idx → EReal) = X at hm hc hx ⊢
  generalize (res_main_v40 V : S2x16384x1.Idx → EReal) = Y at hm ⊢
  generalize (res_main_v42 V : S2x16384x1024.Idx → EReal) = Z at hc ⊢
  pointwise []
  simp only [hm, hc, hx]
  rfl

/-- The modulated stream, from the new one. -/
theorem hidden_eq : (res_main_v69 V : FVec Ideal S32768x1024 .f32) = shapeCast S32768x1024 (addf (mulf (stream V) (broadcastInDim S2x16384x1024 ![0, 1, 2] bcast_S2x1x1024_S2x16384x1024_0_1_2 (addf (broadcastInDim S2x1x1024 ![] bcast_S_S2x1x1024 (constant S_ .f32 0x3F800000#32)) (extractStridedSlice S2x1x1024 ![0, 0, 0] (V (Proc.devRef .tc main_arg6)) slices_S8x1x1024_S2x1x1024_0_0_0)))) (broadcastInDim S2x16384x1024 ![0, 1, 2] bcast_S2x1x1024_S2x16384x1024_0_1_2 (extractStridedSlice S2x1x1024 ![0, 0, 0] (V (Proc.devRef .tc main_arg7)) slices_S8x1x1024_S2x1x1024_0_0_0))) shapeCasts_S2x16384x1024_S32768x1024 := rfl

/-- Token `q`, counted over both sequences. -/
abbrev tokenAt (q : Fin 32768) : Token := tokenOf V ⟨q.val / 16384, by omega⟩ ⟨q.val % 16384, by omega⟩

/-- An entry of the modulated stream. -/
theorem hidden_apply (q : Fin 32768) (n : Fin 1024) :
    (res_main_v69 V : S32768x1024.Idx → EReal) (ix2 q n) = hidden (weightsOf V) (tokenAt V q) n := by
  have hs := stream_apply V
  rw [hidden_eq]
  unfold Cert.EvenOut.hidden
  generalize stream V = X at hs ⊢
  pointwise []
  rw [hs]
  rfl

/-- The router's scores of token `q`. -/
abbrev scores (q : Fin 32768) : Fin 32 → EReal := logit (weightsOf V) (tokenAt V q)

/-- An entry of the scores. -/
theorem logit_apply (q : Fin 32768) (e : Fin 32) : (res_main_v75 V : S32768x32.Idx → EReal) (ix2 q e) = scores V q e := by
  have hh := hidden_apply V q
  unfold res_main_v75 scores logit
  generalize (res_main_v69 V : S32768x1024.Idx → EReal) = X at hh ⊢
  pointwise []
  simp only [hh]
  exact congrArg₂ (· + ·) (Finset.sum_congr rfl fun k _ => mul_comm _ _) rfl

/-- The best score of each row. -/
def bestOf (L : FVec Ideal S32768x32 .f32) : FVec Ideal S32768x1 .f32 :=
  broadcastInDim S32768x1 ![0] bcast_S32768_S32768x1_0 (Host.reduce FloatOps.maximumf L (constant S_ .f32 0xFF800000#32) reducesTo_S32768x32_S32768_d1 h_S_)

/-- The first expert of each row with the best score. -/
def firstOf (L : FVec Ideal S32768x32 .f32) : IVec S32768x1 32 :=
  broadcastInDim S32768x1 ![0] bcast_S32768_S32768x1_0 (Host.reduce IntOp.minsi (select (cmpf .oeq L (broadcastInDim S32768x32 ![0, 1] bcast_S32768x1_S32768x32_0_1 (bestOf L))) (iotaInDim S32768x32 32 1) (broadcastInDim S32768x32 ![] bcast_S_S32768x32 (id (constantI S_ 32 32#32)))) (constantI S_ 32 2147483647#32) reducesTo_S32768x32_S32768_d1 h_S_)

/-- The scores with each row's first best expert taken out. -/
def restOf (L : FVec Ideal S32768x32 .f32) : FVec Ideal S32768x32 .f32 :=
  select (cmpi .eq (iotaInDim S32768x32 32 1) (broadcastInDim S32768x32 ![0, 1] bcast_S32768x1_S32768x32_0_1 (firstOf L))) (broadcastInDim S32768x32 ![] bcast_S_S32768x32 (id (constant S_ .f32 0xFF800000#32))) L

/-- An entry of the best scores. -/
theorem bestOf_apply (L : FVec Ideal S32768x32 .f32) (q : Fin 32768) (z : Fin 1) : bestOf L (ix2 q z) = best (fun e => L (ix2 q e)) := by
  unfold bestOf
  pointwise []
  rfl

/-- An entry of the first best experts. -/
theorem firstOf_apply (L : FVec Ideal S32768x32 .f32) (q : Fin 32768) (z : Fin 1) : firstOf L (ix2 q z) = first (fun e => L (ix2 q e)) := by
  have h := bestOf_apply L q
  unfold firstOf first
  generalize bestOf L = M at h ⊢
  pointwise []
  simp only [h]
  rfl

/-- An entry of the remaining scores. -/
theorem restOf_apply (L : FVec Ideal S32768x32 .f32) (q : Fin 32768) (e : Fin 32) : restOf L (ix2 q e) = rest (fun e => L (ix2 q e)) e := by
  have h := firstOf_apply L q
  unfold restOf rest
  generalize firstOf L = M at h ⊢
  pointwise []
  simp only [h]
  rfl

/-- The scores after one round. -/
theorem round1 (q : Fin 32768) (e : Fin 32) : (res_main_v86 V : S32768x32.Idx → EReal) (ix2 q e) = rounds (scores V q) 1 e := by
  rw [show (res_main_v86 V : FVec Ideal S32768x32 .f32) = restOf (res_main_v75 V) from rfl, restOf_apply]
  simp only [logit_apply]
  rfl
/-- The scores after two rounds. -/
theorem round2 (q : Fin 32768) (e : Fin 32) : (res_main_v96 V : S32768x32.Idx → EReal) (ix2 q e) = rounds (scores V q) 2 e := by
  rw [show (res_main_v96 V : FVec Ideal S32768x32 .f32) = restOf (res_main_v86 V) from rfl, restOf_apply]
  simp only [round1]
  rfl
/-- The scores after three rounds. -/
theorem round3 (q : Fin 32768) (e : Fin 32) : (res_main_v106 V : S32768x32.Idx → EReal) (ix2 q e) = rounds (scores V q) 3 e := by
  rw [show (res_main_v106 V : FVec Ideal S32768x32 .f32) = restOf (res_main_v96 V) from rfl, restOf_apply]
  simp only [round2]
  rfl

/-- The best score in round 0. -/
theorem best0 (q : Fin 32768) (z : Fin 1) : (res_main_v78 V : S32768x1.Idx → EReal) (ix2 q z) = best (rounds (scores V q) 0) := by
  rw [show (res_main_v78 V : FVec Ideal S32768x1 .f32) = bestOf (res_main_v75 V) from rfl, bestOf_apply]
  simp only [logit_apply]
  rfl
/-- The first expert with the best score in round 0. -/
theorem first0 (q : Fin 32768) (z : Fin 1) : (res_main_v83 V : S32768x1.Idx → BitVec 32) (ix2 q z) = first (rounds (scores V q) 0) := by
  rw [show (res_main_v83 V : IVec S32768x1 32) = firstOf (res_main_v75 V) from rfl, firstOf_apply]
  simp only [logit_apply]
  rfl

/-- The best score in round 1. -/
theorem best1 (q : Fin 32768) (z : Fin 1) : (res_main_v88 V : S32768x1.Idx → EReal) (ix2 q z) = best (rounds (scores V q) 1) := by
  rw [show (res_main_v88 V : FVec Ideal S32768x1 .f32) = bestOf (res_main_v86 V) from rfl, bestOf_apply]
  simp only [round1]
/-- The first expert with the best score in round 1. -/
theorem first1 (q : Fin 32768) (z : Fin 1) : (res_main_v93 V : S32768x1.Idx → BitVec 32) (ix2 q z) = first (rounds (scores V q) 1) := by
  rw [show (res_main_v93 V : IVec S32768x1 32) = firstOf (res_main_v86 V) from rfl, firstOf_apply]
  simp only [round1]

/-- The best score in round 2. -/
theorem best2 (q : Fin 32768) (z : Fin 1) : (res_main_v98 V : S32768x1.Idx → EReal) (ix2 q z) = best (rounds (scores V q) 2) := by
  rw [show (res_main_v98 V : FVec Ideal S32768x1 .f32) = bestOf (res_main_v96 V) from rfl, bestOf_apply]
  simp only [round2]
/-- The first expert with the best score in round 2. -/
theorem first2 (q : Fin 32768) (z : Fin 1) : (res_main_v103 V : S32768x1.Idx → BitVec 32) (ix2 q z) = first (rounds (scores V q) 2) := by
  rw [show (res_main_v103 V : IVec S32768x1 32) = firstOf (res_main_v96 V) from rfl, firstOf_apply]
  simp only [round2]

/-- The best score in round 3. -/
theorem best3 (q : Fin 32768) (z : Fin 1) : (res_main_v108 V : S32768x1.Idx → EReal) (ix2 q z) = best (rounds (scores V q) 3) := by
  rw [show (res_main_v108 V : FVec Ideal S32768x1 .f32) = bestOf (res_main_v106 V) from rfl, bestOf_apply]
  simp only [round3]
/-- The first expert with the best score in round 3. -/
theorem first3 (q : Fin 32768) (z : Fin 1) : (res_main_v113 V : S32768x1.Idx → BitVec 32) (ix2 q z) = first (rounds (scores V q) 3) := by
  rw [show (res_main_v113 V : IVec S32768x1 32) = firstOf (res_main_v106 V) from rfl, firstOf_apply]
  simp only [round3]

/-- The chosen experts, a row a round. -/
def experts : IVec S4x32768 32 :=
  transpose S4x32768 [1, 0] ((concatenate S32768x4 1 [⟨S32768x1, ((res_main_v83 V) : (⟨S32768x1, .i32⟩ : BufTy).Contents (Elt Ideal))⟩, ⟨S32768x1, ((res_main_v93 V) : (⟨S32768x1, .i32⟩ : BufTy).Contents (Elt Ideal))⟩, ⟨S32768x1, ((res_main_v103 V) : (⟨S32768x1, .i32⟩ : BufTy).Contents (Elt Ideal))⟩, ⟨S32768x1, ((res_main_v113 V) : (⟨S32768x1, .i32⟩ : BufTy).Contents (Elt Ideal))⟩] concatenates_S32768x1_S32768x1_S32768x1_S32768x1_S32768x4_d1 : (⟨S32768x4, .i32⟩ : BufTy).Contents (Elt Ideal))) transposes_S32768x4_S4x32768_1_0

/-- An entry of them. -/
theorem experts_apply (i : Fin 4) (q : Fin 32768) : experts V (ix2 i q) = chosen (scores V q) i := by
  have h0 := first0 V q
  have h1 := first1 V q
  have h2 := first2 V q
  have h3 := first3 V q
  unfold experts chosen
  generalize (res_main_v83 V : S32768x1.Idx → BitVec 32) = A at h0 ⊢
  generalize (res_main_v93 V : S32768x1.Idx → BitVec 32) = B at h1 ⊢
  generalize (res_main_v103 V : S32768x1.Idx → BitVec 32) = C at h2 ⊢
  generalize (res_main_v113 V : S32768x1.Idx → BitVec 32) = D at h3 ⊢
  pointwise []
  simp only [h0, h1, h2, h3]
  match i with
  | ⟨0, _⟩ => rfl
  | ⟨1, _⟩ => rfl
  | ⟨2, _⟩ => rfl
  | ⟨3, _⟩ => rfl

/-- The four best scores of a token. -/
theorem bests_apply (q : Fin 32768) (i : Fin 4) : (res_main_v117 V : S32768x4.Idx → EReal) (ix2 q i) = best (rounds (scores V q) i.val) := by
  have h0 := best0 V q
  have h1 := best1 V q
  have h2 := best2 V q
  have h3 := best3 V q
  unfold res_main_v117
  generalize (res_main_v78 V : S32768x1.Idx → EReal) = A at h0 ⊢
  generalize (res_main_v88 V : S32768x1.Idx → EReal) = B at h1 ⊢
  generalize (res_main_v98 V : S32768x1.Idx → EReal) = C at h2 ⊢
  generalize (res_main_v108 V : S32768x1.Idx → EReal) = D at h3 ⊢
  pointwise []
  simp only [h0, h1, h2, h3]
  match i with
  | ⟨0, _⟩ => rfl
  | ⟨1, _⟩ => rfl
  | ⟨2, _⟩ => rfl
  | ⟨3, _⟩ => rfl

/-- The largest of the four best scores is the first. -/
theorem max_bests (l : Fin 32 → EReal) : max (Ideal.ofBits FTy.f32 0xFF800000#32) (Finset.univ.fold max (Ideal.ofBits FTy.f32 0xFF800000#32) fun i : Fin 4 => best (rounds l i.val)) = best l := by
  have hb : Ideal.ofBits FTy.f32 0xFF800000#32 = ⊥ := by
    simp [Ideal.ofBits, Ideal.ieee]
  rw [hb, max_eq_right bot_le]
  refine le_antisymm ((Finset.fold_max_le _).mpr ⟨bot_le, fun i _ => best_rounds_le l i.val⟩) ((Finset.le_fold_max _).mpr (Or.inr ⟨0, Finset.mem_univ _, le_refl _⟩))

/-- The exponentials of each row of four, relative to the row's largest. -/
def expsOf (B : FVec Ideal S32768x4 .f32) : FVec Ideal S32768x4 .f32 :=
  Host.exp (subf B (broadcastInDim S32768x4 ![0, 1] bcast_S32768x1_S32768x4_0_1 (broadcastInDim S32768x1 ![0] bcast_S32768_S32768x1_0 (maximumf (broadcastInDim S32768 ![] bcast_S_S32768 (constant S_ .f32 0xFF800000#32)) (Host.reduce FloatOps.maximumf B (constant S_ .f32 0xFF800000#32) reducesTo_S32768x4_S32768_d1 h_S_)))))

/-- An entry of them. -/
theorem expsOf_apply (B : FVec Ideal S32768x4 .f32) (q : Fin 32768) (i : Fin 4) :
    expsOf B (ix2 q i) = Ideal.exp (B (ix2 q i) - max (Ideal.ofBits FTy.f32 0xFF800000#32) (Finset.univ.fold max (Ideal.ofBits FTy.f32 0xFF800000#32) fun j : Fin 4 => B (ix2 q j))) := by
  unfold expsOf
  pointwise []

/-- The exponentials of the four best scores, relative to the largest. -/
theorem exps_apply (q : Fin 32768) (i : Fin 4) : (res_main_v124 V : S32768x4.Idx → EReal) (ix2 q i) = Ideal.exp (best (rounds (scores V q) i.val) - best (scores V q)) := by
  have h := bests_apply V q
  rw [show (res_main_v124 V : FVec Ideal S32768x4 .f32) = expsOf (res_main_v117 V) from rfl, expsOf_apply]
  simp only [h]
  rw [max_bests]

/-- The weights of the chosen experts, a row a round. -/
def gates : FVec Ideal S4x32768 .f32 :=
  transpose S4x32768 [1, 0] (Host.divf (res_main_v124 V) (broadcastInDim S32768x4 ![0, 1] bcast_S32768x1_S32768x4_0_1 (broadcastInDim S32768x1 ![0] bcast_S32768_S32768x1_0 (Host.reduceAdd (res_main_v124 V) (constant S_ .f32 0x00000000#32) reducesTo_S32768x4_S32768_d1 h_S_)))) transposes_S32768x4_S4x32768_1_0

/-- An entry of them. -/
theorem gates_apply (i : Fin 4) (q : Fin 32768) : gates V (ix2 i q) = weight (scores V q) i := by
  have h := exps_apply V q
  unfold gates weight
  generalize (res_main_v124 V : S32768x4.Idx → EReal) = A at h ⊢
  pointwise []
  simp only [h]

/-- The modulated stream, with the operand's rows for the tokens of the other segment. -/
def allHidden : FVec Ideal S33280x1024 .bf16 :=
  concatenate S33280x1024 0 [⟨S32768x1024, (truncf .bf16 (res_main_v69 V) bitsLt_bf16_f32)⟩, ⟨S512x1024, (extractStridedSlice S512x1024 ![32768, 0] (V (Proc.devRef .tc main_arg12)) slices_S33280x1024_S512x1024_32768_0)⟩] concatenates_S32768x1024_S512x1024_S33280x1024_d0

/-- The chosen experts, with the operand's columns for the tokens of the other segment. -/
def allExperts : IVec S4x33280 32 :=
  concatenate S4x33280 1 [⟨S4x32768, (experts V)⟩, ⟨S4x512, (extractStridedSlice S4x512 ![0, 32768] (V (Proc.devRef .tc main_arg13)) slices_S4x33280_S4x512_0_32768)⟩] concatenates_S4x32768_S4x512_S4x33280_d1

/-- The weights of the chosen experts, with the operand's columns for the tokens of the other segment. -/
def allGates : FVec Ideal S4x33280 .f32 :=
  concatenate S4x33280 1 [⟨S4x32768, (gates V)⟩, ⟨S4x512, (extractStridedSlice S4x512 ![0, 32768] (V (Proc.devRef .tc main_arg14)) slices_S4x33280_S4x512_0_32768)⟩] concatenates_S4x32768_S4x512_S4x33280_d1

/-- An entry of the modulated stream over both segments. -/
theorem allHidden_apply (q : Fin 33280) (n : Fin 1024) : allHidden V (ix2 q n) = if h : q.val < 32768 then hidden (weightsOf V) (tokenAt V ⟨q.val, h⟩) n else (V (Proc.devRef .tc main_arg12) : S33280x1024.Idx → EReal) (ix2 q n) := by
  have hh := hidden_apply V
  unfold allHidden
  generalize (res_main_v69 V : S32768x1024.Idx → EReal) = X at hh ⊢
  generalize (V (Proc.devRef .tc main_arg12) : S33280x1024.Idx → EReal) = Y
  pointwise []
  simp only [hh]
  by_cases hq : q.val < 32768
  · rw [dif_pos hq, dif_pos hq]
  · rw [dif_neg hq, dif_neg hq]
    exact congrArg (fun r => Y (ix2 r n)) (Fin.ext (Nat.add_sub_cancel' (Nat.not_lt.mp hq)) : (⟨32768 + (q.val - 32768), by omega⟩ : Fin 33280) = q)

/-- An entry of the chosen experts over both segments. -/
theorem allExperts_apply (i : Fin 4) (q : Fin 33280) : allExperts V (ix2 i q) = if h : q.val < 32768 then chosen (scores V ⟨q.val, h⟩) i else (V (Proc.devRef .tc main_arg13) : S4x33280.Idx → BitVec 32) (ix2 i q) := by
  have hh := experts_apply V i
  unfold allExperts
  generalize experts V = X at hh ⊢
  generalize (V (Proc.devRef .tc main_arg13) : S4x33280.Idx → BitVec 32) = Y
  pointwise []
  simp only [hh]
  by_cases hq : q.val < 32768
  · rw [dif_pos hq, dif_pos hq]
  · rw [dif_neg hq, dif_neg hq]
    exact congrArg (fun r => Y (ix2 i r)) (Fin.ext (Nat.add_sub_cancel' (Nat.not_lt.mp hq)) : (⟨32768 + (q.val - 32768), by omega⟩ : Fin 33280) = q)

/-- An entry of the weights over both segments. -/
theorem allGates_apply (i : Fin 4) (q : Fin 33280) : allGates V (ix2 i q) = if h : q.val < 32768 then weight (scores V ⟨q.val, h⟩) i else (V (Proc.devRef .tc main_arg14) : S4x33280.Idx → EReal) (ix2 i q) := by
  have hh := gates_apply V i
  unfold allGates
  generalize gates V = X at hh ⊢
  generalize (V (Proc.devRef .tc main_arg14) : S4x33280.Idx → EReal) = Y
  pointwise []
  simp only [hh]
  by_cases hq : q.val < 32768
  · rw [dif_pos hq, dif_pos hq]
  · rw [dif_neg hq, dif_neg hq]
    exact congrArg (fun r => Y (ix2 i r)) (Fin.ext (Nat.add_sub_cancel' (Nat.not_lt.mp hq)) : (⟨32768 + (q.val - 32768), by omega⟩ : Fin 33280) = q)

end Cert.Reference5Ideal.EvenOut

end
-- ==== Proof.EvenOut.Claims.lean ====
/- The claims about the output projection of the EVEN layer: the frames of the kernel and of the reference, and the equality of
   their four results. -/
module

public import proofs.«01_k».proof.Defs
public import proofs.«01_k».proof.Proof.Gen.Kernel5.Frame
public import proofs.«01_k».proof.Proof.Gen.Reference5Ideal.Run
public import proofs.«01_k».proof.Proof.EvenOut.Arrays
public import proofs.«01_k».proof.Proof.EvenOut.Reference
public import Idealize.ShloMosaic.Lib.Quiescent

@[expose] public section

set_option maxRecDepth 16384

noncomputable section

namespace Cert.EvenOut

open Idealize.ShloMosaic Idealize.ShloMosaic.TcCoe Idealize.ShloMosaic.StableHlo Idealize.SL.Sem

/-- The frame of the kernel as it is. -/
theorem frame_kernel : Cert.quiescent_Kernel5 (hKernel5 := Cert.Kernel5.Gen.facts) := fun m g _ => Cert.Kernel5.Gen.frame m g

/-- The frame of the kernel over the extended reals. -/
theorem frame_ideal : Cert.quiescent_Kernel5Ideal (hKernel5Ideal := Cert.Kernel5Ideal.Gen.facts) := fun m g _ => Cert.Kernel5Ideal.Gen.frame m g

/-- The frame of the reference: it is host code only and declares no semaphore. -/
theorem frame_reference : Cert.quiescent_Reference5Ideal (hReference5Ideal := Cert.Reference5Ideal.Gen.facts) := fun m g _ =>
  (θ_run _ _ _).mono (fun r h => ⟨fun c => (h c).2.2.2.2, sem_eq_zero_of_no_sems (by decide) r.2⟩) (Cert.Reference5Ideal.Value.run (F := Ideal) m g)

variable (m : (ℓ : Loc Cert.Kernel5Ideal.nD Cert.Kernel5Ideal.τ Cert.Kernel5Ideal.sig) → Buf (Elt Ideal) ℓ)
variable (m' : (ℓ : Loc Cert.Reference5Ideal.nD Cert.Reference5Ideal.τ Cert.Reference5Ideal.sig) → Buf (Elt Ideal) ℓ)

/-- Equal arguments give both sides the same weights. -/
theorem weights_eq (c : Dev Cert.Kernel5Ideal.nD) (c' : Dev Cert.Reference5Ideal.nD)
    (h2 : m' ((c'.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c'.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h8 : m' ((c'.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8))
    (h9 : m' ((c'.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9))
    (h10 : m' ((c'.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10))
    (h11 : m' ((c'.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) :
    Cert.Reference5Ideal.EvenOut.weightsOf (launchContents m' c') = Cert.Kernel5Ideal.EvenOut.weightsOf m c := by
  have e2 : launchContents m' c' (Proc.devRef .tc Cert.Reference5Ideal.main_arg2) = m ((c.tc : Thread Cert.Kernel5Ideal.nD Cert.Kernel5Ideal.τ).loc Cert.Kernel5Ideal.main_arg2) := h2
  have e3 : launchContents m' c' (Proc.devRef .tc Cert.Reference5Ideal.main_arg3) = m ((c.tc : Thread Cert.Kernel5Ideal.nD Cert.Kernel5Ideal.τ).loc Cert.Kernel5Ideal.main_arg3) := h3
  have e8 : launchContents m' c' (Proc.devRef .tc Cert.Reference5Ideal.main_arg8) = m ((c.tc : Thread Cert.Kernel5Ideal.nD Cert.Kernel5Ideal.τ).loc Cert.Kernel5Ideal.main_arg8) := h8
  have e9 : launchContents m' c' (Proc.devRef .tc Cert.Reference5Ideal.main_arg9) = m ((c.tc : Thread Cert.Kernel5Ideal.nD Cert.Kernel5Ideal.τ).loc Cert.Kernel5Ideal.main_arg9) := h9
  have e10 : launchContents m' c' (Proc.devRef .tc Cert.Reference5Ideal.main_arg10) = m ((c.tc : Thread Cert.Kernel5Ideal.nD Cert.Kernel5Ideal.τ).loc Cert.Kernel5Ideal.main_arg10) := h10
  have e11 : launchContents m' c' (Proc.devRef .tc Cert.Reference5Ideal.main_arg11) = m ((c.tc : Thread Cert.Kernel5Ideal.nD Cert.Kernel5Ideal.τ).loc Cert.Kernel5Ideal.main_arg11) := h11
  unfold Cert.Reference5Ideal.EvenOut.weightsOf
  rw [e2, e3, e8, e9, e10, e11]
  rfl

/-- Equal arguments give both sides the same tokens. -/
theorem token_eq (c : Dev Cert.Kernel5Ideal.nD) (c' : Dev Cert.Reference5Ideal.nD)
    (h0 : m' ((c'.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c'.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h4 : m' ((c'.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c'.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (h6 : m' ((c'.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6))
    (h7 : m' ((c'.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7))
    (b : Fin 2) (J : Fin 16384) :
    Cert.Reference5Ideal.EvenOut.tokenOf (launchContents m' c') b J = Cert.Kernel5Ideal.EvenOut.tokenOf m c b J := by
  have e0 : launchContents m' c' (Proc.devRef .tc Cert.Reference5Ideal.main_arg0) = m ((c.tc : Thread Cert.Kernel5Ideal.nD Cert.Kernel5Ideal.τ).loc Cert.Kernel5Ideal.main_arg0) := h0
  have e1 : launchContents m' c' (Proc.devRef .tc Cert.Reference5Ideal.main_arg1) = m ((c.tc : Thread Cert.Kernel5Ideal.nD Cert.Kernel5Ideal.τ).loc Cert.Kernel5Ideal.main_arg1) := h1
  have e4 : launchContents m' c' (Proc.devRef .tc Cert.Reference5Ideal.main_arg4) = m ((c.tc : Thread Cert.Kernel5Ideal.nD Cert.Kernel5Ideal.τ).loc Cert.Kernel5Ideal.main_arg4) := h4
  have e5 : launchContents m' c' (Proc.devRef .tc Cert.Reference5Ideal.main_arg5) = m ((c.tc : Thread Cert.Kernel5Ideal.nD Cert.Kernel5Ideal.τ).loc Cert.Kernel5Ideal.main_arg5) := h5
  have e6 : launchContents m' c' (Proc.devRef .tc Cert.Reference5Ideal.main_arg6) = m ((c.tc : Thread Cert.Kernel5Ideal.nD Cert.Kernel5Ideal.τ).loc Cert.Kernel5Ideal.main_arg6) := h6
  have e7 : launchContents m' c' (Proc.devRef .tc Cert.Reference5Ideal.main_arg7) = m ((c.tc : Thread Cert.Kernel5Ideal.nD Cert.Kernel5Ideal.τ).loc Cert.Kernel5Ideal.main_arg7) := h7
  unfold Cert.Reference5Ideal.EvenOut.tokenOf
  rw [e0, e1, e4, e5, e6, e7]
  rfl

/-- The value claim: the kernel's four results are the reference's. -/
theorem value : Cert.algebraic_Kernel5Ideal_Reference5Ideal (hKernel5Ideal := Cert.Kernel5Ideal.Gen.facts) (hReference5Ideal := Cert.Reference5Ideal.Gen.facts) := fun m g m' g' _ hm =>
  ⟨fun c => (fun i : Cert.Kernel5Ideal.S2x16384x1024.Idx => Cert.Kernel5Ideal.EvenOut.streamAt m c (i 0) (i 1) (i 2)),
    fun c => (fun i : Cert.Kernel5Ideal.S33280x1024.Idx => Cert.Kernel5Ideal.EvenOut.hiddenRow m c (i 0) (i 1)),
    fun c => (fun i : Cert.Kernel5Ideal.S4x33280.Idx => (Cert.Kernel5Ideal.EvenOut.chosenColumn m c (i 0) (i 1) : BitVec 32)),
    fun c => (fun i : Cert.Kernel5Ideal.S4x33280.Idx => (Cert.Kernel5Ideal.EvenOut.weightColumn m c (i 0) (i 1) : EReal)),
    (θ_run _ _ _).mono (fun _ h c => ⟨(h c).1.trans (Cert.Kernel5Ideal.EvenOut.array18 m c), (h c).2.1.trans (Cert.Kernel5Ideal.EvenOut.array19 m c),
      (h c).2.2.1.trans (Cert.Kernel5Ideal.EvenOut.array20 m c), (h c).2.2.2.1.trans (Cert.Kernel5Ideal.EvenOut.array21 m c), (h c).2.2.2.2⟩) (Cert.Kernel5Ideal.Value.run_blocks (F := Ideal) m g),
    (θ_run _ _ _).mono (fun _ h c => by
      obtain ⟨h0, h1, h2, h3, h4, h5, h6, h7, h8, h9, h10, h11, h12, h13, h14⟩ := hm c
      have hw := weights_eq m m' c c h2 h3 h8 h9 h10 h11
      have hk := token_eq m m' c c h0 h1 h4 h5 h6 h7
      refine ⟨(h c).1.trans ?_, (h c).2.1.trans ?_, (h c).2.2.1.trans ?_, (h c).2.2.2.1.trans ?_, (h c).2.2.2.2⟩
      · refine funext fun (i : Cert.Kernel5Ideal.S2x16384x1024.Idx) => ?_
        obtain ⟨b, R, n, rfl⟩ : ∃ (b : Fin 2) (R : Fin 16384) (n : Fin 1024), i = ix3 b R n := ⟨i 0, i 1, i 2, funext fun (a : Fin 3) => by
          match a with
          | ⟨0, _⟩ => rfl
          | ⟨1, _⟩ => rfl
          | ⟨2, _⟩ => rfl⟩
        refine (Cert.Reference5Ideal.EvenOut.stream_apply (launchContents m' c) b R n).trans ?_
        rw [hw, hk]
        rfl
      · refine funext fun (i : Cert.Kernel5Ideal.S33280x1024.Idx) => ?_
        obtain ⟨A, B, rfl⟩ : ∃ (A : Fin 33280) (B : Fin 1024), i = ix2 A B := ⟨i 0, i 1, funext fun (a : Fin 2) => by
          match a with
          | ⟨0, _⟩ => rfl
          | ⟨1, _⟩ => rfl⟩
        refine (Cert.Reference5Ideal.EvenOut.allHidden_apply (launchContents m' c) A B).trans ?_
        have e : launchContents m' c (Proc.devRef .tc Cert.Reference5Ideal.main_arg12) = m ((c.tc : Thread Cert.Kernel5Ideal.nD Cert.Kernel5Ideal.τ).loc Cert.Kernel5Ideal.main_arg12) := h12
        unfold Cert.Reference5Ideal.EvenOut.tokenAt
        rw [hw, e]
        simp only [hk]
        rfl
      · refine funext fun (i : Cert.Kernel5Ideal.S4x33280.Idx) => ?_
        obtain ⟨A, B, rfl⟩ : ∃ (A : Fin 4) (B : Fin 33280), i = ix2 A B := ⟨i 0, i 1, funext fun (a : Fin 2) => by
          match a with
          | ⟨0, _⟩ => rfl
          | ⟨1, _⟩ => rfl⟩
        refine (Cert.Reference5Ideal.EvenOut.allExperts_apply (launchContents m' c) A B).trans ?_
        have e : launchContents m' c (Proc.devRef .tc Cert.Reference5Ideal.main_arg13) = m ((c.tc : Thread Cert.Kernel5Ideal.nD Cert.Kernel5Ideal.τ).loc Cert.Kernel5Ideal.main_arg13) := h13
        unfold Cert.Reference5Ideal.EvenOut.scores Cert.Reference5Ideal.EvenOut.tokenAt
        rw [hw, e]
        simp only [hk]
        rfl
      · refine funext fun (i : Cert.Kernel5Ideal.S4x33280.Idx) => ?_
        obtain ⟨A, B, rfl⟩ : ∃ (A : Fin 4) (B : Fin 33280), i = ix2 A B := ⟨i 0, i 1, funext fun (a : Fin 2) => by
          match a with
          | ⟨0, _⟩ => rfl
          | ⟨1, _⟩ => rfl⟩
        refine (Cert.Reference5Ideal.EvenOut.allGates_apply (launchContents m' c) A B).trans ?_
        have e : launchContents m' c (Proc.devRef .tc Cert.Reference5Ideal.main_arg14) = m ((c.tc : Thread Cert.Kernel5Ideal.nD Cert.Kernel5Ideal.τ).loc Cert.Kernel5Ideal.main_arg14) := h14
        unfold Cert.Reference5Ideal.EvenOut.scores Cert.Reference5Ideal.EvenOut.tokenAt
        rw [hw, e]
        simp only [hk]
        rfl)
      (Cert.Reference5Ideal.Value.run (F := Ideal) m' g')⟩

end Cert.EvenOut

end
-- ==== Proof.Modulation.Model.lean ====
/- The mathematics of the modulation: a condition row, passed through the unit `a * logistic a`, times a matrix, plus a bias. -/
module

public import Idealize.ShloMosaic.PureOps.Ideal

@[expose] public section

noncomputable section

namespace Cert.Modulation

open Idealize.ShloMosaic

/-- A value times the logistic function of itself. -/
def unit (a : EReal) : EReal := a * Ideal.div 1 (1 + Ideal.exp (-a))

/-- One entry of the modulation: the units of a condition row times a column of the weights, plus the column's bias. -/
def modulated (x w : Fin 1024 → EReal) (b : EReal) : EReal := (∑ k, unit (x k) * w k) + b

/-- Equal rows, columns and biases give equal entries. -/
theorem modulated_congr {x x' w w' : Fin 1024 → EReal} {b b' : EReal} (hx : ∀ k, x k = x' k) (hw : ∀ k, w k = w' k) (hb : b = b') :
    modulated x w b = modulated x' w' b' := by
  rw [funext hx, funext hw, hb]

end Cert.Modulation

end
-- ==== Proof.Modulation.Kernel.lean ====
/- The modulation's call: its result array, entry by entry. A point of the grid brings in all eight condition rows, a block of
   1536 columns of one layer's weights and the block's biases. -/
module

public import proofs.«01_k».proof.Proof.Gen.Kernel6Ideal.Value
public import proofs.«01_k».proof.Proof.Modulation.Model
public import Idealize.ShloMosaic.Lib.Pointwise
public import Idealize.ShloMosaic.Lib.Pipeline.Value
public import Idealize.ShloMosaic.Lib.Pipeline.ValueKit.Tiles
public import Idealize.ShloMosaic.Lib.Pipeline.ValueKit.Geometry

@[expose] public section

set_option maxRecDepth 16384

noncomputable section

namespace Cert.Kernel6Ideal.Modulation

open Cert.Kernel6Ideal Cert.Kernel6Ideal.Gen Cert.Modulation
open Idealize.ShloMosaic Idealize.ShloMosaic.TcCoe Idealize.SL.Sem
open Pipeline (Dat)

/-- A block of a point, at an entry. -/
theorem block_apply (v0 : Vec Ideal S8x1024 .f32) (w : Vec Ideal S1x1024x1536 .f32) (b : Vec Ideal S1x1x1536 .f32) (z : Fin 1) (r : Fin 8) (n : Fin 1536) :
    k0_pay1 v0 w b (ix3 z r n) = modulated (fun k => v0 (ix2 r k)) (fun k => w (ix3 0 k n)) (b (ix3 0 0 n)) := by
  have e : ∀ a : EReal, 0 - a = -a := fun a => by rw [sub_eq_add_neg, zero_add]
  unfold k0_pay1 modulated unit
  pointwise []
  simp only [e]

/-- What a point leaves in the result's buffer. -/
theorem out_apply (x0 : Vec Ideal S8x1024 .f32) (x1 : Vec Ideal S1x1024x1536 .f32) (x2 : Vec Ideal S1x1x1536 .f32) (z : Fin 1) (r : Fin 8) (n : Fin 1536) :
    out0_3 x0 x1 x2 (ix3 z r n) = modulated (fun k => x0 (ix2 r k)) (fun k => x1 (ix3 0 k n)) (x2 (ix3 0 0 n)) := by
  have e0 : View.ld x0 r0_0 = x0 := View.ld_unit_lit' _ _ (by decide)
  have e1 : View.ld x1 r0_1 = x1 := View.ld_unit_lit' _ _ (by decide)
  have e2 : View.ld x2 r0_2 = x2 := View.ld_unit_lit' _ _ (by decide)
  unfold out0_3
  rw [e0, e1, e2]
  canon_tiles x h using (cover0_3 (F := Ideal) _ _)
  have e : x = ix3 z r n := funext fun (a : Fin 3) => Fin.ext (by
    match a with
    | ⟨0, _⟩ => exact (Nat.zero_add _).symm.trans (by simpa using h0)
    | ⟨1, _⟩ => simpa using h1.symm
    | ⟨2, _⟩ => simpa using h2.symm)
  exact (congrArg (k0_pay1 x0 x1 x2) e).trans (block_apply x0 x1 x2 z r n)

variable (m : (ℓ : Loc nD τ sig) → Buf (Elt Ideal) ℓ)

/-- A grid coordinate fits a word. -/
theorem coord_word (i : grid0.Coords) : (BitVec.ofNat 32 (i 0).val).toNat = (i 0).val ∧ (BitVec.ofNat 32 (i 1).val).toNat = (i 1).val := by
  have h0 : (i 0).val < 2 := (i 0).isLt
  have h1 : (i 1).val < 4 := (i 1).isLt
  rw [BitVec.toNat_ofNat, BitVec.toNat_ofNat]; omega

/-- The biases with a row axis, at an entry. -/
theorem with_row (X : S2x6144.Idx → EReal) (l : Fin 2) (z : Fin 1) (n : Fin 6144) :
    shapeCast S2x1x6144 X shapeCasts_S2x6144_S2x1x6144 (ix3 l z n) = X (ix2 l n) := by
  refine shapeCast_apply X shapeCasts_S2x6144_S2x1x6144 _ (ix2 l n) ?_
  have hz : z.val = 0 := by omega
  rw [Shape.rowMajor_val_three, Shape.rowMajor_val_two]
  show l.val * 6144 + n.val = (l.val * 1 + z.val) * 6144 + n.val
  rw [hz, Nat.mul_one, Nat.add_zero]

/-- What the launch finds prepared: the biases, with a row axis. -/
theorem prepared_v0 (c : Dev nD) (l : Fin 2) (z : Fin 1) (n : Fin 6144) : (V m c main_v0 : S2x1x6144.Idx → EReal) (ix3 l z n) = (m ((c.tc : Thread nD τ).loc main_arg2) : S2x6144.Idx → EReal) (ix2 l n) := by
  have h : (V m c main_v0 : S2x1x6144.Idx → EReal) = shapeCast S2x1x6144 (m ((c.tc : Thread nD τ).loc main_arg2) : S2x6144.Idx → EReal) shapeCasts_S2x6144_S2x1x6144 := by
    show StableHlo.after hostOps0 (fun b => m (c, b)) main_v0 = _
    simp only [hostOps0, StableHlo.after_cons, StableHlo.after_nil]
    rfl
  rw [h]
  exact with_row _ l z n

/-- The condition rows of a point: all of them. -/
theorem iblk0_apply (c : Dev nD) (t : Fin cfg0.N) (r : Fin 8) (k : Fin 1024) :
    (iblk m c 0 t : S8x1024.Idx → EReal) (ix2 r k) = (m ((c.tc : Thread nD τ).loc main_arg0) : S8x1024.Idx → EReal) (ix2 r k) := by
  refine Eq.trans ?_ (congrFun (V_main_arg0 m c : (V m c main_arg0 : S8x1024.Idx → EReal) = _) _)
  refine congrArg (V m c main_arg0 : S8x1024.Idx → EReal) (funext fun (a : Fin 2) => Fin.ext ?_)
  match a with
  | ⟨0, _⟩ =>
    show 0 * 8 + 1 * r.val = r.val
    omega
  | ⟨1, _⟩ =>
    show 0 * 1024 + 1 * k.val = k.val
    omega

/-- The weights of a point: 1536 columns of the point's layer. -/
theorem iblk1_apply (c : Dev nD) (t : Fin cfg0.N) (k : Fin 1024) (n : Fin 1536) (l : Fin 2) (N : Fin 6144)
    (hl : l.val = (grid0.coords t 0).val) (hN : N.val = (grid0.coords t 1).val * 1536 + n.val) :
    (iblk m c 1 t : S1x1024x1536.Idx → EReal) (ix3 0 k n) = (m ((c.tc : Thread nD τ).loc main_arg1) : S2x1024x6144.Idx → EReal) (ix3 l k N) := by
  obtain ⟨w0, w1⟩ := coord_word (grid0.coords t)
  refine Eq.trans ?_ (congrFun (V_main_arg1 m c : (V m c main_arg1 : S2x1024x6144.Idx → EReal) = _) _)
  refine congrArg (V m c main_arg1 : S2x1024x6144.Idx → EReal) (funext fun (a : Fin 3) => Fin.ext ?_)
  match a with
  | ⟨0, _⟩ =>
    show (BitVec.ofNat 32 (grid0.coords t 0).val).toNat * 1 + 1 * 0 = l.val
    rw [w0]; omega
  | ⟨1, _⟩ =>
    show 0 * 1024 + 1 * k.val = k.val
    omega
  | ⟨2, _⟩ =>
    show (BitVec.ofNat 32 (grid0.coords t 1).val).toNat * 1536 + 1 * n.val = N.val
    rw [w1]; omega

/-- The biases of a point: those of its columns. -/
theorem iblk2_apply (c : Dev nD) (t : Fin cfg0.N) (n : Fin 1536) (l : Fin 2) (N : Fin 6144)
    (hl : l.val = (grid0.coords t 0).val) (hN : N.val = (grid0.coords t 1).val * 1536 + n.val) :
    (iblk m c 2 t : S1x1x1536.Idx → EReal) (ix3 0 0 n) = (m ((c.tc : Thread nD τ).loc main_arg2) : S2x6144.Idx → EReal) (ix2 l N) := by
  obtain ⟨w0, w1⟩ := coord_word (grid0.coords t)
  refine Eq.trans ?_ (prepared_v0 m c l 0 N)
  refine congrArg (V m c main_v0 : S2x1x6144.Idx → EReal) (funext fun (a : Fin 3) => Fin.ext ?_)
  match a with
  | ⟨0, _⟩ =>
    show (BitVec.ofNat 32 (grid0.coords t 0).val).toNat * 1 + 1 * 0 = l.val
    rw [w0]; omega
  | ⟨1, _⟩ =>
    show 0 * 1 + 1 * 0 = 0
    omega
  | ⟨2, _⟩ =>
    show (BitVec.ofNat 32 (grid0.coords t 1).val).toNat * 1536 + 1 * n.val = N.val
    rw [w1]; omega

/-- The result array, as a function of the arguments: column `n` of layer `l` for condition row `r`. -/
def resultAt (c : Dev nD) (l : Fin 2) (r : Fin 8) (n : Fin 6144) : EReal :=
  modulated (fun k => (m ((c.tc : Thread nD τ).loc main_arg0) : S8x1024.Idx → EReal) (ix2 r k))
    (fun k => (m ((c.tc : Thread nD τ).loc main_arg1) : S2x1024x6144.Idx → EReal) (ix3 l k n))
    ((m ((c.tc : Thread nD τ).loc main_arg2) : S2x6144.Idx → EReal) (ix2 l n))

/-- Equal places give equal entries. -/
theorem resultAt_congr (c : Dev nD) {l l' : Fin 2} {r r' : Fin 8} {n n' : Fin 6144} (hl : l.val = l'.val) (hr : r.val = r'.val) (hn : n.val = n'.val) :
    resultAt m c l r n = resultAt m c l' r' n' := by
  rw [Fin.ext hl, Fin.ext hr, Fin.ext hn]

/-- What a point leaves in the result's buffer, entry by entry. -/
theorem point_apply (c : Dev nD) (t : Fin cfg0.N) (z : Fin 1) (r : Fin 8) (n : Fin 1536) (l : Fin 2) (N : Fin 6144)
    (hl : l.val = (grid0.coords t 0).val) (hN : N.val = (grid0.coords t 1).val * 1536 + n.val) :
    out0_3 (iblk m c 0 t) (iblk m c 1 t) (iblk m c 2 t) (ix3 z r n) = resultAt m c l r N :=
  (out_apply _ _ _ z r n).trans (modulated_congr (fun k => iblk0_apply m c t r k) (fun k => iblk1_apply m c t k n l N hl hN) (iblk2_apply m c t n l N hl hN))

/-- The result array after the run. -/
theorem result_array (c : Dev nD) :
    (dats m 0 c).arrAt 3 cfg0.N = (fun i : S2x8x6144.Idx => resultAt m c (i 0) (i 1) (i 2)) := by
  refine (dats m 0 c).arrAt_eq_of_covers 3 _ (by decide +kernel) (fun t _ => ?_)
  intro (y : S1x8x1536.Idx)
  rw [after0_3]
  have h0 : (grid0.coords t 0).val < 2 := (grid0.coords t 0).isLt
  have h1 : (grid0.coords t 1).val < 4 := (grid0.coords t 1).isLt
  have hy0 : (y 0).val < 1 := (y 0).isLt
  have hy1 : (y 1).val < 8 := (y 1).isLt
  have hy2 : (y 2).val < 1536 := (y 2).isLt
  have key := point_apply m c t ⟨(y 0).val, hy0⟩ ⟨(y 1).val, hy1⟩ ⟨(y 2).val, hy2⟩ ⟨(grid0.coords t 0).val, h0⟩ ⟨(grid0.coords t 1).val * 1536 + (y 2).val, by omega⟩ rfl rfl
  generalize out0_3 (iblk m c 0 t) (iblk m c 1 t) (iblk m c 2 t) = O at key ⊢
  have e : y = ix3 (⟨(y 0).val, hy0⟩ : Fin 1) (⟨(y 1).val, hy1⟩ : Fin 8) (⟨(y 2).val, hy2⟩ : Fin 1536) := funext fun (a : Fin 3) => by
    match a with
    | ⟨0, _⟩ => rfl
    | ⟨1, _⟩ => rfl
    | ⟨2, _⟩ => rfl
  refine (congrArg (O : S1x8x1536.Idx → EReal) e).trans (key.trans (resultAt_congr m c ?_ ?_ ?_))
  · show (grid0.coords t 0).val = (BitVec.ofNat 32 (grid0.coords t 0).val).toNat * 1 + 1 * (y 0).val
    rw [(coord_word (grid0.coords t)).1]; omega
  · show (y 1).val = 0 * 8 + 1 * (y 1).val
    omega
  · show (grid0.coords t 1).val * 1536 + (y 2).val = (BitVec.ofNat 32 (grid0.coords t 1).val).toNat * 1536 + 1 * (y 2).val
    rw [(coord_word (grid0.coords t)).2]; omega

end Cert.Kernel6Ideal.Modulation

end
-- ==== Proof.Modulation.Claims.lean ====
/- The claims about the modulation's call: the frames of the kernel and of the reference, and the equality of their results. -/
module

public import proofs.«01_k».proof.Defs
public import proofs.«01_k».proof.Proof.Gen.Kernel6.Frame
public import proofs.«01_k».proof.Proof.Gen.Reference6Ideal.Run
public import proofs.«01_k».proof.Proof.Modulation.Kernel
public import Idealize.ShloMosaic.Lib.Quiescent

@[expose] public section

set_option maxRecDepth 16384

noncomputable section

namespace Cert.Reference6Ideal.Modulation

open Cert.Reference6Ideal Cert.Reference6Ideal.Gen Cert.Modulation
open Idealize.ShloMosaic Idealize.ShloMosaic.TcCoe

/-- The units of the condition rows. -/
def units (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- An entry of them. -/
theorem units_apply (x : FVec Ideal S8x1024 .f32) (r : Fin 8) (k : Fin 1024) : units x (ix2 r k) = unit (x (ix2 r k)) := by
  unfold units unit
  pointwise []

/-- The reference's array from its arguments. -/
def result (x : FVec Ideal S8x1024 .f32) (w : FVec Ideal S2x1024x6144 .f32) (b : FVec Ideal S2x6144 .f32) : FVec Ideal S2x8x6144 .f32 :=
  addf (transpose S2x8x6144 [0, 2, 1] (Host.dotGeneral (F := Ideal) (φ₁ := .f32) (φ₂ := .f32) dot_S2x1024x6144_S8x1024_S2x6144x8_1_1_02_0_n_n none w (units x)) transposes_S2x6144x8_S2x8x6144_0_2_1)
    (broadcastInDim S2x8x6144 ![0, 1, 2] bcast_S2x1x6144_S2x8x6144_0_1_2 (broadcastInDim S2x1x6144 ![0, 2] bcast_S2x6144_S2x1x6144_0_2 b))

/-- An entry of it. -/
theorem result_apply (x : FVec Ideal S8x1024 .f32) (w : FVec Ideal S2x1024x6144 .f32) (b : FVec Ideal S2x6144 .f32) (l : Fin 2) (r : Fin 8) (n : Fin 6144) :
    result x w b (ix3 l r n) = modulated (fun k => x (ix2 r k)) (fun k => w (ix3 l k n)) (b (ix2 l n)) := by
  have h := units_apply x
  unfold result modulated
  generalize units x = U at h ⊢
  pointwise []
  simp only [h, mul_comm]

end Cert.Reference6Ideal.Modulation

namespace Cert.Modulation

open Idealize.ShloMosaic Idealize.ShloMosaic.TcCoe Idealize.SL.Sem

/-- The frame of the kernel as it is. -/
theorem frame_kernel : Cert.quiescent_Kernel6 (hKernel6 := Cert.Kernel6.Gen.facts) := fun m g _ => Cert.Kernel6.Gen.frame m g

/-- The frame of the kernel over the extended reals. -/
theorem frame_ideal : Cert.quiescent_Kernel6Ideal (hKernel6Ideal := Cert.Kernel6Ideal.Gen.facts) := fun m g _ => Cert.Kernel6Ideal.Gen.frame m g

/-- The frame of the reference: it is host code only and declares no semaphore. -/
theorem frame_reference : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run (F := Ideal) m g)

/-- The value claim: the kernel's result is the reference's. -/
theorem value : Cert.algebraic_Kernel6Ideal_Reference6Ideal (hKernel6Ideal := Cert.Kernel6Ideal.Gen.facts) (hReference6Ideal := Cert.Reference6Ideal.Gen.facts) := fun m g m' g' _ hm =>
  ⟨fun c => (fun i : Cert.Kernel6Ideal.S2x8x6144.Idx => Cert.Kernel6Ideal.Modulation.resultAt m c (i 0) (i 1) (i 2)),
    (θ_run _ _ _).mono (fun _ h c => ⟨(h c).1.trans (Cert.Kernel6Ideal.Modulation.result_array m c), (h c).2⟩) (Cert.Kernel6Ideal.Value.run_blocks (F := Ideal) m g),
    (θ_run _ _ _).mono (fun _ h c => ⟨(h c).1.trans (by
      obtain ⟨h0, h1, h2⟩ := hm c
      rw [h0, h1, h2]
      refine funext fun (i : Cert.Kernel6Ideal.S2x8x6144.Idx) => ?_
      obtain ⟨l, r, n, rfl⟩ : ∃ (l : Fin 2) (r : Fin 8) (n : Fin 6144), i = ix3 l r n := ⟨i 0, i 1, i 2, funext fun (a : Fin 3) => by
        match a with
        | ⟨0, _⟩ => rfl
        | ⟨1, _⟩ => rfl
        | ⟨2, _⟩ => rfl⟩
      exact Cert.Reference6Ideal.Modulation.result_apply _ _ _ l r n), (h c).2⟩)
      (Cert.Reference6Ideal.Value.run (F := Ideal) m' g')⟩

end Cert.Modulation

end
-- ==== Proof.FirstWeights.Block.lean ====
/- The splitting of the experts' first weights: what a point of the grid leaves in its two buffers. The point turns its block
   of 1024 columns over into a scratch buffer, 128 rows of the block in each of eight planes, takes every other row of the
   planes, joins the planes again and turns the outcome back. -/
module

public import proofs.«01_k».proof.Proof.Gen.Kernel7Ideal.Frame
public import Idealize.ShloMosaic.Lib.Pointwise
public import Idealize.ShloMosaic.Lib.Pipeline.Value
public import Idealize.ShloMosaic.Lib.Pipeline.ValueKit.Tiles
public import Idealize.ShloMosaic.Lib.Pipeline.ValueKit.Geometry

@[expose] public section

set_option maxRecDepth 16384

noncomputable section

namespace Cert.Kernel7Ideal.FirstWeights

open Cert.Kernel7Ideal Cert.Kernel7Ideal.Gen
open Idealize.ShloMosaic Idealize.ShloMosaic.TcCoe Idealize.SL.Sem

/-- A load of a whole buffer that holds `X` reads `X`. -/
theorem readAt_eq {sp : Space} {s : Shape} {e : EltTy} {M : Memref sig .tc sp s e} (h : M.IsWhole) (X : s.Idx → Elt Ideal e) (R : Rect s) :
    View.readAt (Elt Ideal) M.view R.toLoadRect (h.unread X) = View.ld X R := funext fun y => congrFun (h.read_unread X) (R.toLoadRect.idx y)

/-- The scratch buffer after the eight stores: plane `s` holds rows `128 s ..` of the block, turned over. -/
def turned (x : Vec Ideal S1x1x1024x1024 .f32) : Vec Ideal S8x1024x128 .f32 := fun y =>
  x (ix4 0 0 ⟨(y 0).val * 128 + (y 2).val, by
    have h0 : (y 0).val < 8 := (y 0).isLt
    have h2 : (y 2).val < 128 := (y 2).isLt
    omega⟩ (y 1))

/-- The block turned over, at an entry. -/
theorem over_apply (x : Vec Ideal S1x1x1024x1024 .f32) (q k : Fin 1024) : k0_pay3 x (ix2 q k) = x (ix4 0 0 k q) := by
  unfold k0_pay3
  refine Eq.trans (b := shapeCast S1024x1024 x shapeCasts_S1x1x1024x1024_S1024x1024 (ix2 k q)) ?_ ?_
  · pointwise []
  · refine shapeCast_apply x shapeCasts_S1x1x1024x1024_S1024x1024 _ (ix4 0 0 k q) ?_
    rw [Shape.rowMajor_val_two, Shape.rowMajor_val_four]
    show ((0 * 1 + 0) * 1024 + k.val) * 1024 + q.val = k.val * 1024 + q.val
    omega

/-- A plane that is stored agrees with the scratch buffer wherever it is stored. -/
theorem rectAt_turned (x : Vec Ideal S1x1x1024x1024 .f32) (s : Fin 8) (off : Fin 3 → ℕ) (hoff : off = ![s.val, 0, 0])
    (inb : ∀ a, off a + S1x1024x128.size a ≤ S8x1024x128.size a) (so : Fin 2 → ℕ) (hso : so = ![0, 128 * s.val])
    (hsl : S1024x1024.Slices so S1024x128) (y : S8x1024x128.Idx) :
    View.RectAt (Val := Elt Ideal) (e := .f32) y (Rect.unit (s := S8x1024x128) off S1x1024x128.size inb)
      (shapeCast S1x1024x128 (extractStridedSlice S1024x128 so (k0_pay3 x) hsl) shapeCasts_S1024x128_S1x1024x128) (turned x y) := by
  subst hoff hso
  intro (j : S1x1024x128.Idx) hj
  have g0 : (y 0).val = s.val + 1 * (j 0).val := by rw [← hj]; rfl
  have g1 : (y 1).val = 0 + 1 * (j 1).val := by rw [← hj]; rfl
  have g2 : (y 2).val = 0 + 1 * (j 2).val := by rw [← hj]; rfl
  have j0 : (j 0).val < 1 := (j 0).isLt
  have j1 : (j 1).val < 1024 := (j 1).isLt
  have j2 : (j 2).val < 128 := (j 2).isLt
  have hs := s.isLt
  refine (shapeCast_apply _ shapeCasts_S1024x128_S1x1024x128 j (ix2 (⟨(j 1).val, j1⟩ : Fin 1024) (⟨(j 2).val, j2⟩ : Fin 128)) ?_).trans ?_
  · rw [Shape.rowMajor_val_two, Shape.rowMajor_val_three]
    show (j 1).val * 128 + (j 2).val = ((j 0).val * 1024 + (j 1).val) * 128 + (j 2).val
    omega
  · refine Eq.trans (b := k0_pay3 x (ix2 (⟨(j 1).val, j1⟩ : Fin 1024) (⟨128 * s.val + (j 2).val, by omega⟩ : Fin 1024))) ?_ ?_
    · refine congrArg (k0_pay3 x) (funext fun (a : Fin 2) => Fin.ext ?_)
      match a with
      | ⟨0, _⟩ => exact Nat.zero_add _
      | ⟨1, _⟩ => rfl
    · rw [over_apply]
      unfold turned
      refine congrArg x (funext fun (a : Fin 4) => Fin.ext ?_)
      match a with
      | ⟨0, _⟩ => rfl
      | ⟨1, _⟩ => rfl
      | ⟨2, _⟩ => show 128 * s.val + (j 2).val = (y 0).val * 128 + (y 2).val; omega
      | ⟨3, _⟩ => show (j 1).val = (y 1).val; omega

section Run

variable (c : Dev nD) (i : grid0.Coords) (arg2 : Memref sig .tc .vmem S1x1x1024x1024 .f32) (harg2 : arg2.IsWhole)
  (arg3 : Memref sig .tc .vmem S1x1024x512 .bf16) (harg3 : arg3.IsWhole) (arg4 : Memref sig .tc .vmem S1x1024x512 .bf16) (harg4 : arg4.IsWhole)
  (arg5 : Memref sig .tc .vmem S8x1024x128 .f32) (harg5 : arg5.IsWhole) (x : Vec Ideal S1x1x1024x1024 .f32)

/-- The eight stores leave the scratch buffer as said. -/
theorem stored (y : S8x1024x128.Idx) : View.canon (kernelRun0_A.sl.HS0_8 c arg2 harg2 x) y = turned x y := by
  have e : View.ld x (Rect.unit (s := S1x1x1024x1024) ![0, 0, 0, 0] S1x1x1024x1024.size inb_S1x1x1024x1024_S1x1x1024x1024_0_0_0_0) = x := View.ld_unit_lit' _ _ (by decide)
  have cover : ∃ p ∈ kernelRun0_A.sl.HS0_8 c arg2 harg2 x, y ∈ p.1.set :=
    View.cover_of_tiledL (kernelRun0_A.sl.HS0_8 c arg2 harg2 x) S1x1024x128.size (by sl_kernel_rfl) y
  refine View.canon_eq_of_allAt _ y _ cover ?_
  clear cover
  unfold kernelRun0_A.sl.HS0_8
  simp only [kernelRun0_A.sl.r, kernelRun0_A.sl.r_1, readAt_eq, e]
  refine View.allAt_cons _ _ _ (rectAt_turned x 7 ![7, 0, 0] rfl _ ![0, 896] rfl slices_S1024x1024_o0_896_S1024x128 y) ?_
  refine View.allAt_cons _ _ _ (rectAt_turned x 6 ![6, 0, 0] rfl _ ![0, 768] rfl slices_S1024x1024_o0_768_S1024x128 y) ?_
  refine View.allAt_cons _ _ _ (rectAt_turned x 5 ![5, 0, 0] rfl _ ![0, 640] rfl slices_S1024x1024_o0_640_S1024x128 y) ?_
  refine View.allAt_cons _ _ _ (rectAt_turned x 4 ![4, 0, 0] rfl _ ![0, 512] rfl slices_S1024x1024_o0_512_S1024x128 y) ?_
  refine View.allAt_cons _ _ _ (rectAt_turned x 3 ![3, 0, 0] rfl _ ![0, 384] rfl slices_S1024x1024_o0_384_S1024x128 y) ?_
  refine View.allAt_cons _ _ _ (rectAt_turned x 2 ![2, 0, 0] rfl _ ![0, 256] rfl slices_S1024x1024_o0_256_S1024x128 y) ?_
  refine View.allAt_cons _ _ _ (rectAt_turned x 1 ![1, 0, 0] rfl _ ![0, 128] rfl slices_S1024x1024_o0_128_S1024x128 y) ?_
  refine View.allAt_cons _ _ _ (rectAt_turned x 0 ![0, 0, 0] rfl _ ![0, 0] rfl slices_S1024x1024_o0_0_S1024x128 y) ?_
  exact View.allAt_nil _ _

/-- Every other row of plane `s`, from row `p` on. -/
def every (x : Vec Ideal S1x1x1024x1024 .f32) (s : Fin 8) (p : Fin 2) : Vec Ideal S1x512x128 .f32 := fun j =>
  turned x (ix3 s ⟨p.val + 2 * (j 1).val, by
    have h1 : (j 1).val < 512 := (j 1).isLt
    omega⟩ (j 2))

/-- A strided load of the scratch buffer. -/
theorem load_every (s : Fin 8) (p : Fin 2) (off : Fin 3 → ℕ) (hoff : off = ![s.val, p.val, 0])
    (inb : ∀ k : Fin 3, S1x512x128.size k = 0 ∨ off k + (![1, 2, 1] : Fin 3 → ℕ) k * (S1x512x128.size k - 1) < S8x1024x128.size k) :
    arg5.view.readCov (kernelRun0_A.sl.HS0_8 c arg2 harg2 x) (⟨off, S1x512x128.size, ![1, 2, 1], inb⟩ : LoadRect S8x1024x128) = every x s p := by
  subst hoff
  rw [View.readCov_eq_canon']
  funext (j : S1x512x128.Idx)
  rw [stored]
  have j0 : (j 0).val < 1 := (j 0).isLt
  unfold every
  refine congrArg (turned x) (funext fun (a : Fin 3) => Fin.ext ?_)
  match a with
  | ⟨0, _⟩ => show s.val + 1 * (j 0).val = s.val; omega
  | ⟨1, _⟩ => rfl
  | ⟨2, _⟩ => show 0 + 1 * (j 2).val = (j 2).val; omega

/-- The planes' rows joined and turned back: columns `p, p + 2, …` of the block. -/
def columns (x : Vec Ideal S1x1x1024x1024 .f32) (p : Fin 2) : FVec Ideal S1x1024x512 .bf16 :=
  k0_pay1 (k0_pay13 (every x 0 p) (every x 1 p) (every x 2 p) (every x 3 p) (every x 4 p) (every x 5 p) (every x 6 p) (every x 7 p))

/-- An entry of them. -/
theorem columns_apply (x : Vec Ideal S1x1x1024x1024 .f32) (p : Fin 2) (z : Fin 1) (k : Fin 1024) (n : Fin 512) :
    columns x p (ix3 z k n) = x (ix4 0 0 k ⟨p.val + 2 * n.val, by omega⟩) := by
  have key : ∀ (s : Fin 8) (j : Fin 128), k.val = 128 * s.val + j.val → every x s p (ix3 0 n j) = x (ix4 0 0 k ⟨p.val + 2 * n.val, by omega⟩) := by
    intro s j h
    unfold every turned
    refine congrArg x (funext fun (a : Fin 4) => Fin.ext ?_)
    match a with
    | ⟨0, _⟩ => rfl
    | ⟨1, _⟩ => rfl
    | ⟨2, _⟩ => show s.val * 128 + j.val = k.val; omega
    | ⟨3, _⟩ => rfl
  unfold columns k0_pay1 k0_pay13
  pointwise []
  split_ifs
  all_goals try (exfalso; rename_i h; exact h rfl)
  · exact key 0 _ (by simp)
  · exact key 1 _ (by simp; omega)
  · exact key 2 _ (by simp; omega)
  · exact key 3 _ (by simp; omega)
  · exact key 4 _ (by simp; omega)
  · exact key 5 _ (by simp; omega)
  · exact key 6 _ (by simp; omega)
  · exact key 7 _ (by simp; omega)

/-- What a point leaves in its first buffer: the even columns. -/
theorem out_even : out0_A_1 c i arg2 harg2 arg3 harg3 arg4 harg4 arg5 harg5 x =
    View.canon (Val := Elt Ideal) (s := S1x1024x512) (e := .bf16) [⟨Rect.unit (s := S1x1024x512) ![0, 0, 0] S1x1024x512.size inb_S1x1024x512_S1x1024x512_0_0_0, columns x 0⟩] := by
  unfold out0_A_1
  rw [View.read_writes_junk_eq_canon]
  unfold kernelRun0_A
  dsimp only
  unfold kernelRun0_A.sl.r_2 kernelRun0_A.sl.v35 kernelRun0_A.sl.v37 kernelRun0_A.sl.v39 kernelRun0_A.sl.v41 kernelRun0_A.sl.v43 kernelRun0_A.sl.v45 kernelRun0_A.sl.v47 kernelRun0_A.sl.v49
  rw [load_every c arg2 harg2 arg5 x 0 0 ![0, 0, 0] rfl, load_every c arg2 harg2 arg5 x 1 0 ![1, 0, 0] rfl, load_every c arg2 harg2 arg5 x 2 0 ![2, 0, 0] rfl,
    load_every c arg2 harg2 arg5 x 3 0 ![3, 0, 0] rfl, load_every c arg2 harg2 arg5 x 4 0 ![4, 0, 0] rfl, load_every c arg2 harg2 arg5 x 5 0 ![5, 0, 0] rfl,
    load_every c arg2 harg2 arg5 x 6 0 ![6, 0, 0] rfl, load_every c arg2 harg2 arg5 x 7 0 ![7, 0, 0] rfl]
  rfl

/-- What a point leaves in its second buffer: the odd columns. -/
theorem out_odd : out0_A_2 c i arg2 harg2 arg3 harg3 arg4 harg4 arg5 harg5 x =
    View.canon (Val := Elt Ideal) (s := S1x1024x512) (e := .bf16) [⟨Rect.unit (s := S1x1024x512) ![0, 0, 0] S1x1024x512.size inb_S1x1024x512_S1x1024x512_0_0_0, columns x 1⟩] := by
  unfold out0_A_2
  rw [View.read_writes_junk_eq_canon]
  unfold kernelRun0_A
  dsimp only
  unfold kernelRun0_A.sl.r_3 kernelRun0_A.sl.v54 kernelRun0_A.sl.v56 kernelRun0_A.sl.v58 kernelRun0_A.sl.v60 kernelRun0_A.sl.v62 kernelRun0_A.sl.v64 kernelRun0_A.sl.v66
  unfold kernelRun0_A.sl.v52
  rw [load_every c arg2 harg2 arg5 x 0 1 ![0, 1, 0] rfl, load_every c arg2 harg2 arg5 x 1 1 ![1, 1, 0] rfl, load_every c arg2 harg2 arg5 x 2 1 ![2, 1, 0] rfl,
    load_every c arg2 harg2 arg5 x 3 1 ![3, 1, 0] rfl, load_every c arg2 harg2 arg5 x 4 1 ![4, 1, 0] rfl, load_every c arg2 harg2 arg5 x 5 1 ![5, 1, 0] rfl,
    load_every c arg2 harg2 arg5 x 6 1 ![6, 1, 0] rfl, load_every c arg2 harg2 arg5 x 7 1 ![7, 1, 0] rfl]
  rfl

/-- What a point leaves in its first buffer, at an entry. -/
theorem even_apply (z : Fin 1) (k : Fin 1024) (n : Fin 512) :
    out0_A_1 c i arg2 harg2 arg3 harg3 arg4 harg4 arg5 harg5 x (ix3 z k n) = x (ix4 0 0 k ⟨(0 : Fin 2).val + 2 * n.val, by have h : (0 : Fin 2).val < 2 := (0 : Fin 2).isLt; omega⟩) := by
  rw [out_even, View.canon_unit_zero (by decide)]
  exact columns_apply x 0 z k n

/-- What a point leaves in its second buffer, at an entry. -/
theorem odd_apply (z : Fin 1) (k : Fin 1024) (n : Fin 512) :
    out0_A_2 c i arg2 harg2 arg3 harg3 arg4 harg4 arg5 harg5 x (ix3 z k n) = x (ix4 0 0 k ⟨(1 : Fin 2).val + 2 * n.val, by have h : (1 : Fin 2).val < 2 := (1 : Fin 2).isLt; omega⟩) := by
  rw [out_odd, View.canon_unit_zero (by decide)]
  exact columns_apply x 1 z k n

end Run

end Cert.Kernel7Ideal.FirstWeights

end
-- ==== Proof.FirstWeights.Kernel.lean ====
/- The splitting of the experts' first weights: its two result arrays, entry by entry. A point of the grid takes 1024 columns
   of one expert and leaves 512 columns in either array. -/
module

public import proofs.«01_k».proof.Proof.Gen.Kernel7Ideal.Value
public import proofs.«01_k».proof.Proof.FirstWeights.Block

@[expose] public section

set_option maxRecDepth 16384

noncomputable section

namespace Cert.Kernel7Ideal.FirstWeights

open Cert.Kernel7Ideal Cert.Kernel7Ideal.Gen
open Idealize.ShloMosaic Idealize.ShloMosaic.TcCoe Idealize.SL.Sem
open Pipeline (Dat)

variable (m : (ℓ : Loc nD τ sig) → Buf (Elt Ideal) ℓ)

/-- A grid coordinate fits a word. -/
theorem coord_word (i : grid0.Coords) : (BitVec.ofNat 32 (i 0).val).toNat = (i 0).val ∧ (BitVec.ofNat 32 (i 1).val).toNat = (i 1).val := by
  have h0 : (i 0).val < 32 := (i 0).isLt
  have h1 : (i 1).val < 2 := (i 1).isLt
  rw [BitVec.toNat_ofNat, BitVec.toNat_ofNat]; omega

/-- The weights of a point: 1024 columns of its expert in the first layer. -/
theorem iblk0_apply (c : Dev nD) (t : Fin cfg0.N) (k q : Fin 1024) (g : Fin 32) (Q : Fin 2048)
    (hg : g.val = (grid0.coords t 0).val) (hQ : Q.val = (grid0.coords t 1).val * 1024 + q.val) :
    (iblk m c 0 t : S1x1x1024x1024.Idx → EReal) (ix4 0 0 k q) = (m ((c.tc : Thread nD τ).loc main_arg0) : S2x32x1024x2048.Idx → EReal) (ix4 0 g k Q) := by
  obtain ⟨w0, w1⟩ := coord_word (grid0.coords t)
  refine Eq.trans ?_ (congrFun (V_main_arg0 m c : (V m c main_arg0 : S2x32x1024x2048.Idx → EReal) = _) _)
  refine congrArg (V m c main_arg0 : S2x32x1024x2048.Idx → EReal) (funext fun (a : Fin 4) => Fin.ext ?_)
  match a with
  | ⟨0, _⟩ =>
    show 0 * 1 + 1 * 0 = 0
    omega
  | ⟨1, _⟩ =>
    show (BitVec.ofNat 32 (grid0.coords t 0).val).toNat * 1 + 1 * 0 = g.val
    rw [w0]; omega
  | ⟨2, _⟩ =>
    show 0 * 1024 + 1 * k.val = k.val
    omega
  | ⟨3, _⟩ =>
    show (BitVec.ofNat 32 (grid0.coords t 1).val).toNat * 1024 + 1 * q.val = Q.val
    rw [w1]; omega

/-- A result array, as a function of the argument: every other column, from column `p` on, of expert `g` in the first layer. -/
def resultAt (c : Dev nD) (p : Fin 2) (g : Fin 32) (k n : Fin 1024) : EReal :=
  (m ((c.tc : Thread nD τ).loc main_arg0) : S2x32x1024x2048.Idx → EReal) (ix4 0 g k ⟨p.val + 2 * n.val, by omega⟩)

/-- Equal places give equal entries. -/
theorem resultAt_congr (c : Dev nD) (p : Fin 2) {g g' : Fin 32} {k k' n n' : Fin 1024} (hg : g.val = g'.val) (hk : k.val = k'.val) (hn : n.val = n'.val) :
    resultAt m c p g k n = resultAt m c p g' k' n' := by
  rw [Fin.ext hg, Fin.ext hk, Fin.ext hn]

/-- A column of a point's weights is a column of the result array. -/
theorem taken (c : Dev nD) (t : Fin cfg0.N) (p : Fin 2) (k : Fin 1024) (n : Fin 512) (g : Fin 32) (N : Fin 1024)
    (hg : g.val = (grid0.coords t 0).val) (hN : N.val = (grid0.coords t 1).val * 512 + n.val) :
    (iblk m c 0 t : S1x1x1024x1024.Idx → EReal) (ix4 0 0 k ⟨p.val + 2 * n.val, by omega⟩) = resultAt m c p g k N := by
  unfold resultAt
  exact iblk0_apply m c t k _ g _ hg (by show p.val + 2 * N.val = (grid0.coords t 1).val * 1024 + (p.val + 2 * n.val); omega)

/-- The buffer of the even columns after a point is the body's. -/
theorem outs_even (c : Dev nD) (t : Fin cfg0.N) : (outsAt0 m c t).1 =
    out0_A_1 c (grid0.coords t) (ms0_0 t) (hs0_0 t) (ms0_1 t) (hs0_1 t) (ms0_2 t) (hs0_2 t) scM0_0 (Memref.isWhole_whole _) (iblk m c 0 t) := by
  simp only [outsAt0]

/-- What a point leaves in the buffer of the even columns, entry by entry. -/
theorem even_point (c : Dev nD) (t : Fin cfg0.N) (z : Fin 1) (k : Fin 1024) (n : Fin 512) (g : Fin 32) (N : Fin 1024)
    (hg : g.val = (grid0.coords t 0).val) (hN : N.val = (grid0.coords t 1).val * 512 + n.val) :
    ((outsAt0 m c t).1 : S1x1024x512.Idx → EReal) (ix3 z k n) = resultAt m c 0 g k N := by
  refine (congrFun (outs_even m c t) _).trans ?_
  refine (even_apply c (grid0.coords t) (ms0_0 t) (hs0_0 t) (ms0_1 t) (hs0_1 t) (ms0_2 t) (hs0_2 t) scM0_0 (Memref.isWhole_whole _) (iblk m c 0 t) z k n).trans ?_
  exact taken m c t 0 k n g N hg hN

/-- The array of the even columns after the run. -/
theorem even_array (c : Dev nD) : (dats m 0 c).arrAt 1 cfg0.N = (fun i : S32x1024x1024.Idx => resultAt m c 0 (i 0) (i 1) (i 2)) := by
  refine (dats m 0 c).arrAt_eq_of_covers 1 _ (by decide +kernel) (fun t _ => ?_)
  intro (y : S1x1024x512.Idx)
  rw [after0_1]
  have h0 : (grid0.coords t 0).val < 32 := (grid0.coords t 0).isLt
  have h1 : (grid0.coords t 1).val < 2 := (grid0.coords t 1).isLt
  have hy0 : (y 0).val < 1 := (y 0).isLt
  have hy1 : (y 1).val < 1024 := (y 1).isLt
  have hy2 : (y 2).val < 512 := (y 2).isLt
  have key := even_point m c t ⟨(y 0).val, hy0⟩ ⟨(y 1).val, hy1⟩ ⟨(y 2).val, hy2⟩ ⟨(grid0.coords t 0).val, h0⟩ ⟨(grid0.coords t 1).val * 512 + (y 2).val, by omega⟩ rfl rfl
  generalize (outsAt0 m c t).1 = O at key ⊢
  have e : y = ix3 (⟨(y 0).val, hy0⟩ : Fin 1) (⟨(y 1).val, hy1⟩ : Fin 1024) (⟨(y 2).val, hy2⟩ : Fin 512) := funext fun (a : Fin 3) => by
    match a with
    | ⟨0, _⟩ => rfl
    | ⟨1, _⟩ => rfl
    | ⟨2, _⟩ => rfl
  refine (congrArg (O : S1x1024x512.Idx → EReal) e).trans (key.trans (resultAt_congr m c 0 ?_ ?_ ?_))
  · show (grid0.coords t 0).val = (BitVec.ofNat 32 (grid0.coords t 0).val).toNat * 1 + 1 * (y 0).val
    rw [(coord_word (grid0.coords t)).1]; omega
  · show (y 1).val = 0 * 1024 + 1 * (y 1).val
    omega
  · show (grid0.coords t 1).val * 512 + (y 2).val = (BitVec.ofNat 32 (grid0.coords t 1).val).toNat * 512 + 1 * (y 2).val
    rw [(coord_word (grid0.coords t)).2]; omega

/-- The buffer of the odd columns after a point is the body's. -/
theorem outs_odd (c : Dev nD) (t : Fin cfg0.N) : (outsAt0 m c t).2 =
    out0_A_2 c (grid0.coords t) (ms0_0 t) (hs0_0 t) (ms0_1 t) (hs0_1 t) (ms0_2 t) (hs0_2 t) scM0_0 (Memref.isWhole_whole _) (iblk m c 0 t) := by
  simp only [outsAt0]

/-- What a point leaves in the buffer of the odd columns, entry by entry. -/
theorem odd_point (c : Dev nD) (t : Fin cfg0.N) (z : Fin 1) (k : Fin 1024) (n : Fin 512) (g : Fin 32) (N : Fin 1024)
    (hg : g.val = (grid0.coords t 0).val) (hN : N.val = (grid0.coords t 1).val * 512 + n.val) :
    ((outsAt0 m c t).2 : S1x1024x512.Idx → EReal) (ix3 z k n) = resultAt m c 1 g k N := by
  refine (congrFun (outs_odd m c t) _).trans ?_
  refine (odd_apply c (grid0.coords t) (ms0_0 t) (hs0_0 t) (ms0_1 t) (hs0_1 t) (ms0_2 t) (hs0_2 t) scM0_0 (Memref.isWhole_whole _) (iblk m c 0 t) z k n).trans ?_
  exact taken m c t 1 k n g N hg hN

/-- The array of the odd columns after the run. -/
theorem odd_array (c : Dev nD) : (dats m 0 c).arrAt 2 cfg0.N = (fun i : S32x1024x1024.Idx => resultAt m c 1 (i 0) (i 1) (i 2)) := by
  refine (dats m 0 c).arrAt_eq_of_covers 2 _ (by decide +kernel) (fun t _ => ?_)
  intro (y : S1x1024x512.Idx)
  rw [after0_2]
  have h0 : (grid0.coords t 0).val < 32 := (grid0.coords t 0).isLt
  have h1 : (grid0.coords t 1).val < 2 := (grid0.coords t 1).isLt
  have hy0 : (y 0).val < 1 := (y 0).isLt
  have hy1 : (y 1).val < 1024 := (y 1).isLt
  have hy2 : (y 2).val < 512 := (y 2).isLt
  have key := odd_point m c t ⟨(y 0).val, hy0⟩ ⟨(y 1).val, hy1⟩ ⟨(y 2).val, hy2⟩ ⟨(grid0.coords t 0).val, h0⟩ ⟨(grid0.coords t 1).val * 512 + (y 2).val, by omega⟩ rfl rfl
  generalize (outsAt0 m c t).2 = O at key ⊢
  have e : y = ix3 (⟨(y 0).val, hy0⟩ : Fin 1) (⟨(y 1).val, hy1⟩ : Fin 1024) (⟨(y 2).val, hy2⟩ : Fin 512) := funext fun (a : Fin 3) => by
    match a with
    | ⟨0, _⟩ => rfl
    | ⟨1, _⟩ => rfl
    | ⟨2, _⟩ => rfl
  refine (congrArg (O : S1x1024x512.Idx → EReal) e).trans (key.trans (resultAt_congr m c 1 ?_ ?_ ?_))
  · show (grid0.coords t 0).val = (BitVec.ofNat 32 (grid0.coords t 0).val).toNat * 1 + 1 * (y 0).val
    rw [(coord_word (grid0.coords t)).1]; omega
  · show (y 1).val = 0 * 1024 + 1 * (y 1).val
    omega
  · show (grid0.coords t 1).val * 512 + (y 2).val = (BitVec.ofNat 32 (grid0.coords t 1).val).toNat * 512 + 1 * (y 2).val
    rw [(coord_word (grid0.coords t)).2]; omega

end Cert.Kernel7Ideal.FirstWeights

end
-- ==== Proof.FirstWeights.Claims.lean ====
/- The claims about the splitting of the experts' first weights: the frames of the kernel and of the reference, and the
   equality of their results. -/
module

public import proofs.«01_k».proof.Defs
public import proofs.«01_k».proof.Proof.Gen.Kernel7.Frame
public import proofs.«01_k».proof.Proof.Gen.Reference7Ideal.Run
public import proofs.«01_k».proof.Proof.FirstWeights.Kernel
public import Idealize.ShloMosaic.Lib.Quiescent

@[expose] public section

set_option maxRecDepth 16384

noncomputable section

namespace Cert.Reference7Ideal.FirstWeights

open Cert.Reference7Ideal Cert.Reference7Ideal.Gen
open Idealize.ShloMosaic Idealize.ShloMosaic.TcCoe

/-- The first layer's weights, cast. -/
def layer (w : FVec Ideal S2x32x1024x2048 .f32) : FVec Ideal S32x1024x2048 .bf16 :=
  truncf .bf16 (shapeCast _ (extractStridedSlice S1x32x1024x2048 ![0, 0, 0, 0] w slices_S2x32x1024x2048_S1x32x1024x2048_0_0_0_0) shapeCasts_S1x32x1024x2048_S32x1024x2048) bitsLt_bf16_f32

/-- An entry of them. -/
theorem layer_apply (w : FVec Ideal S2x32x1024x2048 .f32) (g : Fin 32) (k : Fin 1024) (q : Fin 2048) : layer w (ix3 g k q) = w (ix4 0 g k q) := by
  unfold layer
  refine (truncf_apply (F := Ideal) _ _ _ _).trans ?_
  refine (shapeCast_apply _ shapeCasts_S1x32x1024x2048_S32x1024x2048 _ (ix4 (0 : Fin 1) g k q) ?_).trans ?_
  · rw [Shape.rowMajor_val_three, Shape.rowMajor_val_four]
    show ((0 * 32 + g.val) * 1024 + k.val) * 2048 + q.val = (g.val * 1024 + k.val) * 2048 + q.val
    omega
  · refine congrArg w (funext fun (a : Fin 4) => Fin.ext ?_)
    match a with
    | ⟨0, _⟩ => rfl
    | ⟨1, _⟩ => exact Nat.zero_add _
    | ⟨2, _⟩ => exact Nat.zero_add _
    | ⟨3, _⟩ => exact Nat.zero_add _

/-- The even columns. -/
theorem even_apply (w : FVec Ideal S2x32x1024x2048 .f32) (g : Fin 32) (k n : Fin 1024) :
    Host.slice S32x1024x1024 ![0, 0, 0] ![1, 1, 2] (layer w) slicesBy_S32x1024x2048_S32x1024x1024_0s1_0s1_0s2 (ix3 g k n) = w (ix4 0 g k ⟨0 + 2 * n.val, by omega⟩) := by
  refine Eq.trans (congrArg (layer w) (funext fun (a : Fin 3) => Fin.ext ?_)) (layer_apply w g k ⟨0 + 2 * n.val, by omega⟩)
  match a with
  | ⟨0, _⟩ => show 0 + 1 * g.val = g.val; omega
  | ⟨1, _⟩ => show 0 + 1 * k.val = k.val; omega
  | ⟨2, _⟩ => show 0 + 2 * n.val = 0 + 2 * n.val; rfl

/-- The odd columns. -/
theorem odd_apply (w : FVec Ideal S2x32x1024x2048 .f32) (g : Fin 32) (k n : Fin 1024) :
    Host.slice S32x1024x1024 ![0, 0, 1] ![1, 1, 2] (layer w) slicesBy_S32x1024x2048_S32x1024x1024_0s1_0s1_1s2 (ix3 g k n) = w (ix4 0 g k ⟨1 + 2 * n.val, by omega⟩) := by
  refine Eq.trans (congrArg (layer w) (funext fun (a : Fin 3) => Fin.ext ?_)) (layer_apply w g k ⟨1 + 2 * n.val, by omega⟩)
  match a with
  | ⟨0, _⟩ => show 0 + 1 * g.val = g.val; omega
  | ⟨1, _⟩ => show 0 + 1 * k.val = k.val; omega
  | ⟨2, _⟩ => show 1 + 2 * n.val = 1 + 2 * n.val; rfl

end Cert.Reference7Ideal.FirstWeights

namespace Cert.FirstWeights

open Idealize.ShloMosaic Idealize.ShloMosaic.TcCoe Idealize.SL.Sem

/-- The frame of the kernel as it is. -/
theorem frame_kernel : Cert.quiescent_Kernel7 (hKernel7 := Cert.Kernel7.Gen.facts) := fun m g _ => Cert.Kernel7.Gen.frame m g

/-- The frame of the kernel over the extended reals. -/
theorem frame_ideal : Cert.quiescent_Kernel7Ideal (hKernel7Ideal := Cert.Kernel7Ideal.Gen.facts) := fun m g _ => Cert.Kernel7Ideal.Gen.frame m g

/-- The frame of the reference: it is host code only and declares no semaphore. -/
theorem frame_reference : Cert.quiescent_Reference7Ideal (hReference7Ideal := Cert.Reference7Ideal.Gen.facts) := fun m g _ =>
  (θ_run _ _ _).mono (fun r h => ⟨fun c => (h c).2.2, sem_eq_zero_of_no_sems (by decide) r.2⟩) (Cert.Reference7Ideal.Value.run (F := Ideal) m g)

/-- Every place of a result is named by its three coordinates. -/
theorem place (i : Cert.Kernel7Ideal.S32x1024x1024.Idx) : ∃ (e : Fin 32) (k n : Fin 1024), i = ix3 e k n := ⟨i 0, i 1, i 2, funext fun (a : Fin 3) => by
  match a with
  | ⟨0, _⟩ => rfl
  | ⟨1, _⟩ => rfl
  | ⟨2, _⟩ => rfl⟩

/-- The value claim: the kernel's two results are the reference's. -/
theorem value : Cert.algebraic_Kernel7Ideal_Reference7Ideal (hKernel7Ideal := Cert.Kernel7Ideal.Gen.facts) (hReference7Ideal := Cert.Reference7Ideal.Gen.facts) := fun m g m' g' _ hm =>
  ⟨fun c => (fun i : Cert.Kernel7Ideal.S32x1024x1024.Idx => Cert.Kernel7Ideal.FirstWeights.resultAt m c 0 (i 0) (i 1) (i 2)),
    fun c => (fun i : Cert.Kernel7Ideal.S32x1024x1024.Idx => Cert.Kernel7Ideal.FirstWeights.resultAt m c 1 (i 0) (i 1) (i 2)),
    (θ_run _ _ _).mono (fun _ h c => ⟨(h c).1.trans (Cert.Kernel7Ideal.FirstWeights.even_array m c), (h c).2.1.trans (Cert.Kernel7Ideal.FirstWeights.odd_array m c), (h c).2.2⟩)
      (Cert.Kernel7Ideal.Value.run_blocks (F := Ideal) m g),
    (θ_run _ _ _).mono (fun _ h c => ⟨(h c).1.trans (by
      rw [hm c]
      refine funext fun (i : Cert.Kernel7Ideal.S32x1024x1024.Idx) => ?_
      obtain ⟨e, k, n, rfl⟩ := place i
      exact Cert.Reference7Ideal.FirstWeights.even_apply _ e k n), (h c).2.1.trans (by
      rw [hm c]
      refine funext fun (i : Cert.Kernel7Ideal.S32x1024x1024.Idx) => ?_
      obtain ⟨e, k, n, rfl⟩ := place i
      exact Cert.Reference7Ideal.FirstWeights.odd_apply _ e k n), (h c).2.2⟩)
      (Cert.Reference7Ideal.Value.run (F := Ideal) m' g')⟩

end Cert.FirstWeights

end
-- ==== Proof.SecondWeights.Kernel.lean ====
/- The cast of the experts' second weights: its result array, entry by entry. A point of the grid takes one expert. -/
module

public import proofs.«01_k».proof.Proof.Gen.Kernel8Ideal.Value
public import Idealize.ShloMosaic.Lib.Pointwise
public import Idealize.ShloMosaic.Lib.Pipeline.Value
public import Idealize.ShloMosaic.Lib.Pipeline.ValueKit.Tiles
public import Idealize.ShloMosaic.Lib.Pipeline.ValueKit.Geometry

@[expose] public section

set_option maxRecDepth 16384

noncomputable section

namespace Cert.Kernel8Ideal.SecondWeights

open Cert.Kernel8Ideal Cert.Kernel8Ideal.Gen
open Idealize.ShloMosaic Idealize.ShloMosaic.TcCoe Idealize.SL.Sem
open Pipeline (Dat)

/-- A block of a point, at an entry: over the reals the cast changes nothing. -/
theorem block_apply (x : Vec Ideal S1x1x1024x1024 .f32) (z : Fin 1) (k n : Fin 1024) : k0_pay1 x (ix3 z k n) = x (ix4 0 0 k n) := by
  unfold k0_pay1
  refine (truncf_apply (F := Ideal) _ _ _ _).trans ?_
  refine shapeCast_apply x shapeCasts_S1x1x1024x1024_S1x1024x1024 _ (ix4 0 0 k n) ?_
  have hz : z.val = 0 := by omega
  rw [Shape.rowMajor_val_three, Shape.rowMajor_val_four]
  show ((0 * 1 + 0) * 1024 + k.val) * 1024 + n.val = (z.val * 1024 + k.val) * 1024 + n.val
  rw [hz]

/-- What a point leaves in the result's buffer. -/
theorem out_apply (x : Vec Ideal S1x1x1024x1024 .f32) (z : Fin 1) (k n : Fin 1024) : out0_1 x (ix3 z k n) = x (ix4 0 0 k n) := by
  have e0 : View.ld x r0_0 = x := View.ld_unit_lit' _ _ (by decide)
  unfold out0_1
  rw [e0]
  canon_tiles y h using (cover0_1 (F := Ideal) _ _)
  have e : y = ix3 z k n := funext fun (a : Fin 3) => Fin.ext (by
    match a with
    | ⟨0, _⟩ => exact (Nat.zero_add _).symm.trans (by simpa using h0)
    | ⟨1, _⟩ => simpa using h1.symm
    | ⟨2, _⟩ => simpa using h2.symm)
  exact (congrArg (k0_pay1 x) e).trans (block_apply x z k n)

variable (m : (ℓ : Loc nD τ sig) → Buf (Elt Ideal) ℓ)

/-- A grid coordinate fits a word. -/
theorem coord_word (i : grid0.Coords) : (BitVec.ofNat 32 (i 0).val).toNat = (i 0).val := by
  have h0 : (i 0).val < 32 := (i 0).isLt
  rw [BitVec.toNat_ofNat]; omega

/-- The weights of a point: those of its expert in the first layer. -/
theorem iblk0_apply (c : Dev nD) (t : Fin cfg0.N) (k n : Fin 1024) (g : Fin 32) (hg : g.val = (grid0.coords t 0).val) :
    (iblk m c 0 t : S1x1x1024x1024.Idx → EReal) (ix4 0 0 k n) = (m ((c.tc : Thread nD τ).loc main_arg0) : S2x32x1024x1024.Idx → EReal) (ix4 0 g k n) := by
  refine Eq.trans ?_ (congrFun (V_main_arg0 m c : (V m c main_arg0 : S2x32x1024x1024.Idx → EReal) = _) _)
  refine congrArg (V m c main_arg0 : S2x32x1024x1024.Idx → EReal) (funext fun (a : Fin 4) => Fin.ext ?_)
  match a with
  | ⟨0, _⟩ =>
    show 0 * 1 + 1 * 0 = 0
    omega
  | ⟨1, _⟩ =>
    show (BitVec.ofNat 32 (grid0.coords t 0).val).toNat * 1 + 1 * 0 = g.val
    rw [coord_word]; omega
  | ⟨2, _⟩ =>
    show 0 * 1024 + 1 * k.val = k.val
    omega
  | ⟨3, _⟩ =>
    show 0 * 1024 + 1 * n.val = n.val
    omega

/-- The result array, as a function of the argument: expert `g` of the first layer. -/
def resultAt (c : Dev nD) (g : Fin 32) (k n : Fin 1024) : EReal := (m ((c.tc : Thread nD τ).loc main_arg0) : S2x32x1024x1024.Idx → EReal) (ix4 0 g k n)

/-- Equal places give equal entries. -/
theorem resultAt_congr (c : Dev nD) {g g' : Fin 32} {k k' n n' : Fin 1024} (hg : g.val = g'.val) (hk : k.val = k'.val) (hn : n.val = n'.val) :
    resultAt m c g k n = resultAt m c g' k' n' := by
  rw [Fin.ext hg, Fin.ext hk, Fin.ext hn]

/-- The result array after the run. -/
theorem result_array (c : Dev nD) : (dats m 0 c).arrAt 1 cfg0.N = (fun i : S32x1024x1024.Idx => resultAt m c (i 0) (i 1) (i 2)) := by
  refine (dats m 0 c).arrAt_eq_of_covers 1 _ (by decide +kernel) (fun t _ => ?_)
  intro (y : S1x1024x1024.Idx)
  rw [after0_1]
  have h0 : (grid0.coords t 0).val < 32 := (grid0.coords t 0).isLt
  have hy0 : (y 0).val < 1 := (y 0).isLt
  have hy1 : (y 1).val < 1024 := (y 1).isLt
  have hy2 : (y 2).val < 1024 := (y 2).isLt
  have key := (out_apply (iblk m c 0 t) ⟨(y 0).val, hy0⟩ ⟨(y 1).val, hy1⟩ ⟨(y 2).val, hy2⟩).trans
    (iblk0_apply m c t ⟨(y 1).val, hy1⟩ ⟨(y 2).val, hy2⟩ ⟨(grid0.coords t 0).val, h0⟩ rfl)
  generalize out0_1 (iblk m c 0 t) = O at key ⊢
  have e : y = ix3 (⟨(y 0).val, hy0⟩ : Fin 1) (⟨(y 1).val, hy1⟩ : Fin 1024) (⟨(y 2).val, hy2⟩ : Fin 1024) := funext fun (a : Fin 3) => by
    match a with
    | ⟨0, _⟩ => rfl
    | ⟨1, _⟩ => rfl
    | ⟨2, _⟩ => rfl
  refine (congrArg (O : S1x1024x1024.Idx → EReal) e).trans (key.trans (resultAt_congr m c ?_ ?_ ?_))
  · show (grid0.coords t 0).val = (BitVec.ofNat 32 (grid0.coords t 0).val).toNat * 1 + 1 * (y 0).val
    rw [coord_word]; omega
  · show (y 1).val = 0 * 1024 + 1 * (y 1).val
    omega
  · show (y 2).val = 0 * 1024 + 1 * (y 2).val
    omega

end Cert.Kernel8Ideal.SecondWeights

end
-- ==== Proof.SecondWeights.Claims.lean ====
/- The claims about the cast of the experts' second weights: the frames of the kernel and of the reference, and the equality
   of their results. -/
module

public import proofs.«01_k».proof.Defs
public import proofs.«01_k».proof.Proof.Gen.Kernel8.Frame
public import proofs.«01_k».proof.Proof.Gen.Reference8Ideal.Run
public import proofs.«01_k».proof.Proof.SecondWeights.Kernel
public import Idealize.ShloMosaic.Lib.Quiescent

@[expose] public section

set_option maxRecDepth 16384

noncomputable section

namespace Cert.Reference8Ideal.SecondWeights

open Cert.Reference8Ideal Cert.Reference8Ideal.Gen
open Idealize.ShloMosaic Idealize.ShloMosaic.TcCoe

/-- The reference's array from its argument. -/
def result (w : FVec Ideal S2x32x1024x1024 .f32) : FVec Ideal S32x1024x1024 .bf16 :=
  truncf .bf16 (shapeCast _ (extractStridedSlice S1x32x1024x1024 ![0, 0, 0, 0] w slices_S2x32x1024x1024_S1x32x1024x1024_0_0_0_0) shapeCasts_S1x32x1024x1024_S32x1024x1024) bitsLt_bf16_f32

/-- An entry of it. -/
theorem result_apply (w : FVec Ideal S2x32x1024x1024 .f32) (g : Fin 32) (k n : Fin 1024) : result w (ix3 g k n) = w (ix4 0 g k n) := by
  unfold result
  refine (truncf_apply (F := Ideal) _ _ _ _).trans ?_
  refine (shapeCast_apply _ shapeCasts_S1x32x1024x1024_S32x1024x1024 _ (ix4 (0 : Fin 1) g k n) ?_).trans ?_
  · rw [Shape.rowMajor_val_three, Shape.rowMajor_val_four]
    show ((0 * 32 + g.val) * 1024 + k.val) * 1024 + n.val = (g.val * 1024 + k.val) * 1024 + n.val
    omega
  · refine congrArg w (funext fun (a : Fin 4) => Fin.ext ?_)
    match a with
    | ⟨0, _⟩ => rfl
    | ⟨1, _⟩ => exact Nat.zero_add _
    | ⟨2, _⟩ => exact Nat.zero_add _
    | ⟨3, _⟩ => exact Nat.zero_add _

end Cert.Reference8Ideal.SecondWeights

namespace Cert.SecondWeights

open Idealize.ShloMosaic Idealize.ShloMosaic.TcCoe Idealize.SL.Sem

/-- The frame of the kernel as it is. -/
theorem frame_kernel : Cert.quiescent_Kernel8 (hKernel8 := Cert.Kernel8.Gen.facts) := fun m g _ => Cert.Kernel8.Gen.frame m g

/-- The frame of the kernel over the extended reals. -/
theorem frame_ideal : Cert.quiescent_Kernel8Ideal (hKernel8Ideal := Cert.Kernel8Ideal.Gen.facts) := fun m g _ => Cert.Kernel8Ideal.Gen.frame m g

/-- The frame of the reference: it is host code only and declares no semaphore. -/
theorem frame_reference : Cert.quiescent_Reference8Ideal (hReference8Ideal := Cert.Reference8Ideal.Gen.facts) := fun m g _ =>
  (θ_run _ _ _).mono (fun r h => ⟨fun c => (h c).2, sem_eq_zero_of_no_sems (by decide) r.2⟩) (Cert.Reference8Ideal.Value.run (F := Ideal) m g)

/-- The value claim: the kernel's result is the reference's. -/
theorem value : Cert.algebraic_Kernel8Ideal_Reference8Ideal (hKernel8Ideal := Cert.Kernel8Ideal.Gen.facts) (hReference8Ideal := Cert.Reference8Ideal.Gen.facts) := fun m g m' g' _ hm =>
  ⟨fun c => (fun i : Cert.Kernel8Ideal.S32x1024x1024.Idx => Cert.Kernel8Ideal.SecondWeights.resultAt m c (i 0) (i 1) (i 2)),
    (θ_run _ _ _).mono (fun _ h c => ⟨(h c).1.trans (Cert.Kernel8Ideal.SecondWeights.result_array m c), (h c).2⟩) (Cert.Kernel8Ideal.Value.run_blocks (F := Ideal) m g),
    (θ_run _ _ _).mono (fun _ h c => ⟨(h c).1.trans (by
      rw [hm c]
      refine funext fun (i : Cert.Kernel8Ideal.S32x1024x1024.Idx) => ?_
      obtain ⟨e, k, n, rfl⟩ : ∃ (e : Fin 32) (k n : Fin 1024), i = ix3 e k n := ⟨i 0, i 1, i 2, funext fun (a : Fin 3) => by
        match a with
        | ⟨0, _⟩ => rfl
        | ⟨1, _⟩ => rfl
        | ⟨2, _⟩ => rfl⟩
      exact Cert.Reference8Ideal.SecondWeights.result_apply _ e k n), (h c).2⟩)
      (Cert.Reference8Ideal.Value.run (F := Ideal) m' g')⟩

end Cert.SecondWeights

end
-- ==== Proof.Destinations.Model.lean ====
/- The start of the expert a word names, and the two ways to look it up: a sum over the reals and a sum of words. -/
module

public import Idealize.ShloMosaic.Lib.Pointwise
public import Idealize.ShloMosaic.PureOps.Reduce

@[expose] public section

set_option maxRecDepth 16384

noncomputable section

namespace Cert.Destinations

open Idealize.ShloMosaic Idealize.ShloMosaic.TcCoe

/-- The start of the expert a word names, no expert giving nothing. -/
def place (t : BitVec 32) (s : Fin 32 → BitVec 32) : BitVec 32 := if h : t.toNat < 32 then s ⟨t.toNat, h⟩ else 0#32

/-- A word is an expert's number exactly if it reads as that number. -/
theorem word_eq (e : Fin 32) (t : BitVec 32) : BitVec.ofNat 32 e.val = t ↔ t.toNat = e.val := by
  constructor
  · intro h; rw [← h, BitVec.toNat_ofNat]; have := e.isLt; omega
  · intro h; rw [← h, BitVec.ofNat_toNat, BitVec.setWidth_eq]

/-- Over the reals: the sum of the starts, those of the experts not named counted as zero, is the named expert's start. -/
theorem sum_place (t : BitVec 32) (s : Fin 32 → BitVec 32) :
    (∑ e : Fin 32, if BitVec.ofNat 32 e.val = t then (((s e).toInt : ℝ) : EReal) else 0) = (((place t s).toInt : ℝ) : EReal) := by
  unfold place
  simp only [word_eq]
  split_ifs with h
  · rw [Finset.sum_eq_single ⟨t.toNat, h⟩]
    · simp
    · intro e _ he
      exact if_neg fun h' => he (Fin.ext h'.symm)
    · simp
  · rw [Finset.sum_eq_zero fun e _ => if_neg fun h' => h (by rw [h']; exact e.isLt)]
    simp

/-- The same in words. -/
theorem fold_place (t : BitVec 32) (s : Fin 32 → BitVec 32) :
    (Finset.univ : Finset (Fin 32)).fold IntOp.addi 0#32 (fun e => if BitVec.ofNat 32 e.val = t then s e else 0#32) = place t s := by
  have key : ∀ S : Finset (Fin 32), S.fold IntOp.addi 0#32 (fun e => if BitVec.ofNat 32 e.val = t then s e else 0#32)
      = if ∃ e ∈ S, t.toNat = e.val then place t s else 0#32 := fun S => by
    induction S using Finset.cons_induction with
    | empty => simp
    | cons a S ha ih =>
      rw [Finset.fold_cons, ih]
      simp only [word_eq]
      by_cases h : t.toNat = a.val
      · have hn : ¬ ∃ e ∈ S, t.toNat = e.val := fun ⟨e, he, h'⟩ => ha (by rw [show a = e from Fin.ext (h.symm.trans h')]; exact he)
        have hp : place t s = s a := (dif_pos (by rw [h]; exact a.isLt)).trans (congrArg s (Fin.ext h))
        rw [if_pos h, if_neg hn, if_pos ⟨a, Finset.mem_cons_self a S, h⟩, hp]
        exact BitVec.add_zero _
      · have hc : (∃ e ∈ Finset.cons a S ha, t.toNat = e.val) ↔ ∃ e ∈ S, t.toNat = e.val := by
          constructor
          · rintro ⟨e, he, h'⟩
            rcases Finset.mem_cons.1 he with rfl | he
            · exact absurd h' h
            · exact ⟨e, he, h'⟩
          · rintro ⟨e, he, h'⟩
            exact ⟨e, Finset.mem_cons.2 (.inr he), h'⟩
        rw [if_neg h, if_congr hc rfl rfl]
        exact BitVec.zero_add _
  rw [key]
  by_cases h : t.toNat < 32
  · exact if_pos ⟨⟨t.toNat, h⟩, Finset.mem_univ _, rfl⟩
  · rw [if_neg fun ⟨e, _, h'⟩ => h (by rw [h']; exact e.isLt)]
    exact ((dif_neg h : place t s = 0#32)).symm

/-- A word that went to the reals comes back as it was. -/
theorem back (b : BitVec 32) : Ideal.fptosi 32 ((b.toInt : ℝ) : EReal) = b := by
  have h1 := BitVec.toInt_lt (x := b)
  have h2 := BitVec.le_toInt (x := b)
  unfold Ideal.fptosi
  have e : Ideal.toIntClamped (-(2 ^ (32 - 1) : Nat)) ((2 ^ (32 - 1) : Nat) - 1) ((b.toInt : ℝ) : EReal) = b.toInt := by
    show max _ (min _ (if 0 ≤ (b.toInt : ℝ) then ⌊(b.toInt : ℝ)⌋ else ⌈(b.toInt : ℝ)⌉)) = _
    rw [Int.floor_intCast, Int.ceil_intCast, ite_self]
    norm_num at h1 h2 ⊢
    omega
  rw [e, BitVec.ofInt_toInt]

/-- A choice by an equality of words. -/
theorem select_eq {α : Type} (a b : BitVec 32) (x y : α) : Scalar.select (IntOp.cmpi .eq a b) x y = if a = b then x else y := by
  unfold Scalar.select IntOp.cmpi
  by_cases h : a = b
  · simp [h]
  · have hb : (a == b) = false := beq_eq_false_iff_ne.2 h
    simp [h, hb]

/-- A kernel's look-up: the starts as reals, summed where the expert is named, and back to a word. -/
theorem lookup (t : BitVec 32) (s : Fin 32 → BitVec 32) :
    (FloatOps.fptosi (F := Ideal) (φ := .f32) 32 (∑ e : Fin 32, Scalar.select (IntOp.cmpi .eq (BitVec.ofNat 32 e.val) t) ((FloatOps.sitofp .f32 (s e) : Ideal .f32) : EReal) 0)) = place t s := by
  simp only [select_eq]
  exact (congrArg (Ideal.fptosi 32) (sum_place t s)).trans (back _)

end Cert.Destinations

end
-- ==== Proof.Destinations.Kernel.lean ====
/- The destinations of the routed tokens: the kernel's result array, entry by entry. A point of the grid takes 512 tokens
   and writes two tiles of 256. -/
module

public import proofs.«01_k».proof.Proof.Gen.Kernel9Ideal.Value
public import proofs.«01_k».proof.Proof.Destinations.Model
public import Idealize.ShloMosaic.Lib.Pointwise
public import Idealize.ShloMosaic.Lib.Pipeline.Value
public import Idealize.ShloMosaic.Lib.Pipeline.ValueKit.Tiles
public import Idealize.ShloMosaic.Lib.Pipeline.ValueKit.Geometry

@[expose] public section

set_option maxRecDepth 16384

noncomputable section

namespace Cert.Kernel9Ideal.Destinations

open Cert.Kernel9Ideal Cert.Kernel9Ideal.Gen
open Idealize.ShloMosaic Idealize.ShloMosaic.TcCoe Idealize.SL.Sem
open Pipeline (Dat)

/-- A destination in a point's block: the start of the token's expert and the token's rank. -/
theorem dest_apply (v : Vec Ideal S4x512 .i32) (s : Vec Ideal S32x1 .i32) (w : Vec Ideal S4x512 .i32) (i : Fin 4) (r : Fin 512) :
    k0_pay3 v s w (ix2 i r) = IntOp.addi (Cert.Destinations.place (v (ix2 i r)) (fun e => s (ix2 e 0))) (w (ix2 i r)) := by
  pointwise [k0_pay3]
  refine congrArg (fun u => IntOp.addi u (w (ix2 i r))) ?_
  match i with
  | ⟨0, _⟩ => exact Cert.Destinations.lookup (v (ix2 0 r)) (fun e => s (ix2 e 0))
  | ⟨1, _⟩ => exact Cert.Destinations.lookup (v (ix2 1 r)) (fun e => s (ix2 e 0))
  | ⟨2, _⟩ => exact Cert.Destinations.lookup (v (ix2 2 r)) (fun e => s (ix2 e 0))
  | ⟨3, _⟩ => exact Cert.Destinations.lookup (v (ix2 3 r)) (fun e => s (ix2 e 0))

/-- The second half of the block. -/
theorem r2_apply (d : IVec S4x512 32) (z : Fin 1) (i : Fin 4) (r : Fin 256) : k0_pay2 d (ix3 z i r) = d (ix2 i ⟨256 + r.val, by omega⟩) := by
  pointwise [k0_pay2]

/-- The first half of the block. -/
theorem r1_apply (v : Vec Ideal S4x512 .i32) (s : Vec Ideal S32x1 .i32) (w : Vec Ideal S4x512 .i32) (z : Fin 1) (i : Fin 4) (r : Fin 256) : k0_pay1 (k0_pay4 v s w) (ix3 z i r) = k0_pay3 v s w (ix2 i ⟨r.val, by omega⟩) := by
  unfold k0_pay4
  generalize k0_pay3 v s w = d
  pointwise [k0_pay1]

/-- The column of starts a point reads. -/
theorem start_apply (z : Vec Ideal S32x128 .i32) (e : Fin 32) : View.ld z r0_1 (ix2 e 0) = z (ix2 e 0) := by
  refine congrArg z (funext fun (a : Fin 2) => Fin.ext ?_)
  match a with
  | ⟨0, _⟩ =>
    show 0 + 1 * e.val = e.val
    omega
  | ⟨1, _⟩ => rfl

/-- What a point leaves in the result's buffer. -/
theorem out_apply (x y : Vec Ideal S4x512 .i32) (z : Vec Ideal S32x128 .i32) (a : Fin 2) (i : Fin 4) (r : Fin 256) :
    out0_3 x y z (ix3 a i r) = IntOp.addi (Cert.Destinations.place (x (ix2 i ⟨a.val * 256 + r.val, by omega⟩)) (fun e => z (ix2 e 0))) (y (ix2 i ⟨a.val * 256 + r.val, by omega⟩)) := by
  have e0 : View.ld x r0_0 = x := View.ld_unit_lit' _ _ (by decide)
  have e1 : View.ld y r0_0 = y := View.ld_unit_lit' _ _ (by decide)
  unfold out0_3
  rw [e0, e1]
  canon_tiles q h using (cover0_3 (F := Ideal) _ _ _)
  · have e : q = ix3 (⟨(q 0).val, q0_lt⟩ : Fin 1) i r := funext fun (b : Fin 3) => Fin.ext (by
      match b with
      | ⟨0, _⟩ => rfl
      | ⟨1, _⟩ => exact h1.symm
      | ⟨2, _⟩ => exact h2.symm)
    have ha : a.val = 1 := by have h0' : a.val = 1 + (q 0).val := h0; omega
    rw [e]
    refine (r2_apply _ _ i r).trans ((dest_apply _ _ _ i _).trans ?_)
    rw [show (⟨256 + r.val, by omega⟩ : Fin 512) = ⟨a.val * 256 + r.val, by omega⟩ from Fin.ext (by show 256 + r.val = a.val * 256 + r.val; rw [ha])]
    exact congrArg (fun s => IntOp.addi (Cert.Destinations.place (x (ix2 i ⟨a.val * 256 + r.val, by omega⟩)) s) (y (ix2 i ⟨a.val * 256 + r.val, by omega⟩))) (funext fun e => start_apply z e)
  · have e : q = ix3 (⟨(q 0).val, q0_lt⟩ : Fin 1) i r := funext fun (b : Fin 3) => Fin.ext (by
      match b with
      | ⟨0, _⟩ => rfl
      | ⟨1, _⟩ => exact h1.symm
      | ⟨2, _⟩ => exact h2.symm)
    have ha : a.val = 0 := by have h0' : a.val = (q 0).val := h0; omega
    rw [e]
    refine (r1_apply _ _ _ _ i r).trans ((dest_apply _ _ _ i _).trans ?_)
    rw [show (⟨r.val, by omega⟩ : Fin 512) = ⟨a.val * 256 + r.val, by omega⟩ from Fin.ext (by show r.val = a.val * 256 + r.val; rw [ha]; omega)]
    exact congrArg (fun s => IntOp.addi (Cert.Destinations.place (x (ix2 i ⟨a.val * 256 + r.val, by omega⟩)) s) (y (ix2 i ⟨a.val * 256 + r.val, by omega⟩))) (funext fun e => start_apply z e)

variable (m : (ℓ : Loc nD τ sig) → Buf (Elt Ideal) ℓ)

/-- A grid coordinate fits a word. -/
theorem coord_word (i : grid0.Coords) : (BitVec.ofNat 32 (i 0).val).toNat = (i 0).val := by
  have h0 : (i 0).val < 65 := (i 0).isLt
  rw [BitVec.toNat_ofNat]; omega

/-- The experts a point reads: those of its tokens. -/
theorem iblk0_apply (c : Dev nD) (t : Fin cfg0.N) (i : Fin 4) (r : Fin 512) (q : Fin 33280) (hq : q.val = (grid0.coords t 0).val * 512 + r.val) :
    (iblk m c 0 t : S4x512.Idx → BitVec 32) (ix2 i r) = (m ((c.tc : Thread nD τ).loc main_arg0) : S4x33280.Idx → BitVec 32) (ix2 i q) := by
  refine Eq.trans ?_ (congrFun (V_main_arg0 m c : (V m c main_arg0 : S4x33280.Idx → BitVec 32) = _) _)
  refine congrArg (V m c main_arg0 : S4x33280.Idx → BitVec 32) (funext fun (a : Fin 2) => Fin.ext ?_)
  match a with
  | ⟨0, _⟩ =>
    show 0 * 4 + 1 * i.val = i.val
    omega
  | ⟨1, _⟩ =>
    show (BitVec.ofNat 32 (grid0.coords t 0).val).toNat * 512 + 1 * r.val = q.val
    rw [coord_word]; omega

/-- The ranks a point reads: those of its tokens. -/
theorem iblk1_apply (c : Dev nD) (t : Fin cfg0.N) (i : Fin 4) (r : Fin 512) (q : Fin 33280) (hq : q.val = (grid0.coords t 0).val * 512 + r.val) :
    (iblk m c 1 t : S4x512.Idx → BitVec 32) (ix2 i r) = (m ((c.tc : Thread nD τ).loc main_arg1) : S4x33280.Idx → BitVec 32) (ix2 i q) := by
  refine Eq.trans ?_ (congrFun (V_main_arg1 m c : (V m c main_arg1 : S4x33280.Idx → BitVec 32) = _) _)
  refine congrArg (V m c main_arg1 : S4x33280.Idx → BitVec 32) (funext fun (a : Fin 2) => Fin.ext ?_)
  match a with
  | ⟨0, _⟩ =>
    show 0 * 4 + 1 * i.val = i.val
    omega
  | ⟨1, _⟩ =>
    show (BitVec.ofNat 32 (grid0.coords t 0).val).toNat * 512 + 1 * r.val = q.val
    rw [coord_word]; omega

/-- The starts a point reads: all of them. -/
theorem iblk2_apply (c : Dev nD) (t : Fin cfg0.N) (e : Fin 32) :
    (iblk m c 2 t : S32x128.Idx → BitVec 32) (ix2 e 0) = (m ((c.tc : Thread nD τ).loc main_arg2) : S32x128.Idx → BitVec 32) (ix2 e 0) := by
  refine Eq.trans ?_ (congrFun (V_main_arg2 m c : (V m c main_arg2 : S32x128.Idx → BitVec 32) = _) _)
  refine congrArg (V m c main_arg2 : S32x128.Idx → BitVec 32) (funext fun (a : Fin 2) => Fin.ext ?_)
  match a with
  | ⟨0, _⟩ =>
    show 0 * 32 + 1 * e.val = e.val
    omega
  | ⟨1, _⟩ => rfl

/-- The result array, as a function of the arguments: entry `(b, i, r)` is the destination of token `256 b + r` for its
    `i`-th expert, the start of that expert and the token's rank in it. -/
def resultAt (c : Dev nD) (b : Fin 130) (i : Fin 4) (r : Fin 256) : BitVec 32 :=
  IntOp.addi (Cert.Destinations.place ((m ((c.tc : Thread nD τ).loc main_arg0) : S4x33280.Idx → BitVec 32) (ix2 i ⟨b.val * 256 + r.val, by omega⟩))
      (fun e => (m ((c.tc : Thread nD τ).loc main_arg2) : S32x128.Idx → BitVec 32) (ix2 e 0)))
    ((m ((c.tc : Thread nD τ).loc main_arg1) : S4x33280.Idx → BitVec 32) (ix2 i ⟨b.val * 256 + r.val, by omega⟩))

/-- Equal places give equal entries. -/
theorem resultAt_congr (c : Dev nD) {b b' : Fin 130} {i i' : Fin 4} {r r' : Fin 256} (hb : b.val = b'.val) (hi : i.val = i'.val) (hr : r.val = r'.val) :
    resultAt m c b i r = resultAt m c b' i' r' := by
  rw [Fin.ext hb, Fin.ext hi, Fin.ext hr]

/-- What a point leaves, from the arguments. -/
theorem point_apply (c : Dev nD) (t : Fin cfg0.N) (a : Fin 2) (i : Fin 4) (r : Fin 256) (b : Fin 130) (hb : b.val = (grid0.coords t 0).val * 2 + a.val) :
    out0_3 (iblk m c 0 t) (iblk m c 1 t) (iblk m c 2 t) (ix3 a i r) = resultAt m c b i r := by
  have hq : b.val * 256 + r.val = (grid0.coords t 0).val * 512 + (a.val * 256 + r.val) := by rw [hb]; omega
  refine (out_apply _ _ _ a i r).trans ?_
  unfold resultAt
  rw [iblk0_apply m c t i ⟨a.val * 256 + r.val, by omega⟩ ⟨b.val * 256 + r.val, by omega⟩ hq,
    iblk1_apply m c t i ⟨a.val * 256 + r.val, by omega⟩ ⟨b.val * 256 + r.val, by omega⟩ hq]
  simp only [iblk2_apply]

/-- The result array after the run. -/
theorem result_array (c : Dev nD) : (dats m 0 c).arrAt 3 cfg0.N = (fun i : S130x4x256.Idx => resultAt m c (i 0) (i 1) (i 2)) := by
  refine (dats m 0 c).arrAt_eq_of_covers 3 _ (by decide +kernel) (fun t _ => ?_)
  intro (y : S2x4x256.Idx)
  rw [after0_3]
  have h0 : (grid0.coords t 0).val < 65 := (grid0.coords t 0).isLt
  have hy0 : (y 0).val < 2 := (y 0).isLt
  have hy1 : (y 1).val < 4 := (y 1).isLt
  have hy2 : (y 2).val < 256 := (y 2).isLt
  have key := point_apply m c t ⟨(y 0).val, hy0⟩ ⟨(y 1).val, hy1⟩ ⟨(y 2).val, hy2⟩ ⟨(grid0.coords t 0).val * 2 + (y 0).val, by omega⟩ rfl
  generalize out0_3 (iblk m c 0 t) (iblk m c 1 t) (iblk m c 2 t) = O at key ⊢
  have e : y = ix3 (⟨(y 0).val, hy0⟩ : Fin 2) (⟨(y 1).val, hy1⟩ : Fin 4) (⟨(y 2).val, hy2⟩ : Fin 256) := funext fun (a : Fin 3) => by
    match a with
    | ⟨0, _⟩ => rfl
    | ⟨1, _⟩ => rfl
    | ⟨2, _⟩ => rfl
  refine (congrArg (O : S2x4x256.Idx → BitVec 32) e).trans (key.trans (resultAt_congr m c ?_ ?_ ?_))
  · show (grid0.coords t 0).val * 2 + (y 0).val = (BitVec.ofNat 32 (grid0.coords t 0).val).toNat * 2 + 1 * (y 0).val
    rw [coord_word]; omega
  · show (y 1).val = 0 * 4 + 1 * (y 1).val
    omega
  · show (y 2).val = 0 * 256 + 1 * (y 2).val
    omega

end Cert.Kernel9Ideal.Destinations

end
-- ==== Proof.Destinations.Claims.lean ====
/- The claims about the destinations of the routed tokens: the frames of the kernel and of the reference, and the equality
   of their results. -/
module

public import proofs.«01_k».proof.Defs
public import proofs.«01_k».proof.Proof.Gen.Kernel9.Frame
public import proofs.«01_k».proof.Proof.Gen.Reference9Ideal.Run
public import proofs.«01_k».proof.Proof.Destinations.Kernel
public import Idealize.ShloMosaic.Lib.Quiescent

@[expose] public section

set_option maxRecDepth 16384

noncomputable section

namespace Cert.Reference9Ideal.Destinations

open Cert.Reference9Ideal Cert.Reference9Ideal.Gen
open Idealize.ShloMosaic Idealize.ShloMosaic.TcCoe

/-- The reference's destinations, a row a choice. -/
def total (t r : IVec S4x33280 32) (s : IVec S32x128 32) : IVec S4x33280 32 := addi (Host.reduce IntOp.addi (select (cmpi .eq (broadcastInDim S32x4x33280 ![0, 1, 2] bcast_S1x4x33280_S32x4x33280_0_1_2 (broadcastInDim S1x4x33280 ![1, 2] bcast_S4x33280_S1x4x33280_1_2 t)) (broadcastInDim S32x4x33280 ![0, 1, 2] bcast_S32x1x1_S32x4x33280_0_1_2 (broadcastInDim S32x1x1 ![0] bcast_S32_S32x1x1_0 (iotaInDim S32 32 0)))) (broadcastInDim S32x4x33280 ![0, 1, 2] bcast_S32x1x1_S32x4x33280_0_1_2 (broadcastInDim S32x1x1 ![0] bcast_S32_S32x1x1_0 (shapeCast _ (extractStridedSlice S32x1 ![0, 0] s slices_S32x128_S32x1_0_0) shapeCasts_S32x1_S32))) (broadcastInDim S32x4x33280 ![] bcast_S_S32x4x33280 (id (constantI S_ 32 0#32)))) (constantI S_ 32 0#32) reducesTo_S32x4x33280_S4x33280_d0 h_S_) r

/-- The reference's array from its arguments. -/
def result (t r : IVec S4x33280 32) (s : IVec S32x128 32) : IVec S130x4x256 32 :=
  transpose S130x4x256 [1, 0, 2] (shapeCast _ (total t r s) shapeCasts_S4x33280_S4x130x256) transposes_S4x130x256_S130x4x256_1_0_2

/-- An entry of them: the start of the token's expert and the token's rank. -/
theorem total_apply (t r : IVec S4x33280 32) (s : IVec S32x128 32) (i : Fin 4) (q : Fin 33280) :
    total t r s (ix2 i q) = IntOp.addi (Cert.Destinations.place (t (ix2 i q)) (fun e => s (ix2 e 0))) (r (ix2 i q)) := by
  unfold total
  pointwise []
  refine congrArg (fun u => IntOp.addi u (r (ix2 i q))) (Eq.trans ?_ (Cert.Destinations.fold_place (t (ix2 i q)) (fun e => s (ix2 e 0))))
  refine congrArg (fun f => (Finset.univ : Finset (Fin 32)).fold IntOp.addi 0#32 f) (funext fun e => ?_)
  exact (Cert.Destinations.select_eq _ _ _ _).trans (if_congr eq_comm rfl rfl)

/-- An entry of the reference's array. -/
theorem result_apply (t r : IVec S4x33280 32) (s : IVec S32x128 32) (b : Fin 130) (i : Fin 4) (q : Fin 256) :
    result t r s (ix3 b i q) = total t r s (ix2 i ⟨b.val * 256 + q.val, by omega⟩) := by
  unfold result
  generalize total t r s = d
  pointwise []

end Cert.Reference9Ideal.Destinations

namespace Cert.Destinations

open Idealize.ShloMosaic Idealize.ShloMosaic.TcCoe Idealize.SL.Sem

/-- The frame of the kernel as it is. -/
theorem frame_kernel : Cert.quiescent_Kernel9 (hKernel9 := Cert.Kernel9.Gen.facts) := fun m g _ => Cert.Kernel9.Gen.frame m g

/-- The frame of the kernel over the extended reals. -/
theorem frame_ideal : Cert.quiescent_Kernel9Ideal (hKernel9Ideal := Cert.Kernel9Ideal.Gen.facts) := fun m g _ => Cert.Kernel9Ideal.Gen.frame m g

/-- The frame of the reference: it is host code only and declares no semaphore. -/
theorem frame_reference : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run (F := Ideal) m g)

/-- The value claim: the kernel's result is the reference's. -/
theorem value : Cert.algebraic_Kernel9Ideal_Reference9Ideal (hKernel9Ideal := Cert.Kernel9Ideal.Gen.facts) (hReference9Ideal := Cert.Reference9Ideal.Gen.facts) := fun m g m' g' _ hm =>
  ⟨fun c => (fun i : Cert.Kernel9Ideal.S130x4x256.Idx => Cert.Kernel9Ideal.Destinations.resultAt m c (i 0) (i 1) (i 2)),
    (θ_run _ _ _).mono (fun _ h c => ⟨(h c).1.trans (Cert.Kernel9Ideal.Destinations.result_array m c), (h c).2⟩) (Cert.Kernel9Ideal.Value.run_blocks (F := Ideal) m g),
    (θ_run _ _ _).mono (fun _ h c => ⟨(h c).1.trans (by
      rw [(hm c).1, (hm c).2.1, (hm c).2.2]
      refine funext fun (i : Cert.Kernel9Ideal.S130x4x256.Idx) => ?_
      obtain ⟨b, i, r, rfl⟩ : ∃ (b : Fin 130) (k : Fin 4) (r : Fin 256), i = ix3 b k r := ⟨i 0, i 1, i 2, funext fun (a : Fin 3) => by
        match a with
        | ⟨0, _⟩ => rfl
        | ⟨1, _⟩ => rfl
        | ⟨2, _⟩ => rfl⟩
      exact (Cert.Reference9Ideal.Destinations.result_apply _ _ _ b i r).trans (Cert.Reference9Ideal.Destinations.total_apply _ _ _ i _)), (h c).2⟩)
      (Cert.Reference9Ideal.Value.run (F := Ideal) m' g')⟩

end Cert.Destinations

end
-- ==== Proof.Ranks.Model.lean ====
/- How often an expert is taken before a token: the numbers that the ranks are, and their forms as words and as reals. -/
module

public import proofs.«01_k».proof.Proof.Destinations.Model
public import Idealize.ShloMosaic.Lib.WordCmp

@[expose] public section

set_option maxRecDepth 16384

noncomputable section

namespace Cert.Ranks

open Idealize.ShloMosaic Idealize.ShloMosaic.TcCoe

/-- How often four choices name expert `e`. -/
def takes (t : Fin 4 → BitVec 32) (e : Fin 32) : ℕ := ∑ i : Fin 4, if BitVec.ofNat 32 e.val = t i then 1 else 0

/-- A token names an expert at most four times. -/
theorem takes_le (t : Fin 4 → BitVec 32) (e : Fin 32) : takes t e ≤ 4 := by
  unfold takes
  rw [Fin.sum_univ_four]
  split_ifs <;> omega

/-- How often token `q` names expert `e`; beyond the last token, never. -/
def takesAt (T : Fin 4 → Fin 33280 → BitVec 32) (e : Fin 32) (q : ℕ) : ℕ := if h : q < 33280 then takes (fun i => T i ⟨q, h⟩) e else 0

/-- How often the first `n` tokens name expert `e`. -/
def upTo (T : Fin 4 → Fin 33280 → BitVec 32) (e : Fin 32) (n : ℕ) : ℕ := ∑ q ∈ Finset.range n, takesAt T e q

/-- At most four times a token. -/
theorem upTo_le (T : Fin 4 → Fin 33280 → BitVec 32) (e : Fin 32) (n : ℕ) : upTo T e n ≤ n * 4 := by
  unfold upTo
  refine (Finset.sum_le_card_nsmul _ _ 4 fun q _ => ?_).trans (by simp)
  unfold takesAt
  split_ifs
  · exact takes_le _ _
  · exact Nat.zero_le _

/-- A count that fits a word, as a real. -/
theorem real_of_word (n : ℕ) (h : n < 2 ^ 31) : (((BitVec.ofNat 32 n).toInt : ℝ) : EReal) = ((n : ℝ) : EReal) := by
  have e : (BitVec.ofNat 32 n).toInt = (n : ℤ) := by
    rw [BitVec.toInt_eq_toNat_cond, BitVec.toNat_ofNat]
    omega
  rw [e]
  norm_cast

/-- A sum of counts, as reals. -/
theorem sum_real {ι : Type} (S : Finset ι) (f : ι → ℕ) : (∑ i ∈ S, (((f i : ℕ) : ℝ) : EReal)) = (((∑ i ∈ S, f i : ℕ) : ℝ) : EReal) := by
  classical
  induction S using Finset.cons_induction with
  | empty => simp
  | cons a S ha ih =>
    rw [Finset.sum_cons, Finset.sum_cons, ih, Nat.cast_add, EReal.coe_add]

/-- A sum of counts, as words. -/
theorem fold_word {ι : Type} (S : Finset ι) (f : ι → ℕ) : S.fold IntOp.addi 0#32 (fun i => BitVec.ofNat 32 (f i)) = BitVec.ofNat 32 (∑ i ∈ S, f i) := by
  induction S using Finset.cons_induction with
  | empty => rfl
  | cons a S ha ih =>
    rw [Finset.fold_cons, Finset.sum_cons, ih, BitVec.ofNat_add]
    rfl

/-- One naming, as a word. -/
theorem word_hit (a b : BitVec 32) : BitVec.setWidth 32 (IntOp.cmpi .eq a b) = BitVec.ofNat 32 (if a = b then 1 else 0) := by
  unfold IntOp.cmpi
  by_cases h : a = b
  · simp [h]
  · have hb : (a == b) = false := beq_eq_false_iff_ne.2 h
    simp [h, hb]

/-- One naming, as a real. -/
theorem real_hit (a b : BitVec 32) : (FloatOps.sitofp (F := Ideal) .f32 (BitVec.setWidth 32 (IntOp.cmpi .eq a b)) : EReal) = (((if a = b then 1 else 0 : ℕ) : ℝ) : EReal) := by
  rw [word_hit]
  refine Eq.trans ?_ (real_of_word (if a = b then 1 else 0) (by split_ifs <;> decide))
  rfl

/-- A choice by the order of two small words. -/
theorem select_lt {α : Type} (a b : ℕ) (ha : a < 2 ^ 31) (hb : b < 2 ^ 31) (x y : α) :
    Scalar.select (IntOp.cmpi .slt (BitVec.ofNat 32 a) (BitVec.ofNat 32 b)) x y = if a < b then x else y := by
  by_cases h : a < b
  · rw [if_pos h, (WordCmp.cmpi_slt_ofNat_eq_one_iff (w := 32) (by exact ha) (by exact hb)).2 h]
    rfl
  · rw [if_neg h, (WordCmp.cmpi_slt_ofNat_eq_zero_iff (w := 32) (by exact ha) (by exact hb)).2 h]
    rfl

/-- The tokens before token `q`, summed over all tokens. -/
theorem sum_before (T : Fin 4 → Fin 33280 → BitVec 32) (e : Fin 32) (q : ℕ) (hq : q ≤ 33280) :
    (∑ x : Fin 33280, if x.val < q then takesAt T e x.val else 0) = upTo T e q := by
  rw [Fin.sum_univ_eq_sum_range (fun x => if x < q then takesAt T e x else 0) 33280, ← Finset.sum_filter]
  unfold upTo
  refine Finset.sum_congr (Finset.ext fun x => ?_) fun _ _ => rfl
  rw [Finset.mem_filter, Finset.mem_range, Finset.mem_range]
  omega

/-- All tokens. -/
theorem sum_all (T : Fin 4 → Fin 33280 → BitVec 32) (e : Fin 32) : (∑ x : Fin 33280, takesAt T e x.val) = upTo T e 33280 :=
  Fin.sum_univ_eq_sum_range (fun x => takesAt T e x) 33280

/-- The first tokens of a block and those before the block. -/
theorem sum_block (T : Fin 4 → Fin 33280 → BitVec 32) (e : Fin 32) (n r : ℕ) (hr : r ≤ 512) :
    (∑ x : Fin 512, if x.val < r then takesAt T e (n + x.val) else 0) + upTo T e n = upTo T e (n + r) := by
  rw [Fin.sum_univ_eq_sum_range (fun x => if x < r then takesAt T e (n + x) else 0) 512, ← Finset.sum_filter]
  unfold upTo
  rw [Finset.sum_range_add, add_comm]
  refine congrArg _ (Finset.sum_congr (Finset.ext fun x => ?_) fun _ _ => rfl)
  rw [Finset.mem_filter, Finset.mem_range, Finset.mem_range]
  omega

end Cert.Ranks

end
-- ==== Proof.Ranks.Block.lean ====
/- The ranks of the routed tokens: a point of the grid, which takes 512 tokens, ranks them and adds what they take to the
   running counts. -/
module

public import proofs.«01_k».proof.Proof.Gen.Kernel10Ideal.Value
public import proofs.«01_k».proof.Proof.Ranks.Model
public import Idealize.ShloMosaic.Lib.Pointwise
public import Idealize.ShloMosaic.Lib.Pipeline.Value
public import Idealize.ShloMosaic.Lib.Pipeline.ValueKit.Tiles
public import Idealize.ShloMosaic.Lib.Pipeline.ValueKit.Geometry

@[expose] public section

set_option maxRecDepth 16384

noncomputable section

namespace Cert.Kernel10Ideal.Ranks

open Cert.Kernel10Ideal Cert.Kernel10Ideal.Gen
open Idealize.ShloMosaic Idealize.ShloMosaic.TcCoe Idealize.SL.Sem
open Cert.Ranks (takes takesAt upTo)

/-- A load of a whole buffer's contents is a load of the array. -/
theorem readAt_eq {sp : Space} {s : Shape} {e : EltTy} {M : Memref sig .tc sp s e} (h : M.IsWhole) (X : s.Idx → Elt Ideal e) (R : Rect s) :
    View.readAt (Elt Ideal) M.view R.toLoadRect (h.unread X) = View.ld X R := funext fun y => congrFun (h.read_unread X) (R.toLoadRect.idx y)

section Run
variable (c : Dev nD) (i : grid0.Coords) (arg1 : Memref sig .tc .vmem S4x512 .i32) (harg1 : arg1.IsWhole) (arg2 : Memref sig .tc .vmem S4x512 .i32) (harg2 : arg2.IsWhole) (arg3 : Memref sig .tc .vmem S32x128 .i32) (harg3 : arg3.IsWhole) (arg4 : Memref sig .tc .vmem S32x128 .f32) (harg4 : arg4.IsWhole)
    (x0 : Vec Ideal S4x512 .i32) (xs0 : Vec Ideal S32x128 .f32)

/-- A load of the first column. -/
abbrev column (s : Vec Ideal S32x128 .f32) : Vec Ideal S32x1 .f32 := View.ld s (Rect.unit (s := S32x128) ![0, 0] S32x1.size inb_S32x128_S32x1_0_0)

/-- Later points: the tile of ranks. -/
theorem outB1 (hc0 : ¬cond0_0 i) : out0_B_1 c i arg1 harg1 arg2 harg2 arg3 harg3 arg4 harg4 hc0 x0 xs0 = k0_pay1 (k0_pay6 x0) (k0_pay7 x0) (k0_pay8 x0) (k0_pay10 x0 (column xs0)) (k0_pay11 x0 (column xs0)) := by
  have e : View.ld x0 (Rect.unit (s := S4x512) ![0, 0] S4x512.size inb_S4x512_S4x512_0_0) = x0 := View.ld_unit_lit' _ _ (by decide)
  unfold out0_B_1
  rw [View.read_writes_junk_eq_canon]
  unfold kernelRun0_B
  dsimp only
  rw [View.canon_cons_unit_lit' _ _ _ (by decide)]
  simp only [kernelRun0_B.sl.r, kernelRun0_B.sl.r_1, kernelRun0_B.sl.r_2, kernelRun0_B.sl.r_3, kernelRun0_B.sl.r_4, kernelRun0_B.sl.r_5, readAt_eq, e]

/-- Later points: the running counts they leave. -/
theorem scB (hc0 : ¬cond0_0 i) : sout0_B_0 c i arg1 harg1 arg2 harg2 arg3 harg3 arg4 harg4 hc0 x0 xs0 = k0_pay2 (k0_pay9 x0) xs0 := by
  have e : View.ld x0 (Rect.unit (s := S4x512) ![0, 0] S4x512.size inb_S4x512_S4x512_0_0) = x0 := View.ld_unit_lit' _ _ (by decide)
  have e' : View.ld xs0 (Rect.unit (s := S32x128) ![0, 0] S32x128.size inb_S32x128_S32x128_0_0) = xs0 := View.ld_unit_lit' _ _ (by decide)
  unfold sout0_B_0
  rw [View.read_writes_junk_eq_canon]
  unfold kernelRun0_B
  dsimp only
  unfold kernelRun0_B.sl.HS0_1
  rw [View.canon_cons_unit_lit' _ _ _ (by decide)]
  simp only [kernelRun0_B.sl.r, kernelRun0_B.sl.r_1, kernelRun0_B.sl.r_2, kernelRun0_B.sl.r_3, kernelRun0_B.sl.r_4, kernelRun0_B.sl.r_5, readAt_eq, e, e']

/-- Later points: the counts as words. -/
theorem outB2 (hc0 : ¬cond0_0 i) : out0_B_2 c i arg1 harg1 arg2 harg2 arg3 harg3 arg4 harg4 hc0 x0 xs0 = k0_pay3 (k0_pay2 (k0_pay9 x0) xs0) := by
  have e : View.ld x0 (Rect.unit (s := S4x512) ![0, 0] S4x512.size inb_S4x512_S4x512_0_0) = x0 := View.ld_unit_lit' _ _ (by decide)
  have e' : View.ld xs0 (Rect.unit (s := S32x128) ![0, 0] S32x128.size inb_S32x128_S32x128_0_0) = xs0 := View.ld_unit_lit' _ _ (by decide)
  unfold out0_B_2
  rw [View.read_writes_junk_eq_canon]
  unfold kernelRun0_B
  dsimp only
  rw [View.canon_cons_unit_lit' _ _ _ (by decide)]
  unfold kernelRun0_B.sl.v69
  unfold kernelRun0_B.sl.HS0_1
  rw [View.readCov_unit_lit' _ _ _ (by decide)]
  simp only [kernelRun0_B.sl.r, kernelRun0_B.sl.r_1, kernelRun0_B.sl.r_2, kernelRun0_B.sl.r_3, kernelRun0_B.sl.r_4, kernelRun0_B.sl.r_5, readAt_eq, e, e']

/-- The first point: the tile of ranks, over no counts yet. -/
theorem outA1 (hc0 : cond0_0 i) : out0_A_1 c i arg1 harg1 arg2 harg2 arg3 harg3 arg4 harg4 hc0 x0 = k0_pay1 (k0_pay6 x0) (k0_pay7 x0) (k0_pay8 x0) (k0_pay10 x0 (column (k0_pay4 (F := Ideal)))) (k0_pay11 x0 (column (k0_pay4 (F := Ideal)))) := by
  have e : View.ld x0 (Rect.unit (s := S4x512) ![0, 0] S4x512.size inb_S4x512_S4x512_0_0) = x0 := View.ld_unit_lit' _ _ (by decide)
  unfold out0_A_1
  rw [View.read_writes_junk_eq_canon]
  unfold kernelRun0_A
  dsimp only
  rw [View.canon_cons_unit_lit' _ _ _ (by decide)]
  simp only [kernelRun0_A.sl.r, kernelRun0_A.sl.r_1, kernelRun0_A.sl.r_2, kernelRun0_A.sl.r_3, kernelRun0_A.sl.r_4, kernelRun0_A.sl.r_5, readAt_eq, e]
  have h : kernelRun0_A.sl.v39 (F := Ideal) c arg4 = column (k0_pay4 (F := Ideal)) := by
    unfold kernelRun0_A.sl.v39 kernelRun0_A.sl.HS0_1
    rw [View.readCov_eq_canon']
    rw [View.canon_unit_zero (by decide)]
    rfl
  rw [h]

/-- The first point: the running counts it leaves. -/
theorem scA (hc0 : cond0_0 i) : sout0_A_0 c i arg1 harg1 arg2 harg2 arg3 harg3 arg4 harg4 hc0 x0 = k0_pay2 (k0_pay9 x0) (k0_pay4 (F := Ideal)) := by
  have e : View.ld x0 (Rect.unit (s := S4x512) ![0, 0] S4x512.size inb_S4x512_S4x512_0_0) = x0 := View.ld_unit_lit' _ _ (by decide)
  unfold sout0_A_0
  rw [View.read_writes_junk_eq_canon]
  unfold kernelRun0_A
  dsimp only
  unfold kernelRun0_A.sl.HS0_2
  rw [View.canon_cons_unit_lit' _ _ _ (by decide)]
  unfold kernelRun0_A.sl.v61 kernelRun0_A.sl.HS0_1
  rw [View.readCov_unit_lit' _ _ _ (by decide)]
  simp only [kernelRun0_A.sl.r_3, readAt_eq, e]

/-- The first point: the counts as words. -/
theorem outA2 (hc0 : cond0_0 i) : out0_A_2 c i arg1 harg1 arg2 harg2 arg3 harg3 arg4 harg4 hc0 x0 = k0_pay3 (k0_pay2 (k0_pay9 x0) (k0_pay4 (F := Ideal))) := by
  have e : View.ld x0 (Rect.unit (s := S4x512) ![0, 0] S4x512.size inb_S4x512_S4x512_0_0) = x0 := View.ld_unit_lit' _ _ (by decide)
  unfold out0_A_2
  rw [View.read_writes_junk_eq_canon]
  unfold kernelRun0_A
  dsimp only
  rw [View.canon_cons_unit_lit' _ _ _ (by decide)]
  unfold kernelRun0_A.sl.v69 kernelRun0_A.sl.HS0_2
  refine congrArg (k0_pay3 (F := Ideal)) ((View.readCov_cons_unit_lit' _ _ _ _ _ (by decide) (by decide)).trans ?_)
  unfold kernelRun0_A.sl.v61 kernelRun0_A.sl.HS0_1
  rw [View.readCov_unit_lit' _ _ _ (by decide)]
  simp only [kernelRun0_A.sl.r_3, readAt_eq, e]
end Run

/-- How often a token of the block takes an expert. -/
theorem taken_apply (v : Vec Ideal S4x512 .i32) (e : Fin 32) (r : Fin 512) :
    k0_pay9 (F := Ideal) v (ix2 e r) = (((takes (fun i => v (ix2 i r)) e : ℕ) : ℝ) : EReal) := by
  pointwise [k0_pay9, k0_pay5, k0_pay6, k0_pay7, k0_pay8]
  simp only [Cert.Ranks.real_hit]
  unfold takes
  rw [Fin.sum_univ_four, Nat.cast_add, Nat.cast_add, Nat.cast_add, EReal.coe_add, EReal.coe_add, EReal.coe_add]

/-- The counts before a token of the block: the tokens of the block before it, and the running count. -/
theorem seen_apply (v : Vec Ideal S4x512 .i32) (s : Vec Ideal S32x1 .f32) (e : Fin 32) (r : Fin 512) :
    k0_pay10 v s (ix2 e r) = (∑ x : Fin 512, Scalar.select (IntOp.cmpi .slt (BitVec.ofNat 32 x.val) (BitVec.ofNat 32 r.val)) (k0_pay9 (F := Ideal) v (ix2 e x)) 0) + s (ix2 e 0) := by
  unfold k0_pay10
  generalize k0_pay9 (F := Ideal) v = o
  pointwise []

/-- The running counts after the block. -/
theorem run_apply (o : FVec Ideal S32x512 .f32) (s : Vec Ideal S32x128 .f32) (e : Fin 32) (l : Fin 128) : k0_pay2 o s (ix2 e l) = s (ix2 e l) + ∑ r : Fin 512, o (ix2 e r) := by
  pointwise [k0_pay2]

/-- No counts yet. -/
theorem zero_apply (e : Fin 32) (l : Fin 128) : k0_pay4 (F := Ideal) (ix2 e l) = 0 := by
  pointwise [k0_pay4]

/-- The counts as words. -/
theorem count_apply (s : Vec Ideal S32x128 .f32) (e : Fin 32) (l : Fin 128) : k0_pay3 s (ix2 e l) = Ideal.fptosi 32 (s (ix2 e l)) := by
  pointwise [k0_pay3]
  rfl

/-- The first column. -/
theorem column_apply (s : Vec Ideal S32x128 .f32) (e : Fin 32) : column s (ix2 e 0) = s (ix2 e 0) := by
  refine congrArg s (funext fun (a : Fin 2) => Fin.ext ?_)
  match a with
  | ⟨0, _⟩ =>
    show 0 + 1 * e.val = e.val
    omega
  | ⟨1, _⟩ => rfl

/-- The rank of a token of the block: the count of its expert before it. -/
theorem rank_apply (v : Vec Ideal S4x512 .i32) (s : Vec Ideal S32x1 .f32) (w : Fin 32 → BitVec 32) (i : Fin 4) (r : Fin 512)
    (h : ∀ e : Fin 32, k0_pay10 v s (ix2 e r) = ((((w e).toInt : ℝ) : EReal) : EReal)) :
    k0_pay1 (k0_pay6 v) (k0_pay7 v) (k0_pay8 v) (k0_pay10 v s) (k0_pay11 v s) (ix2 i r) = Cert.Destinations.place (v (ix2 i r)) w := by
  unfold k0_pay11
  generalize k0_pay10 (F := Ideal) v s = o at h ⊢
  pointwise [k0_pay1, k0_pay5, k0_pay6, k0_pay7, k0_pay8]
  match i with
  | ⟨0, _⟩ => exact (congrArg (Ideal.fptosi 32) (Finset.sum_congr rfl fun e _ => congrArg (fun u => Scalar.select _ u 0) (h e))).trans (Cert.Destinations.lookup (v (ix2 0 r)) w)
  | ⟨1, _⟩ => exact (congrArg (Ideal.fptosi 32) (Finset.sum_congr rfl fun e _ => congrArg (fun u => Scalar.select _ u 0) (h e))).trans (Cert.Destinations.lookup (v (ix2 1 r)) w)
  | ⟨2, _⟩ => exact (congrArg (Ideal.fptosi 32) (Finset.sum_congr rfl fun e _ => congrArg (fun u => Scalar.select _ u 0) (h e))).trans (Cert.Destinations.lookup (v (ix2 2 r)) w)
  | ⟨3, _⟩ => exact (congrArg (Ideal.fptosi 32) (Finset.sum_congr rfl fun e _ => congrArg (fun u => Scalar.select _ u 0) (h e))).trans (Cert.Destinations.lookup (v (ix2 3 r)) w)

section Tokens
variable (T : Fin 4 → Fin 33280 → BitVec 32) (v : Vec Ideal S4x512 .i32) (n : ℕ) (hn : n + 512 ≤ 33280)
    (hv : ∀ (i : Fin 4) (r : Fin 512) (q : Fin 33280), q.val = n + r.val → v (ix2 i r) = T i q)
include hn hv

/-- How often a token of the block takes an expert, by the token's number. -/
theorem takes_block (e : Fin 32) (r : Fin 512) : takes (fun i => v (ix2 i r)) e = takesAt T e (n + r.val) := by
  have hr := r.isLt
  unfold takesAt
  rw [dif_pos (by omega)]
  exact congrArg (fun t => takes t e) (funext fun i => hv i r ⟨n + r.val, by omega⟩ rfl)

/-- The counts before a token of the block, when the running counts are those before the block. -/
theorem seen_block (s : Vec Ideal S32x1 .f32) (e : Fin 32) (r : Fin 512) (hs : s (ix2 e 0) = (((upTo T e n : ℕ) : ℝ) : EReal)) :
    k0_pay10 v s (ix2 e r) = (((BitVec.ofNat 32 (upTo T e (n + r.val))).toInt : ℝ) : EReal) := by
  have hr := r.isLt
  have hb := Cert.Ranks.upTo_le T e (n + r.val)
  rw [Cert.Ranks.real_of_word _ (by omega), seen_apply, hs, ← Cert.Ranks.sum_block T e n r.val (by omega), Nat.cast_add, EReal.coe_add]
  refine congrArg (fun u : EReal => u + _) ?_
  rw [← Cert.Ranks.sum_real]
  refine Finset.sum_congr rfl fun x _ => ?_
  have hx := x.isLt
  rw [Cert.Ranks.select_lt _ _ (by omega) (by omega), taken_apply, takes_block T v n hn hv]
  split_ifs
  · rfl
  · simp

/-- The running counts after the block, when they were those before the block. -/
theorem run_block (s : Vec Ideal S32x128 .f32) (e : Fin 32) (l : Fin 128) (hs : s (ix2 e l) = (((upTo T e n : ℕ) : ℝ) : EReal)) :
    k0_pay2 (k0_pay9 v) s (ix2 e l) = (((upTo T e (n + 512) : ℕ) : ℝ) : EReal) := by
  rw [run_apply, hs, ← Cert.Ranks.sum_block T e n 512 le_rfl, add_comm, Nat.cast_add, EReal.coe_add]
  refine congrArg (fun u : EReal => u + _) ?_
  rw [← Cert.Ranks.sum_real]
  refine Finset.sum_congr rfl fun x _ => ?_
  rw [taken_apply, takes_block T v n hn hv, if_pos x.isLt]

/-- The ranks of the block, when the running counts are those before it. -/
theorem rank_block (s : Vec Ideal S32x1 .f32) (i : Fin 4) (r : Fin 512) (hs : ∀ e, s (ix2 e 0) = (((upTo T e n : ℕ) : ℝ) : EReal)) :
    k0_pay1 (k0_pay6 v) (k0_pay7 v) (k0_pay8 v) (k0_pay10 v s) (k0_pay11 v s) (ix2 i r) = Cert.Destinations.place (v (ix2 i r)) (fun e => BitVec.ofNat 32 (upTo T e (n + r.val))) :=
  rank_apply v s _ i r fun e => seen_block T v n hn hv s e r (hs e)
end Tokens

end Cert.Kernel10Ideal.Ranks

end
-- ==== Proof.Ranks.Kernel.lean ====
/- The ranks of the routed tokens: the running counts across the grid, and the kernel's two result arrays, entry by entry. -/
module

public import proofs.«01_k».proof.Proof.Gen.Kernel10Ideal.Value
public import proofs.«01_k».proof.Proof.Ranks.Block
public import Idealize.ShloMosaic.Lib.Pointwise
public import Idealize.ShloMosaic.Lib.Pipeline.Value
public import Idealize.ShloMosaic.Lib.Pipeline.ValueKit.Tiles
public import Idealize.ShloMosaic.Lib.Pipeline.ValueKit.Geometry

@[expose] public section

set_option maxRecDepth 16384

noncomputable section

namespace Cert.Kernel10Ideal.Ranks

open Cert.Kernel10Ideal Cert.Kernel10Ideal.Gen
open Idealize.ShloMosaic Idealize.ShloMosaic.TcCoe Idealize.SL.Sem
open Cert.Ranks (takes takesAt upTo)

variable (m : (ℓ : Loc nD τ sig) → Buf (Elt Ideal) ℓ)

/-- A point's number is its coordinate. -/
theorem coord_eq : ∀ t : Fin cfg0.N, (grid0.coords t 0).val = t.val := by decide +kernel

/-- The experts the tokens name. -/
def named (c : Dev nD) (i : Fin 4) (q : Fin 33280) : BitVec 32 := (m ((c.tc : Thread nD τ).loc main_arg0) : S4x33280.Idx → BitVec 32) (ix2 i q)

/-- The experts a point reads: those of its tokens. -/
theorem iblk0_apply (c : Dev nD) (t : Fin cfg0.N) (i : Fin 4) (r : Fin 512) (q : Fin 33280) (hq : q.val = t.val * 512 + r.val) :
    (iblk m c 0 t : S4x512.Idx → BitVec 32) (ix2 i r) = named m c i q := by
  have ht : t.val < 65 := lt_of_lt_of_eq t.isLt N_0
  refine Eq.trans ?_ (congrFun (V_main_arg0 m c : (V m c main_arg0 : S4x33280.Idx → BitVec 32) = _) _)
  refine congrArg (V m c main_arg0 : S4x33280.Idx → BitVec 32) (funext fun (a : Fin 2) => Fin.ext ?_)
  match a with
  | ⟨0, _⟩ =>
    show 0 * 4 + 1 * i.val = i.val
    omega
  | ⟨1, _⟩ =>
    show (BitVec.ofNat 32 (grid0.coords t 0).val).toNat * 512 + 1 * r.val = q.val
    rw [coord_eq, BitVec.toNat_ofNat]; omega

/-- What a point leaves: the ranks of its tokens, the counts after it as words, and as reals. -/
theorem point_apply (c : Dev nD) : ∀ (n : ℕ) (hn : n < cfg0.N),
    (∀ (i : Fin 4) (r : Fin 512) (q : Fin 33280), q.val = n * 512 + r.val → (outsAt0 m c n hn).1 (ix2 i r) = Cert.Destinations.place (named m c i q) (fun e => BitVec.ofNat 32 (upTo (named m c) e q.val)))
    ∧ (∀ (e : Fin 32) (l : Fin 128), (outsAt0 m c n hn).2.1 (ix2 e l) = BitVec.ofNat 32 (upTo (named m c) e (n * 512 + 512)))
    ∧ (∀ (e : Fin 32) (l : Fin 128), (outsAt0 m c n hn).2.2 (ix2 e l) = (((upTo (named m c) e (n * 512 + 512) : ℕ) : ℝ) : EReal)) := by
  have step : ∀ (t : Fin cfg0.N) (s : Vec Ideal S32x128 .f32), (∀ e l, s (ix2 e l) = (((upTo (named m c) e (t.val * 512) : ℕ) : ℝ) : EReal)) →
      (∀ (i : Fin 4) (r : Fin 512) (q : Fin 33280), q.val = t.val * 512 + r.val →
        k0_pay1 (k0_pay6 (iblk m c 0 t)) (k0_pay7 (iblk m c 0 t)) (k0_pay8 (iblk m c 0 t)) (k0_pay10 (iblk m c 0 t) (column s)) (k0_pay11 (iblk m c 0 t) (column s)) (ix2 i r) = Cert.Destinations.place (named m c i q) (fun e => BitVec.ofNat 32 (upTo (named m c) e q.val)))
      ∧ (∀ (e : Fin 32) (l : Fin 128), k0_pay3 (k0_pay2 (k0_pay9 (iblk m c 0 t)) s) (ix2 e l) = BitVec.ofNat 32 (upTo (named m c) e (t.val * 512 + 512)))
      ∧ (∀ (e : Fin 32) (l : Fin 128), k0_pay2 (k0_pay9 (iblk m c 0 t)) s (ix2 e l) = (((upTo (named m c) e (t.val * 512 + 512) : ℕ) : ℝ) : EReal)) := by
    intro t s hs
    have ht : t.val < 65 := lt_of_lt_of_eq t.isLt N_0
    have hv := fun (i : Fin 4) (r : Fin 512) (q : Fin 33280) (hq : q.val = t.val * 512 + r.val) => iblk0_apply m c t i r q hq
    have hrun := fun (e : Fin 32) (l : Fin 128) => run_block (named m c) (iblk m c 0 t) (t.val * 512) (by omega) hv s e l (hs e l)
    refine ⟨fun i r q hq => ?_, fun e l => ?_, hrun⟩
    · refine (rank_block (named m c) (iblk m c 0 t) (t.val * 512) (by omega) hv (column s) i r (fun e => (column_apply s e).trans (hs e 0))).trans ?_
      rw [hq]
      exact congrArg (fun u => Cert.Destinations.place u _) (hv i r q hq)
    · have hb := Cert.Ranks.upTo_le (named m c) e (t.val * 512 + 512)
      rw [count_apply, hrun, ← Cert.Ranks.real_of_word _ (by omega)]
      exact Cert.Destinations.back _
  intro n
  induction n with
  | zero =>
    intro hn
    have h := step ⟨0, hn⟩ (k0_pay4 (F := Ideal)) (fun e l => by rw [zero_apply]; simp [upTo])
    rw [outsAt0_A m c ⟨0, hn⟩ (Nat.zero_mod _)]
    dsimp only
    rw [outA1, outA2, scA]
    exact h
  | succ n ih =>
    intro hn
    have hN := lt_of_lt_of_eq hn (show cfg0.N = 65 from N_0)
    have h := step ⟨n + 1, hn⟩ _ (fun e l => ((ih (Nat.lt_of_succ_lt hn)).2.2 e l).trans (by rw [Nat.succ_mul]))
    rw [outsAt0_B m c ⟨n + 1, hn⟩ (by show ¬(n + 1) % 65 = 0; omega)]
    dsimp only
    rw [outB1, outB2, scB]
    exact h

/-- The ranks, as a function of the argument: entry `(i, q)` is how often the tokens before token `q` name its `i`-th
    expert. -/
def rankAt (c : Dev nD) (i : Fin 4) (q : Fin 33280) : BitVec 32 := Cert.Destinations.place (named m c i q) (fun e => BitVec.ofNat 32 (upTo (named m c) e q.val))

/-- The counts, as a function of the argument: how often all tokens name expert `e`. -/
def countAt (c : Dev nD) (e : Fin 32) : BitVec 32 := BitVec.ofNat 32 (upTo (named m c) e 33280)

/-- The array of ranks after the run. -/
theorem rank_array (c : Dev nD) : Value.G1 m c = (fun i : S4x33280.Idx => rankAt m c (i 0) (i 1)) := by
  refine funext fun (i : S4x33280.Idx) => ?_
  have h0 : (i 0).val < 4 := (i 0).isLt
  have h1 : (i 1).val < 33280 := (i 1).isLt
  have hp : Value.pt1Of i = (i 1).val / 512 := by
    show 65 * ((i 0).val / 4 - 0) + 1 * ((i 1).val / 512 - 0) = _
    omega
  have hlt : Value.pt1Of i < cfg0.N := lt_of_lt_of_eq (show Value.pt1Of i < 65 by rw [hp]; omega) N_0.symm
  have hl : Value.loc1Of i = ix2 (⟨(i 0).val, h0⟩ : Fin 4) (⟨(i 1).val % 512, by omega⟩ : Fin 512) := funext fun (a : Fin 2) => Fin.ext (by
    match a with
    | ⟨0, _⟩ => exact Nat.mod_eq_of_lt h0
    | ⟨1, _⟩ => rfl)
  unfold Value.G1
  rw [dif_pos hlt, ← Value.outsAt0_sweep m c _ hlt, hl]
  exact (point_apply m c _ hlt).1 ⟨(i 0).val, h0⟩ ⟨(i 1).val % 512, by omega⟩ (i 1) (by show (i 1).val = Value.pt1Of i * 512 + (i 1).val % 512; rw [hp]; omega)

/-- The array of counts after the run. -/
theorem count_array (c : Dev nD) : Value.G2 m c = (fun i : S32x128.Idx => countAt m c (i 0)) := by
  rw [Value.G2_last, ← Value.outsAt0_sweep m c 64 (lt_of_lt_of_eq (by decide) N_0.symm)]
  refine funext fun (i : S32x128.Idx) => ?_
  obtain ⟨e, l, rfl⟩ : ∃ (e : Fin 32) (l : Fin 128), i = ix2 e l := ⟨i 0, i 1, funext fun (a : Fin 2) => by
    match a with
    | ⟨0, _⟩ => rfl
    | ⟨1, _⟩ => rfl⟩
  exact (point_apply m c 64 _).2.1 e l

end Cert.Kernel10Ideal.Ranks

end
-- ==== Proof.Ranks.Claims.lean ====
/- The claims about the ranks of the routed tokens: the frames of the kernel and of the reference, and the equality of
   their results. -/
module

public import proofs.«01_k».proof.Defs
public import proofs.«01_k».proof.Proof.Gen.Kernel10.Frame
public import proofs.«01_k».proof.Proof.Gen.Reference10Ideal.Run
public import proofs.«01_k».proof.Proof.Ranks.Kernel
public import Idealize.ShloMosaic.Lib.Quiescent

@[expose] public section

set_option maxRecDepth 16384

noncomputable section

namespace Cert.Reference10Ideal.Ranks

open Cert.Reference10Ideal Cert.Reference10Ideal.Gen
open Idealize.ShloMosaic Idealize.ShloMosaic.TcCoe
open Cert.Ranks (takes takesAt upTo)

/-- Which tokens name which expert, in each of the four choices. -/
abbrev named (t : IVec S4x33280 32) : IVec S32x4x33280 1 := cmpi .eq (broadcastInDim S32x4x33280 ![0, 1, 2] bcast_S1x4x33280_S32x4x33280_0_1_2 (broadcastInDim S1x4x33280 ![1, 2] bcast_S4x33280_S1x4x33280_1_2 t)) (broadcastInDim S32x4x33280 ![0, 1, 2] bcast_S32x1x1_S32x4x33280_0_1_2 (broadcastInDim S32x1x1 ![0] bcast_S32_S32x1x1_0 (iotaInDim S32 32 0)))
/-- How often a token takes an expert. -/
def taken (t : IVec S4x33280 32) : IVec S32x33280 32 := Host.reduce IntOp.addi (extui 32 (named t) natLt_1_32) (constantI S_ 32 0#32) reducesTo_S32x4x33280_S32x33280_d1 h_S_
/-- How often the tokens before a token take an expert. -/
def before (k : IVec S32x33280 32) : IVec S32x33280 32 := Host.reduce IntOp.addi (select (broadcastInDim S32x33280x33280 ![0, 1, 2] bcast_S1x33280x33280_S32x33280x33280_0_1_2 (cmpi .slt (broadcastInDim S1x33280x33280 ![0, 1, 2] bcast_S1x1x33280_S1x33280x33280_0_1_2 (broadcastInDim S1x1x33280 ![2] bcast_S33280_S1x1x33280_2 (iotaInDim S33280 32 0))) (broadcastInDim S1x33280x33280 ![0, 1, 2] bcast_S1x33280x1_S1x33280x33280_0_1_2 (broadcastInDim S1x33280x1 ![1] bcast_S33280_S1x33280x1_1 (iotaInDim S33280 32 0))))) (broadcastInDim S32x33280x33280 ![0, 1, 2] bcast_S32x1x33280_S32x33280x33280_0_1_2 (broadcastInDim S32x1x33280 ![0, 2] bcast_S32x33280_S32x1x33280_0_2 k)) (broadcastInDim S32x33280x33280 ![] bcast_S_S32x33280x33280 (id (constantI S_ 32 0#32)))) (constantI S_ 32 0#32) reducesTo_S32x33280x33280_S32x33280_d2 h_S_
/-- The ranks, from the counts before each token. -/
def rank (t : IVec S4x33280 32) (b : IVec S32x33280 32) : IVec S4x33280 32 := Host.reduce IntOp.addi (select (named t) (broadcastInDim S32x4x33280 ![0, 1, 2] bcast_S32x1x33280_S32x4x33280_0_1_2 (broadcastInDim S32x1x33280 ![0, 2] bcast_S32x33280_S32x1x33280_0_2 b)) (broadcastInDim S32x4x33280 ![] bcast_S_S32x4x33280 (id (constantI S_ 32 0#32)))) (constantI S_ 32 0#32) reducesTo_S32x4x33280_S4x33280_d0 h_S_
/-- The number of tokens an expert is given, in every column. -/
def counts (k : IVec S32x33280 32) : IVec S32x128 32 := broadcastInDim S32x128 ![0, 1] bcast_S32x1_S32x128_0_1 (broadcastInDim S32x1 ![0] bcast_S32_S32x1_0 (Host.reduce IntOp.addi k (constantI S_ 32 0#32) reducesTo_S32x33280_S32_d1 h_S_))

/-- A count of the reference, by the token's number. -/
theorem taken_apply (t : IVec S4x33280 32) (e : Fin 32) (q : Fin 33280) :
    taken t (ix2 e q) = BitVec.ofNat 32 (takesAt (fun i p => t (ix2 i p)) e q.val) := by
  unfold taken
  pointwise []
  have hq : takesAt (fun i p => t (ix2 i p)) e q.val = takes (fun i => t (ix2 i q)) e := dif_pos q.isLt
  rw [hq]
  unfold takes
  rw [← Cert.Ranks.fold_word]
  refine congrArg (fun f => (Finset.univ : Finset (Fin 4)).fold IntOp.addi 0#32 f) (funext fun i => ?_)
  exact (Cert.Ranks.word_hit _ _).trans (congrArg (BitVec.ofNat 32) (if_congr eq_comm rfl rfl))

/-- The counts before a token. -/
theorem before_apply (k : IVec S32x33280 32) (f : Fin 33280 → ℕ) (e : Fin 32) (q : Fin 33280) (h : ∀ x, k (ix2 e x) = BitVec.ofNat 32 (f x)) :
    before k (ix2 e q) = BitVec.ofNat 32 (∑ x : Fin 33280, if x.val < q.val then f x else 0) := by
  unfold before
  pointwise []
  rw [← Cert.Ranks.fold_word]
  refine congrArg (fun f => (Finset.univ : Finset (Fin 33280)).fold IntOp.addi 0#32 f) (funext fun x => ?_)
  have hx := x.isLt
  have hq := q.isLt
  refine (Cert.Ranks.select_lt _ _ (by omega) (by omega) _ _).trans ?_
  rw [h x]
  split_ifs
  · rfl
  · rfl

/-- A rank: the count before the token of the expert it names. -/
theorem rank_apply (t : IVec S4x33280 32) (b : IVec S32x33280 32) (i : Fin 4) (q : Fin 33280) :
    rank t b (ix2 i q) = Cert.Destinations.place (t (ix2 i q)) (fun e => b (ix2 e q)) := by
  unfold rank
  pointwise []
  refine Eq.trans ?_ (Cert.Destinations.fold_place (t (ix2 i q)) (fun e => b (ix2 e q)))
  refine congrArg (fun f => (Finset.univ : Finset (Fin 32)).fold IntOp.addi 0#32 f) (funext fun e => ?_)
  exact (Cert.Destinations.select_eq _ _ _ _).trans (if_congr eq_comm rfl rfl)

/-- The number of tokens an expert is given. -/
theorem counts_apply (k : IVec S32x33280 32) (f : Fin 33280 → ℕ) (e : Fin 32) (l : Fin 128) (h : ∀ x, k (ix2 e x) = BitVec.ofNat 32 (f x)) :
    counts k (ix2 e l) = BitVec.ofNat 32 (∑ x : Fin 33280, f x) := by
  unfold counts
  pointwise []
  rw [← Cert.Ranks.fold_word]
  exact congrArg (fun f => (Finset.univ : Finset (Fin 33280)).fold IntOp.addi 0#32 f) (funext h)

/-- A rank, from the argument. -/
theorem rank_value (t : IVec S4x33280 32) (i : Fin 4) (q : Fin 33280) :
    rank t (before (taken t)) (ix2 i q) = Cert.Destinations.place (t (ix2 i q)) (fun e => BitVec.ofNat 32 (upTo (fun i p => t (ix2 i p)) e q.val)) := by
  refine (rank_apply _ _ i q).trans (congrArg (Cert.Destinations.place (t (ix2 i q))) (funext fun e => ?_))
  refine (before_apply _ _ e q (taken_apply t e)).trans (congrArg (BitVec.ofNat 32) ?_)
  exact Cert.Ranks.sum_before _ e q.val q.isLt.le

/-- A count, from the argument. -/
theorem counts_value (t : IVec S4x33280 32) (e : Fin 32) (l : Fin 128) :
    counts (taken t) (ix2 e l) = BitVec.ofNat 32 (upTo (fun i p => t (ix2 i p)) e 33280) :=
  (counts_apply _ _ e l (taken_apply t e)).trans (congrArg (BitVec.ofNat 32) (Cert.Ranks.sum_all _ e))

end Cert.Reference10Ideal.Ranks

namespace Cert.Ranks

open Idealize.ShloMosaic Idealize.ShloMosaic.TcCoe Idealize.SL.Sem

/-- The frame of the kernel as it is. -/
theorem frame_kernel : Cert.quiescent_Kernel10 (hKernel10 := Cert.Kernel10.Gen.facts) := fun m g _ => Cert.Kernel10.Gen.frame m g

/-- The frame of the kernel over the extended reals. -/
theorem frame_ideal : Cert.quiescent_Kernel10Ideal (hKernel10Ideal := Cert.Kernel10Ideal.Gen.facts) := fun m g _ => Cert.Kernel10Ideal.Gen.frame m g

/-- The frame of the reference: it is host code only and declares no semaphore. -/
theorem frame_reference : Cert.quiescent_Reference10Ideal (hReference10Ideal := Cert.Reference10Ideal.Gen.facts) := fun m g _ =>
  (θ_run _ _ _).mono (fun r h => ⟨fun c => (h c).2.2, sem_eq_zero_of_no_sems (by decide) r.2⟩) (Cert.Reference10Ideal.Value.run (F := Ideal) m g)

/-- The value claim: the kernel's ranks and counts are the reference's. -/
theorem value : Cert.algebraic_Kernel10Ideal_Reference10Ideal (hKernel10Ideal := Cert.Kernel10Ideal.Gen.facts) (hReference10Ideal := Cert.Reference10Ideal.Gen.facts) := fun m g m' g' _ hm =>
  ⟨fun c => (fun i : Cert.Kernel10Ideal.S4x33280.Idx => Cert.Kernel10Ideal.Ranks.rankAt m c (i 0) (i 1)),
    fun c => (fun i : Cert.Kernel10Ideal.S32x128.Idx => Cert.Kernel10Ideal.Ranks.countAt m c (i 0)),
    (θ_run _ _ _).mono (fun _ h c => ⟨(h c).1.trans (Cert.Kernel10Ideal.Ranks.rank_array m c), (h c).2.1.trans (Cert.Kernel10Ideal.Ranks.count_array m c), (h c).2.2⟩)
      (Cert.Kernel10Ideal.Value.run (F := Ideal) m g),
    (θ_run _ _ _).mono (fun _ h c => ⟨(h c).1.trans (by
      rw [hm c]
      refine funext fun (i : Cert.Kernel10Ideal.S4x33280.Idx) => ?_
      obtain ⟨k, q, rfl⟩ : ∃ (k : Fin 4) (q : Fin 33280), i = ix2 k q := ⟨i 0, i 1, funext fun (a : Fin 2) => by
        match a with
        | ⟨0, _⟩ => rfl
        | ⟨1, _⟩ => rfl⟩
      exact Cert.Reference10Ideal.Ranks.rank_value _ k q), (h c).2.1.trans (by
      rw [hm c]
      refine funext fun (i : Cert.Kernel10Ideal.S32x128.Idx) => ?_
      obtain ⟨e, l, rfl⟩ : ∃ (e : Fin 32) (l : Fin 128), i = ix2 e l := ⟨i 0, i 1, funext fun (a : Fin 2) => by
        match a with
        | ⟨0, _⟩ => rfl
        | ⟨1, _⟩ => rfl⟩
      exact Cert.Reference10Ideal.Ranks.counts_value _ e l), (h c).2.2⟩)
      (Cert.Reference10Ideal.Value.run (F := Ideal) m' g')⟩

end Cert.Ranks

end
-- ==== Proof.lean ====
/- The certificate of the experts' call, of the three input projections, of the two output projections, of the modulation and of
   the two calls that prepare the experts' weights, of the one that finds the tokens' destinations and of the one that ranks
   the tokens: for each, the frames of the kernel, of its idealization and of the reference, and the equality of the results. The proofs are in `Proof/Claims.lean`, in `Proof/Projection`, in
   `Proof/OutProj` (the odd layer's output projection), in `Proof/EvenOut` (the even layer's), in `Proof/Modulation`, in
   `Proof/FirstWeights`, `Proof/SecondWeights`, `Proof/Destinations` and `Proof/Ranks` and in the modules that they import; this
   file puts them together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_experts_exist
public import proofs.«01_k».proof.Proof.Gen.Kernel2.Value
public import proofs.«01_k».proof.Proof.Gen.Kernel2Ideal.Value
public import proofs.«01_k».proof.Proof.Gen.Reference2Ideal.Run
public import proofs.«01_k».proof.Proof.Gen.Kernel3.Value
public import proofs.«01_k».proof.Proof.Gen.Kernel3Ideal.Value
public import proofs.«01_k».proof.Proof.Gen.Reference3Ideal.Run
public import proofs.«01_k».proof.Proof.Gen.Kernel4.Value
public import proofs.«01_k».proof.Proof.Gen.Kernel4Ideal.Value
public import proofs.«01_k».proof.Proof.Gen.Reference4Ideal.Run
public import proofs.«01_k».proof.Proof.Gen.Kernel5.Value
public import proofs.«01_k».proof.Proof.Gen.Kernel5Ideal.Value
public import proofs.«01_k».proof.Proof.Gen.Reference5Ideal.Run
public import proofs.«01_k».proof.Proof.Gen.Kernel6.Value
public import proofs.«01_k».proof.Proof.Gen.Kernel6Ideal.Value
public import proofs.«01_k».proof.Proof.Gen.Reference6Ideal.Run
public import proofs.«01_k».proof.Proof.Gen.Kernel7.Value
public import proofs.«01_k».proof.Proof.Gen.Kernel7Ideal.Value
public import proofs.«01_k».proof.Proof.Gen.Reference7Ideal.Run
public import proofs.«01_k».proof.Proof.Gen.Kernel8.Value
public import proofs.«01_k».proof.Proof.Gen.Kernel8Ideal.Value
public import proofs.«01_k».proof.Proof.Gen.Reference8Ideal.Run
public import proofs.«01_k».proof.Proof.Gen.Kernel9.Value
public import proofs.«01_k».proof.Proof.Gen.Kernel9Ideal.Value
public import proofs.«01_k».proof.Proof.Gen.Reference9Ideal.Run
public import proofs.«01_k».proof.Proof.Gen.Kernel10.Value
public import proofs.«01_k».proof.Proof.Gen.Kernel10Ideal.Value
public import proofs.«01_k».proof.Proof.Gen.Reference10Ideal.Run
public import proofs.«01_k».proof.Proof.Gen.Kernel11.Value
public import proofs.«01_k».proof.Proof.Gen.Kernel11Ideal.Value
public import proofs.«01_k».proof.Proof.Gen.Reference11Ideal.Run
public import proofs.«01_k».proof.Proof.Claims
public import proofs.«01_k».proof.Proof.Projection.EvenClaims
public import proofs.«01_k».proof.Proof.Projection.OddClaims
public import proofs.«01_k».proof.Proof.Projection.ContextClaims
public import proofs.«01_k».proof.Proof.OutProj.Claims
public import proofs.«01_k».proof.Proof.EvenOut.Claims
public import proofs.«01_k».proof.Proof.Modulation.Claims
public import proofs.«01_k».proof.Proof.FirstWeights.Claims
public import proofs.«01_k».proof.Proof.SecondWeights.Claims
public import proofs.«01_k».proof.Proof.Destinations.Claims
public import proofs.«01_k».proof.Proof.Ranks.Claims
public import Idealize.ShloMosaic.Adequacy
public import Idealize.ShloMosaic.Init

@[expose] public section

noncomputable section

namespace Cert.Proof

open Idealize.ShloMosaic Idealize.SL.Sem

/-- All claims of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, Cert.Pre_experts_exist.Gen.facts,
  Cert.Experts.frame_kernel, Cert.Experts.frame_ideal, Cert.Experts.frame_reference, Cert.Experts.frame_reference_pre,
  Cert.Projection.Even.frame_kernel, Cert.Projection.Even.frame_ideal, Cert.Projection.Even.frame_reference,
  Cert.Projection.Odd.frame_kernel, Cert.Projection.Odd.frame_ideal, Cert.Projection.Odd.frame_reference,
  Cert.OutProj.frame_kernel, Cert.OutProj.frame_ideal, Cert.OutProj.frame_reference,
  Cert.EvenOut.frame_kernel, Cert.EvenOut.frame_ideal, Cert.EvenOut.frame_reference,
  Cert.Modulation.frame_kernel, Cert.Modulation.frame_ideal, Cert.Modulation.frame_reference,
  Cert.FirstWeights.frame_kernel, Cert.FirstWeights.frame_ideal, Cert.FirstWeights.frame_reference,
  Cert.SecondWeights.frame_kernel, Cert.SecondWeights.frame_ideal, Cert.SecondWeights.frame_reference,
  Cert.Destinations.frame_kernel, Cert.Destinations.frame_ideal, Cert.Destinations.frame_reference,
  Cert.Ranks.frame_kernel, Cert.Ranks.frame_ideal, Cert.Ranks.frame_reference,
  Cert.Projection.Context.frame_kernel, Cert.Projection.Context.frame_ideal, Cert.Projection.Context.frame_reference,
  trivial, Cert.Experts.value, trivial, Cert.Projection.Even.value, trivial, Cert.Projection.Odd.value, trivial, Cert.OutProj.value, trivial, Cert.EvenOut.value,
  trivial, Cert.Modulation.value, trivial, Cert.FirstWeights.value, trivial, Cert.SecondWeights.value, trivial, Cert.Destinations.value,
  trivial, Cert.Ranks.value, trivial, Cert.Projection.Context.value⟩

end Cert.Proof

end
